-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v23)) (v1 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_v22) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v112)) (v1 : (c : Dev Cert.Kernel3Ideal.nD) → Buf (Elt Ideal) ((c.tc : Thread Cert.Kernel3Ideal.nD Cert.Kernel3Ideal.τ).loc Cert.Kernel3Ideal.main_v113)) (v2 : (c : Dev Cert.Kernel3Ideal.nD) → Buf (Elt Ideal) ((c.tc : Thread Cert.Kernel3Ideal.nD Cert.Kernel3Ideal.τ).loc Cert.Kernel3Ideal.main_v115)) (v3 : (c : Dev Cert.Kernel3Ideal.nD) → Buf (Elt Ideal) ((c.tc : Thread Cert.Kernel3Ideal.nD Cert.Kernel3Ideal.τ).loc Cert.Kernel3Ideal.main_v117)) (v4 : (c : Dev Cert.Kernel3Ideal.nD) → Buf (Elt Ideal) ((c.tc : Thread Cert.Kernel3Ideal.nD Cert.Kernel3Ideal.τ).loc Cert.Kernel3Ideal.main_v119)) (v5 : (c : Dev Cert.Kernel3Ideal.nD) → Buf (Elt Ideal) ((c.tc : Thread Cert.Kernel3Ideal.nD Cert.Kernel3Ideal.τ).loc Cert.Kernel3Ideal.main_v121)) (v6 : (c : Dev Cert.Kernel3Ideal.nD) → Buf (Elt Ideal) ((c.tc : Thread Cert.Kernel3Ideal.nD Cert.Kernel3Ideal.τ).loc Cert.Kernel3Ideal.main_v123)) (v7 : (c : Dev Cert.Kernel3Ideal.nD) → Buf (Elt Ideal) ((c.tc : Thread Cert.Kernel3Ideal.nD Cert.Kernel3Ideal.τ).loc Cert.Kernel3Ideal.main_v125)) (v8 : (c : Dev Cert.Kernel3Ideal.nD) → Buf (Elt Ideal) ((c.tc : Thread Cert.Kernel3Ideal.nD Cert.Kernel3Ideal.τ).loc Cert.Kernel3Ideal.main_v126)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v112) = v0 c
          ∧ r.2.mem ((c.tc : Thread Cert.Kernel3Ideal.nD Cert.Kernel3Ideal.τ).loc Cert.Kernel3Ideal.main_v113) = v1 c
          ∧ r.2.mem ((c.tc : Thread Cert.Kernel3Ideal.nD Cert.Kernel3Ideal.τ).loc Cert.Kernel3Ideal.main_v115) = v2 c
          ∧ r.2.mem ((c.tc : Thread Cert.Kernel3Ideal.nD Cert.Kernel3Ideal.τ).loc Cert.Kernel3Ideal.main_v117) = v3 c
          ∧ r.2.mem ((c.tc : Thread Cert.Kernel3Ideal.nD Cert.Kernel3Ideal.τ).loc Cert.Kernel3Ideal.main_v119) = v4 c
          ∧ r.2.mem ((c.tc : Thread Cert.Kernel3Ideal.nD Cert.Kernel3Ideal.τ).loc Cert.Kernel3Ideal.main_v121) = v5 c
          ∧ r.2.mem ((c.tc : Thread Cert.Kernel3Ideal.nD Cert.Kernel3Ideal.τ).loc Cert.Kernel3Ideal.main_v123) = v6 c
          ∧ r.2.mem ((c.tc : Thread Cert.Kernel3Ideal.nD Cert.Kernel3Ideal.τ).loc Cert.Kernel3Ideal.main_v125) = v7 c
          ∧ r.2.mem ((c.tc : Thread Cert.Kernel3Ideal.nD Cert.Kernel3Ideal.τ).loc Cert.Kernel3Ideal.main_v126) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v247) = v1 c
          ∧ r.2.mem ((c.tc : Thread Cert.Reference3Ideal.nD Cert.Reference3Ideal.τ).loc Cert.Reference3Ideal.main_v246) = v2 c
          ∧ r.2.mem ((c.tc : Thread Cert.Reference3Ideal.nD Cert.Reference3Ideal.τ).loc Cert.Reference3Ideal.main_v254) = v3 c
          ∧ r.2.mem ((c.tc : Thread Cert.Reference3Ideal.nD Cert.Reference3Ideal.τ).loc Cert.Reference3Ideal.main_v258) = v4 c
          ∧ r.2.mem ((c.tc : Thread Cert.Reference3Ideal.nD Cert.Reference3Ideal.τ).loc Cert.Reference3Ideal.main_v41) = v5 c
          ∧ r.2.mem ((c.tc : Thread Cert.Reference3Ideal.nD Cert.Reference3Ideal.τ).loc Cert.Reference3Ideal.main_v262) = v6 c
          ∧ r.2.mem ((c.tc : Thread Cert.Reference3Ideal.nD Cert.Reference3Ideal.τ).loc Cert.Reference3Ideal.main_v264) = v7 c
          ∧ r.2.mem ((c.tc : Thread Cert.Reference3Ideal.nD Cert.Reference3Ideal.τ).loc Cert.Reference3Ideal.main_v265) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v117)) (v1 : (c : Dev Cert.Kernel4Ideal.nD) → Buf (Elt Ideal) ((c.tc : Thread Cert.Kernel4Ideal.nD Cert.Kernel4Ideal.τ).loc Cert.Kernel4Ideal.main_v118)) (v2 : (c : Dev Cert.Kernel4Ideal.nD) → Buf (Elt Ideal) ((c.tc : Thread Cert.Kernel4Ideal.nD Cert.Kernel4Ideal.τ).loc Cert.Kernel4Ideal.main_v120)) (v3 : (c : Dev Cert.Kernel4Ideal.nD) → Buf (Elt Ideal) ((c.tc : Thread Cert.Kernel4Ideal.nD Cert.Kernel4Ideal.τ).loc Cert.Kernel4Ideal.main_v123)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v117) = v0 c
          ∧ r.2.mem ((c.tc : Thread Cert.Kernel4Ideal.nD Cert.Kernel4Ideal.τ).loc Cert.Kernel4Ideal.main_v118) = v1 c
          ∧ r.2.mem ((c.tc : Thread Cert.Kernel4Ideal.nD Cert.Kernel4Ideal.τ).loc Cert.Kernel4Ideal.main_v120) = v2 c
          ∧ r.2.mem ((c.tc : Thread Cert.Kernel4Ideal.nD Cert.Kernel4Ideal.τ).loc Cert.Kernel4Ideal.main_v123) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v138) = v1 c
          ∧ r.2.mem ((c.tc : Thread Cert.Reference4Ideal.nD Cert.Reference4Ideal.τ).loc Cert.Reference4Ideal.main_v137) = v2 c
          ∧ r.2.mem ((c.tc : Thread Cert.Reference4Ideal.nD Cert.Reference4Ideal.τ).loc Cert.Reference4Ideal.main_v140) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x4096x8x64 : Shape := ⟨4, ![4, 4096, 8, 64]⟩
abbrev S4x4096x8x32 : Shape := ⟨4, ![4, 4096, 8, 32]⟩
abbrev S4x4096x32 : Shape := ⟨3, ![4, 4096, 32]⟩
abbrev S_ : Shape := ⟨0, ![]⟩

class Facts : Prop where
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_
  h_S_ : 0 < S_.numel
  bcast_S_S4x4096x8x32 : S_.BroadcastsInDim S4x4096x8x32 (![] : Fin 0 → Fin S4x4096x8x32.rank)
  reducesTo_S4x4096x8x32_S_d0_1_2_3 : S4x4096x8x32.ReducesTo [0, 1, 2, 3] S_
  bcast_S_S4x4096x32 : S_.BroadcastsInDim S4x4096x32 (![] : Fin 0 → Fin S4x4096x32.rank)
  reducesTo_S4x4096x32_S_d0_1_2 : S4x4096x32.ReducesTo [0, 1, 2] S_

variable [Facts]

def fn_part1 {F : FTy → Type} [FloatOps F] (main_v13 : IVec S_ 1) (main_v16 : IVec S4x4096x32 1) : IVec S_ 1 :=
  let main_c_5 : IVec S_ 1 := constantI S_ 1 1#1
  let main_v17 : IVec S_ 1 := (fun x v => Host.reduce IntOp.andi x v reducesTo_S4x4096x32_S_d0_1_2 h_S_) main_v16 main_c_5
  let main_v18 : IVec S_ 1 := andi main_v13 main_v17
  main_v18

def fn {F : FTy → Type} [FloatOps F] (main_arg0 : FVec F S4x4096x8x64 .f32) (main_arg1 : FVec F S4x4096x8x32 .f32) (main_arg2 : FVec F S4x4096x8x64 .f32) (main_arg3 : FVec F S4x4096x32 .f32) (main_arg4 : FVec F S4x4096x8x64 .f32) : IVec S_ 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_c : IVec S_ 1 := constantI S_ 1 1#1
  let main_v3 : IVec S_ 1 := (fun x v => Host.reduce IntOp.andi x v reducesTo_S4x4096x8x64_S_d0_1_2_3 h_S_) main_v2 main_c
  let main_v4 : FVec F S4x4096x8x32 .f32 := Host.absf main_arg1
  let main_cst_0 : FVec F S_ .f32 := constant S_ .f32 0x7F800000#32
  let main_v5 : FVec F S4x4096x8x32 .f32 := broadcastInDim S4x4096x8x32 ![] bcast_S_S4x4096x8x32 main_cst_0
  let main_v6 : IVec S4x4096x8x32 1 := cmpf .olt main_v4 main_v5
  let main_c_1 : IVec S_ 1 := constantI S_ 1 1#1
  let main_v7 : IVec S_ 1 := (fun x v => Host.reduce IntOp.andi x v reducesTo_S4x4096x8x32_S_d0_1_2_3 h_S_) main_v6 main_c_1
  let main_v8 : IVec S_ 1 := andi main_v3 main_v7
  let main_v9 : FVec F S4x4096x8x64 .f32 := Host.absf main_arg2
  let main_cst_2 : FVec F S_ .f32 := constant S_ .f32 0x7F800000#32
  let main_v10 : FVec F S4x4096x8x64 .f32 := broadcastInDim S4x4096x8x64 ![] bcast_S_S4x4096x8x64 main_cst_2
  let main_v11 : IVec S4x4096x8x64 1 := cmpf .olt main_v9 main_v10
  let main_c_3 : IVec S_ 1 := constantI S_ 1 1#1
  let main_v12 : IVec S_ 1 := (fun x v => Host.reduce IntOp.andi x v reducesTo_S4x4096x8x64_S_d0_1_2_3 h_S_) main_v11 main_c_3
  let main_v13 : IVec S_ 1 := andi main_v8 main_v12
  let main_v14 : FVec F S4x4096x32 .f32 := Host.absf main_arg3
  let main_cst_4 : FVec F S_ .f32 := constant S_ .f32 0x7F800000#32
  let main_v15 : FVec F S4x4096x32 .f32 := broadcastInDim S4x4096x32 ![] bcast_S_S4x4096x32 main_cst_4
  let main_v16 : IVec S4x4096x32 1 := cmpf .olt main_v14 main_v15
  fn_part1 (F := F) main_v13 main_v16
-- ==== Kernel.lean ====
abbrev S4x4096x8x64 : Shape := ⟨4, ![4, 4096, 8, 64]⟩
abbrev S4x4096x8x32 : Shape := ⟨4, ![4, 4096, 8, 32]⟩
abbrev S4x4096x32 : Shape := ⟨3, ![4, 4096, 32]⟩
abbrev S_ : Shape := ⟨0, ![]⟩
abbrev S4x4096x8x128 : Shape := ⟨4, ![4, 4096, 8, 128]⟩
abbrev S16384x1024 : Shape := ⟨2, ![16384, 1024]⟩
abbrev S4x4096x1x32 : Shape := ⟨4, ![4, 4096, 1, 32]⟩
abbrev S16384x512 : Shape := ⟨2, ![16384, 512]⟩
abbrev S256x1024 : Shape := ⟨2, ![256, 1024]⟩
abbrev S4096x1024 : Shape := ⟨2, ![4096, 1024]⟩
abbrev S4096x512 : Shape := ⟨2, ![4096, 512]⟩
abbrev S256x512 : Shape := ⟨2, ![256, 512]⟩
abbrev S8x256x128 : Shape := ⟨3, ![8, 256, 128]⟩
abbrev S8x256x256 : Shape := ⟨3, ![8, 256, 256]⟩
abbrev S256x128 : Shape := ⟨2, ![256, 128]⟩
abbrev S512x128 : Shape := ⟨2, ![512, 128]⟩
abbrev S1x256x128 : Shape := ⟨3, ![1, 256, 128]⟩
abbrev S256 : Shape := ⟨1, ![256]⟩
abbrev S256x1 : Shape := ⟨2, ![256, 1]⟩
abbrev S512x256 : Shape := ⟨2, ![512, 256]⟩
abbrev S256x256 : Shape := ⟨2, ![256, 256]⟩
abbrev S1x256x256 : Shape := ⟨3, ![1, 256, 256]⟩

abbrev nBuf : Space → Nat
  | .hbm => 21
  | .vmem => 10
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x32, .f32⟩
  | .hbm, ⟨2, _⟩ => ⟨S4x4096x8x64, .f32⟩
  | .hbm, ⟨3, _⟩ => ⟨S4x4096x32, .f32⟩
  | .hbm, ⟨4, _⟩ => ⟨S4x4096x8x64, .f32⟩
  | .hbm, ⟨5, _⟩ => ⟨S_, .f32⟩
  | .hbm, ⟨6, _⟩ => ⟨S4x4096x8x32, .f32⟩
  | .hbm, ⟨7, _⟩ => ⟨S4x4096x8x128, .f32⟩
  | .hbm, ⟨8, _⟩ => ⟨S_, .f32⟩
  | .hbm, ⟨9, _⟩ => ⟨S4x4096x8x128, .f32⟩
  | .hbm, ⟨10, _⟩ => ⟨S4x4096x8x128, .f32⟩
  | .hbm, ⟨11, _⟩ => ⟨S4x4096x8x128, .bf16⟩
  | .hbm, ⟨12, _⟩ => ⟨S16384x1024, .bf16⟩
  | .hbm, ⟨13, _⟩ => ⟨S4x4096x1x32, .f32⟩
  | .hbm, ⟨14, _⟩ => ⟨S4x4096x8x32, .f32⟩
  | .hbm, ⟨15, _⟩ => ⟨S4x4096x8x128, .f32⟩
  | .hbm, ⟨16, _⟩ => ⟨S4x4096x8x128, .bf16⟩
  | .hbm, ⟨17, _⟩ => ⟨S16384x1024, .bf16⟩
  | .hbm, ⟨18, _⟩ => ⟨S4x4096x8x64, .bf16⟩
  | .hbm, ⟨19, _⟩ => ⟨S16384x512, .bf16⟩
  | .hbm, ⟨20, _⟩ => ⟨S16384x512, .bf16⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x512, .bf16⟩
  | .local _ .vmem, ⟨5, _⟩ => ⟨S4096x512, .bf16⟩
  | .local _ .vmem, ⟨6, _⟩ => ⟨S256x512, .bf16⟩
  | .local _ .vmem, ⟨7, _⟩ => ⟨S256x512, .bf16⟩
  | .local _ .vmem, ⟨8, _⟩ => ⟨S8x256x128, .f32⟩
  | .local _ .vmem, ⟨9, _⟩ => ⟨S8x256x256, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_14 : BitVec 32 := 1#32
  ⟨c0_i32_12, v32, c1_i32_14⟩
def k0_mult1 (i : grid0.Coords) (k0_t1 : Fin (k0_t1_loop i).trips) : BitVec 32 :=
  let c0_i32_12 : BitVec 32 := 0#32
  let c1_i32_14 : BitVec 32 := 1#32
  let arg8 : BitVec 32 := Scf.iv c0_i32_12 c1_i32_14 k0_t1
  let c512_i32_217 : BitVec 32 := 512#32
  let v386 : BitVec 32 := Scalar.muli arg8 c512_i32_217
  v386
def k0_off1 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c512_i32_217 : BitVec 32 := 512#32
  let v386 : BitVec 32 := Scalar.muli arg8 c512_i32_217
  let v387 : BitVec 32 := v386
  let v390 : Index := Scalar.indexCast v387
  let c0_220 : Index := 0#32
  ![v390.toNat, 0]
def k0_off2 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c512_i32_217 : BitVec 32 := 512#32
  let v386 : BitVec 32 := Scalar.muli arg8 c512_i32_217
  let v387 : BitVec 32 := v386
  let v396 : Index := Scalar.indexCast v387
  let c128_224 : Index := 128#32
  ![v396.toNat, 128]
def k0_off3 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c512_i32_217 : BitVec 32 := 512#32
  let v386 : BitVec 32 := Scalar.muli arg8 c512_i32_217
  let v387 : BitVec 32 := v386
  let v402 : Index := Scalar.indexCast v387
  let c256_228 : Index := 256#32
  ![v402.toNat, 256]
def k0_off4 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c512_i32_217 : BitVec 32 := 512#32
  let v386 : BitVec 32 := Scalar.muli arg8 c512_i32_217
  let v387 : BitVec 32 := v386
  let v408 : Index := Scalar.indexCast v387
  let c384_232 : Index := 384#32
  ![v408.toNat, 384]
def k0_off5 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c512_i32_217 : BitVec 32 := 512#32
  let v386 : BitVec 32 := Scalar.muli arg8 c512_i32_217
  let v387 : BitVec 32 := v386
  let v414 : Index := Scalar.indexCast v387
  let c512_236 : Index := 512#32
  ![v414.toNat, 512]
def k0_off6 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c512_i32_217 : BitVec 32 := 512#32
  let v386 : BitVec 32 := Scalar.muli arg8 c512_i32_217
  let v387 : BitVec 32 := v386
  let v420 : Index := Scalar.indexCast v387
  let c640_240 : Index := 640#32
  ![v420.toNat, 640]
def k0_off7 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c512_i32_217 : BitVec 32 := 512#32
  let v386 : BitVec 32 := Scalar.muli arg8 c512_i32_217
  let v387 : BitVec 32 := v386
  let v426 : Index := Scalar.indexCast v387
  let c768_244 : Index := 768#32
  ![v426.toNat, 768]
def k0_off8 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c512_i32_217 : BitVec 32 := 512#32
  let v386 : BitVec 32 := Scalar.muli arg8 c512_i32_217
  let v387 : BitVec 32 := v386
  let v432 : Index := Scalar.indexCast v387
  let c896_248 : Index := 896#32
  ![v432.toNat, 896]
def k0_off9 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c512_i32_217 : BitVec 32 := 512#32
  let v386 : BitVec 32 := Scalar.muli arg8 c512_i32_217
  let v387 : BitVec 32 := v386
  let v556 : Index := Scalar.indexCast v387
  let c0_306 : Index := 0#32
  ![v556.toNat, 0]
def k0_off10 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c512_i32_217 : BitVec 32 := 512#32
  let v386 : BitVec 32 := Scalar.muli arg8 c512_i32_217
  let v387 : BitVec 32 := v386
  let v582 : Index := Scalar.indexCast v387
  let c128_322 : Index := 128#32
  ![v582.toNat, 128]
def k0_off11 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c512_i32_217 : BitVec 32 := 512#32
  let v386 : BitVec 32 := Scalar.muli arg8 c512_i32_217
  let v387 : BitVec 32 := v386
  let v608 : Index := Scalar.indexCast v387
  let c256_338 : Index := 256#32
  ![v608.toNat, 256]
def k0_off12 (i : grid0.Coords) (k0_t1 : Fin (k0_t1_loop i).trips) : Fin 2 → Nat :=
  let c0_i32_12 : BitVec 32 := 0#32
  let c1_i32_14 : BitVec 32 := 1#32
  let arg8 : BitVec 32 := Scf.iv c0_i32_12 c1_i32_14 k0_t1
  let c512_i32_217 : BitVec 32 := 512#32
  let v386 : BitVec 32 := Scalar.muli arg8 c512_i32_217
  let v387 : BitVec 32 := v386
  let v634 : Index := Scalar.indexCast v387
  let c384_354 : Index := 384#32
  ![v634.toNat, 384]
@[reducible] def k0_t2_loop (i : grid0.Coords) : Scf.Loop 32 :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let v29 : BitVec 32 := Scalar.addi c0_i32_12 v28
  let c1_i32_15 : BitVec 32 := 1#32
  ⟨v32, v29, c1_i32_15⟩
def k0_mult2 (i : grid0.Coords) (k0_t2 : Fin (k0_t2_loop i).trips) : BitVec 32 :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k0_t2
  let c512_i32_217 : BitVec 32 := 512#32
  let v386 : BitVec 32 := Scalar.muli arg8 c512_i32_217
  v386
def k0_off13 (i : grid0.Coords) (k0_t2 : Fin (k0_t2_loop i).trips) : Fin 2 → Nat :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k0_t2
  let c512_i32_217 : BitVec 32 := 512#32
  let v386 : BitVec 32 := Scalar.muli arg8 c512_i32_217
  let v387 : BitVec 32 := v386
  let v390 : Index := Scalar.indexCast v387
  let c0_220 : Index := 0#32
  ![v390.toNat, 0]
def k0_off14 (i : grid0.Coords) (k0_t2 : Fin (k0_t2_loop i).trips) : Fin 2 → Nat :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k0_t2
  let c512_i32_217 : BitVec 32 := 512#32
  let v386 : BitVec 32 := Scalar.muli arg8 c512_i32_217
  let v387 : BitVec 32 := v386
  let v396 : Index := Scalar.indexCast v387
  let c128_224 : Index := 128#32
  ![v396.toNat, 128]
def k0_off15 (i : grid0.Coords) (k0_t2 : Fin (k0_t2_loop i).trips) : Fin 2 → Nat :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k0_t2
  let c512_i32_217 : BitVec 32 := 512#32
  let v386 : BitVec 32 := Scalar.muli arg8 c512_i32_217
  let v387 : BitVec 32 := v386
  let v402 : Index := Scalar.indexCast v387
  let c256_228 : Index := 256#32
  ![v402.toNat, 256]
def k0_off16 (i : grid0.Coords) (k0_t2 : Fin (k0_t2_loop i).trips) : Fin 2 → Nat :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k0_t2
  let c512_i32_217 : BitVec 32 := 512#32
  let v386 : BitVec 32 := Scalar.muli arg8 c512_i32_217
  let v387 : BitVec 32 := v386
  let v408 : Index := Scalar.indexCast v387
  let c384_232 : Index := 384#32
  ![v408.toNat, 384]
def k0_off17 (i : grid0.Coords) (k0_t2 : Fin (k0_t2_loop i).trips) : Fin 2 → Nat :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k0_t2
  let c512_i32_217 : BitVec 32 := 512#32
  let v386 : BitVec 32 := Scalar.muli arg8 c512_i32_217
  let v387 : BitVec 32 := v386
  let v414 : Index := Scalar.indexCast v387
  let c512_236 : Index := 512#32
  ![v414.toNat, 512]
def k0_off18 (i : grid0.Coords) (k0_t2 : Fin (k0_t2_loop i).trips) : Fin 2 → Nat :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k0_t2
  let c512_i32_217 : BitVec 32 := 512#32
  let v386 : BitVec 32 := Scalar.muli arg8 c512_i32_217
  let v387 : BitVec 32 := v386
  let v420 : Index := Scalar.indexCast v387
  let c640_240 : Index := 640#32
  ![v420.toNat, 640]
def k0_off19 (i : grid0.Coords) (k0_t2 : Fin (k0_t2_loop i).trips) : Fin 2 → Nat :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k0_t2
  let c512_i32_217 : BitVec 32 := 512#32
  let v386 : BitVec 32 := Scalar.muli arg8 c512_i32_217
  let v387 : BitVec 32 := v386
  let v426 : Index := Scalar.indexCast v387
  let c768_244 : Index := 768#32
  ![v426.toNat, 768]
def k0_off20 (i : grid0.Coords) (k0_t2 : Fin (k0_t2_loop i).trips) : Fin 2 → Nat :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k0_t2
  let c512_i32_217 : BitVec 32 := 512#32
  let v386 : BitVec 32 := Scalar.muli arg8 c512_i32_217
  let v387 : BitVec 32 := v386
  let v432 : Index := Scalar.indexCast v387
  let c896_248 : Index := 896#32
  ![v432.toNat, 896]
def k0_off21 (i : grid0.Coords) (k0_t2 : Fin (k0_t2_loop i).trips) : Fin 2 → Nat :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k0_t2
  let c512_i32_217 : BitVec 32 := 512#32
  let v386 : BitVec 32 := Scalar.muli arg8 c512_i32_217
  let v387 : BitVec 32 := v386
  let v556 : Index := Scalar.indexCast v387
  let c0_306 : Index := 0#32
  ![v556.toNat, 0]
def k0_off22 (i : grid0.Coords) (k0_t2 : Fin (k0_t2_loop i).trips) : Fin 2 → Nat :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k0_t2
  let c512_i32_217 : BitVec 32 := 512#32
  let v386 : BitVec 32 := Scalar.muli arg8 c512_i32_217
  let v387 : BitVec 32 := v386
  let v582 : Index := Scalar.indexCast v387
  let c128_322 : Index := 128#32
  ![v582.toNat, 128]
def k0_off23 (i : grid0.Coords) (k0_t2 : Fin (k0_t2_loop i).trips) : Fin 2 → Nat :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k0_t2
  let c512_i32_217 : BitVec 32 := 512#32
  let v386 : BitVec 32 := Scalar.muli arg8 c512_i32_217
  let v387 : BitVec 32 := v386
  let v608 : Index := Scalar.indexCast v387
  let c256_338 : Index := 256#32
  ![v608.toNat, 256]
def k0_off24 (i : grid0.Coords) (k0_t2 : Fin (k0_t2_loop i).trips) : Fin 2 → Nat :=
  let c0_i32_12 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let v28 : BitVec 32 := Scalar.subi v27 c0_i32_12
  let c1_i32_13 : BitVec 32 := 1#32
  let v30 : BitVec 32 := Scalar.divsi v28 c1_i32_13
  let v31 : BitVec 32 := Scalar.muli v30 c1_i32_13
  let v32 : BitVec 32 := Scalar.addi c0_i32_12 v31
  let c1_i32_15 : BitVec 32 := 1#32
  let arg8 : BitVec 32 := Scf.iv v32 c1_i32_15 k0_t2
  let c512_i32_217 : BitVec 32 := 512#32
  let v386 : BitVec 32 := Scalar.muli arg8 c512_i32_217
  let v387 : BitVec 32 := v386
  let v634 : Index := Scalar.indexCast v387
  let c384_354 : Index := 384#32
  ![v634.toNat, 384]
def k0_mult3 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_19 : BitVec 32 := 512#32
  let v44 : BitVec 32 := Scalar.muli v27 c512_i32_19
  v44
def k0_off25 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_19 : BitVec 32 := 512#32
  let v44 : BitVec 32 := Scalar.muli v27 c512_i32_19
  let v45 : BitVec 32 := v44
  let v48 : Index := Scalar.indexCast v45
  let c0_22 : Index := 0#32
  ![v48.toNat, 0]
def k0_off26 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_19 : BitVec 32 := 512#32
  let v44 : BitVec 32 := Scalar.muli v27 c512_i32_19
  let v45 : BitVec 32 := v44
  let v54 : Index := Scalar.indexCast v45
  let c128_25 : Index := 128#32
  ![v54.toNat, 128]
def k0_off27 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_19 : BitVec 32 := 512#32
  let v44 : BitVec 32 := Scalar.muli v27 c512_i32_19
  let v45 : BitVec 32 := v44
  let v60 : Index := Scalar.indexCast v45
  let c256_28 : Index := 256#32
  ![v60.toNat, 256]
def k0_off28 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_19 : BitVec 32 := 512#32
  let v44 : BitVec 32 := Scalar.muli v27 c512_i32_19
  let v45 : BitVec 32 := v44
  let v66 : Index := Scalar.indexCast v45
  let c384_31 : Index := 384#32
  ![v66.toNat, 384]
def k0_off29 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_19 : BitVec 32 := 512#32
  let v44 : BitVec 32 := Scalar.muli v27 c512_i32_19
  let v45 : BitVec 32 := v44
  let v72 : Index := Scalar.indexCast v45
  let c512_34 : Index := 512#32
  ![v72.toNat, 512]
def k0_off30 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_19 : BitVec 32 := 512#32
  let v44 : BitVec 32 := Scalar.muli v27 c512_i32_19
  let v45 : BitVec 32 := v44
  let v78 : Index := Scalar.indexCast v45
  let c640_37 : Index := 640#32
  ![v78.toNat, 640]
def k0_off31 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_19 : BitVec 32 := 512#32
  let v44 : BitVec 32 := Scalar.muli v27 c512_i32_19
  let v45 : BitVec 32 := v44
  let v84 : Index := Scalar.indexCast v45
  let c768_40 : Index := 768#32
  ![v84.toNat, 768]
def k0_off32 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_19 : BitVec 32 := 512#32
  let v44 : BitVec 32 := Scalar.muli v27 c512_i32_19
  let v45 : BitVec 32 := v44
  let v90 : Index := Scalar.indexCast v45
  let c896_43 : Index := 896#32
  ![v90.toNat, 896]
def k0_off33 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_19 : BitVec 32 := 512#32
  let v44 : BitVec 32 := Scalar.muli v27 c512_i32_19
  let v45 : BitVec 32 := v44
  let v222 : Index := Scalar.indexCast v45
  let c0_94 : Index := 0#32
  ![v222.toNat, 0]
def k0_off34 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_19 : BitVec 32 := 512#32
  let v44 : BitVec 32 := Scalar.muli v27 c512_i32_19
  let v45 : BitVec 32 := v44
  let v248 : Index := Scalar.indexCast v45
  let c128_110 : Index := 128#32
  ![v248.toNat, 128]
def k0_off35 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_19 : BitVec 32 := 512#32
  let v44 : BitVec 32 := Scalar.muli v27 c512_i32_19
  let v45 : BitVec 32 := v44
  let v274 : Index := Scalar.indexCast v45
  let c256_126 : Index := 256#32
  ![v274.toNat, 256]
def k0_off36 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v12 : BitVec 1 := Scalar.cmpi .sgt v0 c0_i32
  let v13 : BitVec 32 := Scalar.extui v12
  let c0_i32_7 : BitVec 32 := 0#32
  let v14 : BitVec 1 := Scalar.cmpi .slt v0 c0_i32_7
  let v15 : BitVec 32 := Scalar.extui v14
  let v16 : BitVec 32 := Scalar.subi v13 v15
  let c512_i32 : BitVec 32 := 512#32
  let c0_i32_8 : BitVec 32 := 0#32
  let v17 : BitVec 1 := Scalar.cmpi .sgt c512_i32 c0_i32_8
  let v18 : BitVec 32 := Scalar.extui v17
  let c0_i32_9 : BitVec 32 := 0#32
  let v19 : BitVec 1 := Scalar.cmpi .slt c512_i32 c0_i32_9
  let v20 : BitVec 32 := Scalar.extui v19
  let v21 : BitVec 32 := Scalar.subi v18 v20
  let v22 : BitVec 1 := Scalar.cmpi .ne v16 v21
  let v23 : BitVec 32 := Scalar.remsi v0 c512_i32
  let c0_i32_10 : BitVec 32 := 0#32
  let v24 : BitVec 1 := Scalar.cmpi .ne v23 c0_i32_10
  let v25 : BitVec 1 := Scalar.andi v22 v24
  let v11 : BitVec 32 := Scalar.divsi v0 c512_i32
  let c1_i32 : BitVec 32 := 1#32
  let v26 : BitVec 32 := Scalar.subi v11 c1_i32
  let v27 : BitVec 32 := Scalar.select v25 v26 v11
  let c512_i32_19 : BitVec 32 := 512#32
  let v44 : BitVec 32 := Scalar.muli v27 c512_i32_19
  let v45 : BitVec 32 := v44
  let v300 : Index := Scalar.indexCast v45
  let c384_142 : Index := 384#32
  ![v300.toNat, 384]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x8x64 : Shape := ⟨4, ![4, 4096, 8, 64]⟩
abbrev S4x4096x8x32 : Shape := ⟨4, ![4, 4096, 8, 32]⟩
abbrev S4x4096x32 : Shape := ⟨3, ![4, 4096, 32]⟩
abbrev S4096 : Shape := ⟨1, ![4096]⟩
abbrev S4x8x4096x4096 : Shape := ⟨4, ![4, 8, 4096, 4096]⟩
abbrev S4x4096x4096x8 : Shape := ⟨4, ![4, 4096, 4096, 8]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S16384x512 : Shape := ⟨2, ![16384, 512]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x32, .f32⟩
  | .hbm, ⟨2, _⟩ => ⟨S4x4096x8x64, .f32⟩
  | .hbm, ⟨3, _⟩ => ⟨S4x4096x32, .f32⟩
  | .hbm, ⟨4, _⟩ => ⟨S4x4096x8x64, .f32⟩
  | .hbm, ⟨5, _⟩ => ⟨S4096, .i32⟩
  | .hbm, ⟨6, _⟩ => ⟨S4x8x4096x4096, .f32⟩
  | .hbm, ⟨7, _⟩ => ⟨S4x4096x4096x8, .f32⟩
  | .hbm, ⟨8, _⟩ => ⟨S4x8x4096x4096, .f32⟩
  | .hbm, ⟨9, _⟩ => ⟨S4x8x4096x4096, .f32⟩
  | .hbm, ⟨10, _⟩ => ⟨S_, .f32⟩
  | .hbm, ⟨11, _⟩ => ⟨S4x8x4096x4096, .f32⟩
  | .hbm, ⟨12, _⟩ => ⟨S4x8x4096x4096, .f32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S4x8x4096x4096, .i1⟩
  | .hbm, ⟨21, _⟩ => ⟨S4x8x4096x4096, .f32⟩
  | .hbm, ⟨22, _⟩ => ⟨S4x8x4096x4096, .f32⟩
  | .hbm, ⟨23, _⟩ => ⟨S_, .f32⟩
  | .hbm, ⟨24, _⟩ => ⟨S4x8x4096, .f32⟩
  | .hbm, ⟨25, _⟩ => ⟨S4x8x4096x1, .f32⟩
  | .hbm, ⟨26, _⟩ => ⟨S4x8x4096x1, .f32⟩
  | .hbm, ⟨27, _⟩ => ⟨S_, .f32⟩
  | .hbm, ⟨28, _⟩ => ⟨S4x8x4096x1, .f32⟩
  | .hbm, ⟨29, _⟩ => ⟨S4x8x4096x1, .i1⟩
  | .hbm, ⟨30, _⟩ => ⟨S_, .f32⟩
  | .hbm, ⟨31, _⟩ => ⟨S_, .f32⟩
  | .hbm, ⟨32, _⟩ => ⟨S4x8x4096x1, .f32⟩
  | .hbm, ⟨33, _⟩ => ⟨S4x8x4096x1, .f32⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S_, .f32⟩
  | .hbm, ⟨38, _⟩ => ⟨S4x8x4096, .f32⟩
  | .hbm, ⟨39, _⟩ => ⟨S4x8x4096x1, .f32⟩
  | .hbm, ⟨40, _⟩ => ⟨S_, .f32⟩
  | .hbm, ⟨41, _⟩ => ⟨S4x8x4096x1, .f32⟩
  | .hbm, ⟨42, _⟩ => ⟨S4x8x4096x1, .f32⟩
  | .hbm, ⟨43, _⟩ => ⟨S4x8x4096x4096, .f32⟩
  | .hbm, ⟨44, _⟩ => ⟨S4x8x4096x4096, .f32⟩
  | .hbm, ⟨45, _⟩ => ⟨S4x8x64x4096, .f32⟩
  | .hbm, ⟨46, _⟩ => ⟨S4x4096x8x64, .f32⟩
  | .hbm, ⟨47, _⟩ => ⟨S4x4096x8x64, .bf16⟩
  | .hbm, ⟨48, _⟩ => ⟨S16384x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x8x64 : Shape := ⟨4, ![4, 4096, 8, 64]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x22x256 : Shape := ⟨3, ![1024, 22, 256]⟩
abbrev S22x1024x256 : Shape := ⟨3, ![22, 1024, 256]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S8x22x256 : Shape := ⟨3, ![8, 22, 256]⟩
abbrev S22x8x256 : Shape := ⟨3, ![22, 8, 256]⟩
abbrev S11x256x1024 : Shape := ⟨3, ![11, 256, 1024]⟩
abbrev S1x1024 : Shape := ⟨2, ![1, 1024]⟩
abbrev S16384x1024 : Shape := ⟨2, ![16384, 1024]⟩
abbrev S16384x512 : Shape := ⟨2, ![16384, 512]⟩
abbrev S32x22x8x256 : Shape := ⟨4, ![32, 22, 8, 256]⟩
abbrev S512x1024 : Shape := ⟨2, ![512, 1024]⟩
abbrev S512x512 : Shape := ⟨2, ![512, 512]⟩
abbrev S1x22x8x256 : Shape := ⟨4, ![1, 22, 8, 256]⟩
abbrev S3x520x256 : Shape := ⟨3, ![3, 520, 256]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩
abbrev S8x256 : Shape := ⟨2, ![8, 256]⟩
abbrev S1x1x8x256 : Shape := ⟨4, ![1, 1, 8, 256]⟩
abbrev S1x8x256 : Shape := ⟨3, ![1, 8, 256]⟩
abbrev S1x256 : Shape := ⟨2, ![1, 256]⟩
abbrev S1x256x1024 : Shape := ⟨3, ![1, 256, 1024]⟩
abbrev S256x1024 : Shape := ⟨2, ![256, 1024]⟩
abbrev S4x8x22x8x256 : Shape := ⟨5, ![4, 8, 22, 8, 256]⟩
abbrev S4x1x22x2x256 : Shape := ⟨5, ![4, 1, 22, 2, 256]⟩
abbrev S4x22x2x256 : Shape := ⟨4, ![4, 22, 2, 256]⟩
abbrev S4x2x22x256 : Shape := ⟨4, ![4, 2, 22, 256]⟩
abbrev S4x2x5632 : Shape := ⟨3, ![4, 2, 5632]⟩

abbrev nBuf : Space → Nat
  | .hbm => 35
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x4096x8x64, .f32⟩
  | .hbm, ⟨2, _⟩ => ⟨S4x4096x8x64, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024x22x256, .f32⟩
  | .hbm, ⟨10, _⟩ => ⟨S22x1024x256, .f32⟩
  | .hbm, ⟨11, _⟩ => ⟨S22x1024x256, .bf16⟩
  | .hbm, ⟨12, _⟩ => ⟨S1x5632, .f32⟩
  | .hbm, ⟨13, _⟩ => ⟨S_, .f32⟩
  | .hbm, ⟨14, _⟩ => ⟨S4x5632, .f32⟩
  | .hbm, ⟨15, _⟩ => ⟨S8x5632, .f32⟩
  | .hbm, ⟨16, _⟩ => ⟨S8x22x256, .f32⟩
  | .hbm, ⟨17, _⟩ => ⟨S22x8x256, .f32⟩
  | .hbm, ⟨18, _⟩ => ⟨S11x256x1024, .f32⟩
  | .hbm, ⟨19, _⟩ => ⟨S11x256x1024, .bf16⟩
  | .hbm, ⟨20, _⟩ => ⟨S1024x1024, .bf16⟩
  | .hbm, ⟨21, _⟩ => ⟨S1x1024, .f32⟩
  | .hbm, ⟨22, _⟩ => ⟨S16384x1024, .f32⟩
  | .hbm, ⟨23, _⟩ => ⟨S4x4096x8x64, .bf16⟩
  | .hbm, ⟨24, _⟩ => ⟨S16384x512, .bf16⟩
  | .hbm, ⟨25, _⟩ => ⟨S4x4096x8x64, .bf16⟩
  | .hbm, ⟨26, _⟩ => ⟨S16384x512, .bf16⟩
  | .hbm, ⟨27, _⟩ => ⟨S16384x1024, .f32⟩
  | .hbm, ⟨28, _⟩ => ⟨S32x22x8x256, .f32⟩
  | .hbm, ⟨29, _⟩ => ⟨S4x8x22x8x256, .f32⟩
  | .hbm, ⟨30, _⟩ => ⟨S4x1x22x2x256, .f32⟩
  | .hbm, ⟨31, _⟩ => ⟨S4x22x2x256, .f32⟩
  | .hbm, ⟨32, _⟩ => ⟨S4x2x22x256, .f32⟩
  | .hbm, ⟨33, _⟩ => ⟨S4x2x5632, .f32⟩
  | .hbm, ⟨34, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S22x1024x256, .bf16⟩
  | .local _ .vmem, ⟨9, _⟩ => ⟨S22x8x256, .f32⟩
  | .local _ .vmem, ⟨10, _⟩ => ⟨S11x256x1024, .bf16⟩
  | .local _ .vmem, ⟨11, _⟩ => ⟨S512x1024, .f32⟩
  | .local _ .vmem, ⟨12, _⟩ => ⟨S512x1024, .f32⟩
  | .local _ .vmem, ⟨13, _⟩ => ⟨S1x22x8x256, .f32⟩
  | .local _ .vmem, ⟨14, _⟩ => ⟨S1x22x8x256, .f32⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S3x520x256, .f32⟩
  | .local _ .vmem, ⟨19, _⟩ => ⟨S3x520x256, .f32⟩
  | .local _ .vmem, ⟨20, _⟩ => ⟨S22x8x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_25 : BitVec 32 := 0#32
  let c3_i32 : BitVec 32 := 3#32
  let v50 : BitVec 32 := Scalar.addi c0_i32_25 c3_i32
  let c1_i32_26 : BitVec 32 := 1#32
  ⟨c0_i32_25, v50, c1_i32_26⟩
def k0_off1 (k0_t1 : Fin k0_t1_loop.trips) (c0_i32_175 : BitVec 32) (c0_i32_169 : BitVec 32) : Fin 3 → Nat :=
  let c3_i32_168 : BitVec 32 := 3#32
  let c0_i32_25 : BitVec 32 := 0#32
  let c1_i32_26 : BitVec 32 := 1#32
  let arg17 : BitVec 32 := Scf.iv c0_i32_25 c1_i32_26 k0_t1
  let v253 : BitVec 32 := Scalar.muli c3_i32_168 arg17
  let v254 : BitVec 32 := Scalar.addi v253 c0_i32_169
  let v260 : BitVec 32 := Scalar.addi c0_i32_175 v254
  let v261 : Index := Scalar.indexCast v260
  let c0_176 : Index := 0#32
  let c0_177 : Index := 0#32
  ![v261.toNat, 0, 0]
def k0_off2 (k0_t1 : Fin k0_t1_loop.trips) (c0_i32_175 : BitVec 32) (c0_i32_169 : BitVec 32) : Fin 4 → Nat :=
  let c0_194 : Index := 0#32
  let c3_i32_168 : BitVec 32 := 3#32
  let c0_i32_25 : BitVec 32 := 0#32
  let c1_i32_26 : BitVec 32 := 1#32
  let arg17 : BitVec 32 := Scf.iv c0_i32_25 c1_i32_26 k0_t1
  let v253 : BitVec 32 := Scalar.muli c3_i32_168 arg17
  let v254 : BitVec 32 := Scalar.addi v253 c0_i32_169
  let v260 : BitVec 32 := Scalar.addi c0_i32_175 v254
  let v281 : Index := Scalar.indexCast v260
  let c0_195 : Index := 0#32
  let c0_196 : Index := 0#32
  ![0, v281.toNat, 0, 0]
def k0_off3 (k0_t1 : Fin k0_t1_loop.trips) (c0_i32_175 : BitVec 32) (c0_i32_169 : BitVec 32) : Fin 3 → Nat :=
  let c3_i32_168 : BitVec 32 := 3#32
  let c0_i32_25 : BitVec 32 := 0#32
  let c1_i32_26 : BitVec 32 := 1#32
  let arg17 : BitVec 32 := Scf.iv c0_i32_25 c1_i32_26 k0_t1
  let v253 : BitVec 32 := Scalar.muli c3_i32_168 arg17
  let v254 : BitVec 32 := Scalar.addi v253 c0_i32_169
  let v260 : BitVec 32 := Scalar.addi c0_i32_175 v254
  let v285 : Index := Scalar.indexCast v260
  let c0_197 : Index := 0#32
  let c0_198 : Index := 0#32
  ![v285.toNat, 0, 0]
def k0_off4 (k0_t1 : Fin k0_t1_loop.trips) (c0_i32_169 : BitVec 32) : Fin 3 → Nat :=
  let c3_i32_168 : BitVec 32 := 3#32
  let c0_i32_25 : BitVec 32 := 0#32
  let c1_i32_26 : BitVec 32 := 1#32
  let arg17 : BitVec 32 := Scf.iv c0_i32_25 c1_i32_26 k0_t1
  let v253 : BitVec 32 := Scalar.muli c3_i32_168 arg17
  let v254 : BitVec 32 := Scalar.addi v253 c0_i32_169
  let v554 : Index := Scalar.indexCast v254
  let c0_336 : Index := 0#32
  let c0_337 : Index := 0#32
  ![v554.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S22x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S22x8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x22x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x4096x1024 : Shape := ⟨3, ![4, 4096, 1024]⟩
abbrev S4x4096x8x64 : Shape := ⟨4, ![4, 4096, 8, 64]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S4x4096x512 : Shape := ⟨3, ![4, 4096, 512]⟩
abbrev S_ : Shape := ⟨0, ![]⟩
abbrev S4x2x5632 : Shape := ⟨3, ![4, 2, 5632]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x8x64, .f32⟩
  | .hbm, ⟨2, _⟩ => ⟨S4x4096x8x64, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S4x4096x512, .f32⟩
  | .hbm, ⟨10, _⟩ => ⟨S4x4096x512, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x2x5632, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S4x4096x5632, .f32⟩
  | .hbm, ⟨33, _⟩ => ⟨S4x4098x5632, .f32⟩
  | .hbm, ⟨34, _⟩ => ⟨S4x4096x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S4x4096x5632, .f32⟩
  | .hbm, ⟨39, _⟩ => ⟨S4x4096x5632, .f32⟩
  | .hbm, ⟨40, _⟩ => ⟨S_, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S4x4096x5632, .f32⟩
  | .hbm, ⟨48, _⟩ => ⟨S4x4096x5632, .f32⟩
  | .hbm, ⟨49, _⟩ => ⟨S4x4096x5632, .f32⟩
  | .hbm, ⟨50, _⟩ => ⟨S4x4096x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S4x4096x5632, .f32⟩
  | .hbm, ⟨55, _⟩ => ⟨S4x4096x5632, .f32⟩
  | .hbm, ⟨56, _⟩ => ⟨S4x4096x5632, .f32⟩
  | .hbm, ⟨57, _⟩ => ⟨S1x1x5632, .f32⟩
  | .hbm, ⟨58, _⟩ => ⟨S4x4096x5632, .f32⟩
  | .hbm, ⟨59, _⟩ => ⟨S4x4096x5632, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S_, .f32⟩
  | .hbm, ⟨65, _⟩ => ⟨S4x4096x2816, .f32⟩
  | .hbm, ⟨66, _⟩ => ⟨S4x4096x2816, .f32⟩
  | .hbm, ⟨67, _⟩ => ⟨S_, .f32⟩
  | .hbm, ⟨68, _⟩ => ⟨S4x4096x2816, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S4x4096x1024, .f32⟩
  | .hbm, ⟨73, _⟩ => ⟨S4x2x5632, .f32⟩
  | .hbm, ⟨74, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x1592 : Shape := ⟨2, ![1024, 1592]⟩
abbrev S4x64 : Shape := ⟨2, ![4, 64]⟩
abbrev S384 : Shape := ⟨1, ![384]⟩
abbrev S256 : Shape := ⟨1, ![256]⟩
abbrev S384x768 : Shape := ⟨2, ![384, 768]⟩
abbrev S256x8x64 : Shape := ⟨3, ![256, 8, 64]⟩
abbrev S2x64 : Shape := ⟨2, ![2, 64]⟩
abbrev S2x32 : Shape := ⟨2, ![2, 32]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x32 : Shape := ⟨2, ![1024, 32]⟩
abbrev S1024x24 : Shape := ⟨2, ![1024, 24]⟩
abbrev S1024x40 : Shape := ⟨2, ![1024, 40]⟩
abbrev S1024x16 : Shape := ⟨2, ![1024, 16]⟩
abbrev S1024x128 : Shape := ⟨2, ![1024, 128]⟩
abbrev S1024x384 : Shape := ⟨2, ![1024, 384]⟩
abbrev S1024x256 : Shape := ⟨2, ![1024, 256]⟩
abbrev S1024x2176 : Shape := ⟨2, ![1024, 2176]⟩
abbrev S64 : Shape := ⟨1, ![64]⟩
abbrev S1x64 : Shape := ⟨2, ![1, 64]⟩
abbrev S128 : Shape := ⟨1, ![128]⟩
abbrev S1x128 : Shape := ⟨2, ![1, 128]⟩
abbrev S2x128 : Shape := ⟨2, ![2, 128]⟩
abbrev S6x128 : Shape := ⟨2, ![6, 128]⟩
abbrev S8x128 : Shape := ⟨2, ![8, 128]⟩
abbrev S384x8x96 : Shape := ⟨3, ![384, 8, 96]⟩
abbrev S384x8x32 : Shape := ⟨3, ![384, 8, 32]⟩
abbrev S384x8x16 : Shape := ⟨3, ![384, 8, 16]⟩
abbrev S384x8x128 : Shape := ⟨3, ![384, 8, 128]⟩
abbrev S384x1024 : Shape := ⟨2, ![384, 1024]⟩
abbrev S1x32 : Shape := ⟨2, ![1, 32]⟩
abbrev S32 : Shape := ⟨1, ![32]⟩
abbrev S16 : Shape := ⟨1, ![16]⟩
abbrev S256x8x128 : Shape := ⟨3, ![256, 8, 128]⟩
abbrev S256x1024 : Shape := ⟨2, ![256, 1024]⟩
abbrev S256x512 : Shape := ⟨2, ![256, 512]⟩
abbrev S1x1024 : Shape := ⟨2, ![1, 1024]⟩
abbrev S1x384 : Shape := ⟨2, ![1, 384]⟩
abbrev S1x256 : Shape := ⟨2, ![1, 256]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S4096x128 : Shape := ⟨2, ![4096, 128]⟩
abbrev S4096x96 : Shape := ⟨2, ![4096, 96]⟩
abbrev S4096x512 : Shape := ⟨2, ![4096, 512]⟩
abbrev S16384x1024 : Shape := ⟨2, ![16384, 1024]⟩
abbrev S16384x256 : Shape := ⟨2, ![16384, 256]⟩
abbrev S16384x128 : Shape := ⟨2, ![16384, 128]⟩
abbrev S16384x288 : Shape := ⟨2, ![16384, 288]⟩
abbrev S16384x512 : Shape := ⟨2, ![16384, 512]⟩
abbrev S256x256 : Shape := ⟨2, ![256, 256]⟩
abbrev S256x128 : Shape := ⟨2, ![256, 128]⟩
abbrev S256x288 : Shape := ⟨2, ![256, 288]⟩
abbrev S256x1 : Shape := ⟨2, ![256, 1]⟩
abbrev S256x384 : Shape := ⟨2, ![256, 384]⟩
abbrev S256x32 : Shape := ⟨2, ![256, 32]⟩
abbrev S4x4096x4x1x64 : Shape := ⟨5, ![4, 4096, 4, 1, 64]⟩
abbrev S4x4096x288 : Shape := ⟨3, ![4, 4096, 288]⟩
abbrev S16384x8 : Shape := ⟨2, ![16384, 8]⟩
abbrev S4x4096x8 : Shape := ⟨3, ![4, 4096, 8]⟩
abbrev S4x4096x2x1x64 : Shape := ⟨5, ![4, 4096, 2, 1, 64]⟩
abbrev S4x512x2x1x64 : Shape := ⟨5, ![4, 512, 2, 1, 64]⟩
abbrev S4x4096x8x128 : Shape := ⟨4, ![4, 4096, 8, 128]⟩
abbrev S4x4096x8x64 : Shape := ⟨4, ![4, 4096, 8, 64]⟩
abbrev S16384x24 : Shape := ⟨2, ![16384, 24]⟩
abbrev S4x4096x3x1x8 : Shape := ⟨5, ![4, 4096, 3, 1, 8]⟩
abbrev S4x4096x8x96 : Shape := ⟨4, ![4, 4096, 8, 96]⟩

abbrev nBuf : Space → Nat
  | .hbm => 167
  | .vmem => 39
  | .smem => 0
  | _ => 0

abbrev hbmTy0_0 (i : Nat) : BufTy := match i % 128 with
  | 0 => ⟨S4x4096x1024, .f32⟩
  | 1 => ⟨S1024, .f32⟩
  | 2 => ⟨S1024x1592, .f32⟩
  | 3 => ⟨S4x64, .f32⟩
  | 4 => ⟨S384, .f32⟩
  | 5 => ⟨S256, .f32⟩
  | 6 => ⟨S384x768, .f32⟩
  | 7 => ⟨S256x8x64, .f32⟩
  | 8 => ⟨S256x8x64, .f32⟩
  | 9 => ⟨S2x64, .f32⟩
  | 10 => ⟨S2x32, .f32⟩
  | 11 => ⟨S1024x512, .f32⟩
  | 12 => ⟨S1024x8x64, .f32⟩
  | 13 => ⟨S_, .f32⟩
  | 14 => ⟨S1024x8x64, .f32⟩
  | 15 => ⟨S1024x8x128, .f32⟩
  | 16 => ⟨S1024x1024, .f32⟩
  | 17 => ⟨S1024x32, .f32⟩
  | 18 => ⟨S1024x24, .f32⟩
  | 19 => ⟨S_, .f32⟩
  | 20 => ⟨S1024x40, .f32⟩
  | 21 => ⟨S1024x16, .f32⟩
  | 22 => ⟨S1024x16, .f32⟩
  | 23 => ⟨S1024x32, .f32⟩
  | 24 => ⟨S1024x128, .f32⟩
  | 25 => ⟨S1024x384, .f32⟩
  | 26 => ⟨S1024x384, .f32⟩
  | 27 => ⟨S1024x256, .f32⟩
  | 28 => ⟨S1024x2176, .f32⟩
  | 29 => ⟨S1024x2176, .bf16⟩
  | 30 => ⟨S_, .f32⟩
  | 31 => ⟨S64, .f32⟩
  | 32 => ⟨S1x64, .f32⟩
  | 33 => ⟨S64, .f32⟩
  | 34 => ⟨S_, .f32⟩
  | 35 => ⟨S64, .f32⟩
  | 36 => ⟨S64, .f32⟩
  | 37 => ⟨S_, .f32⟩
  | 38 => ⟨S64, .f32⟩
  | 39 => ⟨S128, .f32⟩
  | 40 => ⟨S1x128, .f32⟩
  | 41 => ⟨S1x64, .f32⟩
  | 42 => ⟨S64, .f32⟩
  | 43 => ⟨S128, .f32⟩
  | 44 => ⟨S1x64, .f32⟩
  | 45 => ⟨S64, .f32⟩
  | 46 => ⟨S128, .f32⟩
  | 47 => ⟨S1x128, .f32⟩
  | 48 => ⟨S1x128, .f32⟩
  | 49 => ⟨S2x128, .f32⟩
  | 50 => ⟨S_, .f32⟩
  | 51 => ⟨S6x128, .f32⟩
  | 52 => ⟨S8x128, .f32⟩
  | 53 => ⟨S384x8x96, .f32⟩
  | 54 => ⟨S384x8x32, .f32⟩
  | 55 => ⟨S384x8x16, .f32⟩
  | 56 => ⟨S384x8x16, .f32⟩
  | 57 => ⟨S384x8x32, .f32⟩
  | 58 => ⟨S384x8x128, .f32⟩
  | 59 => ⟨S384x1024, .f32⟩
  | 60 => ⟨S384x1024, .bf16⟩
  | 61 => ⟨S1x64, .f32⟩
  | 62 => ⟨S64, .f32⟩
  | 63 => ⟨S1x64, .f32⟩
  | 64 => ⟨S64, .f32⟩
  | 65 => ⟨S64, .f32⟩
  | 66 => ⟨S1x32, .f32⟩
  | 67 => ⟨S32, .f32⟩
  | 68 => ⟨S1x32, .f32⟩
  | 69 => ⟨S32, .f32⟩
  | 70 => ⟨S16, .f32⟩
  | 71 => ⟨S16, .f32⟩
  | 72 => ⟨S32, .f32⟩
  | 73 => ⟨S128, .f32⟩
  | 74 => ⟨S1x128, .f32⟩
  | 75 => ⟨S_, .f32⟩
  | 76 => ⟨S64, .f32⟩
  | 77 => ⟨S1x32, .f32⟩
  | 78 => ⟨S32, .f32⟩
  | 79 => ⟨S1x32, .f32⟩
  | 80 => ⟨S32, .f32⟩
  | 81 => ⟨S16, .f32⟩
  | 82 => ⟨S16, .f32⟩
  | 83 => ⟨S32, .f32⟩
  | 84 => ⟨S128, .f32⟩
  | 85 => ⟨S1x128, .f32⟩
  | 86 => ⟨S_, .f32⟩
  | 87 => ⟨S256x8x64, .f32⟩
  | 88 => ⟨S256x8x128, .f32⟩
  | 89 => ⟨S256x1024, .f32⟩
  | 90 => ⟨S256x1024, .bf16⟩
  | 91 => ⟨S256x512, .f32⟩
  | 92 => ⟨S256x512, .bf16⟩
  | 93 => ⟨S1x1024, .f32⟩
  | 94 => ⟨S1x384, .f32⟩
  | 95 => ⟨S1x256, .f32⟩
  | 96 => ⟨S4096, .i32⟩
  | 97 => ⟨S16, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S4096, .f32⟩
  | 106 => ⟨S4096x1, .f32⟩
  | 107 => ⟨S1x16, .f32⟩
  | 108 => ⟨S4096x16, .f32⟩
  | 109 => ⟨S4096x16, .f32⟩
  | 110 => ⟨S4096x16, .f32⟩
  | 111 => ⟨S4096x16, .f32⟩
  | 112 => ⟨S4096x16, .f32⟩
  | 113 => ⟨S4096x32, .f32⟩
  | 114 => ⟨S4096x16, .f32⟩
  | 115 => ⟨S4096x32, .f32⟩
  | 116 => ⟨S_, .f32⟩
  | 117 => ⟨S4096x64, .f32⟩
  | 118 => ⟨S_, .f32⟩
  | 119 => ⟨S4096x32, .f32⟩
  | 120 => ⟨S4096x32, .f32⟩
  | 121 => ⟨S_, .f32⟩
  | 122 => ⟨S4096x32, .f32⟩
  | 123 => ⟨S4096x128, .f32⟩
  | 124 => ⟨S_, .f32⟩
  | 125 => ⟨S4096x96, .f32⟩
  | 126 => ⟨S_, .f32⟩
  | 127 => ⟨S4096x32, .f32⟩
  | _ => ⟨S4x4096x1024, .f32⟩

abbrev hbmTy0_1 (i : Nat) : BufTy := match i % 128 with
  | 0 => ⟨S4096x32, .f32⟩
  | 1 => ⟨S4096x128, .f32⟩
  | 2 => ⟨S_, .f32⟩
  | 3 => ⟨S4096x64, .f32⟩
  | 4 => ⟨S_, .f32⟩
  | 5 => ⟨S4096x32, .f32⟩
  | 6 => ⟨S4096x128, .f32⟩
  | 7 => ⟨S_, .f32⟩
  | 8 => ⟨S4096x96, .f32⟩
  | 9 => ⟨S4096x128, .f32⟩
  | 10 => ⟨S4096x512, .f32⟩
  | 11 => ⟨S16384x1024, .f32⟩
  | 12 => ⟨S16384x1024, .bf16⟩
  | 13 => ⟨S16384x256, .f32⟩
  | 14 => ⟨S16384x128, .f32⟩
  | 15 => ⟨S16384x128, .bf16⟩
  | 16 => ⟨S16384x128, .bf16⟩
  | 17 => ⟨S16384x128, .bf16⟩
  | 18 => ⟨S16384x128, .f32⟩
  | 19 => ⟨S16384x1024, .bf16⟩
  | 20 => ⟨S16384x288, .f32⟩
  | 21 => ⟨S16384x128, .f32⟩
  | 22 => ⟨S16384x1024, .bf16⟩
  | 23 => ⟨S16384x512, .bf16⟩
  | 24 => ⟨S4x4096x4x1x64, .f32⟩
  | 25 => ⟨S4x4096x288, .f32⟩
  | 26 => ⟨S16384x8, .f32⟩
  | 27 => ⟨S4x4096x8, .f32⟩
  | 28 => ⟨S4x4096x2x1x64, .f32⟩
  | 29 => ⟨S4x512x2x1x64, .f32⟩
  | 30 => ⟨S4x4096x8x128, .bf16⟩
  | 31 => ⟨S4x4096x8x64, .bf16⟩
  | 32 => ⟨S16384x24, .f32⟩
  | 33 => ⟨S4x4096x3x1x8, .f32⟩
  | 34 => ⟨S4x4096x8x128, .bf16⟩
  | 35 => ⟨S4x4096x8x96, .bf16⟩
  | 36 => ⟨S4x4096x8x128, .bf16⟩
  | 37 => ⟨S4x4096x8x96, .bf16⟩
  | 38 => ⟨S4x4096x8x64, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2176, .bf16⟩
  | .local _ .vmem, ⟨4, _⟩ => ⟨S1x128, .f32⟩
  | .local _ .vmem, ⟨5, _⟩ => ⟨S8x128, .f32⟩
  | .local _ .vmem, ⟨6, _⟩ => ⟨S1x384, .f32⟩
  | .local _ .vmem, ⟨7, _⟩ => ⟨S384x1024, .bf16⟩
  | .local _ .vmem, ⟨8, _⟩ => ⟨S1x128, .f32⟩
  | .local _ .vmem, ⟨9, _⟩ => ⟨S1x256, .f32⟩
  | .local _ .vmem, ⟨10, _⟩ => ⟨S256x1024, .bf16⟩
  | .local _ .vmem, ⟨11, _⟩ => ⟨S256x512, .bf16⟩
  | .local _ .vmem, ⟨12, _⟩ => ⟨S1x128, .f32⟩
  | .local _ .vmem, ⟨13, _⟩ => ⟨S256x512, .f32⟩
  | .local _ .vmem, ⟨14, _⟩ => ⟨S256x512, .f32⟩
  | .local _ .vmem, ⟨15, _⟩ => ⟨S256x1024, .bf16⟩
  | .local _ .vmem, ⟨16, _⟩ => ⟨S256x1024, .bf16⟩
  | .local _ .vmem, ⟨17, _⟩ => ⟨S256x256, .f32⟩
  | .local _ .vmem, ⟨18, _⟩ => ⟨S256x256, .f32⟩
  | .local _ .vmem, ⟨19, _⟩ => ⟨S256x128, .f32⟩
  | .local _ .vmem, ⟨20, _⟩ => ⟨S256x128, .f32⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S256x128, .bf16⟩
  | .local _ .vmem, ⟨25, _⟩ => ⟨S256x128, .bf16⟩
  | .local _ .vmem, ⟨26, _⟩ => ⟨S256x128, .bf16⟩
  | .local _ .vmem, ⟨27, _⟩ => ⟨S256x128, .f32⟩
  | .local _ .vmem, ⟨28, _⟩ => ⟨S256x128, .f32⟩
  | .local _ .vmem, ⟨29, _⟩ => ⟨S256x1024, .bf16⟩
  | .local _ .vmem, ⟨30, _⟩ => ⟨S256x1024, .bf16⟩
  | .local _ .vmem, ⟨31, _⟩ => ⟨S256x288, .f32⟩
  | .local _ .vmem, ⟨32, _⟩ => ⟨S256x288, .f32⟩
  | .local _ .vmem, ⟨33, _⟩ => ⟨S256x128, .f32⟩
  | .local _ .vmem, ⟨34, _⟩ => ⟨S256x128, .f32⟩
  | .local _ .vmem, ⟨35, _⟩ => ⟨S256x1024, .bf16⟩
  | .local _ .vmem, ⟨36, _⟩ => ⟨S256x1024, .bf16⟩
  | .local _ .vmem, ⟨37, _⟩ => ⟨S256x512, .bf16⟩
  | .local _ .vmem, ⟨38, _⟩ => ⟨S256x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_5 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_6 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_7 : Ref sig .tc := ⟨.hbm, 99, rfl⟩
abbrev main_v80 : Ref sig .tc := ⟨.hbm, 100, rfl⟩
abbrev main_v81 : Ref sig .tc := ⟨.hbm, 101, rfl⟩
abbrev main_cst_8 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_9 : Ref sig .tc := ⟨.hbm, 116, rfl⟩
abbrev main_v95 : Ref sig .tc := ⟨.hbm, 117, rfl⟩
abbrev main_cst_10 : Ref sig .tc := ⟨.hbm, 118, rfl⟩
abbrev main_v96 : Ref sig .tc := ⟨.hbm, 119, rfl⟩
abbrev main_v97 : Ref sig .tc := ⟨.hbm, 120, rfl⟩
abbrev main_cst_11 : Ref sig .tc := ⟨.hbm, 121, rfl⟩
abbrev main_v98 : Ref sig .tc := ⟨.hbm, 122, rfl⟩
abbrev main_v99 : Ref sig .tc := ⟨.hbm, 123, rfl⟩
abbrev main_cst_12 : Ref sig .tc := ⟨.hbm, 124, rfl⟩
abbrev main_v100 : Ref sig .tc := ⟨.hbm, 125, rfl⟩
abbrev main_cst_13 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_14 : Ref sig .tc := ⟨.hbm, 130, rfl⟩
abbrev main_v104 : Ref sig .tc := ⟨.hbm, 131, rfl⟩
abbrev main_cst_15 : Ref sig .tc := ⟨.hbm, 132, rfl⟩
abbrev main_v105 : Ref sig .tc := ⟨.hbm, 133, rfl⟩
abbrev main_v106 : Ref sig .tc := ⟨.hbm, 134, rfl⟩
abbrev main_cst_16 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111_0 : Ref sig .tc := ⟨.hbm, 140, rfl⟩
abbrev main_v111_1 : Ref sig .tc := ⟨.hbm, 141, rfl⟩
abbrev main_v111_2 : Ref sig .tc := ⟨.hbm, 142, rfl⟩
abbrev main_v111_3 : Ref sig .tc := ⟨.hbm, 143, rfl⟩
abbrev main_v111_4 : Ref sig .tc := ⟨.hbm, 144, rfl⟩
abbrev main_v111_5 : Ref sig .tc := ⟨.hbm, 145, rfl⟩
abbrev main_v111_6 : Ref sig .tc := ⟨.hbm, 146, rfl⟩
abbrev main_v111_7 : Ref sig .tc := ⟨.hbm, 147, rfl⟩
abbrev main_v111_8 : Ref sig .tc := ⟨.hbm, 148, rfl⟩
abbrev main_v111_9 : Ref sig .tc := ⟨.hbm, 149, rfl⟩
abbrev main_v111_10 : Ref sig .tc := ⟨.hbm, 150, rfl⟩
abbrev main_v111_11 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x288 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference3Ideal.lean ====
abbrev S4x4096x1024 : Shape := ⟨3, ![4, 4096, 1024]⟩
abbrev S1024 : Shape := ⟨1, ![1024]⟩
abbrev S1024x1592 : Shape := ⟨2, ![1024, 1592]⟩
abbrev S4x64 : Shape := ⟨2, ![4, 64]⟩
abbrev S384 : Shape := ⟨1, ![384]⟩
abbrev S256 : Shape := ⟨1, ![256]⟩
abbrev S384x768 : Shape := ⟨2, ![384, 768]⟩
abbrev S256x8x64 : Shape := ⟨3, ![256, 8, 64]⟩
abbrev S2x64 : Shape := ⟨2, ![2, 64]⟩
abbrev S2x32 : Shape := ⟨2, ![2, 32]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x1592 : Shape := ⟨3, ![4, 4096, 1592]⟩
abbrev S4x4096x512 : Shape := ⟨3, ![4, 4096, 512]⟩
abbrev S4x4096x1x8x64 : Shape := ⟨5, ![4, 4096, 1, 8, 64]⟩
abbrev S1x64 : Shape := ⟨2, ![1, 64]⟩
abbrev S64 : Shape := ⟨1, ![64]⟩
abbrev S4x4096x1x8 : Shape := ⟨4, ![4, 4096, 1, 8]⟩
abbrev S4x4096x1x8x1 : Shape := ⟨5, ![4, 4096, 1, 8, 1]⟩
abbrev S1x1x1x1x64 : Shape := ⟨5, ![1, 1, 1, 1, 64]⟩
abbrev S4x4096x384 : Shape := ⟨3, ![4, 4096, 384]⟩
abbrev S4x4096x6x1x64 : Shape := ⟨5, ![4, 4096, 6, 1, 64]⟩
abbrev S4x4096x24 : Shape := ⟨3, ![4, 4096, 24]⟩
abbrev S4x4096x3x1x8 : Shape := ⟨5, ![4, 4096, 3, 1, 8]⟩
abbrev S4x4096x1x1x64 : Shape := ⟨5, ![4, 4096, 1, 1, 64]⟩
abbrev S4x4096x1x64 : Shape := ⟨4, ![4, 4096, 1, 64]⟩
abbrev S4x4096x1x1 : Shape := ⟨4, ![4, 4096, 1, 1]⟩
abbrev S1x1x1x64 : Shape := ⟨4, ![1, 1, 1, 64]⟩
abbrev S4x4096x4x1x64 : Shape := ⟨5, ![4, 4096, 4, 1, 64]⟩
abbrev S4x4096x2x1x64 : Shape := ⟨5, ![4, 4096, 2, 1, 64]⟩
abbrev S1x1x384 : Shape := ⟨3, ![1, 1, 384]⟩
abbrev S4x4096x768 : Shape := ⟨3, ![4, 4096, 768]⟩
abbrev S4x4096x8x96 : Shape := ⟨4, ![4, 4096, 8, 96]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S4x4096x8x32 : Shape := ⟨4, ![4, 4096, 8, 32]⟩
abbrev S1x32 : Shape := ⟨2, ![1, 32]⟩
abbrev S32 : Shape := ⟨1, ![32]⟩
abbrev S1x1x1x32 : Shape := ⟨4, ![1, 1, 1, 32]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4x4096x8x16 : Shape := ⟨4, ![4, 4096, 8, 16]⟩
abbrev S1x4096x1x16 : Shape := ⟨4, ![1, 4096, 1, 16]⟩
abbrev S4x4096x256 : Shape := ⟨3, ![4, 4096, 256]⟩
abbrev S1x1x256 : Shape := ⟨3, ![1, 1, 256]⟩
abbrev S4x4096x32 : Shape := ⟨3, ![4, 4096, 32]⟩
abbrev S1x1x32 : Shape := ⟨3, ![1, 1, 32]⟩
abbrev S4x4096x16 : Shape := ⟨3, ![4, 4096, 16]⟩
abbrev S1x4096x16 : Shape := ⟨3, ![1, 4096, 16]⟩
abbrev S4x4096x288 : Shape := ⟨3, ![4, 4096, 288]⟩
abbrev S4x4096x1x32 : Shape := ⟨4, ![4, 4096, 1, 32]⟩
abbrev S4x512x2x1x64 : Shape := ⟨5, ![4, 512, 2, 1, 64]⟩

abbrev nBuf : Space → Nat
  | .hbm => 315
  | .vmem => 0
  | .smem => 0
  | _ => 0

abbrev hbmTy0_0 (i : Nat) : BufTy := match i % 128 with
  | 0 => ⟨S4x4096x1024, .f32⟩
  | 1 => ⟨S1024, .f32⟩
  | 2 => ⟨S1024x1592, .f32⟩
  | 3 => ⟨S4x64, .f32⟩
  | 4 => ⟨S384, .f32⟩
  | 5 => ⟨S256, .f32⟩
  | 6 => ⟨S384x768, .f32⟩
  | 7 => ⟨S256x8x64, .f32⟩
  | 8 => ⟨S256x8x64, .f32⟩
  | 9 => ⟨S2x64, .f32⟩
  | 10 => ⟨S2x32, .f32⟩
  | 11 => ⟨S4096, .i32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S4x4096x1592, .f32⟩
  | 29 => ⟨S4x4096x512, .f32⟩
  | 30 => ⟨S4x4096x1x8x64, .f32⟩
  | 31 => ⟨S1x64, .f32⟩
  | 32 => ⟨S64, .f32⟩
  | 33 => ⟨S4x4096x1x8x64, .f32⟩
  | 34 => ⟨S_, .f32⟩
  | 35 => ⟨S4x4096x1x8, .f32⟩
  | 36 => ⟨S4x4096x1x8x1, .f32⟩
  | 37 => ⟨S_, .f32⟩
  | 38 => ⟨S4x4096x1x8x1, .f32⟩
  | 39 => ⟨S4x4096x1x8x1, .f32⟩
  | 40 => ⟨S_, .f32⟩
  | 41 => ⟨S4x4096x1x8x1, .f32⟩
  | 42 => ⟨S4x4096x1x8x1, .f32⟩
  | 43 => ⟨S4x4096x1x8x1, .f32⟩
  | 44 => ⟨S4x4096x1x8x64, .f32⟩
  | 45 => ⟨S4x4096x1x8x64, .f32⟩
  | 46 => ⟨S1x1x1x1x64, .f32⟩
  | 47 => ⟨S4x4096x1x8x64, .f32⟩
  | 48 => ⟨S4x4096x1x8x64, .f32⟩
  | 49 => ⟨S4x4096x384, .f32⟩
  | 50 => ⟨S4x4096x6x1x64, .f32⟩
  | 51 => ⟨S4x4096x24, .f32⟩
  | 52 => ⟨S4x4096x24, .f32⟩
  | 53 => ⟨S4x4096x24, .f32⟩
  | 54 => ⟨S_, .f32⟩
  | 55 => ⟨S4x4096x24, .f32⟩
  | 56 => ⟨S4x4096x24, .f32⟩
  | 57 => ⟨S_, .f32⟩
  | 58 => ⟨S4x4096x24, .f32⟩
  | 59 => ⟨S4x4096x24, .f32⟩
  | 60 => ⟨S4x4096x3x1x8, .f32⟩
  | 61 => ⟨S4x4096x1x1x64, .f32⟩
  | 62 => ⟨S4x4096x1x64, .f32⟩
  | 63 => ⟨S4x4096x1x1x64, .f32⟩
  | 64 => ⟨S4x4096x1x64, .f32⟩
  | 65 => ⟨S4x4096x1x1x64, .f32⟩
  | 66 => ⟨S4x4096x1x64, .f32⟩
  | 67 => ⟨S1x64, .f32⟩
  | 68 => ⟨S64, .f32⟩
  | 69 => ⟨S4x4096x1x64, .f32⟩
  | 70 => ⟨S_, .f32⟩
  | 71 => ⟨S4x4096x1, .f32⟩
  | 72 => ⟨S4x4096x1x1, .f32⟩
  | 73 => ⟨S_, .f32⟩
  | 74 => ⟨S4x4096x1x1, .f32⟩
  | 75 => ⟨S4x4096x1x1, .f32⟩
  | 76 => ⟨S_, .f32⟩
  | 77 => ⟨S4x4096x1x1, .f32⟩
  | 78 => ⟨S4x4096x1x1, .f32⟩
  | 79 => ⟨S4x4096x1x1, .f32⟩
  | 80 => ⟨S4x4096x1x64, .f32⟩
  | 81 => ⟨S4x4096x1x64, .f32⟩
  | 82 => ⟨S1x1x1x64, .f32⟩
  | 83 => ⟨S4x4096x1x64, .f32⟩
  | 84 => ⟨S4x4096x1x64, .f32⟩
  | 85 => ⟨S4x4096x1x1x64, .f32⟩
  | 86 => ⟨S4x4096x1x64, .f32⟩
  | 87 => ⟨S4x4096x1x1x64, .f32⟩
  | 88 => ⟨S4x4096x1x1x64, .f32⟩
  | 89 => ⟨S4x4096x1x1x64, .f32⟩
  | 90 => ⟨S4x4096x1x1x64, .f32⟩
  | 91 => ⟨S4x4096x4x1x64, .f32⟩
  | 92 => ⟨S4x4096x1x1x64, .f32⟩
  | 93 => ⟨S4x4096x1x64, .f32⟩
  | 94 => ⟨S1x64, .f32⟩
  | 95 => ⟨S64, .f32⟩
  | 96 => ⟨S4x4096x1x64, .f32⟩
  | 97 => ⟨S_, .f32⟩
  | 98 => ⟨S4x4096x1, .f32⟩
  | 99 => ⟨S4x4096x1x1, .f32⟩
  | 100 => ⟨S_, .f32⟩
  | 101 => ⟨S4x4096x1x1, .f32⟩
  | 102 => ⟨S4x4096x1x1, .f32⟩
  | 103 => ⟨S_, .f32⟩
  | 104 => ⟨S4x4096x1x1, .f32⟩
  | 105 => ⟨S4x4096x1x1, .f32⟩
  | 106 => ⟨S4x4096x1x1, .f32⟩
  | 107 => ⟨S4x4096x1x64, .f32⟩
  | 108 => ⟨S4x4096x1x64, .f32⟩
  | 109 => ⟨S1x1x1x64, .f32⟩
  | 110 => ⟨S4x4096x1x64, .f32⟩
  | 111 => ⟨S4x4096x1x64, .f32⟩
  | 112 => ⟨S4x4096x1x1x64, .f32⟩
  | 113 => ⟨S4x4096x1x64, .f32⟩
  | 114 => ⟨S4x4096x1x1x64, .f32⟩
  | 115 => ⟨S4x4096x1x1x64, .f32⟩
  | 116 => ⟨S4x4096x2x1x64, .f32⟩
  | 117 => ⟨S4x4096x384, .f32⟩
  | 118 => ⟨S4x4096x384, .f32⟩
  | 119 => ⟨S_, .f32⟩
  | 120 => ⟨S4x4096, .f32⟩
  | 121 => ⟨S4x4096x1, .f32⟩
  | 122 => ⟨S_, .f32⟩
  | 123 => ⟨S4x4096x1, .f32⟩
  | 124 => ⟨S4x4096x1, .f32⟩
  | 125 => ⟨S_, .f32⟩
  | 126 => ⟨S4x4096x1, .f32⟩
  | 127 => ⟨S4x4096x1, .f32⟩
  | _ => ⟨S4x4096x1024, .f32⟩

abbrev hbmTy0_1 (i : Nat) : BufTy := match i % 128 with
  | 0 => ⟨S4x4096x1, .f32⟩
  | 1 => ⟨S4x4096x384, .f32⟩
  | 2 => ⟨S4x4096x384, .f32⟩
  | 3 => ⟨S1x1x384, .f32⟩
  | 4 => ⟨S4x4096x384, .f32⟩
  | 5 => ⟨S4x4096x384, .f32⟩
  | 6 => ⟨S4x4096x768, .f32⟩
  | 7 => ⟨S4x4096x8x96, .f32⟩
  | 8 => ⟨S4x4096x8x64, .f32⟩
  | 9 => ⟨S1x64, .f32⟩
  | 10 => ⟨S64, .f32⟩
  | 11 => ⟨S4x4096x8x64, .f32⟩
  | 12 => ⟨S_, .f32⟩
  | 13 => ⟨S4x4096x8, .f32⟩
  | 14 => ⟨S4x4096x8x1, .f32⟩
  | 15 => ⟨S_, .f32⟩
  | 16 => ⟨S4x4096x8x1, .f32⟩
  | 17 => ⟨S4x4096x8x1, .f32⟩
  | 18 => ⟨S_, .f32⟩
  | 19 => ⟨S4x4096x8x1, .f32⟩
  | 20 => ⟨S4x4096x8x1, .f32⟩
  | 21 => ⟨S4x4096x8x1, .f32⟩
  | 22 => ⟨S4x4096x8x64, .f32⟩
  | 23 => ⟨S4x4096x8x64, .f32⟩
  | 24 => ⟨S1x1x1x64, .f32⟩
  | 25 => ⟨S4x4096x8x64, .f32⟩
  | 26 => ⟨S4x4096x8x64, .f32⟩
  | 27 => ⟨S1x64, .f32⟩
  | 28 => ⟨S64, .f32⟩
  | 29 => ⟨S1x1x1x64, .f32⟩
  | 30 => ⟨S4x4096x8x64, .f32⟩
  | 31 => ⟨S4x4096x8x64, .f32⟩
  | 32 => ⟨S4x4096x8x32, .f32⟩
  | 33 => ⟨S1x32, .f32⟩
  | 34 => ⟨S32, .f32⟩
  | 35 => ⟨S4x4096x8x32, .f32⟩
  | 36 => ⟨S_, .f32⟩
  | 37 => ⟨S4x4096x8, .f32⟩
  | 38 => ⟨S4x4096x8x1, .f32⟩
  | 39 => ⟨S_, .f32⟩
  | 40 => ⟨S4x4096x8x1, .f32⟩
  | 41 => ⟨S4x4096x8x1, .f32⟩
  | 42 => ⟨S_, .f32⟩
  | 43 => ⟨S4x4096x8x1, .f32⟩
  | 44 => ⟨S4x4096x8x1, .f32⟩
  | 45 => ⟨S4x4096x8x1, .f32⟩
  | 46 => ⟨S4x4096x8x32, .f32⟩
  | 47 => ⟨S4x4096x8x32, .f32⟩
  | 48 => ⟨S1x1x1x32, .f32⟩
  | 49 => ⟨S4x4096x8x32, .f32⟩
  | 50 => ⟨S4x4096x8x32, .f32⟩
  | 51 => ⟨S16, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S4096, .f32⟩
  | 60 => ⟨S4096x1, .f32⟩
  | 61 => ⟨S1x16, .f32⟩
  | 62 => ⟨S4096x16, .f32⟩
  | 63 => ⟨S4096x16, .f32⟩
  | 64 => ⟨S4096x16, .f32⟩
  | 65 => ⟨S4096x16, .f32⟩
  | 66 => ⟨S4096x1x16, .f32⟩
  | 67 => ⟨S4096x16, .f32⟩
  | 68 => ⟨S4096x1x16, .f32⟩
  | 69 => ⟨S4x4096x8x16, .f32⟩
  | 70 => ⟨S4x4096x8x16, .f32⟩
  | 71 => ⟨S1x4096x1x16, .f32⟩
  | 72 => ⟨S4x4096x8x16, .f32⟩
  | 73 => ⟨S4x4096x8x16, .f32⟩
  | 74 => ⟨S1x4096x1x16, .f32⟩
  | 75 => ⟨S4x4096x8x16, .f32⟩
  | 76 => ⟨S4x4096x8x16, .f32⟩
  | 77 => ⟨S4x4096x8x16, .f32⟩
  | 78 => ⟨S1x4096x1x16, .f32⟩
  | 79 => ⟨S4x4096x8x16, .f32⟩
  | 80 => ⟨S4x4096x8x16, .f32⟩
  | 81 => ⟨S1x4096x1x16, .f32⟩
  | 82 => ⟨S4x4096x8x16, .f32⟩
  | 83 => ⟨S4x4096x8x16, .f32⟩
  | 84 => ⟨S4x4096x8x16, .f32⟩
  | 85 => ⟨S4x4096x8x32, .f32⟩
  | 86 => ⟨S4x4096x256, .f32⟩
  | 87 => ⟨S4x4096x256, .f32⟩
  | 88 => ⟨S_, .f32⟩
  | 89 => ⟨S4x4096, .f32⟩
  | 90 => ⟨S4x4096x1, .f32⟩
  | 91 => ⟨S_, .f32⟩
  | 92 => ⟨S4x4096x1, .f32⟩
  | 93 => ⟨S4x4096x1, .f32⟩
  | 94 => ⟨S_, .f32⟩
  | 95 => ⟨S4x4096x1, .f32⟩
  | 96 => ⟨S4x4096x1, .f32⟩
  | 97 => ⟨S4x4096x1, .f32⟩
  | 98 => ⟨S4x4096x256, .f32⟩
  | 99 => ⟨S4x4096x256, .f32⟩
  | 100 => ⟨S1x1x256, .f32⟩
  | 101 => ⟨S4x4096x256, .f32⟩
  | 102 => ⟨S4x4096x256, .f32⟩
  | 103 => ⟨S4x4096x32, .f32⟩
  | 104 => ⟨S1x32, .f32⟩
  | 105 => ⟨S32, .f32⟩
  | 106 => ⟨S4x4096x32, .f32⟩
  | 107 => ⟨S_, .f32⟩
  | 108 => ⟨S4x4096, .f32⟩
  | 109 => ⟨S4x4096x1, .f32⟩
  | 110 => ⟨S_, .f32⟩
  | 111 => ⟨S4x4096x1, .f32⟩
  | 112 => ⟨S4x4096x1, .f32⟩
  | 113 => ⟨S_, .f32⟩
  | 114 => ⟨S4x4096x1, .f32⟩
  | 115 => ⟨S4x4096x1, .f32⟩
  | 116 => ⟨S4x4096x1, .f32⟩
  | 117 => ⟨S4x4096x32, .f32⟩
  | 118 => ⟨S4x4096x32, .f32⟩
  | 119 => ⟨S1x1x32, .f32⟩
  | 120 => ⟨S4x4096x32, .f32⟩
  | 121 => ⟨S4x4096x32, .f32⟩
  | 122 => ⟨S16, .f32⟩
  | 123 => ⟨S16, .f32⟩
  | 124 => ⟨S_, .f32⟩
  | 125 => ⟨S16, .f32⟩
  | 126 => ⟨S16, .f32⟩
  | 127 => ⟨S_, .f32⟩
  | _ => ⟨S4x4096x1024, .f32⟩

abbrev hbmTy0_2 (i : Nat) : BufTy := match i % 128 with
  | 0 => ⟨S16, .f32⟩
  | 1 => ⟨S16, .f32⟩
  | 2 => ⟨S4096, .f32⟩
  | 3 => ⟨S4096x1, .f32⟩
  | 4 => ⟨S1x16, .f32⟩
  | 5 => ⟨S4096x16, .f32⟩
  | 6 => ⟨S4096x16, .f32⟩
  | 7 => ⟨S4096x16, .f32⟩
  | 8 => ⟨S4096x16, .f32⟩
  | 9 => ⟨S4096x16, .f32⟩
  | 10 => ⟨S4x4096x16, .f32⟩
  | 11 => ⟨S4x4096x16, .f32⟩
  | 12 => ⟨S1x4096x16, .f32⟩
  | 13 => ⟨S4x4096x16, .f32⟩
  | 14 => ⟨S4x4096x16, .f32⟩
  | 15 => ⟨S1x4096x16, .f32⟩
  | 16 => ⟨S4x4096x16, .f32⟩
  | 17 => ⟨S4x4096x16, .f32⟩
  | 18 => ⟨S4x4096x16, .f32⟩
  | 19 => ⟨S1x4096x16, .f32⟩
  | 20 => ⟨S4x4096x16, .f32⟩
  | 21 => ⟨S4x4096x16, .f32⟩
  | 22 => ⟨S1x4096x16, .f32⟩
  | 23 => ⟨S4x4096x16, .f32⟩
  | 24 => ⟨S4x4096x16, .f32⟩
  | 25 => ⟨S4x4096x16, .f32⟩
  | 26 => ⟨S4x4096x32, .f32⟩
  | 27 => ⟨S4x4096x8x64, .f32⟩
  | 28 => ⟨S4x4096x8x64, .f32⟩
  | 29 => ⟨S_, .f32⟩
  | 30 => ⟨S4x4096x8, .f32⟩
  | 31 => ⟨S_, .f32⟩
  | 32 => ⟨S4x4096x8, .f32⟩
  | 33 => ⟨S4x4096x8, .f32⟩
  | 34 => ⟨S_, .f32⟩
  | 35 => ⟨S4x4096x8, .f32⟩
  | 36 => ⟨S4x4096x8, .f32⟩
  | 37 => ⟨S4x4096x8, .f32⟩
  | 38 => ⟨S4x4096x288, .f32⟩
  | 39 => ⟨S4x4096x8x1, .f32⟩
  | 40 => ⟨S4x4096x8x64, .f32⟩
  | 41 => ⟨S4x4096x8x64, .f32⟩
  | 42 => ⟨S4x4096x8x64, .f32⟩
  | 43 => ⟨S4x4096x1x32, .f32⟩
  | 44 => ⟨S4x4096x8x32, .f32⟩
  | 45 => ⟨S4x512x2x1x64, .f32⟩
  | 46 => ⟨S_, .f32⟩
  | 47 => ⟨S4x4096x1x8x64, .f32⟩
  | 48 => ⟨S4x4096x1x8x64, .f32⟩
  | 49 => ⟨S4x4096x8x64, .f32⟩
  | 50 => ⟨S4x4096x8x64, .bf16⟩
  | 51 => ⟨S4x4096x8x96, .f32⟩
  | 52 => ⟨S_, .f32⟩
  | 53 => ⟨S4x4096x8x96, .f32⟩
  | 54 => ⟨S4x4096x8x96, .f32⟩
  | 55 => ⟨S4x4096x8x96, .bf16⟩
  | 56 => ⟨S4x4096x8x96, .f32⟩
  | 57 => ⟨S4x4096x8x96, .bf16⟩
  | 58 => ⟨S4x4096x8x64, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_10 : Ref sig .tc := ⟨.hbm, 97, rfl⟩
abbrev main_v75 : Ref sig .tc := ⟨.hbm, 98, rfl⟩
abbrev main_v76 : Ref sig .tc := ⟨.hbm, 99, rfl⟩
abbrev main_cst_11 : Ref sig .tc := ⟨.hbm, 100, rfl⟩
abbrev main_v77 : Ref sig .tc := ⟨.hbm, 101, rfl⟩
abbrev main_v78 : Ref sig .tc := ⟨.hbm, 102, rfl⟩
abbrev main_cst_12 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_13 : Ref sig .tc := ⟨.hbm, 119, rfl⟩
abbrev main_v94 : Ref sig .tc := ⟨.hbm, 120, rfl⟩
abbrev main_v95 : Ref sig .tc := ⟨.hbm, 121, rfl⟩
abbrev main_cst_14 : Ref sig .tc := ⟨.hbm, 122, rfl⟩
abbrev main_v96 : Ref sig .tc := ⟨.hbm, 123, rfl⟩
abbrev main_v97 : Ref sig .tc := ⟨.hbm, 124, rfl⟩
abbrev main_cst_15 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_16 : Ref sig .tc := ⟨.hbm, 140, rfl⟩
abbrev main_v112 : Ref sig .tc := ⟨.hbm, 141, rfl⟩
abbrev main_v113 : Ref sig .tc := ⟨.hbm, 142, rfl⟩
abbrev main_cst_17 : Ref sig .tc := ⟨.hbm, 143, rfl⟩
abbrev main_v114 : Ref sig .tc := ⟨.hbm, 144, rfl⟩
abbrev main_v115 : Ref sig .tc := ⟨.hbm, 145, rfl⟩
abbrev main_cst_18 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_19 : Ref sig .tc := ⟨.hbm, 164, rfl⟩
abbrev main_v133 : Ref sig .tc := ⟨.hbm, 165, rfl⟩
abbrev main_v134 : Ref sig .tc := ⟨.hbm, 166, rfl⟩
abbrev main_cst_20 : Ref sig .tc := ⟨.hbm, 167, rfl⟩
abbrev main_v135 : Ref sig .tc := ⟨.hbm, 168, rfl⟩
abbrev main_v136 : Ref sig .tc := ⟨.hbm, 169, rfl⟩
abbrev main_cst_21 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_cst_22 : Ref sig .tc := ⟨.hbm, 181, rfl⟩
abbrev main_v147 : Ref sig .tc := ⟨.hbm, 182, rfl⟩
abbrev main_v148 : Ref sig .tc := ⟨.hbm, 183, rfl⟩
abbrev main_cst_23 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_cst_24 : Ref sig .tc := ⟨.hbm, 216, rfl⟩
abbrev main_v180 : Ref sig .tc := ⟨.hbm, 217, rfl⟩
abbrev main_v181 : Ref sig .tc := ⟨.hbm, 218, rfl⟩
abbrev main_cst_25 : Ref sig .tc := ⟨.hbm, 219, rfl⟩
abbrev main_v182 : Ref sig .tc := ⟨.hbm, 220, rfl⟩
abbrev main_v183 : Ref sig .tc := ⟨.hbm, 221, rfl⟩
abbrev main_cst_26 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_cst_27 : Ref sig .tc := ⟨.hbm, 235, rfl⟩
abbrev main_v196 : Ref sig .tc := ⟨.hbm, 236, rfl⟩
abbrev main_v197 : Ref sig .tc := ⟨.hbm, 237, rfl⟩
abbrev main_cst_28 : Ref sig .tc := ⟨.hbm, 238, rfl⟩
abbrev main_v198 : Ref sig .tc := ⟨.hbm, 239, rfl⟩
abbrev main_v199 : Ref sig .tc := ⟨.hbm, 240, rfl⟩
abbrev main_cst_29 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_cst_30 : Ref sig .tc := ⟨.hbm, 252, rfl⟩
abbrev main_v210 : Ref sig .tc := ⟨.hbm, 253, rfl⟩
abbrev main_v211 : Ref sig .tc := ⟨.hbm, 254, rfl⟩
abbrev main_cst_31 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_cst_32 : Ref sig .tc := ⟨.hbm, 285, rfl⟩
abbrev main_v241 : Ref sig .tc := ⟨.hbm, 286, rfl⟩
abbrev main_cst_33 : Ref sig .tc := ⟨.hbm, 287, rfl⟩
abbrev main_v242 : Ref sig .tc := ⟨.hbm, 288, rfl⟩
abbrev main_v243 : Ref sig .tc := ⟨.hbm, 289, rfl⟩
abbrev main_cst_34 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_cst_35 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_cst_36 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩

abbrev nD : Nat := 1
abbrev τ : Topo := Topo.v7x

variable {F : FTy → Type} [FloatOps F]
-- ==== Kernel4.lean ====
abbrev S128x8x1024 : Shape := ⟨3, ![128, 8, 1024]⟩
abbrev S128x512x2x1x64 : Shape := ⟨5, ![128, 512, 2, 1, 64]⟩
abbrev S1024 : Shape := ⟨1, ![1024]⟩
abbrev S1024x1592 : Shape := ⟨2, ![1024, 1592]⟩
abbrev S4x64 : Shape := ⟨2, ![4, 64]⟩
abbrev S384 : Shape := ⟨1, ![384]⟩
abbrev S256 : Shape := ⟨1, ![256]⟩
abbrev S384x768 : Shape := ⟨2, ![384, 768]⟩
abbrev S256x8x64 : Shape := ⟨3, ![256, 8, 64]⟩
abbrev S2x64 : Shape := ⟨2, ![2, 64]⟩
abbrev S2x32 : Shape := ⟨2, ![2, 32]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x32 : Shape := ⟨2, ![1024, 32]⟩
abbrev S1024x24 : Shape := ⟨2, ![1024, 24]⟩
abbrev S1024x40 : Shape := ⟨2, ![1024, 40]⟩
abbrev S1024x16 : Shape := ⟨2, ![1024, 16]⟩
abbrev S1024x128 : Shape := ⟨2, ![1024, 128]⟩
abbrev S1024x384 : Shape := ⟨2, ![1024, 384]⟩
abbrev S1024x256 : Shape := ⟨2, ![1024, 256]⟩
abbrev S1024x2176 : Shape := ⟨2, ![1024, 2176]⟩
abbrev S64 : Shape := ⟨1, ![64]⟩
abbrev S1x64 : Shape := ⟨2, ![1, 64]⟩
abbrev S128 : Shape := ⟨1, ![128]⟩
abbrev S1x128 : Shape := ⟨2, ![1, 128]⟩
abbrev S2x128 : Shape := ⟨2, ![2, 128]⟩
abbrev S6x128 : Shape := ⟨2, ![6, 128]⟩
abbrev S8x128 : Shape := ⟨2, ![8, 128]⟩
abbrev S384x8x96 : Shape := ⟨3, ![384, 8, 96]⟩
abbrev S384x8x32 : Shape := ⟨3, ![384, 8, 32]⟩
abbrev S384x8x16 : Shape := ⟨3, ![384, 8, 16]⟩
abbrev S384x8x128 : Shape := ⟨3, ![384, 8, 128]⟩
abbrev S384x1024 : Shape := ⟨2, ![384, 1024]⟩
abbrev S1x32 : Shape := ⟨2, ![1, 32]⟩
abbrev S32 : Shape := ⟨1, ![32]⟩
abbrev S16 : Shape := ⟨1, ![16]⟩
abbrev S256x8x128 : Shape := ⟨3, ![256, 8, 128]⟩
abbrev S256x1024 : Shape := ⟨2, ![256, 1024]⟩
abbrev S256x512 : Shape := ⟨2, ![256, 512]⟩
abbrev S1x1024 : Shape := ⟨2, ![1, 1024]⟩
abbrev S1x384 : Shape := ⟨2, ![1, 384]⟩
abbrev S1x256 : Shape := ⟨2, ![1, 256]⟩
abbrev S8 : Shape := ⟨1, ![8]⟩
abbrev S8x1 : Shape := ⟨2, ![8, 1]⟩
abbrev S1x16 : Shape := ⟨2, ![1, 16]⟩
abbrev S8x16 : Shape := ⟨2, ![8, 16]⟩
abbrev S8x32 : Shape := ⟨2, ![8, 32]⟩
abbrev S8x64 : Shape := ⟨2, ![8, 64]⟩
abbrev S8x96 : Shape := ⟨2, ![8, 96]⟩
abbrev S8x512 : Shape := ⟨2, ![8, 512]⟩
abbrev S1x8x1x512 : Shape := ⟨4, ![1, 8, 1, 512]⟩
abbrev S128x8x1x512 : Shape := ⟨4, ![128, 8, 1, 512]⟩
abbrev S1024x288 : Shape := ⟨2, ![1024, 288]⟩
abbrev S1024x1 : Shape := ⟨2, ![1024, 1]⟩
abbrev S128x8x4x1x64 : Shape := ⟨5, ![128, 8, 4, 1, 64]⟩
abbrev S128x8x288 : Shape := ⟨3, ![128, 8, 288]⟩
abbrev S1024x8 : Shape := ⟨2, ![1024, 8]⟩
abbrev S128x8x8 : Shape := ⟨3, ![128, 8, 8]⟩
abbrev S128x504x2x1x64 : Shape := ⟨5, ![128, 504, 2, 1, 64]⟩
abbrev S128x8x2x1x64 : Shape := ⟨5, ![128, 8, 2, 1, 64]⟩

abbrev nBuf : Space → Nat
  | .hbm => 166
  | .vmem => 25
  | .smem => 0
  | _ => 0

abbrev hbmTy0_0 (i : Nat) : BufTy := match i % 128 with
  | 0 => ⟨S128x8x1024, .f32⟩
  | 1 => ⟨S128x512x2x1x64, .f32⟩
  | 2 => ⟨S1024, .f32⟩
  | 3 => ⟨S1024x1592, .f32⟩
  | 4 => ⟨S4x64, .f32⟩
  | 5 => ⟨S384, .f32⟩
  | 6 => ⟨S256, .f32⟩
  | 7 => ⟨S384x768, .f32⟩
  | 8 => ⟨S256x8x64, .f32⟩
  | 9 => ⟨S256x8x64, .f32⟩
  | 10 => ⟨S2x64, .f32⟩
  | 11 => ⟨S2x32, .f32⟩
  | 12 => ⟨S1024x512, .f32⟩
  | 13 => ⟨S1024x8x64, .f32⟩
  | 14 => ⟨S_, .f32⟩
  | 15 => ⟨S1024x8x64, .f32⟩
  | 16 => ⟨S1024x8x128, .f32⟩
  | 17 => ⟨S1024x1024, .f32⟩
  | 18 => ⟨S1024x32, .f32⟩
  | 19 => ⟨S1024x24, .f32⟩
  | 20 => ⟨S_, .f32⟩
  | 21 => ⟨S1024x40, .f32⟩
  | 22 => ⟨S1024x16, .f32⟩
  | 23 => ⟨S1024x16, .f32⟩
  | 24 => ⟨S1024x32, .f32⟩
  | 25 => ⟨S1024x128, .f32⟩
  | 26 => ⟨S1024x384, .f32⟩
  | 27 => ⟨S1024x384, .f32⟩
  | 28 => ⟨S1024x256, .f32⟩
  | 29 => ⟨S1024x2176, .f32⟩
  | 30 => ⟨S1024x2176, .bf16⟩
  | 31 => ⟨S_, .f32⟩
  | 32 => ⟨S64, .f32⟩
  | 33 => ⟨S1x64, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S128, .f32⟩
  | 41 => ⟨S1x128, .f32⟩
  | 42 => ⟨S1x64, .f32⟩
  | 43 => ⟨S64, .f32⟩
  | 44 => ⟨S128, .f32⟩
  | 45 => ⟨S1x64, .f32⟩
  | 46 => ⟨S64, .f32⟩
  | 47 => ⟨S128, .f32⟩
  | 48 => ⟨S1x128, .f32⟩
  | 49 => ⟨S1x128, .f32⟩
  | 50 => ⟨S2x128, .f32⟩
  | 51 => ⟨S_, .f32⟩
  | 52 => ⟨S6x128, .f32⟩
  | 53 => ⟨S8x128, .f32⟩
  | 54 => ⟨S384x8x96, .f32⟩
  | 55 => ⟨S384x8x32, .f32⟩
  | 56 => ⟨S384x8x16, .f32⟩
  | 57 => ⟨S384x8x16, .f32⟩
  | 58 => ⟨S384x8x32, .f32⟩
  | 59 => ⟨S384x8x128, .f32⟩
  | 60 => ⟨S384x1024, .f32⟩
  | 61 => ⟨S384x1024, .bf16⟩
  | 62 => ⟨S1x64, .f32⟩
  | 63 => ⟨S64, .f32⟩
  | 64 => ⟨S1x64, .f32⟩
  | 65 => ⟨S64, .f32⟩
  | 66 => ⟨S64, .f32⟩
  | 67 => ⟨S1x32, .f32⟩
  | 68 => ⟨S32, .f32⟩
  | 69 => ⟨S1x32, .f32⟩
  | 70 => ⟨S32, .f32⟩
  | 71 => ⟨S16, .f32⟩
  | 72 => ⟨S16, .f32⟩
  | 73 => ⟨S32, .f32⟩
  | 74 => ⟨S128, .f32⟩
  | 75 => ⟨S1x128, .f32⟩
  | 76 => ⟨S_, .f32⟩
  | 77 => ⟨S64, .f32⟩
  | 78 => ⟨S1x32, .f32⟩
  | 79 => ⟨S32, .f32⟩
  | 80 => ⟨S1x32, .f32⟩
  | 81 => ⟨S32, .f32⟩
  | 82 => ⟨S16, .f32⟩
  | 83 => ⟨S16, .f32⟩
  | 84 => ⟨S32, .f32⟩
  | 85 => ⟨S128, .f32⟩
  | 86 => ⟨S1x128, .f32⟩
  | 87 => ⟨S_, .f32⟩
  | 88 => ⟨S256x8x64, .f32⟩
  | 89 => ⟨S256x8x128, .f32⟩
  | 90 => ⟨S256x1024, .f32⟩
  | 91 => ⟨S256x1024, .bf16⟩
  | 92 => ⟨S256x512, .f32⟩
  | 93 => ⟨S256x512, .bf16⟩
  | 94 => ⟨S1x1024, .f32⟩
  | 95 => ⟨S1x384, .f32⟩
  | 96 => ⟨S1x256, .f32⟩
  | 97 => ⟨S8, .i32⟩
  | 98 => ⟨S_, .i32⟩
  | 99 => ⟨S8, .i32⟩
  | 100 => ⟨S8, .i32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S8, .f32⟩
  | 110 => ⟨S8x1, .f32⟩
  | 111 => ⟨S1x16, .f32⟩
  | 112 => ⟨S8x16, .f32⟩
  | 113 => ⟨S8x16, .f32⟩
  | 114 => ⟨S8x16, .f32⟩
  | 115 => ⟨S8x16, .f32⟩
  | 116 => ⟨S8x16, .f32⟩
  | 117 => ⟨S8x32, .f32⟩
  | 118 => ⟨S8x16, .f32⟩
  | 119 => ⟨S8x32, .f32⟩
  | 120 => ⟨S_, .f32⟩
  | 121 => ⟨S8x64, .f32⟩
  | 122 => ⟨S_, .f32⟩
  | 123 => ⟨S8x32, .f32⟩
  | 124 => ⟨S8x32, .f32⟩
  | 125 => ⟨S_, .f32⟩
  | 126 => ⟨S8x32, .f32⟩
  | 127 => ⟨S8x128, .f32⟩
  | _ => ⟨S128x8x1024, .f32⟩

abbrev hbmTy0_1 (i : Nat) : BufTy := match i % 128 with
  | 0 => ⟨S_, .f32⟩
  | 1 => ⟨S8x96, .f32⟩
  | 2 => ⟨S_, .f32⟩
  | 3 => ⟨S8x32, .f32⟩
  | 4 => ⟨S8x32, .f32⟩
  | 5 => ⟨S8x128, .f32⟩
  | 6 => ⟨S_, .f32⟩
  | 7 => ⟨S8x64, .f32⟩
  | 8 => ⟨S_, .f32⟩
  | 9 => ⟨S8x32, .f32⟩
  | 10 => ⟨S8x128, .f32⟩
  | 11 => ⟨S_, .f32⟩
  | 12 => ⟨S8x96, .f32⟩
  | 13 => ⟨S8x128, .f32⟩
  | 14 => ⟨S8x512, .f32⟩
  | 15 => ⟨S1x8x1x512, .f32⟩
  | 16 => ⟨S128x8x1x512, .f32⟩
  | 17 => ⟨S1024x512, .f32⟩
  | 18 => ⟨S1024x1024, .f32⟩
  | 19 => ⟨S1024x1024, .f32⟩
  | 20 => ⟨S1024x256, .f32⟩
  | 21 => ⟨S1024x128, .f32⟩
  | 22 => ⟨S1024x128, .bf16⟩
  | 23 => ⟨S1024x128, .bf16⟩
  | 24 => ⟨S1024x128, .bf16⟩
  | 25 => ⟨S1024x128, .f32⟩
  | 26 => ⟨S1024x1024, .f32⟩
  | 27 => ⟨S1024x288, .f32⟩
  | 28 => ⟨S1024x128, .f32⟩
  | 29 => ⟨S1024x1024, .bf16⟩
  | 30 => ⟨S1024x512, .bf16⟩
  | 31 => ⟨S128x8x4x1x64, .f32⟩
  | 32 => ⟨S128x8x288, .f32⟩
  | 33 => ⟨S1024x8, .f32⟩
  | 34 => ⟨S128x8x8, .f32⟩
  | 35 => ⟨S128x504x2x1x64, .f32⟩
  | 36 => ⟨S128x8x2x1x64, .f32⟩
  | 37 => ⟨S128x512x2x1x64, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1x1024, .f32⟩
  | .local _ .vmem, ⟨2, _⟩ => ⟨S1024x2176, .bf16⟩
  | .local _ .vmem, ⟨3, _⟩ => ⟨S1x128, .f32⟩
  | .local _ .vmem, ⟨4, _⟩ => ⟨S8x128, .f32⟩
  | .local _ .vmem, ⟨5, _⟩ => ⟨S1x384, .f32⟩
  | .local _ .vmem, ⟨6, _⟩ => ⟨S384x1024, .bf16⟩
  | .local _ .vmem, ⟨7, _⟩ => ⟨S1x128, .f32⟩
  | .local _ .vmem, ⟨8, _⟩ => ⟨S1x256, .f32⟩
  | .local _ .vmem, ⟨9, _⟩ => ⟨S256x1024, .bf16⟩
  | .local _ .vmem, ⟨10, _⟩ => ⟨S256x512, .bf16⟩
  | .local _ .vmem, ⟨11, _⟩ => ⟨S1x128, .f32⟩
  | .local _ .vmem, ⟨12, _⟩ => ⟨S1024x512, .f32⟩
  | .local _ .vmem, ⟨13, _⟩ => ⟨S1024x1024, .f32⟩
  | .local _ .vmem, ⟨14, _⟩ => ⟨S1024x256, .f32⟩
  | .local _ .vmem, ⟨15, _⟩ => ⟨S1024x128, .f32⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .f32⟩
  | .local _ .vmem, ⟨20, _⟩ => ⟨S1024x1024, .f32⟩
  | .local _ .vmem, ⟨21, _⟩ => ⟨S1024x288, .f32⟩
  | .local _ .vmem, ⟨22, _⟩ => ⟨S1024x128, .f32⟩
  | .local _ .vmem, ⟨23, _⟩ => ⟨S1024x1024, .bf16⟩
  | .local _ .vmem, ⟨24, _⟩ => ⟨S1024x512, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_5 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_6 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_c : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_7 : Ref sig .tc := ⟨.hbm, 103, rfl⟩
abbrev main_v82 : Ref sig .tc := ⟨.hbm, 104, rfl⟩
abbrev main_v83 : Ref sig .tc := ⟨.hbm, 105, rfl⟩
abbrev main_cst_8 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_9 : Ref sig .tc := ⟨.hbm, 120, rfl⟩
abbrev main_v97 : Ref sig .tc := ⟨.hbm, 121, rfl⟩
abbrev main_cst_10 : Ref sig .tc := ⟨.hbm, 122, rfl⟩
abbrev main_v98 : Ref sig .tc := ⟨.hbm, 123, rfl⟩
abbrev main_v99 : Ref sig .tc := ⟨.hbm, 124, rfl⟩
abbrev main_cst_11 : Ref sig .tc := ⟨.hbm, 125, rfl⟩
abbrev main_v100 : Ref sig .tc := ⟨.hbm, 126, rfl⟩
abbrev main_v101 : Ref sig .tc := ⟨.hbm, 127, rfl⟩
abbrev main_cst_12 : Ref sig .tc := ⟨.hbm, 128, rfl⟩
abbrev main_v102 : Ref sig .tc := ⟨.hbm, 129, rfl⟩
abbrev main_cst_13 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_14 : Ref sig .tc := ⟨.hbm, 134, rfl⟩
abbrev main_v106 : Ref sig .tc := ⟨.hbm, 135, rfl⟩
abbrev main_cst_15 : Ref sig .tc := ⟨.hbm, 136, rfl⟩
abbrev main_v107 : Ref sig .tc := ⟨.hbm, 137, rfl⟩
abbrev main_v108 : Ref sig .tc := ⟨.hbm, 138, rfl⟩
abbrev main_cst_16 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116_0 : Ref sig .tc := ⟨.hbm, 147, rfl⟩
abbrev main_v116_1 : Ref sig .tc := ⟨.hbm, 148, rfl⟩
abbrev main_v116_2 : Ref sig .tc := ⟨.hbm, 149, rfl⟩
abbrev main_v116_3 : Ref sig .tc := ⟨.hbm, 150, rfl⟩
abbrev main_v116_4 : Ref sig .tc := ⟨.hbm, 151, rfl⟩
abbrev main_v116_5 : Ref sig .tc := ⟨.hbm, 152, rfl⟩
abbrev main_v116_6 : Ref sig .tc := ⟨.hbm, 153, rfl⟩
abbrev main_v116_7 : Ref sig .tc := ⟨.hbm, 154, rfl⟩
abbrev main_v116_8 : Ref sig .tc := ⟨.hbm, 155, rfl⟩
abbrev main_v116_9 : Ref sig .tc := ⟨.hbm, 156, rfl⟩
abbrev main_v116_10 : Ref sig .tc := ⟨.hbm, 157, rfl⟩
abbrev main_v116_11 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1024x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S1024x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S1024x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S1024x288 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S1024x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S1024x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S1024x512 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]
-- ==== Reference4Ideal.lean ====
abbrev S128x8x1024 : Shape := ⟨3, ![128, 8, 1024]⟩
abbrev S128x512x2x1x64 : Shape := ⟨5, ![128, 512, 2, 1, 64]⟩
abbrev S1024 : Shape := ⟨1, ![1024]⟩
abbrev S1024x1592 : Shape := ⟨2, ![1024, 1592]⟩
abbrev S4x64 : Shape := ⟨2, ![4, 64]⟩
abbrev S384 : Shape := ⟨1, ![384]⟩
abbrev S256 : Shape := ⟨1, ![256]⟩
abbrev S384x768 : Shape := ⟨2, ![384, 768]⟩
abbrev S256x8x64 : Shape := ⟨3, ![256, 8, 64]⟩
abbrev S2x64 : Shape := ⟨2, ![2, 64]⟩
abbrev S2x32 : Shape := ⟨2, ![2, 32]⟩
abbrev S8 : Shape := ⟨1, ![8]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x1592 : Shape := ⟨3, ![128, 8, 1592]⟩
abbrev S128x8x384 : Shape := ⟨3, ![128, 8, 384]⟩
abbrev S128x8x6x1x64 : Shape := ⟨5, ![128, 8, 6, 1, 64]⟩
abbrev S128x8x1x1x64 : Shape := ⟨5, ![128, 8, 1, 1, 64]⟩
abbrev S128x8x1x64 : Shape := ⟨4, ![128, 8, 1, 64]⟩
abbrev S1x64 : Shape := ⟨2, ![1, 64]⟩
abbrev S64 : Shape := ⟨1, ![64]⟩
abbrev S128x8x1x1 : Shape := ⟨4, ![128, 8, 1, 1]⟩
abbrev S1x1x1x64 : Shape := ⟨4, ![1, 1, 1, 64]⟩
abbrev S128x8x4x1x64 : Shape := ⟨5, ![128, 8, 4, 1, 64]⟩
abbrev S128x8x2x1x64 : Shape := ⟨5, ![128, 8, 2, 1, 64]⟩
abbrev S128x8x256 : Shape := ⟨3, ![128, 8, 256]⟩
abbrev S1x1x256 : Shape := ⟨3, ![1, 1, 256]⟩
abbrev S128x8x32 : Shape := ⟨3, ![128, 8, 32]⟩
abbrev S1x32 : Shape := ⟨2, ![1, 32]⟩
abbrev S32 : Shape := ⟨1, ![32]⟩
abbrev S1x1x32 : Shape := ⟨3, ![1, 1, 32]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S128x8x16 : Shape := ⟨3, ![128, 8, 16]⟩
abbrev S1x8x16 : Shape := ⟨3, ![1, 8, 16]⟩
abbrev S128x8x8x64 : Shape := ⟨4, ![128, 8, 8, 64]⟩
abbrev S128x8x8 : Shape := ⟨3, ![128, 8, 8]⟩
abbrev S128x8x288 : Shape := ⟨3, ![128, 8, 288]⟩
abbrev S128x520x2x1x64 : Shape := ⟨5, ![128, 520, 2, 1, 64]⟩

abbrev nBuf : Space → Nat
  | .hbm => 174
  | .vmem => 0
  | .smem => 0
  | _ => 0

abbrev hbmTy0_0 (i : Nat) : BufTy := match i % 128 with
  | 0 => ⟨S128x8x1024, .f32⟩
  | 1 => ⟨S128x512x2x1x64, .f32⟩
  | 2 => ⟨S1024, .f32⟩
  | 3 => ⟨S1024x1592, .f32⟩
  | 4 => ⟨S4x64, .f32⟩
  | 5 => ⟨S384, .f32⟩
  | 6 => ⟨S256, .f32⟩
  | 7 => ⟨S384x768, .f32⟩
  | 8 => ⟨S256x8x64, .f32⟩
  | 9 => ⟨S256x8x64, .f32⟩
  | 10 => ⟨S2x64, .f32⟩
  | 11 => ⟨S2x32, .f32⟩
  | 12 => ⟨S8, .i32⟩
  | 13 => ⟨S_, .i32⟩
  | 14 => ⟨S8, .i32⟩
  | 15 => ⟨S8, .i32⟩
  | 16 => ⟨S128x8x1024, .f32⟩
  | 17 => ⟨S_, .f32⟩
  | 18 => ⟨S128x8, .f32⟩
  | 19 => ⟨S128x8x1, .f32⟩
  | 20 => ⟨S_, .f32⟩
  | 21 => ⟨S128x8x1, .f32⟩
  | 22 => ⟨S128x8x1, .f32⟩
  | 23 => ⟨S_, .f32⟩
  | 24 => ⟨S128x8x1, .f32⟩
  | 25 => ⟨S128x8x1, .f32⟩
  | 26 => ⟨S128x8x1, .f32⟩
  | 27 => ⟨S128x8x1024, .f32⟩
  | 28 => ⟨S128x8x1024, .f32⟩
  | 29 => ⟨S1x1x1024, .f32⟩
  | 30 => ⟨S128x8x1024, .f32⟩
  | 31 => ⟨S128x8x1024, .f32⟩
  | 32 => ⟨S128x8x1592, .f32⟩
  | 33 => ⟨S128x8x384, .f32⟩
  | 34 => ⟨S128x8x6x1x64, .f32⟩
  | 35 => ⟨S128x8x1x1x64, .f32⟩
  | 36 => ⟨S128x8x1x64, .f32⟩
  | 37 => ⟨S128x8x1x1x64, .f32⟩
  | 38 => ⟨S128x8x1x64, .f32⟩
  | 39 => ⟨S128x8x1x1x64, .f32⟩
  | 40 => ⟨S128x8x1x64, .f32⟩
  | 41 => ⟨S1x64, .f32⟩
  | 42 => ⟨S64, .f32⟩
  | 43 => ⟨S128x8x1x64, .f32⟩
  | 44 => ⟨S_, .f32⟩
  | 45 => ⟨S128x8x1, .f32⟩
  | 46 => ⟨S128x8x1x1, .f32⟩
  | 47 => ⟨S_, .f32⟩
  | 48 => ⟨S128x8x1x1, .f32⟩
  | 49 => ⟨S128x8x1x1, .f32⟩
  | 50 => ⟨S_, .f32⟩
  | 51 => ⟨S128x8x1x1, .f32⟩
  | 52 => ⟨S128x8x1x1, .f32⟩
  | 53 => ⟨S128x8x1x1, .f32⟩
  | 54 => ⟨S128x8x1x64, .f32⟩
  | 55 => ⟨S128x8x1x64, .f32⟩
  | 56 => ⟨S1x1x1x64, .f32⟩
  | 57 => ⟨S128x8x1x64, .f32⟩
  | 58 => ⟨S128x8x1x64, .f32⟩
  | 59 => ⟨S128x8x1x1x64, .f32⟩
  | 60 => ⟨S128x8x1x64, .f32⟩
  | 61 => ⟨S128x8x1x1x64, .f32⟩
  | 62 => ⟨S128x8x1x1x64, .f32⟩
  | 63 => ⟨S128x8x1x1x64, .f32⟩
  | 64 => ⟨S128x8x1x1x64, .f32⟩
  | 65 => ⟨S128x8x4x1x64, .f32⟩
  | 66 => ⟨S128x8x1x1x64, .f32⟩
  | 67 => ⟨S128x8x1x64, .f32⟩
  | 68 => ⟨S1x64, .f32⟩
  | 69 => ⟨S64, .f32⟩
  | 70 => ⟨S128x8x1x64, .f32⟩
  | 71 => ⟨S_, .f32⟩
  | 72 => ⟨S128x8x1, .f32⟩
  | 73 => ⟨S128x8x1x1, .f32⟩
  | 74 => ⟨S_, .f32⟩
  | 75 => ⟨S128x8x1x1, .f32⟩
  | 76 => ⟨S128x8x1x1, .f32⟩
  | 77 => ⟨S_, .f32⟩
  | 78 => ⟨S128x8x1x1, .f32⟩
  | 79 => ⟨S128x8x1x1, .f32⟩
  | 80 => ⟨S128x8x1x1, .f32⟩
  | 81 => ⟨S128x8x1x64, .f32⟩
  | 82 => ⟨S128x8x1x64, .f32⟩
  | 83 => ⟨S1x1x1x64, .f32⟩
  | 84 => ⟨S128x8x1x64, .f32⟩
  | 85 => ⟨S128x8x1x64, .f32⟩
  | 86 => ⟨S128x8x1x1x64, .f32⟩
  | 87 => ⟨S128x8x1x64, .f32⟩
  | 88 => ⟨S128x8x1x1x64, .f32⟩
  | 89 => ⟨S128x8x1x1x64, .f32⟩
  | 90 => ⟨S128x8x2x1x64, .f32⟩
  | 91 => ⟨S128x8x256, .f32⟩
  | 92 => ⟨S128x8x256, .f32⟩
  | 93 => ⟨S_, .f32⟩
  | 94 => ⟨S128x8, .f32⟩
  | 95 => ⟨S128x8x1, .f32⟩
  | 96 => ⟨S_, .f32⟩
  | 97 => ⟨S128x8x1, .f32⟩
  | 98 => ⟨S128x8x1, .f32⟩
  | 99 => ⟨S_, .f32⟩
  | 100 => ⟨S128x8x1, .f32⟩
  | 101 => ⟨S128x8x1, .f32⟩
  | 102 => ⟨S128x8x1, .f32⟩
  | 103 => ⟨S128x8x256, .f32⟩
  | 104 => ⟨S128x8x256, .f32⟩
  | 105 => ⟨S1x1x256, .f32⟩
  | 106 => ⟨S128x8x256, .f32⟩
  | 107 => ⟨S128x8x256, .f32⟩
  | 108 => ⟨S128x8x32, .f32⟩
  | 109 => ⟨S1x32, .f32⟩
  | 110 => ⟨S32, .f32⟩
  | 111 => ⟨S128x8x32, .f32⟩
  | 112 => ⟨S_, .f32⟩
  | 113 => ⟨S128x8, .f32⟩
  | 114 => ⟨S128x8x1, .f32⟩
  | 115 => ⟨S_, .f32⟩
  | 116 => ⟨S128x8x1, .f32⟩
  | 117 => ⟨S128x8x1, .f32⟩
  | 118 => ⟨S_, .f32⟩
  | 119 => ⟨S128x8x1, .f32⟩
  | 120 => ⟨S128x8x1, .f32⟩
  | 121 => ⟨S128x8x1, .f32⟩
  | 122 => ⟨S128x8x32, .f32⟩
  | 123 => ⟨S128x8x32, .f32⟩
  | 124 => ⟨S1x1x32, .f32⟩
  | 125 => ⟨S128x8x32, .f32⟩
  | 126 => ⟨S128x8x32, .f32⟩
  | 127 => ⟨S16, .f32⟩
  | _ => ⟨S128x8x1024, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S_, .f32⟩
  | 5 => ⟨S16, .f32⟩
  | 6 => ⟨S16, .f32⟩
  | 7 => ⟨S8, .f32⟩
  | 8 => ⟨S8x1, .f32⟩
  | 9 => ⟨S1x16, .f32⟩
  | 10 => ⟨S8x16, .f32⟩
  | 11 => ⟨S8x16, .f32⟩
  | 12 => ⟨S8x16, .f32⟩
  | 13 => ⟨S8x16, .f32⟩
  | 14 => ⟨S8x16, .f32⟩
  | 15 => ⟨S128x8x16, .f32⟩
  | 16 => ⟨S128x8x16, .f32⟩
  | 17 => ⟨S1x8x16, .f32⟩
  | 18 => ⟨S128x8x16, .f32⟩
  | 19 => ⟨S128x8x16, .f32⟩
  | 20 => ⟨S1x8x16, .f32⟩
  | 21 => ⟨S128x8x16, .f32⟩
  | 22 => ⟨S128x8x16, .f32⟩
  | 23 => ⟨S128x8x16, .f32⟩
  | 24 => ⟨S1x8x16, .f32⟩
  | 25 => ⟨S128x8x16, .f32⟩
  | 26 => ⟨S128x8x16, .f32⟩
  | 27 => ⟨S1x8x16, .f32⟩
  | 28 => ⟨S128x8x16, .f32⟩
  | 29 => ⟨S128x8x16, .f32⟩
  | 30 => ⟨S128x8x16, .f32⟩
  | 31 => ⟨S128x8x32, .f32⟩
  | 32 => ⟨S128x8x8x64, .f32⟩
  | 33 => ⟨S128x8x8x64, .f32⟩
  | 34 => ⟨S_, .f32⟩
  | 35 => ⟨S128x8x8, .f32⟩
  | 36 => ⟨S_, .f32⟩
  | 37 => ⟨S128x8x8, .f32⟩
  | 38 => ⟨S128x8x8, .f32⟩
  | 39 => ⟨S_, .f32⟩
  | 40 => ⟨S128x8x8, .f32⟩
  | 41 => ⟨S128x8x8, .f32⟩
  | 42 => ⟨S128x8x8, .f32⟩
  | 43 => ⟨S128x8x288, .f32⟩
  | 44 => ⟨S128x520x2x1x64, .f32⟩
  | 45 => ⟨S128x512x2x1x64, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_5 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_8 : Ref sig .tc := ⟨.hbm, 93, rfl⟩
abbrev main_v71 : Ref sig .tc := ⟨.hbm, 94, rfl⟩
abbrev main_v72 : Ref sig .tc := ⟨.hbm, 95, rfl⟩
abbrev main_cst_9 : Ref sig .tc := ⟨.hbm, 96, rfl⟩
abbrev main_v73 : Ref sig .tc := ⟨.hbm, 97, rfl⟩
abbrev main_v74 : Ref sig .tc := ⟨.hbm, 98, rfl⟩
abbrev main_cst_10 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_11 : Ref sig .tc := ⟨.hbm, 112, rfl⟩
abbrev main_v87 : Ref sig .tc := ⟨.hbm, 113, rfl⟩
abbrev main_v88 : Ref sig .tc := ⟨.hbm, 114, rfl⟩
abbrev main_cst_12 : Ref sig .tc := ⟨.hbm, 115, rfl⟩
abbrev main_v89 : Ref sig .tc := ⟨.hbm, 116, rfl⟩
abbrev main_v90 : Ref sig .tc := ⟨.hbm, 117, rfl⟩
abbrev main_cst_13 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_14 : Ref sig .tc := ⟨.hbm, 129, rfl⟩
abbrev main_v101 : Ref sig .tc := ⟨.hbm, 130, rfl⟩
abbrev main_v102 : Ref sig .tc := ⟨.hbm, 131, rfl⟩
abbrev main_cst_15 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_16 : Ref sig .tc := ⟨.hbm, 162, rfl⟩
abbrev main_v132 : Ref sig .tc := ⟨.hbm, 163, rfl⟩
abbrev main_cst_17 : Ref sig .tc := ⟨.hbm, 164, rfl⟩
abbrev main_v133 : Ref sig .tc := ⟨.hbm, 165, rfl⟩
abbrev main_v134 : Ref sig .tc := ⟨.hbm, 166, rfl⟩
abbrev main_cst_18 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩

abbrev nD : Nat := 1
abbrev τ : Topo := Topo.v7x

variable {F : FTy → Type} [FloatOps F]
-- ==== Proof.Pack.lean ====
/-
  The packed operands: what the kernel's query, key and value arrays hold at an entry.
-/
module
public import proofs.«01_k».proof.Proof.Gen.KernelIdeal.Frame
public import Idealize.ShloMosaic.Lib.Pointwise
@[expose] public section
set_option maxRecDepth 16384
namespace Cert.Proof.Mla
open Idealize.ShloMosaic Idealize.ShloMosaic.Tactic Cert.KernelIdeal Cert.KernelIdeal.Gen

/-- A head's 128 lanes: 64 without rotation, 32 with, 32 of padding. -/
noncomputable def lanes (A : FVec Ideal S4x4096x8x64 .f32) (B C : FVec Ideal S4x4096x8x32 .f32) : FVec Ideal S4x4096x8x128 .f32 :=
  concatenate S4x4096x8x128 3 [⟨S4x4096x8x64, A⟩, ⟨S4x4096x8x32, B⟩, ⟨S4x4096x8x32, C⟩] concatenates_S4x4096x8x64_S4x4096x8x32_S4x4096x8x32_S4x4096x8x128_d3

/-- The padding. -/
noncomputable def pad0 : FVec Ideal S4x4096x8x32 .f32 := broadcastInDim S4x4096x8x32 ![] bcast_S_S4x4096x8x32 (constant S_ .f32 0x00000000#32)

/-- The rotated key for every head. -/
noncomputable def heads (C : FVec Ideal S4x4096x32 .f32) : FVec Ideal S4x4096x8x32 .f32 :=
  broadcastInDim S4x4096x8x32 ![0, 1, 2, 3] bcast_S4x4096x1x32_S4x4096x8x32_0_1_2_3 (broadcastInDim S4x4096x1x32 ![0, 1, 3] bcast_S4x4096x32_S4x4096x1x32_0_1_3 C)

/-- The scale of the scores. -/
noncomputable def scl : EReal := Ideal.ofBits .f32 0x3DD105EC#32

/-- The packed queries. -/
noncomputable def packQ (L : FVec Ideal S4x4096x8x128 .f32) : FVec Ideal S16384x1024 .bf16 :=
  shapeCast _ (truncf .bf16 (mulf L (broadcastInDim S4x4096x8x128 ![] bcast_S_S4x4096x8x128 (constant S_ .f32 0x3DD105EC#32))) bitsLt_bf16_f32) shapeCasts_S4x4096x8x128_S16384x1024

/-- The packed keys. -/
noncomputable def packK (L : FVec Ideal S4x4096x8x128 .f32) : FVec Ideal S16384x1024 .bf16 :=
  shapeCast _ (truncf .bf16 L bitsLt_bf16_f32) shapeCasts_S4x4096x8x128_S16384x1024

/-- The packed values. -/
noncomputable def packV (A : FVec Ideal S4x4096x8x64 .f32) : FVec Ideal S16384x512 .bf16 :=
  shapeCast _ (truncf .bf16 A bitsLt_bf16_f32) shapeCasts_S4x4096x8x64_S16384x512

variable (m : (ℓ : Loc nD τ sig) → Buf (Elt Ideal) ℓ) (c : Dev nD)

set_option maxHeartbeats 4000000 in
theorem V_q : V m c main_v5 = packQ (lanes (m ((c.tc : Thread nD τ).loc main_arg0)) (m ((c.tc : Thread nD τ).loc main_arg1)) pad0) := rfl

set_option maxHeartbeats 4000000 in
theorem V_k : V m c main_v10 = packK (lanes (m ((c.tc : Thread nD τ).loc main_arg2)) (heads (m ((c.tc : Thread nD τ).loc main_arg3))) pad0) := rfl

set_option maxHeartbeats 4000000 in
theorem V_v : V m c main_v12 = packV (m ((c.tc : Thread nD τ).loc main_arg4)) := rfl

variable (A : FVec Ideal S4x4096x8x64 .f32) (B : FVec Ideal S4x4096x8x32 .f32) (C : FVec Ideal S4x4096x32 .f32) (L : FVec Ideal S4x4096x8x128 .f32)

theorem pad0_apply (b : Fin 4) (i : Fin 4096) (h : Fin 8) (d : Fin 32) : pad0 (ix4 b i h d) = 0 := by
  pointwise [pad0]
theorem heads_apply (b : Fin 4) (i : Fin 4096) (h : Fin 8) (d : Fin 32) : heads C (ix4 b i h d) = C (ix3 b i d) := by
  pointwise [heads]
theorem packQ_apply (x : Fin 16384) (y : Fin 1024) : packQ L (ix2 x y) = L (ix4 ⟨x / 4096, by omega⟩ ⟨x % 4096, by omega⟩ ⟨y / 128, by omega⟩ ⟨y % 128, by omega⟩) * scl := by
  pointwise [packQ, scl]
theorem packK_apply (x : Fin 16384) (y : Fin 1024) : packK L (ix2 x y) = L (ix4 ⟨x / 4096, by omega⟩ ⟨x % 4096, by omega⟩ ⟨y / 128, by omega⟩ ⟨y % 128, by omega⟩) := by
  pointwise [packK]
theorem packV_apply (x : Fin 16384) (y : Fin 512) : packV A (ix2 x y) = A (ix4 ⟨x / 4096, by omega⟩ ⟨x % 4096, by omega⟩ ⟨y / 64, by omega⟩ ⟨y % 64, by omega⟩) := by
  pointwise [packV]
theorem lanes_nope (D : FVec Ideal S4x4096x8x32 .f32) (b : Fin 4) (i : Fin 4096) (h : Fin 8) (d : Fin 64) : lanes A B D (ix4 b i h ⟨d, by omega⟩) = A (ix4 b i h d) := by
  pointwise [lanes]
theorem lanes_rope (D : FVec Ideal S4x4096x8x32 .f32) (b : Fin 4) (i : Fin 4096) (h : Fin 8) (d : Fin 32) : lanes A B D (ix4 b i h ⟨64 + d, by omega⟩) = B (ix4 b i h d) := by
  pointwise [lanes]
theorem lanes_pad (D : FVec Ideal S4x4096x8x32 .f32) (b : Fin 4) (i : Fin 4096) (h : Fin 8) (d : Fin 32) : lanes A B D (ix4 b i h ⟨96 + d, by omega⟩) = D (ix4 b i h d) := by
  pointwise [lanes]
  rw [dif_neg (by omega), dif_neg (by omega)]
  exact congrArg (fun e => D (ix4 b i h e)) (Fin.ext (by dsimp; omega))
end Cert.Proof.Mla
end
-- ==== Proof.Tower.lean ====
/- What one head of one key block computes, as towers of the body's vector operations, read at an index over the
   extended reals: the scores, the running maximum, and the accumulator's update. -/
module

public import proofs.«01_k».proof.Proof.Gen.KernelIdeal
public import Idealize.ShloMosaic.Lib.Pointwise

@[expose] public section

set_option maxRecDepth 16384

noncomputable section

namespace Cert.Proof.Mla

open Idealize.ShloMosaic Cert.KernelIdeal Cert.KernelIdeal.Gen

/-- The pattern of the reduction's start is minus infinity. -/
theorem ofBits_ninf : Ideal.ofBits .f32 0xFF800000#32 = ⊥ := by simp [Ideal.ofBits, Ideal.ieee]

/-- The scores of a query block against a key block, one head: `q kᵀ`. -/
def scoreT (q : Vec Ideal S256x128 .bf16) (k : Vec Ideal S512x128 .bf16) : FVec Ideal S256x512 .f32 :=
  matmul dot_S256x128_S512x128_S256x512_1_1_0_0_n_n none
    (shapeCast S256x128 q shapeCasts_S256x128_S256x128 : FVec Ideal S256x128 .bf16)
    (shapeCast S512x128 k shapeCasts_S512x128_S512x128 : FVec Ideal S512x128 .bf16) (constant S256x512 .f32 0x00000000#32)

theorem scoreT_apply (q : Vec Ideal S256x128 .bf16) (k : Vec Ideal S512x128 .bf16) (r : Fin 256) (j : Fin 512) :
    scoreT q k (ix2 r j) = ∑ d : Fin 128, q (ix2 r d) * k (ix2 j d) := by
  pointwise [scoreT]

/-- The running maximum after the block: the old one (every lane of a row holds it) against the row's greatest score. -/
def maxT (s : FVec Ideal S256x512 .f32) (mo : Vec Ideal S1x256x128 .f32) : FVec Ideal S256x128 .f32 :=
  maximumf (shapeCast S256x128 mo shapeCasts_S1x256x128_S256x128)
    (broadcastTo S256x128 (shapeCast S256x1
      (multiReduction .maximumf [1] S256 s 0xFF800000#32 reduces_S256x512_S256 (.inl rfl) rfl) shapeCasts_S256_S256x1)
      broadcasts_S256x1_S256x128)

theorem maxT_apply (s : FVec Ideal S256x512 .f32) (mo : Vec Ideal S1x256x128 .f32) (r : Fin 256) (l : Fin 128) :
    maxT s mo (ix2 r l) = max (mo (ix3 0 r l)) (Finset.univ.fold max ⊥ fun j : Fin 512 => s (ix2 r j)) := by
  pointwise [maxT, ofBits_ninf]

/-- The weights of the block: `exp (s - m)`. -/
def expT (s : FVec Ideal S256x512 .f32) (mn : FVec Ideal S256x128 .f32) : FVec Ideal S256x512 .bf16 :=
  truncf .bf16 (exp (subf s (concatenate S256x512 1 [⟨S256x128, mn⟩, ⟨S256x128, mn⟩, ⟨S256x128, mn⟩, ⟨S256x128, mn⟩]
    concatenates_S256x128_S256x128_S256x128_S256x128_S256x512_d1))) bitsLt_bf16_f32

/-- The accumulator after the block: `exp (m_old - m_new) * acc + p [v | 1]`. -/
def accT (s : FVec Ideal S256x512 .f32) (mo : Vec Ideal S1x256x128 .f32) (v : Vec Ideal S512x128 .bf16)
    (ao : Vec Ideal S1x256x256 .f32) : FVec Ideal S1x256x256 .f32 :=
  shapeCast S1x256x256
    (addf
      (mulf (concatenate S256x256 1
          [⟨S256x128, exp (subf (shapeCast S256x128 mo shapeCasts_S1x256x128_S256x128 : FVec Ideal S256x128 .f32) (maxT s mo))⟩,
           ⟨S256x128, exp (subf (shapeCast S256x128 mo shapeCasts_S1x256x128_S256x128 : FVec Ideal S256x128 .f32) (maxT s mo))⟩]
          concatenates_S256x128_S256x128_S256x256_d1)
        (shapeCast S256x256 ao shapeCasts_S1x256x256_S256x256))
      (matmul dot_S256x512_S512x256_S256x256_1_0_0_1_n_n none (expT s (maxT s mo))
        (concatenate S512x256 1
          [⟨S512x128, (shapeCast S512x128 v shapeCasts_S512x128_S512x128 : FVec Ideal S512x128 .bf16)⟩,
           ⟨S512x128, (broadcast S512x128 (Scalar.ofBits .bf16 0x3F80#16) : FVec Ideal S512x128 .bf16)⟩]
          concatenates_S512x128_S512x128_S512x256_d1)
        (constant S256x256 .f32 0x00000000#32)))
    shapeCasts_S256x256_S1x256x256

/-- Where every lane of a row of the old maximum holds `M`: the weights read at an index. -/
theorem expT_apply (s : FVec Ideal S256x512 .f32) (mn : FVec Ideal S256x128 .f32) (r : Fin 256) (M : EReal)
    (hM : ∀ l : Fin 128, mn (ix2 r l) = M) (j : Fin 512) : expT s mn (ix2 r j) = Ideal.exp (s (ix2 r j) - M) := by
  pointwise [expT]
  split_ifs <;> rw [hM]

theorem accT_apply (s : FVec Ideal S256x512 .f32) (mo : Vec Ideal S1x256x128 .f32) (v : Vec Ideal S512x128 .bf16)
    (ao : Vec Ideal S1x256x256 .f32) (r : Fin 256) (M : EReal) (hM : ∀ l : Fin 128, mo (ix3 0 r l) = M) (c : Fin 256) :
    accT s mo v ao (ix3 0 r c)
      = Ideal.exp (M - max M (Finset.univ.fold max ⊥ fun j : Fin 512 => s (ix2 r j))) * ao (ix3 0 r c)
        + ∑ j : Fin 512, Ideal.exp (s (ix2 r j) - max M (Finset.univ.fold max ⊥ fun j : Fin 512 => s (ix2 r j)))
            * (if h : c.val < 128 then v (ix2 j ⟨c.val, h⟩) else 1) := by
  have hm : ∀ l : Fin 128, maxT s mo (ix2 r l) = max M (Finset.univ.fold max ⊥ fun j : Fin 512 => s (ix2 r j)) :=
    fun l => by rw [maxT_apply, hM]
  have he := expT_apply s (maxT s mo) r _ hm
  unfold accT
  generalize maxT s mo = mn at hm he ⊢
  generalize expT s mn = p at he ⊢
  pointwise
  simp only [hm, hM, he]
  split_ifs <;> rfl

/-- The maximum's store, read at an index of the stored block, from the scores' and the old maximum's values. -/
theorem maxStore_apply (s : FVec Ideal S256x512 .f32) (mo : Vec Ideal S1x256x128 .f32) (z : Fin 1) (r : Fin 256) (l : Fin 128)
    (M : EReal) (S : Fin 512 → EReal) (hs : ∀ j : Fin 512, s (ix2 r j) = S j) (hM : ∀ l : Fin 128, mo (ix3 0 r l) = M) :
    shapeCast S1x256x128 (maxT s mo) shapeCasts_S256x128_S1x256x128 (ix3 z r l) = max M (Finset.univ.fold max ⊥ S) := by
  have e : shapeCast S1x256x128 (maxT s mo) shapeCasts_S256x128_S1x256x128 (ix3 z r l) = maxT s mo (ix2 r l) := by pointwise
  rw [e, maxT_apply, hM]
  simp only [hs]

/-- The accumulator's store, likewise. -/
theorem accStore_apply (s : FVec Ideal S256x512 .f32) (mo : Vec Ideal S1x256x128 .f32) (v : Vec Ideal S512x128 .bf16)
    (ao : Vec Ideal S1x256x256 .f32) (z : Fin 1) (r : Fin 256) (c : Fin 256) (M A : EReal) (S W : Fin 512 → EReal)
    (hs : ∀ j : Fin 512, s (ix2 r j) = S j) (hM : ∀ l : Fin 128, mo (ix3 0 r l) = M)
    (hA : ao (ix3 0 r c) = A)
    (hv : ∀ j : Fin 512, (if h : c.val < 128 then v (ix2 j ⟨c.val, h⟩) else 1) = W j) :
    accT s mo v ao (ix3 z r c)
      = Ideal.exp (M - max M (Finset.univ.fold max ⊥ S)) * A
        + ∑ j : Fin 512, Ideal.exp (S j - max M (Finset.univ.fold max ⊥ S)) * W j := by
  obtain rfl : z = 0 := Subsingleton.elim _ _
  have h := accT_apply s mo v ao r M hM c
  simp only [hs] at h
  refine h.trans ?_
  rw [hA]
  congr 1
  exact Finset.sum_congr rfl fun j _ => congrArg _ (hv j)

end Cert.Proof.Mla

end
-- ==== Proof.Trip.lean ====
/- One trip of the loop over the unmasked key blocks: what it leaves in the running maximum and in the accumulator,
   index by index. -/
module

public import proofs.«01_k».proof.Proof.Tower
public import proofs.«01_k».proof.Proof.Gen.KernelIdeal.Loops
public import Idealize.ShloMosaic.Lib.Pipeline.ValueKit

@[expose] public section

set_option maxRecDepth 16384

noncomputable section

namespace Cert.Proof.Mla

open Idealize.ShloMosaic Idealize.ShloMosaic.TcCoe Idealize.ShloMosaic.Tactic Cert.KernelIdeal Cert.KernelIdeal.Gen
open Idealize.SL Idealize.SL.RA Idealize.SL.BI

/-! Loads of windows of the operands and of slices of the scratch, at an entry. -/

theorem q_load (m : Memref sig .tc .vmem S256x1024 .bf16) (X : BufTy.Contents (Elt Ideal) m.view.ty) (f : ℕ → ℕ → EReal)
    (hX : ∀ a b, m.view.read (Elt Ideal) X (ix2 a b) = f a b) (off : Fin 2 → ℕ) (inb : ∀ a, off a + S256x128.size a ≤ S256x1024.size a) (r : Fin 256) (c : Fin 128)
    (p q : ℕ) (hp : off 0 + r.val = p) (hq : off 1 + c.val = q) :
    View.readAt (Elt Ideal) m.view (Rect.unit (s := S256x1024) off S256x128.size inb).toLoadRect X (ix2 r c) = f p q := by
  have h0 := inb 0
  have h1 := inb 1
  simp [Shape.size] at h0 h1
  subst hp hq
  rw [← hX ⟨off 0 + r.val, by omega⟩ ⟨off 1 + c.val, by omega⟩, View.readAt_eq_ld]
  refine View.ld_unit_apply_of _ _ _ _ _ _ fun a => ?_
  fin_cases a <;> rfl

theorem k_load (m : Memref sig .tc .vmem S4096x1024 .bf16) (X : BufTy.Contents (Elt Ideal) m.view.ty) (f : ℕ → ℕ → EReal)
    (hX : ∀ a b, m.view.read (Elt Ideal) X (ix2 a b) = f a b) (off : Fin 2 → ℕ) (inb : ∀ a, off a + S512x128.size a ≤ S4096x1024.size a) (r : Fin 512) (c : Fin 128)
    (p q : ℕ) (hp : off 0 + r.val = p) (hq : off 1 + c.val = q) :
    View.readAt (Elt Ideal) m.view (Rect.unit (s := S4096x1024) off S512x128.size inb).toLoadRect X (ix2 r c) = f p q := by
  have h0 := inb 0
  have h1 := inb 1
  simp [Shape.size] at h0 h1
  subst hp hq
  rw [← hX ⟨off 0 + r.val, by omega⟩ ⟨off 1 + c.val, by omega⟩, View.readAt_eq_ld]
  refine View.ld_unit_apply_of _ _ _ _ _ _ fun a => ?_
  fin_cases a <;> rfl

theorem v_load (m : Memref sig .tc .vmem S4096x512 .bf16) (X : BufTy.Contents (Elt Ideal) m.view.ty) (f : ℕ → ℕ → EReal)
    (hX : ∀ a b, m.view.read (Elt Ideal) X (ix2 a b) = f a b) (off : Fin 2 → ℕ) (inb : ∀ a, off a + S512x128.size a ≤ S4096x512.size a) (r : Fin 512) (c : Fin 128)
    (p q : ℕ) (hp : off 0 + r.val = p) (hq : off 1 + c.val = q) :
    View.readAt (Elt Ideal) m.view (Rect.unit (s := S4096x512) off S512x128.size inb).toLoadRect X (ix2 r c) = f p q := by
  have h0 := inb 0
  have h1 := inb 1
  simp [Shape.size] at h0 h1
  subst hp hq
  rw [← hX ⟨off 0 + r.val, by omega⟩ ⟨off 1 + c.val, by omega⟩, View.readAt_eq_ld]
  refine View.ld_unit_apply_of _ _ _ _ _ _ fun a => ?_
  fin_cases a <;> rfl

theorem m_load (m : Memref sig .tc .vmem S8x256x128 .f32) (X : BufTy.Contents (Elt Ideal) m.view.ty) (f : ℕ → ℕ → ℕ → EReal)
    (hX : ∀ g a b, m.view.read (Elt Ideal) X (ix3 g a b) = f g a b) (off : Fin 3 → ℕ) (inb : ∀ a, off a + S1x256x128.size a ≤ S8x256x128.size a) (z : Fin 1) (r : Fin 256) (c : Fin 128)
    (g p q : ℕ) (hg : off 0 = g) (hp : off 1 + r.val = p) (hq : off 2 + c.val = q) :
    View.readAt (Elt Ideal) m.view (Rect.unit (s := S8x256x128) off S1x256x128.size inb).toLoadRect X (ix3 z r c) = f g p q := by
  have h0 := inb 0
  have h1 := inb 1
  have h2 := inb 2
  have hz := z.isLt
  simp [Shape.size] at h0 h1 h2
  subst hg hp hq
  rw [← hX ⟨off 0, by omega⟩ ⟨off 1 + r.val, by omega⟩ ⟨off 2 + c.val, by omega⟩, View.readAt_eq_ld]
  refine View.ld_unit_apply_of _ _ _ _ _ _ fun a => ?_
  have e0 : z.val = 0 := by omega
  fin_cases a
  · show off 0 = off 0 + z.val; omega
  · rfl
  · rfl

theorem a_load (m : Memref sig .tc .vmem S8x256x256 .f32) (X : BufTy.Contents (Elt Ideal) m.view.ty) (f : ℕ → ℕ → ℕ → EReal)
    (hX : ∀ g a b, m.view.read (Elt Ideal) X (ix3 g a b) = f g a b) (off : Fin 3 → ℕ) (inb : ∀ a, off a + S1x256x256.size a ≤ S8x256x256.size a) (z : Fin 1) (r : Fin 256) (c : Fin 256)
    (g p q : ℕ) (hg : off 0 = g) (hp : off 1 + r.val = p) (hq : off 2 + c.val = q) :
    View.readAt (Elt Ideal) m.view (Rect.unit (s := S8x256x256) off S1x256x256.size inb).toLoadRect X (ix3 z r c) = f g p q := by
  have h0 := inb 0
  have h1 := inb 1
  have h2 := inb 2
  have hz := z.isLt
  simp [Shape.size] at h0 h1 h2
  subst hg hp hq
  rw [← hX ⟨off 0, by omega⟩ ⟨off 1 + r.val, by omega⟩ ⟨off 2 + c.val, by omega⟩, View.readAt_eq_ld]
  refine View.ld_unit_apply_of _ _ _ _ _ _ fun a => ?_
  have e0 : z.val = 0 := by omega
  fin_cases a
  · show off 0 = off 0 + z.val; omega
  · rfl
  · rfl

variable (𝒱 : Variants) (c : Dev nD) (bd : Option 𝒱.V) (i : grid0.Coords) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg6 : Memref sig .tc .vmem S8x256x128 .f32) (harg6 : arg6.IsWhole) (arg7 : Memref sig .tc .vmem S8x256x256 .f32) (harg7 : arg7.IsWhole) (X_arg2 : BufTy.Contents (Elt Ideal) arg2.view.ty) (X_arg3 : BufTy.Contents (Elt Ideal) arg3.view.ty) (X_arg4 : BufTy.Contents (Elt Ideal) arg4.view.ty)
  (t : Fin (k0_t1_loop i).trips)

/-- The row offset of trip `t`'s blocks of keys and values, as the kernel computes it. -/
theorem row_off : (Scalar.indexCast (Scalar.muli (Scf.iv (0#32) (1#32) t.val) 512#32)).toNat = 512 * t.val := by
  have := k0_t1_abs i
  have ht := t.isLt
  simp only [Scf.iv, Scalar.muli, Scalar.indexCast, IntOp.muli]
  simp
  omega

variable (q k v : ℕ → ℕ → EReal) (M : ℕ → ℕ → EReal) (A : ℕ → ℕ → ℕ → EReal) (f6 : BufTy.Contents (Elt Ideal) arg6.view.ty) (f7 : BufTy.Contents (Elt Ideal) arg7.view.ty)

/-- The score of query row `r` and key `n` under head `h`. -/
def sc (q k : ℕ → ℕ → EReal) (h r n : ℕ) : EReal := ∑ d : Fin 128, q r (128 * h + d) * k n (128 * h + d)

/-- The values' block as the kernel widens it: 128 lanes of a pair of heads' values, then 128 lanes of ones. -/
def vx (v : ℕ → ℕ → EReal) (h n c : ℕ) : EReal := if c < 128 then v n (128 * (h / 2) + c) else 1

/-- The greatest of a block's scores. -/
def top (S : ℕ → EReal) (b : ℕ) : EReal := Finset.univ.fold max ⊥ fun j : Fin 512 => S (512 * b + j)

theorem trip_max (hq : ∀ a b, arg2.view.read (Elt Ideal) X_arg2 (ix2 a b) = q a b)
   (hk : ∀ a b, arg3.view.read (Elt Ideal) X_arg3 (ix2 a b) = k a b)
   (hM : ∀ h r l, arg6.view.read (Elt Ideal) f6 (ix3 h r l) = M h r)
   (y0 : Fin 8) (y1 : Fin 256) (y2 : Fin 128) :
   arg6.view.read (Elt Ideal) (arg6.view.writes (Elt Ideal) f6 (tripL_k0_t1 (F := Ideal) 𝒱 c bd i arg2 harg2 arg3 harg3 arg4 harg4 arg5 harg5 arg6 harg6 arg7 harg7 X_arg2 X_arg3 X_arg4 t f6 f7).1) (ix3 y0 y1 y2)
    = max (M y0 y1) (top (sc q k y0 y1) t) := by
  unfold tripL_k0_t1 trip_k0_t1
  dsimp only
  rw [View.read_writes_apply_eq_canon _ _ _ _ (View.cover_of_tiled _ ![1, 256, 128] (by rfl) _)]
  canon_tiles x h
  all_goals idx_vars x
  all_goals
    refine maxStore_apply _ _ _ _ _ _ (fun j => sc q k y0 y1 (512 * t + j)) (fun j => ?_) (fun l => ?_)
    · refine (scoreT_apply _ _ _ _).trans (Finset.sum_congr rfl fun d _ => ?_)
      refine congrArg₂ _ (q_load _ _ q hq _ _ _ _ _ _ ?_ ?_) (k_load _ _ k hk _ _ _ _ _ _ ?_ ?_)
      · show 0 + _ = _; omega
      · show _ + _ = _
        try dsimp [k0_off1, k0_off2, k0_off3, k0_off4, k0_off5, k0_off6, k0_off7, k0_off8, k0_off9, k0_off10, k0_off11, k0_off12]
        omega
      · exact congrArg (· + j.val) (row_off i t)
      · show _ + _ = _
        try dsimp [k0_off1, k0_off2, k0_off3, k0_off4, k0_off5, k0_off6, k0_off7, k0_off8, k0_off9, k0_off10, k0_off11, k0_off12]
        omega
    · refine m_load _ _ (fun h r _ => M h r) hM _ _ _ _ _ _ _ _ ?_ ?_ rfl
      · show _ = _; dsimp; omega
      · show 0 + _ = _; omega

theorem trip_acc (hq : ∀ a b, arg2.view.read (Elt Ideal) X_arg2 (ix2 a b) = q a b)
   (hk : ∀ a b, arg3.view.read (Elt Ideal) X_arg3 (ix2 a b) = k a b)
   (hv : ∀ a b, arg4.view.read (Elt Ideal) X_arg4 (ix2 a b) = v a b)
   (hM : ∀ h r l, arg6.view.read (Elt Ideal) f6 (ix3 h r l) = M h r)
   (hA : ∀ h r c, arg7.view.read (Elt Ideal) f7 (ix3 h r c) = A h r c)
   (y0 : Fin 8) (y1 : Fin 256) (y2 : Fin 256) :
   arg7.view.read (Elt Ideal) (arg7.view.writes (Elt Ideal) f7 (tripL_k0_t1 (F := Ideal) 𝒱 c bd i arg2 harg2 arg3 harg3 arg4 harg4 arg5 harg5 arg6 harg6 arg7 harg7 X_arg2 X_arg3 X_arg4 t f6 f7).2) (ix3 y0 y1 y2)
    = Ideal.exp (M y0 y1 - max (M y0 y1) (top (sc q k y0 y1) t)) * A y0 y1 y2
      + ∑ j : Fin 512, Ideal.exp (sc q k y0 y1 (512 * t + j) - max (M y0 y1) (top (sc q k y0 y1) t)) * vx v y0 (512 * t + j) y2 := by
  unfold tripL_k0_t1 trip_k0_t1
  dsimp only
  rw [View.read_writes_apply_eq_canon _ _ _ _ (View.cover_of_tiled _ ![1, 256, 256] (by rfl) _)]
  canon_tiles x h
  all_goals idx_vars x
  all_goals
    obtain rfl : x2 = y2 := Fin.ext (by omega)
    refine accStore_apply _ _ _ _ _ _ _ _ _ (fun j => sc q k y0 y1 (512 * t + j)) _ (fun j => ?_) (fun l => ?_) ?_ (fun j => ?_)
    · refine (scoreT_apply _ _ _ _).trans (Finset.sum_congr rfl fun d _ => ?_)
      refine congrArg₂ _ (q_load _ _ q hq _ _ _ _ _ _ ?_ ?_) (k_load _ _ k hk _ _ _ _ _ _ ?_ ?_)
      · show 0 + _ = _; omega
      · show _ + _ = _
        try dsimp [k0_off1, k0_off2, k0_off3, k0_off4, k0_off5, k0_off6, k0_off7, k0_off8, k0_off9, k0_off10, k0_off11, k0_off12]
        omega
      · exact congrArg (· + j.val) (row_off i t)
      · show _ + _ = _
        try dsimp [k0_off1, k0_off2, k0_off3, k0_off4, k0_off5, k0_off6, k0_off7, k0_off8, k0_off9, k0_off10, k0_off11, k0_off12]
        omega
    · refine m_load _ _ (fun h r _ => M h r) hM _ _ _ _ _ _ _ _ ?_ ?_ rfl
      · show _ = _; dsimp; omega
      · show 0 + _ = _; omega
    · refine a_load _ _ A hA _ _ _ _ _ _ _ _ ?_ ?_ ?_
      · show _ = _; dsimp; omega
      · show 0 + _ = _; omega
      · show 0 + _ = _; omega
    · unfold vx
      split
      · refine v_load _ _ v hv _ _ _ _ _ _ ?_ ?_
        · exact congrArg (· + j.val) (row_off i t)
        · show _ + _ = _
          try dsimp [k0_off1, k0_off2, k0_off3, k0_off4, k0_off5, k0_off6, k0_off7, k0_off8, k0_off9, k0_off10, k0_off11, k0_off12]
          omega
      · rfl

end Cert.Proof.Mla
end
-- ==== Proof.Loop.lean ====
/-
  The scratch after the unmasked blocks: per head and query row, the running maximum and the running weighted sums.
-/
module
public import proofs.«01_k».proof.Proof.Trip
import Idealize.ShloMosaic.Lib.Pipeline.ValueKit
@[expose] public section
namespace Cert.Proof.Mla
open Idealize.ShloMosaic Idealize.ShloMosaic.Tactic Cert.KernelIdeal Cert.KernelIdeal.Gen
open Idealize.SL Idealize.SL.RA Idealize.SL.BI

/-- The greatest score of the first `n` blocks. -/
noncomputable def mx (S : ℕ → EReal) : ℕ → EReal
  | 0 => ⊥
  | n + 1 => max (mx S n) (top S n)

/-- The weighted sum of the first `n` blocks, as the kernel accumulates it. -/
noncomputable def ac (S W : ℕ → EReal) : ℕ → EReal
  | 0 => 0
  | n + 1 => Ideal.exp (mx S n - mx S (n + 1)) * ac S W n
      + ∑ j : Fin 512, Ideal.exp (S (512 * n + j) - mx S (n + 1)) * W (512 * n + j)

variable (𝒱 : Variants) (c : Dev nD) (bd : Option 𝒱.V) (i : grid0.Coords) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg6 : Memref sig .tc .vmem S8x256x128 .f32) (harg6 : arg6.IsWhole) (arg7 : Memref sig .tc .vmem S8x256x256 .f32) (harg7 : arg7.IsWhole) (X_arg2 : BufTy.Contents (Elt Ideal) arg2.view.ty) (X_arg3 : BufTy.Contents (Elt Ideal) arg3.view.ty) (X_arg4 : BufTy.Contents (Elt Ideal) arg4.view.ty)
  (q k v : ℕ → ℕ → EReal) (f6 : BufTy.Contents (Elt Ideal) arg6.view.ty) (f7 : BufTy.Contents (Elt Ideal) arg7.view.ty)

theorem loop_state (hq : ∀ a b, arg2.view.read (Elt Ideal) X_arg2 (ix2 a b) = q a b)
   (hk : ∀ a b, arg3.view.read (Elt Ideal) X_arg3 (ix2 a b) = k a b)
   (hv : ∀ a b, arg4.view.read (Elt Ideal) X_arg4 (ix2 a b) = v a b)
   (h6 : ∀ h r l, arg6.view.read (Elt Ideal) f6 (ix3 h r l) = ⊥)
   (h7 : ∀ h r c, arg7.view.read (Elt Ideal) f7 (ix3 h r c) = 0) :
   ∀ n ≤ (k0_t1_loop i).trips,
   (∀ (y0 : Fin 8) (y1 : Fin 256) (y2 : Fin 128), arg6.view.read (Elt Ideal) (arg6.view.writes (Elt Ideal) f6 (pb_k0_t1 (F := Ideal) 𝒱 c bd i arg2 harg2 arg3 harg3 arg4 harg4 arg5 harg5 arg6 harg6 arg7 harg7 X_arg2 X_arg3 X_arg4 f6 f7 n).1) (ix3 y0 y1 y2)
      = mx (sc q k y0 y1) n) ∧
   (∀ (y0 : Fin 8) (y1 : Fin 256) (y2 : Fin 256), arg7.view.read (Elt Ideal) (arg7.view.writes (Elt Ideal) f7 (pb_k0_t1 (F := Ideal) 𝒱 c bd i arg2 harg2 arg3 harg3 arg4 harg4 arg5 harg5 arg6 harg6 arg7 harg7 X_arg2 X_arg3 X_arg4 f6 f7 n).2) (ix3 y0 y1 y2)
      = ac (sc q k y0 y1) (fun n => vx v y0 n y2) n) := by
  intro n
  induction n with
  | zero => exact fun _ => ⟨h6, h7⟩
  | succ n ih =>
    intro hn
    obtain ⟨ih6, ih7⟩ := ih (by omega)
    have e := pb_k0_t1_succ (F := Ideal) 𝒱 c bd i arg2 harg2 arg3 harg3 arg4 harg4 arg5 harg5 arg6 harg6 arg7 harg7 X_arg2 X_arg3 X_arg4 f6 f7 ⟨n, hn⟩
    simp only at e
    rw [e]
    constructor
    · intro y0 y1 y2
      dsimp only
      rw [View.writes_append]
      exact trip_max _ _ _ _ _ _ _ _ _ _ _ _ _ _ _ _ _ _ _ ⟨n, hn⟩ q k (fun h r => mx (sc q k h r) n) _ _ hq hk ih6 y0 y1 y2
    · intro y0 y1 y2
      dsimp only
      rw [View.writes_append]
      exact trip_acc _ _ _ _ _ _ _ _ _ _ _ _ _ _ _ _ _ _ _ ⟨n, hn⟩ q k v (fun h r => mx (sc q k h r) n) (fun h r c => ac (sc q k h r) (fun n => vx v h n c) n) _ _ hq hk hv ih6 ih7 y0 y1 y2

end Cert.Proof.Mla
end
-- ==== Proof.Softmax.lean ====
/-
  The running softmax in closed form: the greatest score so far, the weighted sum scaled by it, and their quotient
  as the softmax of one whole row.
-/
module
public import proofs.«01_k».proof.Proof.Loop
@[expose] public section
namespace Cert.Proof.Mla
open Idealize.ShloMosaic

/-- The greatest score of `n` blocks is bounded by `x` exactly if each of their scores is. -/
theorem mx_le (S : ℕ → EReal) (n : ℕ) (x : EReal) : mx S n ≤ x ↔ ∀ i < 512 * n, S i ≤ x := by
  induction n with
  | zero => simp [mx]
  | succ n ih =>
    have ht : top S n ≤ x ↔ ∀ j : Fin 512, S (512 * n + j) ≤ x := by
      have e : top S n = Finset.univ.sup fun j : Fin 512 => S (512 * n + j) := rfl
      rw [e, Finset.sup_le_iff]
      simp
    rw [mx, max_le_iff, ih, ht]
    constructor
    · rintro ⟨a, b⟩ i hi
      by_cases h : i < 512 * n
      · exact a i h
      · have := b ⟨i - 512 * n, by omega⟩
        rwa [show 512 * n + (i - 512 * n) = i by omega] at this
    · intro a
      exact ⟨fun i hi => a i (by omega), fun j => a _ (by omega)⟩

/-- Scores of which none is `⊤`, the first not `⊥`, have a real greatest one. -/
theorem mx_real (S : ℕ → EReal) (hS : ∀ n, S n ≠ ⊤) (h0 : S 0 ≠ ⊥) (n : ℕ) : ∃ a : ℝ, mx S (n + 1) = a := by
  have hb : mx S (n + 1) ≠ ⊥ := fun e => h0 (le_bot_iff.mp ((mx_le S (n + 1) ⊥).mp e.le 0 (by omega)))
  have ht : mx S (n + 1) ≠ ⊤ := by
    have e : mx S (n + 1) ≤ (Finset.range (512 * (n + 1))).sup S :=
      (mx_le S (n + 1) _).mpr fun i hi => Finset.le_sup (f := S) (Finset.mem_range.mpr hi)
    exact ne_of_lt (e.trans_lt ((Finset.sup_lt_iff bot_lt_top).mpr fun i _ => lt_top_iff_ne_top.mpr (hS i)))
  exact ⟨_, (EReal.coe_toReal ht hb).symm⟩

/-- The exponential of a score less a real is real and not negative. -/
theorem exp_sub_real (s : EReal) (hs : s ≠ ⊤) (a : ℝ) : ∃ r : ℝ, 0 ≤ r ∧ Ideal.exp (s - a) = r := by
  induction s with
  | bot => exact ⟨0, le_rfl, by simp⟩
  | coe x => exact ⟨Real.exp (x - a), (Real.exp_pos _).le, by rw [← EReal.coe_sub, Ideal.exp_coe]⟩
  | top => exact absurd rfl hs

/-- Exchanging the subtrahend of an exponential. -/
theorem exp_shift (s : EReal) (hs : s ≠ ⊤) (a b : ℝ) :
    Ideal.exp ((a : EReal) - b) * Ideal.exp (s - a) = Ideal.exp (s - b) := by
  induction s with
  | bot => simp
  | coe x =>
    rw [← EReal.coe_sub, ← EReal.coe_sub, ← EReal.coe_sub, Ideal.exp_coe, Ideal.exp_coe, Ideal.exp_coe, ← EReal.coe_mul, ← Real.exp_add]
    congr 2; ring
  | top => exact absurd rfl hs

/-- A real factor that is not negative goes into a sum. -/
theorem coe_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert i s hi ih =>
    rw [Finset.sum_insert hi, Finset.sum_insert hi, EReal.left_distrib_of_nonneg_of_ne_top (by exact_mod_cast hc) (EReal.coe_ne_top c), ih]

/-- The coercion of a real sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The weighted sum after `n` blocks, in closed form. -/
theorem ac_closed (S W : ℕ → EReal) (hS : ∀ n, S n ≠ ⊤) (h0 : S 0 ≠ ⊥) (n : ℕ) :
    ac S W n = ∑ i ∈ Finset.range (512 * n), Ideal.exp (S i - mx S n) * W i := by
  induction n with
  | zero => simp [ac]
  | succ n ih =>
    rw [ac, show 512 * (n + 1) = 512 * n + 512 by omega, Finset.sum_range_add,
      Fin.sum_univ_eq_sum_range (fun j => Ideal.exp (S (512 * n + j) - mx S (n + 1)) * W (512 * n + j)) 512, ih]
    congr 1
    cases n with
    | zero => simp
    | succ k =>
      obtain ⟨a, ha⟩ := mx_real S hS h0 k
      obtain ⟨b, hb⟩ := mx_real S hS h0 (k + 1)
      rw [ha, hb, ← EReal.coe_sub, Ideal.exp_coe, coe_mul_sum _ (Real.exp_pos _).le]
      refine Finset.sum_congr rfl fun i _ => ?_
      rw [← mul_assoc, ← Ideal.exp_coe, EReal.coe_sub, exp_shift _ (hS i)]

/-- A sum over a row whose entries beyond the first `k` are zero. -/
theorem sum_low (k : ℕ) (hk : k ≤ 4096) (g : Fin 4096 → EReal) (G : ℕ → EReal) (h1 : ∀ j : Fin 4096, j.val < k → g j = G j)
    (h2 : ∀ j : Fin 4096, k ≤ j.val → g j = 0) : ∑ j, g j = ∑ i ∈ Finset.range k, G i := by
  have e : ∑ j, g j = ∑ j : Fin 4096, (fun n => if n < k then G n else 0) j.val :=
    Finset.sum_congr rfl fun j _ => by
      by_cases h : j.val < k
      · simp only [if_pos h]; exact h1 j h
      · simp only [if_neg h]; exact h2 j (by omega)
  rw [e, Fin.sum_univ_eq_sum_range (fun n => if n < k then G n else 0) 4096]
  rw [← Finset.sum_subset (Finset.range_subset_range.mpr hk) fun x _ hx => if_neg (by simpa using hx)]
  exact Finset.sum_congr rfl fun x hx => if_pos (by simpa using hx)

/-- The quotient of the running weighted sum by the running sum of weights is the softmax of the whole row, whose scores
    beyond the blocks visited are `⊥`, against the values; `c` is the lower bound the row's sum is held to. -/
theorem softmax_row (S W : ℕ → EReal) (T V : Fin 4096 → EReal) (n : ℕ) (hn : n < 8) (c : ℝ) (hc : c ≤ 1)
    (hS : ∀ n, S n ≠ ⊤) (h0 : S 0 ≠ ⊥) (hT : ∀ j : Fin 4096, j.val < 512 * (n + 1) → T j = S j)
    (hT' : ∀ j : Fin 4096, 512 * (n + 1) ≤ j.val → T j = ⊥) (hV : ∀ j : Fin 4096, V j = W j) :
    ∃ M : ℝ, Finset.univ.fold max ⊥ T = M
      ∧ Ideal.div (ac S W (n + 1)) (ac S (fun _ => 1) (n + 1))
        = ∑ j, V j * Ideal.div (Ideal.exp (T j - M)) (max (∑ j, Ideal.exp (T j - M)) c) := by
  obtain ⟨M, hM⟩ := mx_real S hS h0 n
  have hfold : Finset.univ.fold max ⊥ T = mx S (n + 1) := by
    change Finset.univ.sup T = _
    refine le_antisymm (Finset.sup_le fun j _ => ?_) ((mx_le S (n + 1) _).mpr fun i hi => ?_)
    · by_cases h : j.val < 512 * (n + 1)
      · rw [hT j h]; exact (mx_le S (n + 1) _).mp le_rfl _ h
      · rw [hT' j (by omega)]; exact bot_le
    · have := Finset.le_sup (f := T) (Finset.mem_univ ⟨i, by omega⟩)
      rwa [hT ⟨i, by omega⟩ hi] at this
  refine ⟨M, hfold.trans hM, ?_⟩
  -- the row's sum of exponentials, a real number not below one
  have hsum : ∑ j, Ideal.exp (T j - M) = ∑ i ∈ Finset.range (512 * (n + 1)), Ideal.exp (S i - M) :=
    sum_low _ (by omega) _ _ (fun j h => by rw [hT j h]) fun j h => by rw [hT' j h]; simp
  choose e he0 he using fun i => exp_sub_real (S i) (hS i) M
  have hsumr : ∑ i ∈ Finset.range (512 * (n + 1)), Ideal.exp (S i - M) = ((∑ i ∈ Finset.range (512 * (n + 1)), e i : ℝ) : EReal) := by
    rw [Finset.sum_congr rfl fun i _ => he i]
    exact (coe_sum _ _).symm
  have hone : 1 ≤ ∑ i ∈ Finset.range (512 * (n + 1)), e i := by
    have : ∃ i < 512 * (n + 1), S i = M := by
      by_contra hcon
      push Not at hcon
      have hlt : mx S (n + 1) < M := by
        have hle : mx S (n + 1) ≤ (Finset.range (512 * (n + 1))).sup S :=
          (mx_le S (n + 1) _).mpr fun i hi => Finset.le_sup (f := S) (Finset.mem_range.mpr hi)
        refine hle.trans_lt ((Finset.sup_lt_iff (EReal.bot_lt_coe M)).mpr fun i hi => lt_of_le_of_ne ?_ (hcon i (Finset.mem_range.mp hi)))
        rw [← hM]; exact (mx_le S (n + 1) _).mp le_rfl _ (Finset.mem_range.mp hi)
      exact absurd hM hlt.ne
    obtain ⟨i, hi, hSi⟩ := this
    have h1 : e i = 1 := by
      have := he i
      rw [hSi, ← EReal.coe_sub, sub_self, Ideal.exp_coe, Real.exp_zero] at this
      exact_mod_cast this.symm
    rw [← h1]
    exact Finset.single_le_sum (fun i _ => he0 i) (Finset.mem_range.mpr hi)
  rw [ac_closed S W hS h0, ac_closed S _ hS h0, hM, hsum]
  simp only [mul_one]
  rw [hsumr]
  generalize (∑ i ∈ Finset.range (512 * (n + 1)), e i) = L at hone ⊢
  have hL : L ≠ 0 := by linarith
  rw [max_eq_left (by exact_mod_cast hc.trans hone : (c : EReal) ≤ L), Ideal.div_coe hL, mul_comm,
    coe_mul_sum _ (by positivity)]
  symm
  refine sum_low _ (by omega) _ _ (fun j h => ?_) fun j h => ?_
  · rw [hT j h, hV j, Ideal.div_coe hL, mul_comm (W j), mul_comm (Ideal.exp _), mul_assoc]
  · rw [hT' j h, Ideal.div_coe hL]; simp

end Cert.Proof.Mla
end
-- ==== Proof.Score.lean ====
/-
  A score of the packed arrays is the scaled sum of its two inner products.
-/
module
public import proofs.«01_k».proof.Proof.Pack
public import proofs.«01_k».proof.Proof.Softmax
@[expose] public section
set_option maxRecDepth 16384
namespace Cert.Proof.Mla
open Idealize.ShloMosaic Idealize.ShloMosaic.Tactic Cert.KernelIdeal Cert.KernelIdeal.Gen

/-- The scale is a real number, not negative. -/
theorem scl_real : ∃ s : ℝ, 0 ≤ s ∧ scl = s := by
  have e : scl = ((13698540 * 2 ^ (-27 : ℤ) : ℝ) : EReal) := by
    unfold scl
    simp [Ideal.ofBits, Ideal.ieee]
  exact ⟨_, by positivity, e⟩

/-- A sum over a head's lanes, by their three kinds. -/
theorem sum_lanes (f : Fin 128 → EReal) : ∑ d, f d = (∑ d : Fin 64, f ⟨d, by omega⟩) + (∑ d : Fin 32, f ⟨64 + d, by omega⟩) + ∑ d : Fin 32, f ⟨96 + d, by omega⟩ := by
  have e1 : ∑ d, f d = (∑ d : Fin 96, f ⟨d, by omega⟩) + ∑ d : Fin 32, f ⟨96 + d, by omega⟩ := Fin.sum_univ_add (a := 96) (b := 32) f
  have e2 : (∑ d : Fin 96, f ⟨d, by omega⟩) = (∑ d : Fin 64, f ⟨d, by omega⟩) + ∑ d : Fin 32, f ⟨64 + d, by omega⟩ :=
    Fin.sum_univ_add (a := 64) (b := 32) fun d : Fin 96 => f ⟨d, by omega⟩
  rw [e1, e2]

variable (A A' : FVec Ideal S4x4096x8x64 .f32) (B : FVec Ideal S4x4096x8x32 .f32) (C : FVec Ideal S4x4096x32 .f32)

/-- The score of query `i` and key `j` in head `h`. -/
noncomputable def score (b : Fin 4) (h : Fin 8) (i j : Fin 4096) : EReal :=
  ((∑ d : Fin 64, A (ix4 b i h d) * A' (ix4 b j h d)) + ∑ d : Fin 32, C (ix3 b j d) * B (ix4 b i h d)) * scl

theorem packed_score (b : Fin 4) (h : Fin 8) (i j : Fin 4096) :
    ∑ d : Fin 128, lanes A B pad0 (ix4 b i h d) * scl * lanes A' (heads C) pad0 (ix4 b j h d) = score A A' B C b h i j := by
  obtain ⟨s, hs, es⟩ := scl_real
  rw [sum_lanes, score, es, mul_comm _ (s : EReal), EReal.left_distrib_of_nonneg_of_ne_top (by exact_mod_cast hs) (EReal.coe_ne_top s),
    coe_mul_sum _ hs, coe_mul_sum _ hs]
  simp only [lanes_nope, lanes_rope, lanes_pad, pad0_apply, heads_apply, mul_zero, Finset.sum_const_zero, add_zero]
  refine congrArg₂ (· + ·) (Finset.sum_congr rfl fun d _ => ?_) (Finset.sum_congr rfl fun d _ => ?_)
  · rw [mul_comm _ (s : EReal), mul_assoc]
  · rw [mul_comm _ (s : EReal), mul_assoc, mul_comm (B _)]

/-- A sum of products of reals is real. -/
theorem sum_real {ι : Type} [Fintype ι] (f g : ι → EReal) (hf : ∀ i, ∃ r : ℝ, f i = r) (hg : ∀ i, ∃ r : ℝ, g i = r) :
    ∃ r : ℝ, ∑ i, f i * g i = r := by
  choose u hu using hf
  choose w hw using hg
  refine ⟨∑ i, u i * w i, ?_⟩
  rw [coe_sum]
  exact Finset.sum_congr rfl fun i _ => by rw [hu, hw, EReal.coe_mul]

theorem score_real (hA : ∀ b i h d, ∃ r : ℝ, A (ix4 b i h d) = r) (hA' : ∀ b i h d, ∃ r : ℝ, A' (ix4 b i h d) = r)
    (hB : ∀ b i h d, ∃ r : ℝ, B (ix4 b i h d) = r) (hC : ∀ b i d, ∃ r : ℝ, C (ix3 b i d) = r) (b : Fin 4) (h : Fin 8) (i j : Fin 4096) :
    ∃ r : ℝ, score A A' B C b h i j = r := by
  obtain ⟨s, -, es⟩ := scl_real
  obtain ⟨x, hx⟩ := sum_real (fun d : Fin 64 => A (ix4 b i h d)) (fun d => A' (ix4 b j h d)) (fun d => hA b i h d) fun d => hA' b j h d
  obtain ⟨y, hy⟩ := sum_real (fun d : Fin 32 => C (ix3 b j d)) (fun d => B (ix4 b i h d)) (fun d => hC b j d) fun d => hB b i h d
  refine ⟨(x + y) * s, ?_⟩
  rw [score, hx, hy, es, EReal.coe_mul, EReal.coe_add]
end Cert.Proof.Mla
end
-- ==== Proof.Last.lean ====
/-
  The scratch as the masked block finds it, and the mask: what the last step of a query block reads.
-/
module
public import proofs.«01_k».proof.Proof.Loop
public import proofs.«01_k».proof.Proof.Gen.KernelIdeal.Frame.RunA
import Idealize.ShloMosaic.Lib.Pipeline.ValueKit
import Idealize.ShloMosaic.Lib.Pipeline.ReadBack
@[expose] public section
set_option maxRecDepth 16384
namespace Cert.Proof.Mla
open Idealize.ShloMosaic Idealize.ShloMosaic.Tactic Cert.KernelIdeal Cert.KernelIdeal.Gen
open Idealize.SL Idealize.SL.RA Idealize.SL.BI

/-- The number of blocks that every query of block `i` sees whole. -/
theorem nfull_word (i : grid0.Coords) : kernelRun0_A.sl.v27 i = BitVec.ofNat 32 ((i 1).val / 2) := by
  have h : (i 1).val < 16 := (i 1).isLt
  unfold kernelRun0_A.sl.v27 kernelRun0_A.sl.v25 kernelRun0_A.sl.v26 kernelRun0_A.sl.v24 kernelRun0_A.sl.v23 kernelRun0_A.sl.v22 kernelRun0_A.sl.v16 kernelRun0_A.sl.v15 kernelRun0_A.sl.v14 kernelRun0_A.sl.v13 kernelRun0_A.sl.v12 kernelRun0_A.sl.v11 kernelRun0_A.sl.v0
  generalize (i 1).val = a at h
  revert h; revert a
  decide

theorem trips_eq (i : grid0.Coords) : (k0_t1_loop i).trips = (i 1).val / 2 := by
  have h : (i 1).val < 16 := (i 1).isLt
  unfold k0_t1_loop
  dsimp only
  generalize (i 1).val = a at h
  revert h; revert a
  decide

theorem trips2_eq (i : grid0.Coords) : (k0_t2_loop i).trips = 0 := Nat.le_zero.1 (k0_t2_abs i).2.1

/-- The causal mask of the last block. -/
theorem mask_apply (i : grid0.Coords) (r : Fin 256) (j : Fin 512) :
    (kernelRun0_A.sl.r (F := Ideal) i) (ix2 r j) = if 512 * ((i 1).val / 2) + j.val ≤ 256 * (i 1).val + r.val then 0 else (⊥ : EReal) := by
  have h : (i 1).val < 16 := (i 1).isLt
  unfold kernelRun0_A.sl.r
  rw [nfull_word]
  unfold kernelRun0_A.sl.v0
  generalize (i 1).val = a at h
  pointwise [k0_pay128]
  have e1 : (IntOp.addi (Scalar.muli (BitVec.ofNat 32 (a / 2)) 512#32) (BitVec.ofNat 32 j.val)) = BitVec.ofNat 32 (512 * (a / 2) + j.val) := by
    simp only [IntOp.addi, Scalar.muli, IntOp.muli]
    apply BitVec.eq_of_toNat_eq
    simp
    omega
  have e2 : (IntOp.addi (Scalar.muli (BitVec.ofNat 32 a) 256#32) (BitVec.ofNat 32 r.val)) = BitVec.ofNat 32 (256 * a + r.val) := by
    simp only [IntOp.addi, Scalar.muli, IntOp.muli]
    apply BitVec.eq_of_toNat_eq
    simp
    omega
  rw [e1, e2]
  have e3 : (BitVec.ofNat 32 (512 * (a / 2) + j.val)).toInt = ((512 * (a / 2) + j.val : ℕ) : ℤ) := by
    rw [BitVec.toInt_eq_toNat_of_lt] <;> simp <;> omega
  have e4 : (BitVec.ofNat 32 (256 * a + r.val)).toInt = ((256 * a + r.val : ℕ) : ℤ) := by
    rw [BitVec.toInt_eq_toNat_of_lt] <;> simp <;> omega
  have e5 : (Named.named κ "mask" 4048155338#32 : Ideal .f32) = (⊥ : EReal) := rfl
  rw [e5]
  simp only [Scalar.select, IntOp.cmpi, BitVec.sle, e3, e4, Nat.cast_le]
  by_cases hc : 512 * (a / 2) + j.val ≤ 256 * a + r.val <;> simp [hc]
variable (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg6 : Memref sig .tc .vmem S8x256x128 .f32) (harg6 : arg6.IsWhole) (arg7 : Memref sig .tc .vmem S8x256x256 .f32) (harg7 : arg7.IsWhole)
  (x0 : Vec Ideal S256x1024 .bf16) (x1 : Vec Ideal S4096x1024 .bf16) (x2 : Vec Ideal S4096x512 .bf16)
  (q k v : ℕ → ℕ → EReal)

/-- The maxima start at minus infinity. -/
theorem fill6 (y : S8x256x128.Idx) : arg6.view.read (Elt Ideal) (arg6.view.writes (Elt Ideal) arg6.view.junk (kernelRun0_A.sl.HS0_1 (F := Ideal))) y = (⊥ : EReal) := by
  rw [View.read_writes_junk_apply_eq_canon]
  unfold kernelRun0_A.sl.HS0_1
  rw [View.canon_cons_unit_lit _ _ _ (by intro a; fin_cases a <;> rfl)]
  rfl

/-- The weighted sums start at zero. -/
theorem fill7 (y : S8x256x256.Idx) : arg7.view.read (Elt Ideal) (arg7.view.writes (Elt Ideal) arg7.view.junk (kernelRun0_A.sl.HS1_1 (F := Ideal))) y = (0 : EReal) := by
  rw [View.read_writes_junk_apply_eq_canon]
  unfold kernelRun0_A.sl.HS1_1
  rw [View.canon_cons_unit_lit _ _ _ (by intro a; fin_cases a <;> rfl)]
  unfold k0_pay122
  idx_vars y
  pointwise

/-- The maxima as the masked block finds them. -/
theorem base6 (hq : ∀ a b, x0 (ix2 a b) = q a b) (hk : ∀ a b, x1 (ix2 a b) = k a b) (hv : ∀ a b, x2 (ix2 a b) = v a b)
    (y0 : Fin 8) (y1 : Fin 256) (y2 : Fin 128) :
    View.canon (Val := Elt Ideal) (kernelRun0_A.sl.HS0_1_1 (F := Ideal) c i arg2 harg2 arg3 harg3 arg4 harg4 arg5 harg5 arg6 harg6 arg7 harg7 x0 x1 x2).tail (ix3 y0 y1 y2) = mx (sc q k y0 y1) ((i 1).val / 2) := by
  rw [← View.read_writes_junk_apply_eq_canon arg6.view]
  unfold kernelRun0_A.sl.HS0_1_1
  have e1 : Scf.trips (k0_t1_loop i).lb (k0_t1_loop i).ub (k0_t1_loop i).st = (i 1).val / 2 := trips_eq i
  have e2 : Scf.trips (k0_t2_loop i).lb (k0_t2_loop i).ub (k0_t2_loop i).st = 0 := trips2_eq i
  rw [List.tail_cons, e2, pb_k0_t2.eq_1, List.nil_append, View.writes_append, e1]
  exact (loop_state _ _ _ i _ harg2 _ harg3 _ harg4 _ harg5 _ harg6 _ harg7 _ _ _ q k v _ _ (fun a b => by rw [harg2.read_unread]; exact hq a b)
    (fun a b => by rw [harg3.read_unread]; exact hk a b) (fun a b => by rw [harg4.read_unread]; exact hv a b)
    (fun _ _ _ => fill6 arg6 _) (fun _ _ _ => fill7 arg7 _) _ (trips_eq i).ge).1 y0 y1 y2

/-- The weighted sums as the masked block finds them. -/
theorem base7 (hq : ∀ a b, x0 (ix2 a b) = q a b) (hk : ∀ a b, x1 (ix2 a b) = k a b) (hv : ∀ a b, x2 (ix2 a b) = v a b)
    (y0 : Fin 8) (y1 : Fin 256) (y2 : Fin 256) :
    View.canon (Val := Elt Ideal) (kernelRun0_A.sl.HS1_1_1 (F := Ideal) c i arg2 harg2 arg3 harg3 arg4 harg4 arg5 harg5 arg6 harg6 arg7 harg7 x0 x1 x2).tail (ix3 y0 y1 y2)
      = ac (sc q k y0 y1) (fun n => vx v y0 n y2) ((i 1).val / 2) := by
  rw [← View.read_writes_junk_apply_eq_canon arg7.view]
  unfold kernelRun0_A.sl.HS1_1_1
  have e1 : Scf.trips (k0_t1_loop i).lb (k0_t1_loop i).ub (k0_t1_loop i).st = (i 1).val / 2 := trips_eq i
  have e2 : Scf.trips (k0_t2_loop i).lb (k0_t2_loop i).ub (k0_t2_loop i).st = 0 := trips2_eq i
  rw [List.tail_cons, e2, pb_k0_t2.eq_1, List.nil_append, View.writes_append, e1]
  exact (loop_state _ _ _ i _ harg2 _ harg3 _ harg4 _ harg5 _ harg6 _ harg7 _ _ _ q k v _ _ (fun a b => by rw [harg2.read_unread]; exact hq a b)
    (fun a b => by rw [harg3.read_unread]; exact hk a b) (fun a b => by rw [harg4.read_unread]; exact hv a b)
    (fun _ _ _ => fill6 arg6 _) (fun _ _ _ => fill7 arg7 _) _ (trips_eq i).ge).2 y0 y1 y2

end Cert.Proof.Mla
end
-- ==== Proof.Step.lean ====
/-
  The masked block: what the weighted sums hold when a query block's keys are all in.
-/
module
public import proofs.«01_k».proof.Proof.Last
import Idealize.ShloMosaic.Lib.Pipeline.ValueKit
import Idealize.ShloMosaic.Lib.Pipeline.ReadBack
@[expose] public section
set_option maxRecDepth 16384
namespace Cert.Proof.Mla
open Idealize.ShloMosaic Idealize.ShloMosaic.Tactic Cert.KernelIdeal Cert.KernelIdeal.Gen
open Idealize.SL Idealize.SL.RA Idealize.SL.BI

/-- The masked score of query row `r` of the block at position `pos` and key `n`. -/
noncomputable def scm (q k : ℕ → ℕ → EReal) (pos h r n : ℕ) : EReal := sc q k h r n + if n ≤ pos + r then 0 else ⊥

theorem mx_congr (S S' : ℕ → EReal) (N : ℕ) (h : ∀ n < 512 * N, S n = S' n) : mx S N = mx S' N := by
  induction N with
  | zero => rfl
  | succ N ih =>
    have e : top S N = top S' N := Finset.fold_congr fun j _ => h _ (by omega)
    simp only [mx, e, ih fun n hn => h n (by omega)]

theorem ac_congr (S S' W : ℕ → EReal) (N : ℕ) (h : ∀ n < 512 * N, S n = S' n) : ac S W N = ac S' W N := by
  induction N with
  | zero => rfl
  | succ N ih =>
    have e : ∀ j : Fin 512, S (512 * N + j) = S' (512 * N + j) := fun j => h _ (by omega)
    simp only [ac, mx_congr S S' (N + 1) h, mx_congr S S' N fun n hn => h n (by omega), ih fun n hn => h n (by omega), e]

/-- Blocks wholly below the diagonal are not masked. -/
theorem scm_low (q k : ℕ → ℕ → EReal) (a h r n : ℕ) (hn : n < 512 * (a / 2)) : scm q k (256 * a) h r n = sc q k h r n := by
  unfold scm
  rw [if_pos (by omega), add_zero]

/-- A load of a slice of the maxima, from what the stores left. -/
theorem m_cov (m : Memref sig .tc .vmem S8x256x128 .f32) (L : List (View.Piece (Elt Ideal) S8x256x128 .f32)) (f : ℕ → ℕ → EReal)
    (hL : ∀ (g : Fin 8) (a : Fin 256) (b : Fin 128), View.canon L (ix3 g a b) = f g a) (off : Fin 3 → ℕ)
    (inb : ∀ a, off a + S1x256x128.size a ≤ S8x256x128.size a) (z : Fin 1) (r : Fin 256) (l : Fin 128)
    (g : ℕ) (hg : off 0 = g) (h1 : off 1 = 0) :
    m.view.readCov L (Rect.unit (s := S8x256x128) off S1x256x128.size inb).toLoadRect (ix3 z r l) = f g r :=
  m_load m (m.view.writes (Elt Ideal) m.view.junk L) (fun g a _ => f g a)
    (fun g a b => (View.read_writes_junk_apply_eq_canon m.view _ L).trans (hL g a b)) off inb z r l g r _ hg (by omega) rfl

/-- A load of a slice of the weighted sums, from what the stores left. -/
theorem a_cov (m : Memref sig .tc .vmem S8x256x256 .f32) (L : List (View.Piece (Elt Ideal) S8x256x256 .f32)) (f : ℕ → ℕ → ℕ → EReal)
    (hL : ∀ (g : Fin 8) (a : Fin 256) (b : Fin 256), View.canon L (ix3 g a b) = f g a b) (off : Fin 3 → ℕ)
    (inb : ∀ a, off a + S1x256x256.size a ≤ S8x256x256.size a) (z : Fin 1) (r : Fin 256) (l : Fin 256)
    (g : ℕ) (hg : off 0 = g) (h1 : off 1 = 0) (h2 : off 2 = 0) :
    m.view.readCov L (Rect.unit (s := S8x256x256) off S1x256x256.size inb).toLoadRect (ix3 z r l) = f g r l :=
  a_load m (m.view.writes (Elt Ideal) m.view.junk L) f
    (fun g a b => (View.read_writes_junk_apply_eq_canon m.view _ L).trans (hL g a b)) off inb z r l g r _ hg (by omega) (by omega)

/-- The row offset of the masked block's keys and values. -/
theorem row_off_last (i : grid0.Coords) : (Scalar.indexCast (Scalar.muli (kernelRun0_A.sl.v27 i) 512#32)).toNat = 512 * ((i 1).val / 2) := by
  have h : (i 1).val < 16 := (i 1).isLt
  rw [nfull_word]
  simp only [Scalar.muli, Scalar.indexCast, IntOp.muli]
  simp
  omega

variable (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg6 : Memref sig .tc .vmem S8x256x128 .f32) (harg6 : arg6.IsWhole) (arg7 : Memref sig .tc .vmem S8x256x256 .f32) (harg7 : arg7.IsWhole)
  (x0 : Vec Ideal S256x1024 .bf16) (x1 : Vec Ideal S4096x1024 .bf16) (x2 : Vec Ideal S4096x512 .bf16)
  (q k v : ℕ → ℕ → EReal)

set_option maxHeartbeats 1000000 in
theorem masked_acc (hq : ∀ a b, x0 (ix2 a b) = q a b) (hk : ∀ a b, x1 (ix2 a b) = k a b) (hv : ∀ a b, x2 (ix2 a b) = v a b)
    (y0 : Fin 8) (y1 : Fin 256) (y2 : Fin 256) :
    View.canon (Val := Elt Ideal) (kernelRun0_A.sl.HS1_8 (F := Ideal) c i arg2 harg2 arg3 harg3 arg4 harg4 arg5 harg5 arg6 harg6 arg7 harg7 x0 x1 x2) (ix3 y0 y1 y2)
      = ac (scm q k (256 * (i 1).val) y0 y1) (fun n => vx v y0 n y2) ((i 1).val / 2 + 1) := by
  have b6 := base6 c i arg2 harg2 arg3 harg3 arg4 harg4 arg5 harg5 arg6 harg6 arg7 harg7 x0 x1 x2 q k v hq hk hv
  have b7 := base7 c i arg2 harg2 arg3 harg3 arg4 harg4 arg5 harg5 arg6 harg6 arg7 harg7 x0 x1 x2 q k v hq hk hv
  have em := fun (y0 y1 : ℕ) => mx_congr (scm q k (256 * (i 1).val) y0 y1) _ ((i 1).val / 2) (fun n hn => scm_low q k (i 1).val y0 y1 n hn)
  have ea := fun (y0 y1 : ℕ) (W : ℕ → EReal) => ac_congr (scm q k (256 * (i 1).val) y0 y1) _ W ((i 1).val / 2) (fun n hn => scm_low q k (i 1).val y0 y1 n hn)
  simp only [← em] at b6
  simp only [← ea] at b7
  rw [← View.read_writes_junk_apply_eq_canon arg7.view]
  change arg7.view.read _ (arg7.view.writes _ _ ([⟨Rect.unit ![7, 0, 0] S1x256x256.size (by decide), kernelRun0_A.sl.v325 c i arg2 harg2 arg3 harg3 arg4 harg4 arg5 harg5 arg6 harg6 arg7 harg7 x0 x1 x2⟩,
      ⟨Rect.unit ![6, 0, 0] S1x256x256.size (by decide), kernelRun0_A.sl.v312 c i arg2 harg2 arg3 harg3 arg4 harg4 arg5 harg5 arg6 harg6 arg7 harg7 x0 x1 x2⟩,
      ⟨Rect.unit ![5, 0, 0] S1x256x256.size (by decide), kernelRun0_A.sl.v299 c i arg2 harg2 arg3 harg3 arg4 harg4 arg5 harg5 arg6 harg6 arg7 harg7 x0 x1 x2⟩,
      ⟨Rect.unit ![4, 0, 0] S1x256x256.size (by decide), kernelRun0_A.sl.v286 c i arg2 harg2 arg3 harg3 arg4 harg4 arg5 harg5 arg6 harg6 arg7 harg7 x0 x1 x2⟩,
      ⟨Rect.unit ![3, 0, 0] S1x256x256.size (by decide), kernelRun0_A.sl.v273 c i arg2 harg2 arg3 harg3 arg4 harg4 arg5 harg5 arg6 harg6 arg7 harg7 x0 x1 x2⟩,
      ⟨Rect.unit ![2, 0, 0] S1x256x256.size (by decide), kernelRun0_A.sl.v260 c i arg2 harg2 arg3 harg3 arg4 harg4 arg5 harg5 arg6 harg6 arg7 harg7 x0 x1 x2⟩,
      ⟨Rect.unit ![1, 0, 0] S1x256x256.size (by decide), kernelRun0_A.sl.v247 c i arg2 harg2 arg3 harg3 arg4 harg4 arg5 harg5 arg6 harg6 arg7 harg7 x0 x1 x2⟩,
      ⟨Rect.unit ![0, 0, 0] S1x256x256.size (by decide), kernelRun0_A.sl.v234 c i arg2 harg2 arg3 harg3 arg4 harg4 arg5 harg5 arg6 harg6 arg7 harg7 x0 x1 x2⟩] ++ (kernelRun0_A.sl.HS1_1_1 c i arg2 harg2 arg3 harg3 arg4 harg4 arg5 harg5 arg6 harg6 arg7 harg7 x0 x1 x2).tail)) _ = _
  rw [View.writes_append, View.read_writes_apply_eq_canon _ _ _ _ (View.cover_of_tiled _ ![1, 256, 256] (by rfl) _)]
  canon_tiles w h
  all_goals idx_vars w
  all_goals
    obtain rfl : w2 = y2 := Fin.ext (by omega)
    refine accStore_apply _ _ _ _ _ _ _ _ _ (fun j => scm q k (256 * (i 1).val) y0 y1 (512 * ((i 1).val / 2) + j)) _ (fun j => ?_) (fun l => ?_) ?_ (fun j => ?_)
    · refine congrArg₂ (α := EReal) (β := EReal) (· + ·) ((scoreT_apply _ _ _ _).trans (Finset.sum_congr rfl fun d _ => ?_)) ((mask_apply i _ _).trans (by rw [h1]))
      refine congrArg₂ _ (q_load _ _ q (fun a b => by rw [harg2.read_unread]; exact hq a b) _ _ _ _ _ _ ?_ ?_) (k_load _ _ k (fun a b => by rw [harg3.read_unread]; exact hk a b) _ _ _ _ _ _ ?_ ?_)
      · show 0 + _ = _; omega
      · show _ + _ = _; dsimp; omega
      · exact congrArg (· + j.val) (row_off_last i)
      · show _ + _ = _
        try dsimp [k0_off25, k0_off26, k0_off27, k0_off28, k0_off29, k0_off30, k0_off31, k0_off32, k0_off33, k0_off34, k0_off35, k0_off36]
        omega
    · simp only [kernelRun0_A.sl.v95, kernelRun0_A.sl.v111, kernelRun0_A.sl.v127, kernelRun0_A.sl.v143, kernelRun0_A.sl.v159, kernelRun0_A.sl.v175, kernelRun0_A.sl.v191, kernelRun0_A.sl.v207, kernelRun0_A.sl.HS0_1_1, kernelRun0_A.sl.HS0_2, kernelRun0_A.sl.HS0_3, kernelRun0_A.sl.HS0_4, kernelRun0_A.sl.HS0_5, kernelRun0_A.sl.HS0_6, kernelRun0_A.sl.HS0_7]
      repeat rw [View.readCov_skip _ _ _ _ _ (by rfl)]
      refine (m_cov _ _ (fun h r => mx (scm q k (256 * (i 1).val) h r) ((i 1).val / 2)) b6 _ _ _ _ _ y0 ?_ rfl).trans (by rw [h1])
      show _ = _; dsimp; omega
    · simp only [kernelRun0_A.sl.v227, kernelRun0_A.sl.v240, kernelRun0_A.sl.v253, kernelRun0_A.sl.v266, kernelRun0_A.sl.v279, kernelRun0_A.sl.v292, kernelRun0_A.sl.v305, kernelRun0_A.sl.v318, kernelRun0_A.sl.HS1_1_1, kernelRun0_A.sl.HS1_2, kernelRun0_A.sl.HS1_3, kernelRun0_A.sl.HS1_4, kernelRun0_A.sl.HS1_5, kernelRun0_A.sl.HS1_6, kernelRun0_A.sl.HS1_7]
      repeat rw [View.readCov_skip _ _ _ _ _ (by rfl)]
      refine (a_cov _ _ (fun h r c => ac (scm q k (256 * (i 1).val) h r) (fun n => vx v h n c) ((i 1).val / 2)) b7 _ _ _ _ _ y0 ?_ rfl rfl).trans (by rw [h1])
      show _ = _; dsimp; omega
    · unfold vx
      split
      · refine v_load _ _ v (fun a b => by rw [harg4.read_unread]; exact hv a b) _ _ _ _ _ _ ?_ ?_
        · exact congrArg (· + j.val) (row_off_last i)
        · show _ + _ = _
          try dsimp [k0_off25, k0_off26, k0_off27, k0_off28, k0_off29, k0_off30, k0_off31, k0_off32, k0_off33, k0_off34, k0_off35, k0_off36]
          omega
      · rfl

end Cert.Proof.Mla
end
-- ==== Proof.Ref.lean ====
/-
  What the reference computes at an entry: a row's masked logits, its softmax, and the weighted values.
-/
module
public import proofs.«01_k».proof.Proof.Gen.ReferenceIdeal.Run
public import Idealize.ShloMosaic.Lib.Pointwise
import Idealize.ShloMosaic.Lib.WordCmp
@[expose] public section
set_option maxRecDepth 16384
noncomputable section
namespace Cert.Proof.Mla.Ref
open Idealize.ShloMosaic Idealize.ShloMosaic.Tactic Cert.ReferenceIdeal Cert.ReferenceIdeal.Gen

variable (qn : FVec Ideal S4x4096x8x64 .f32) (qr : FVec Ideal S4x4096x8x32 .f32) (kn : FVec Ideal S4x4096x8x64 .f32)
  (kr : FVec Ideal S4x4096x32 .f32) (v : FVec Ideal S4x4096x8x64 .f32)

/-- Whether the key is not after the query. -/
def causal : IVec S4x8x4096x4096 1 :=
  broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The scaled scores. -/
def scores : FVec Ideal S4x8x4096x4096 .f32 :=
  mulf (addf (Host.dotGeneral dot_S4x4096x8x64_S4x4096x8x64_S4x8x4096x4096_3_3_1_1_02_02 none qn kn) (transpose S4x8x4096x4096 [0, 3, 2, 1] (Host.dotGeneral dot_S4x4096x32_S4x4096x8x32_S4x4096x4096x8_2_3_1_12_0_0 none kr qr) transposes_S4x4096x4096x8_S4x8x4096x4096_0_3_2_1)) (broadcastInDim S4x8x4096x4096 ![] bcast_S_S4x8x4096x4096 (constant S_ .f32 0x3DD105EC#32))

/-- The masked scores. -/
def logits : FVec Ideal S4x8x4096x4096 .f32 :=
  select causal (scores qn qr kn kr) (broadcastInDim S4x8x4096x4096 ![] bcast_S_S4x8x4096x4096 (id (constant S_ .f32 0xFF800000#32)))

/-- Each row's greatest masked score. -/
def topr (L : FVec Ideal S4x8x4096x4096 .f32) : FVec Ideal S4x8x4096 .f32 :=
  Host.reduce FloatOps.maximumf L (constant S_ .f32 0xFF800000#32) reducesTo_S4x8x4096x4096_S4x8x4096_d3 h_S_

/-- A value for each row, zero where it is not finite. -/
def fin0 (R : FVec Ideal S4x8x4096 .f32) : FVec Ideal S4x8x4096x1 .f32 :=
  select (cmpf .olt (Host.absf (broadcastInDim S4x8x4096x1 ![0, 1, 2] bcast_S4x8x4096_S4x8x4096x1_0_1_2 R)) (broadcastInDim S4x8x4096x1 ![] bcast_S_S4x8x4096x1 (constant S_ .f32 0x7F800000#32))) (broadcastInDim S4x8x4096x1 ![0, 1, 2] bcast_S4x8x4096_S4x8x4096x1_0_1_2 R) (broadcastInDim S4x8x4096x1 ![] bcast_S_S4x8x4096x1 (id (constant S_ .f32 0x00000000#32)))

/-- Each row's greatest masked score, zero where there is none. -/
def rowmax (L : FVec Ideal S4x8x4096x4096 .f32) : FVec Ideal S4x8x4096x1 .f32 := fin0 (topr L)

/-- The exponentials of the masked scores less the row's greatest. -/
def expo (L : FVec Ideal S4x8x4096x4096 .f32) : FVec Ideal S4x8x4096x4096 .f32 :=
  Host.exp (subf L (broadcastInDim S4x8x4096x4096 ![0, 1, 2, 3] bcast_S4x8x4096x1_S4x8x4096x4096_0_1_2_3 (rowmax L)))

/-- The weights. -/
def probs (E : FVec Ideal S4x8x4096x4096 .f32) : FVec Ideal S4x8x4096x4096 .f32 :=
  Host.divf E (broadcastInDim S4x8x4096x4096 ![0, 1, 2, 3] bcast_S4x8x4096x1_S4x8x4096x4096_0_1_2_3 (maximumf (broadcastInDim S4x8x4096x1 ![0, 1, 2] bcast_S4x8x4096_S4x8x4096x1_0_1_2 (Host.reduceAdd E (constant S_ .f32 0x00000000#32) reducesTo_S4x8x4096x4096_S4x8x4096_d3 h_S_)) (broadcastInDim S4x8x4096x1 ![] bcast_S_S4x8x4096x1 (constant S_ .f32 0x0DA24260#32))))

/-- The output. -/
def outp (P : FVec Ideal S4x8x4096x4096 .f32) : FVec Ideal S16384x512 .bf16 :=
  shapeCast _ (truncf .bf16 (transpose S4x4096x8x64 [0, 3, 1, 2] (Host.dotGeneral dot_S4x4096x8x64_S4x8x4096x4096_S4x8x64x4096_1_3_3_2_02_01 none v P) transposes_S4x8x64x4096_S4x4096x8x64_0_3_1_2) bitsLt_bf16_f32) shapeCasts_S4x4096x8x64_S16384x512

theorem res_eq (m : (ℓ : Loc nD τ sig) → Buf (Elt Ideal) ℓ) (c : Dev nD) :
    Cert.ReferenceIdeal.Value.res_out0 m c = outp (m ((c.tc : Thread nD τ).loc main_arg4)) (probs (expo (logits (m ((c.tc : Thread nD τ).loc main_arg0)) (m ((c.tc : Thread nD τ).loc main_arg1)) (m ((c.tc : Thread nD τ).loc main_arg2)) (m ((c.tc : Thread nD τ).loc main_arg3))))) := rfl

theorem ofBits_ninf : Ideal.ofBits .f32 0xFF800000#32 = ⊥ := by simp [Ideal.ofBits, Ideal.ieee]

theorem ofBits_inf : Ideal.ofBits .f32 0x7F800000#32 = ⊤ := by simp [Ideal.ofBits, Ideal.ieee]

theorem causal_apply (b : Fin 4) (h : Fin 8) (i j : Fin 4096) : causal (ix4 b h i j) = BitVec.ofBool (decide (j.val ≤ i.val)) := by
  pointwise [causal]
  exact WordCmp.cmpi_sle_ofNat (by omega) (by omega)

theorem scores_apply (b : Fin 4) (h : Fin 8) (i j : Fin 4096) : scores qn qr kn kr (ix4 b h i j)
    = ((∑ d : Fin 64, qn (ix4 b i h d) * kn (ix4 b j h d)) + ∑ d : Fin 32, kr (ix3 b j d) * qr (ix4 b i h d)) * Ideal.ofBits .f32 0x3DD105EC#32 := by
  pointwise [scores]

theorem logits_apply (b : Fin 4) (h : Fin 8) (i j : Fin 4096) : logits qn qr kn kr (ix4 b h i j)
    = if j.val ≤ i.val then scores qn qr kn kr (ix4 b h i j) else ⊥ := by
  unfold logits
  generalize scores qn qr kn kr = s
  pointwise [causal_apply]
  split_ifs
  · rfl
  · exact ofBits_ninf

theorem topr_apply (L : FVec Ideal S4x8x4096x4096 .f32) (b : Fin 4) (h : Fin 8) (i : Fin 4096) :
    topr L (ix3 b h i) = Finset.univ.fold max ⊥ (fun j => L (ix4 b h i j)) := by
  pointwise [topr, ofBits_ninf]

theorem fin0_apply (R : FVec Ideal S4x8x4096 .f32) (b : Fin 4) (h : Fin 8) (i : Fin 4096) (hb : R (ix3 b h i) ≠ ⊥) (ht : R (ix3 b h i) ≠ ⊤) :
    fin0 R (ix4 b h i 0) = R (ix3 b h i) := by
  pointwise [fin0]
  generalize R (ix3 b h i) = x at hb ht
  rw [ofBits_inf]
  refine if_pos ?_
  change max x (-x) < (⊤ : EReal)
  exact max_lt (lt_top_iff_ne_top.mpr ht) (lt_top_iff_ne_top.mpr fun e => hb (by rw [← neg_neg x]; exact (congrArg Neg.neg e).trans EReal.neg_top))

theorem rowmax_apply (L : FVec Ideal S4x8x4096x4096 .f32) (b : Fin 4) (h : Fin 8) (i : Fin 4096) (M : EReal) (hM : Finset.univ.fold max ⊥ (fun j => L (ix4 b h i j)) = M)
    (hb : M ≠ ⊥) (ht : M ≠ ⊤) : rowmax L (ix4 b h i 0) = M := by
  have e := (topr_apply L b h i).trans hM
  exact (fin0_apply (topr L) b h i (by rw [e]; exact hb) (by rw [e]; exact ht)).trans e

theorem expo_apply (L : FVec Ideal S4x8x4096x4096 .f32) (b : Fin 4) (h : Fin 8) (i j : Fin 4096)  : expo L (ix4 b h i j) = Ideal.exp (L (ix4 b h i j) - rowmax L (ix4 b h i 0)) := by
  unfold expo
  generalize rowmax L = s
  pointwise

theorem probs_apply (E : FVec Ideal S4x8x4096x4096 .f32) (b : Fin 4) (h : Fin 8) (i j : Fin 4096)  : probs E (ix4 b h i j) = Ideal.div (E (ix4 b h i j)) (max (∑ j, E (ix4 b h i j)) (Ideal.ofBits .f32 0x0DA24260#32)) := by
  pointwise [probs]

theorem outp_apply (P : FVec Ideal S4x8x4096x4096 .f32) (x : Fin 16384) (y : Fin 512) (b : Fin 4) (i : Fin 4096) (h : Fin 8) (d : Fin 64)
   (hx : x.val = 4096 * b + i) (hy : y.val = 64 * h + d) : outp v P (ix2 x y) = ∑ j : Fin 4096, v (ix4 b j h d) * P (ix4 b h i j) := by
  pointwise [outp]
  have e1 : (⟨x.val / 4096, by omega⟩ : Fin 4) = b := Fin.ext (by simp only; omega)
  have e2 : (⟨y.val / 64, by omega⟩ : Fin 8) = h := Fin.ext (by simp only; omega)
  have e3 : (⟨y.val % 64, by omega⟩ : Fin 64) = d := Fin.ext (by simp only; omega)
  have e4 : (⟨x.val % 4096, by omega⟩ : Fin 4096) = i := Fin.ext (by simp only; omega)
  simp only [e1, e2, e3, e4]

end Cert.Proof.Mla.Ref
end
end
-- ==== Proof.Row.lean ====
/-
  One entry of the result: the running softmax over the packed blocks against the reference's row.
-/
module
public import proofs.«01_k».proof.Proof.Score
public import proofs.«01_k».proof.Proof.Step
public import proofs.«01_k».proof.Proof.Ref
@[expose] public section
set_option maxRecDepth 16384
namespace Cert.Proof.Mla
open Idealize.ShloMosaic Idealize.ShloMosaic.Tactic Cert.KernelIdeal Cert.KernelIdeal.Gen

/-- A matrix read at natural numbers, zero outside. -/
noncomputable def nat2 {a b : ℕ} (X : (⟨2, ![a, b]⟩ : Shape).Idx → EReal) (i j : ℕ) : EReal :=
  if h : i < a ∧ j < b then X (ix2 ⟨i, h.1⟩ ⟨j, h.2⟩) else 0

theorem nat2_apply {a b : ℕ} (X : (⟨2, ![a, b]⟩ : Shape).Idx → EReal) (i : Fin a) (j : Fin b) : X (ix2 i j) = nat2 X i j := by
  rw [nat2, dif_pos ⟨i.isLt, j.isLt⟩]

/-- The bound below which the reference holds no row's sum, a real number not above one. -/
theorem floor_real : ∃ s : ℝ, s ≤ 1 ∧ Ideal.ofBits .f32 0x0DA24260#32 = s := by
  have e : Ideal.ofBits .f32 0x0DA24260#32 = ((10633824 * 2 ^ (-123 : ℤ) : ℝ) : EReal) := by
    simp [Ideal.ofBits, Ideal.ieee]
  exact ⟨_, by norm_num, e⟩

variable (A A' D : FVec Ideal S4x4096x8x64 .f32) (B : FVec Ideal S4x4096x8x32 .f32) (C : FVec Ideal S4x4096x32 .f32)
  (X0 : FVec Ideal S256x1024 .bf16) (X1 : FVec Ideal S4096x1024 .bf16) (X2 : FVec Ideal S4096x512 .bf16) (b : Fin 4) (g : Fin 16)
  (h0 : ∀ (r : Fin 256) (y : Fin 1024) (x : Fin 16384), x.val = 4096 * b + 256 * g + r → X0 (ix2 r y) = packQ (lanes A B pad0) (ix2 x y))
  (h1 : ∀ (r : Fin 4096) (y : Fin 1024) (x : Fin 16384), x.val = 4096 * b + r → X1 (ix2 r y) = packK (lanes A' (heads C) pad0) (ix2 x y))
  (h2 : ∀ (r : Fin 4096) (y : Fin 512) (x : Fin 16384), x.val = 4096 * b + r → X2 (ix2 r y) = packV D (ix2 x y))

include h0 h1 in
/-- A score of the blocks. -/
theorem sc_score (h : Fin 8) (r : Fin 256) (n : Fin 4096) :
    sc (nat2 X0) (nat2 X1) h r n = score A A' B C b h ⟨256 * g + r, by omega⟩ n := by
  rw [sc, ← packed_score]
  refine Finset.sum_congr rfl fun d _ => ?_
  refine congrArg₂ (· * ·) ?_ ?_
  · rw [nat2, dif_pos ⟨r.isLt, by omega⟩]
    refine (h0 r ⟨128 * h + d, by omega⟩ ⟨4096 * b + 256 * g + r, by omega⟩ rfl).trans ((packQ_apply _ _ _).trans (congrArg (· * scl) (congrArg (lanes A B pad0) ?_)))
    congr 1 <;> ext <;> dsimp only <;> omega
  · rw [nat2, dif_pos ⟨n.isLt, by omega⟩]
    refine (h1 n ⟨128 * h + d, by omega⟩ ⟨4096 * b + n, by omega⟩ rfl).trans ((packK_apply _ _ _).trans (congrArg (lanes A' (heads C) pad0) ?_))
    congr 1 <;> ext <;> dsimp only <;> omega

/-- Outside the keys a score is zero. -/
theorem sc_outside (h r n : ℕ) (hn : 4096 ≤ n) : sc (nat2 X0) (nat2 X1) h r n = 0 := by
  rw [sc]
  refine Finset.sum_eq_zero fun d _ => ?_
  rw [show nat2 X1 n _ = 0 from dif_neg (by omega), mul_zero]

include h0 h1 h2 in
/-- The kernel's quotient at an entry is the reference's weighted sum. -/
theorem row_eq (hA : ∀ b i h d, ∃ r : ℝ, A (ix4 b i h d) = r) (hA' : ∀ b i h d, ∃ r : ℝ, A' (ix4 b i h d) = r)
    (hB : ∀ b i h d, ∃ r : ℝ, B (ix4 b i h d) = r) (hC : ∀ b i d, ∃ r : ℝ, C (ix3 b i d) = r) (r : Fin 256) (y : Fin 512) (x : Fin 16384) (hx : x.val = 4096 * b + 256 * g + r) :
    Ideal.div (ac (scm (nat2 X0) (nat2 X1) (256 * g) (y / 64) r) (fun n => nat2 X2 n y) (g / 2 + 1))
        (ac (scm (nat2 X0) (nat2 X1) (256 * g) (y / 64) r) (fun _ => 1) (g / 2 + 1))
      = Ref.outp D (Ref.probs (Ref.expo (Ref.logits A B A' C))) (ix2 x y) := by
  let h : Fin 8 := ⟨y / 64, by omega⟩
  let d : Fin 64 := ⟨y % 64, by omega⟩
  let i : Fin 4096 := ⟨256 * g + r, by omega⟩
  have hsc : ∀ n, ∃ x : ℝ, sc (nat2 X0) (nat2 X1) h r n = x := fun n => by
    by_cases hn : n < 4096
    · rw [sc_score A A' B C X0 X1 b g h0 h1 h r ⟨n, hn⟩]
      exact score_real A A' B C hA hA' hB hC _ _ _ _
    · exact ⟨0, sc_outside X0 X1 h r n (by omega)⟩
  have hT : ∀ j : Fin 4096, Ref.logits A B A' C (ix4 b h i j) = if j.val ≤ 256 * g + r then sc (nat2 X0) (nat2 X1) h r j else ⊥ := fun j => by
    rw [Ref.logits_apply, Ref.scores_apply, sc_score A A' B C X0 X1 b g h0 h1 h r j]
    rfl
  obtain ⟨c, hc, ec⟩ := floor_real
  have hS : ∀ n, scm (nat2 X0) (nat2 X1) (256 * g) h r n = if n ≤ 256 * g + r then sc (nat2 X0) (nat2 X1) h r n else ⊥ := fun n => by
    rw [scm]
    split_ifs
    · rw [add_zero]
    · obtain ⟨x, hx⟩ := hsc n
      rw [hx, EReal.add_bot]
  obtain ⟨M, hM, e⟩ := softmax_row (scm (nat2 X0) (nat2 X1) (256 * g) h r) (fun n => nat2 X2 n y)
    (fun j => Ref.logits A B A' C (ix4 b h i j)) (fun j => D (ix4 b j h d)) (g / 2) (by omega) c hc
    (fun n => by
      rw [hS]
      split_ifs
      · obtain ⟨x, hx⟩ := hsc n
        rw [hx]; exact EReal.coe_ne_top x
      · exact bot_ne_top)
    (by
      obtain ⟨x, hx⟩ := hsc 0
      rw [hS, if_pos (Nat.zero_le _), hx]; exact EReal.coe_ne_bot x)
    (fun j _ => by rw [hT, hS])
    (fun j hj => by rw [hT, if_neg (by omega)])
    (fun j => by
      rw [nat2, dif_pos ⟨j.isLt, y.isLt⟩]
      refine Eq.symm ((h2 j y ⟨4096 * b + j, by omega⟩ rfl).trans ((packV_apply _ _ _).trans (congrArg D ?_)))
      congr 1 <;> ext <;> dsimp only [h, d] <;> omega)
  have hmax := Ref.rowmax_apply (Ref.logits A B A' C) b h i M hM (EReal.coe_ne_bot M) (EReal.coe_ne_top M)
  refine e.trans (Eq.symm ((Ref.outp_apply D _ x y b i h d (by dsimp only [i]; omega) (by dsimp only [h, d]; omega)).trans ?_))
  refine Finset.sum_congr rfl fun j _ => ?_
  rw [Ref.probs_apply, ec]
  simp only [Ref.expo_apply, hmax]
end Cert.Proof.Mla
end
-- ==== Proof.Out.lean ====
/-
  What a query block writes: per head, the weighted sum of the values over the sum of the weights.
-/
module
public import proofs.«01_k».proof.Proof.Step
public import proofs.«01_k».proof.Proof.Gen.KernelIdeal.Frame
import Idealize.ShloMosaic.Lib.Pipeline.ValueKit
import Idealize.ShloMosaic.Lib.Pipeline.ReadBack
@[expose] public section
set_option maxRecDepth 16384
namespace Cert.Proof.Mla
open Idealize.ShloMosaic Idealize.ShloMosaic.Tactic Cert.KernelIdeal Cert.KernelIdeal.Gen
open Idealize.SL Idealize.SL.RA Idealize.SL.BI

/-- A column block of the output: from two heads of a pair, each a quotient. -/
noncomputable def outT (a b a' b' : Vec Ideal S1x256x128 .f32) : FVec Ideal S256x128 .bf16 :=
  k0_pay203 kernelRun0_A.sl.v1 a b a' b'

theorem outT_apply (a b a' b' : Vec Ideal S1x256x128 .f32) (r : Fin 256) (l : Fin 128) :
    outT a b a' b' (ix2 r l) = if l.val < 64 then Ideal.div (a (ix3 0 r l)) (b (ix3 0 r l)) else Ideal.div (a' (ix3 0 r l)) (b' (ix3 0 r l)) := by
  have hl := l.isLt
  unfold outT
  pointwise [k0_pay203, kernelRun0_A.sl.v1]
  have e : IntOp.cmpi CmpIPredicate.slt (BitVec.ofNat 32 l.val) 64#32 = BitVec.ofBool (decide (l.val < 64)) :=
    WordCmp.cmpi_slt_ofNat (a := l.val) (b := 64) (by omega) (by omega)
  rw [e]
  by_cases hc : l.val < 64 <;> simp [hc, Scalar.select]

/-- A load of half the lanes of a slice of the weighted sums, from what the stores left. -/
theorem o_cov (m : Memref sig .tc .vmem S8x256x256 .f32) (L : List (View.Piece (Elt Ideal) S8x256x256 .f32)) (f : ℕ → ℕ → ℕ → EReal)
    (hL : ∀ (g : Fin 8) (a : Fin 256) (b : Fin 256), View.canon L (ix3 g a b) = f g a b) (off : Fin 3 → ℕ)
    (inb : ∀ a, off a + S1x256x128.size a ≤ S8x256x256.size a) (z : Fin 1) (r : Fin 256) (l : Fin 128)
    (g p s : ℕ) (hg : off 0 = g) (hp : off 1 + r.val = p) (hs : off 2 + l.val = s) :
    m.view.readCov L (Rect.unit (s := S8x256x256) off S1x256x128.size inb).toLoadRect (ix3 z r l) = f g p s := by
  have h0 := inb 0
  have h1 := inb 1
  have h2 := inb 2
  have hz := z.isLt
  simp [Shape.size] at h0 h1 h2
  subst hg hp hs
  rw [← hL ⟨off 0, by omega⟩ ⟨off 1 + r.val, by omega⟩ ⟨off 2 + l.val, by omega⟩, View.readCov_eq_canon']
  refine View.ld_unit_apply_of (View.canon L) _ _ inb _ _ fun a => ?_
  have e0 : z.val = 0 := by omega
  fin_cases a
  · show off 0 = off 0 + z.val; omega
  · rfl
  · rfl

variable (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg6 : Memref sig .tc .vmem S8x256x128 .f32) (harg6 : arg6.IsWhole) (arg7 : Memref sig .tc .vmem S8x256x256 .f32) (harg7 : arg7.IsWhole)
  (x0 : Vec Ideal S256x1024 .bf16) (x1 : Vec Ideal S4096x1024 .bf16) (x2 : Vec Ideal S4096x512 .bf16)
  (q k v : ℕ → ℕ → EReal)

theorem out_apply (hq : ∀ a b, x0 (ix2 a b) = q a b) (hk : ∀ a b, x1 (ix2 a b) = k a b) (hv : ∀ a b, x2 (ix2 a b) = v a b)
    (r : Fin 256) (y : Fin 512) :
    out0_A_3 (F := Ideal) c i arg2 harg2 arg3 harg3 arg4 harg4 arg5 harg5 arg6 harg6 arg7 harg7 x0 x1 x2 (ix2 r y)
      = Ideal.div (ac (scm q k (256 * (i 1).val) (y.val / 64) r) (fun n => v n y) ((i 1).val / 2 + 1))
          (ac (scm q k (256 * (i 1).val) (y.val / 64) r) (fun _ => 1) ((i 1).val / 2 + 1)) := by
  have b7 := masked_acc c i arg2 harg2 arg3 harg3 arg4 harg4 arg5 harg5 arg6 harg6 arg7 harg7 x0 x1 x2 q k v hq hk hv
  let F : ℕ → ℕ → ℕ → EReal := fun h r c => ac (scm q k (256 * (i 1).val) h r) (fun n => vx v h n c) ((i 1).val / 2 + 1)
  unfold out0_A_3
  rw [View.read_writes_junk_apply_eq_canon]
  unfold kernelRun0_A
  dsimp only
  canon_tiles w h
  all_goals idx_vars w
  all_goals
    refine (outT_apply _ _ _ _ _ _).trans ?_
    split
    all_goals
      refine congrArg₂ Ideal.div ((o_cov _ _ F b7 _ _ _ _ _ (y.val / 64) r (y.val % 128) ?_ ?_ ?_).trans ?_) ((o_cov _ _ F b7 _ _ _ _ _ (y.val / 64) r (128 + y.val % 128) ?_ ?_ ?_).trans ?_)
      · show _ = _; dsimp; omega
      · show 0 + _ = _; omega
      · show 0 + _ = _; omega
      · refine congrArg (fun W => ac _ W _) (funext fun n => ?_)
        unfold vx
        rw [if_pos (by omega)]
        exact congrArg (v n) (by omega)
      · show _ = _; dsimp; omega
      · show 0 + _ = _; omega
      · show 128 + _ = _; omega
      · refine congrArg (fun W => ac _ W _) (funext fun n => ?_)
        unfold vx
        rw [if_neg (by omega)]

end Cert.Proof.Mla
end
-- ==== Proof.Array.lean ====
/-
  The result array after the run is the reference's.
-/
module
public import proofs.«01_k».proof.Proof.Row
public import proofs.«01_k».proof.Proof.Out
public import proofs.«01_k».proof.Proof.Gen.KernelIdeal.Value
import Idealize.ShloMosaic.Lib.Pipeline.ValueKit
@[expose] public section
set_option maxRecDepth 16384
namespace Cert.Proof.Mla
open Idealize.ShloMosaic Idealize.ShloMosaic.Tactic Cert.KernelIdeal Cert.KernelIdeal.Gen

/-- The block of queries, and of results, that each grid point has. -/
theorem idx_q : ∀ t : Fin grid0.N, win0_0.index t 0 = 16 * (grid0.coords t 0).val + (grid0.coords t 1).val ∧ win0_0.index t 1 = 0
    ∧ win0_3.index t 0 = 16 * (grid0.coords t 0).val + (grid0.coords t 1).val ∧ win0_3.index t 1 = 0 := by decide +kernel

/-- The block of keys and values that each grid point has. -/
theorem idx_k : ∀ t : Fin grid0.N, win0_1.index t 0 = (grid0.coords t 0).val ∧ win0_1.index t 1 = 0
    ∧ win0_2.index t 0 = (grid0.coords t 0).val ∧ win0_2.index t 1 = 0 := by decide +kernel

variable (m : (ℓ : Loc nD τ sig) → Buf (Elt Ideal) ℓ) (c : Dev nD)

theorem blk_q (t : Fin cfg0.N) (r : Fin 256) (y : Fin 1024) (x : Fin 16384) (hx : x.val = 4096 * (grid0.coords t 0).val + 256 * (grid0.coords t 1).val + r) :
    iblk m c 0 t (ix2 r y) = V m c main_v5 (ix2 x y) := by
  blk_ext [iblk, idx_q t]

theorem blk_k (t : Fin cfg0.N) (r : Fin 4096) (y : Fin 1024) (x : Fin 16384) (hx : x.val = 4096 * (grid0.coords t 0).val + r) :
    iblk m c 1 t (ix2 r y) = V m c main_v10 (ix2 x y) := by
  blk_ext [iblk, idx_k t]

theorem blk_v (t : Fin cfg0.N) (r : Fin 4096) (y : Fin 512) (x : Fin 16384) (hx : x.val = 4096 * (grid0.coords t 0).val + r) :
    iblk m c 2 t (ix2 r y) = V m c main_v12 (ix2 x y) := by
  blk_ext [iblk, idx_k t]

/-- Where a grid point's entry stands in the result. -/
theorem place (t : Fin cfg0.N) (r : Fin 256) (y : Fin 512) (x : Fin 16384) (hx : x.val = 4096 * (grid0.coords t 0).val + 256 * (grid0.coords t 1).val + r) :
    (win0_3.blk t).view.emb (ix2 r y) = ix2 x y := by
  blk_ext [idx_q t]

/-- An array of which every entry is real. -/
def Reals {s : Shape} (X : s.Idx → EReal) : Prop := ∀ i, ∃ r : ℝ, X i = r

theorem final (hA : Reals (s := S4x4096x8x64) (m ((c.tc : Thread nD τ).loc main_arg0))) (hB : Reals (s := S4x4096x8x32) (m ((c.tc : Thread nD τ).loc main_arg1)))
    (hA' : Reals (s := S4x4096x8x64) (m ((c.tc : Thread nD τ).loc main_arg2))) (hC : Reals (s := S4x4096x32) (m ((c.tc : Thread nD τ).loc main_arg3))) :
    (dats m 0 c).arrAt 3 cfg0.N = Ref.outp (m ((c.tc : Thread nD τ).loc main_arg4)) (Ref.probs (Ref.expo (Ref.logits (m ((c.tc : Thread nD τ).loc main_arg0))
      (m ((c.tc : Thread nD τ).loc main_arg1)) (m ((c.tc : Thread nD τ).loc main_arg2)) (m ((c.tc : Thread nD τ).loc main_arg3))))) := by
  refine (dats m 0 c).arrAt_eq_of_covers 3 _ (by decide +kernel) fun t hf y => ?_
  blk_simp
  rw [after0_3]
  unfold outsAt0
  obtain ⟨r, y, rfl⟩ : ∃ (r : Fin 256) (z : Fin 512), y = ix2 r z := ⟨y 0, y 1, eq_ix2 y⟩
  refine (out_apply c (grid0.coords t) _ _ _ _ _ _ _ _ _ _ _ _ (iblk m c 0 t) (iblk m c 1 t) (iblk m c 2 t) _ _ _
    (nat2_apply _) (nat2_apply _) (nat2_apply _) r y).trans ?_
  have hb := (grid0.coords t 0).isLt
  have hg := (grid0.coords t 1).isLt
  refine (row_eq _ _ (m ((c.tc : Thread nD τ).loc main_arg4)) _ _ (iblk m c 0 t) (iblk m c 1 t) (iblk m c 2 t) (grid0.coords t 0) (grid0.coords t 1)
    (fun r y x hx => (blk_q m c t r y x hx).trans (congrFun (V_q m c) _)) (fun r y x hx => (blk_k m c t r y x hx).trans (congrFun (V_k m c) _))
    (fun r y x hx => (blk_v m c t r y x hx).trans (congrFun (V_v m c) _)) (fun _ _ _ _ => hA _) (fun _ _ _ _ => hA' _) (fun _ _ _ _ => hB _) (fun _ _ _ => hC _) r y
    ⟨4096 * (grid0.coords t 0).val + 256 * (grid0.coords t 1).val + r, by dsimp at *; omega⟩ rfl).trans ?_
  exact congrArg _ (place t r y _ rfl).symm
end Cert.Proof.Mla
end
-- ==== Proof.Pre.lean ====
/-
  The precondition read: every entry of the queries and keys is a real number.
-/
module
public import proofs.«01_k».proof.Proof.Array
public import proofs.«01_k».proof.Proof.Gen.Pre_finite
import Idealize.ShloMosaic.Lib.ReduceAll
@[expose] public section
set_option maxRecDepth 16384
namespace Cert.Proof.Mla
open Idealize.ShloMosaic Idealize.ShloMosaic.Tactic Cert.Pre_finite

/-- An extended real whose absolute value is below the infinite word's is a real number. -/
theorem real_of_abs (x : EReal) (h : Ideal.cmp .olt (max x (-x)) (Ideal.ofBits .f32 0x7F800000#32) = 1#1) : ∃ r : ℝ, x = r := by
  rw [Ref.ofBits_inf] at h
  have hlt : max x (-x) < ⊤ := by
    by_contra hn
    simp [Ideal.cmp, hn] at h
  obtain ⟨h1, h2⟩ := max_lt_iff.mp hlt
  refine ⟨x.toReal, (EReal.coe_toReal h1.ne fun e => ?_).symm⟩
  rw [e, EReal.neg_bot] at h2
  exact lt_irrefl _ h2

instance : Subsingleton S_.Idx := ⟨fun a b => funext fun i => i.elim0⟩

/-- An array of which all absolute values are below infinity. -/
theorem reals_of_all {s : Shape} {axes : List (Fin s.rank)} (X : FVec Ideal s .f32) (hb : S_.BroadcastsInDim s (![] : Fin 0 → Fin s.rank))
    (hr : s.ReducesTo axes S_) (hu : 0 < S_.numel) (j : S_.Idx)
    (e : Host.reduce IntOp.andi (cmpf .olt (Host.absf X) (broadcastInDim s ![] hb (constant S_ .f32 0x7F800000#32))) (constantI S_ 1 1#1) hr hu j = 1#1) :
    Reals X := fun i => real_of_abs (X i) (Host.reduce_andi_all _ _ hr hu j e i)

variable (A : FVec Ideal S4x4096x8x64 .f32) (B : FVec Ideal S4x4096x8x32 .f32) (A' : FVec Ideal S4x4096x8x64 .f32) (C : FVec Ideal S4x4096x32 .f32) (D : FVec Ideal S4x4096x8x64 .f32)

theorem pre_reals (h : Cert.Pre_finite.fn (F := Ideal) A B A' C D = fun _ => 1#1) : Reals A ∧ Reals B ∧ Reals A' ∧ Reals C := by
  have e := congrFun h ix0
  unfold Cert.Pre_finite.fn Cert.Pre_finite.fn_part1 at e
  obtain ⟨e, e4⟩ := IntOp.andi_eq_one.1 e
  obtain ⟨e, e3⟩ := IntOp.andi_eq_one.1 e
  obtain ⟨e1, e2⟩ := IntOp.andi_eq_one.1 e
  exact ⟨reals_of_all _ _ _ _ _ e1, reals_of_all _ _ _ _ _ e2, reals_of_all _ _ _ _ _ e3, reals_of_all _ _ _ _ _ e4⟩
end Cert.Proof.Mla
end
-- ==== Proof.Claims.lean ====
/-
  The claims about the latent attention: the three frames, and the equality of its two results.
-/
module
public import proofs.«01_k».proof.Defs
public import proofs.«01_k».proof.Proof.Pre
public import proofs.«01_k».proof.Proof.Gen.Kernel.Frame
import Idealize.ShloMosaic.Lib.Quiescent
@[expose] public section
namespace Cert.Proof.Mla
open Idealize.ShloMosaic Idealize.SL.Sem

/-- The reference runs, leaves its arguments, and ends with every counter at zero. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference end with equal results. -/
theorem algebraic : Cert.algebraic_KernelIdeal_ReferenceIdeal_pre_finite := by
  intro m g m' g' hpre hag
  have hre := fun c => pre_reals _ _ _ _ _ (hpre c)
  refine ⟨fun c => Ref.outp (m ((c.tc : Thread Cert.KernelIdeal.nD Cert.KernelIdeal.τ).loc Cert.KernelIdeal.main_arg4)) (Ref.probs (Ref.expo (Ref.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))), ?_, ?_⟩
  · exact (θ_run _ _ _).mono (fun r h c => ⟨(h c).1.trans (final m c (hre c).1 (hre c).2.1 (hre c).2.2.1 (hre c).2.2.2), (h c).2⟩)
      (Cert.KernelIdeal.Value.run_blocks (F := Ideal) m g)
  · refine (θ_run _ _ _).mono (fun r h c => ⟨(h c).1.trans ((Ref.res_eq m' c).trans ?_), (h c).2⟩) (Cert.ReferenceIdeal.Value.run (F := Ideal) m' g')
    obtain ⟨a0, a1, a2, a3, a4⟩ := hag c
    rw [a0, a1, a2, a3, a4]
end Cert.Proof.Mla
end
-- ==== Proof.FfnSpec.lean ====
/-
  What one tile of the feed-forward call computes, from its operands' blocks, the normed rows and the rows carried over
  from the tile before: chunk by chunk of the up-projection, the three-tap convolution, the gate and the down-projection.
-/
module
public import proofs.«01_k».proof.Proof.Gen.Kernel2Ideal.Skeleton
public import Idealize.ShloMosaic.Lib.Pipeline.ValueKit
public import Idealize.ShloMosaic.Lib.ValueIdxCore
public import Idealize.ShloMosaic.Lib.VecWindow
public import Idealize.ShloMosaic.Lib.Pointwise
public import Idealize.ShloMosaic.Lib.WritesUnit

@[expose] public section

set_option maxRecDepth 16384

noncomputable section

namespace Cert.Kernel2Ideal.Ffn

open Idealize.ShloMosaic Idealize.ShloMosaic.TcCoe Idealize.ShloMosaic.Tactic Cert.Kernel2Ideal Cert.Kernel2Ideal.Gen

variable {F : FTy → Type} [FloatOps F]

/-- Chunk `n` of the up-projection's weights. -/
def upW (w : Vec F S22x1024x256 .bf16) (n : Fin 22) : Vec F S1x1024x256 .bf16 := fun y => w (ix3 n (y 1) (y 2))

/-- Chunk `n` of the taps, and of the carried rows. -/
def eightW (w : Vec F S22x8x256 .f32) (n : Fin 22) : Vec F S1x8x256 .f32 := fun y => w (ix3 n (y 1) (y 2))

/-- Chunk `j` of the down-projection's weights. -/
def downW (w : Vec F S11x256x1024 .bf16) (j : Fin 11) : Vec F S1x256x1024 .bf16 := fun y => w (ix3 j (y 1) (y 2))

/-- Eight rows laid over 512 rows, read from row `o` on. -/
def shift (o : ℕ) (ho : o ≤ 8) (p : Vec F S1x8x256 .f32) (v : Vec F S1x512x256 .f32) : Vec F S1x512x256 .f32 := fun y =>
  if h : 8 ≤ o + (y 1).val then
    v (ix3 0 ⟨o + (y 1).val - 8, by have : (y 1).val < 512 := (y 1).isLt; omega⟩ (y 2))
  else p (ix3 0 ⟨o + (y 1).val, by omega⟩ (y 2))

variable (hn : Vec F S512x1024 .bf16) (w6 : Vec F S22x1024x256 .bf16) (w7 : Vec F S22x8x256 .f32) (w8 : Vec F S11x256x1024 .bf16)
  (C : Vec F S22x8x256 .f32) (z : BitVec 1)

/-- Chunk `n` of the up-projection of the tile. -/
def up (n : Fin 22) : FVec F S512x256 .f32 := k0_pay3 hn (upW w6 n)

/-- Its last eight rows. -/
def last8 (n : Fin 22) : FVec F S8x256 .f32 := k0_pay7 hn (upW w6 n)

/-- The eight rows before the tile's first: nothing at a sequence's first tile, else those carried over. -/
def before (n : Fin 22) : Vec F S1x8x256 .f32 := k0_pay9 z (eightW C n)

/-- Chunk `n` convolved along the sequence. -/
def conv (n : Fin 22) : FVec F S512x256 .f32 :=
  k0_pay11 (up hn w6 n) (shift 7 (by decide) (before C z n) (k0_pay6 hn (upW w6 n)))
    (shift 6 (by decide) (before C z n) (k0_pay6 hn (upW w6 n))) (eightW w7 n)

/-- Gated chunk `j` times its rows of the down-projection. -/
def down (j : Fin 11) : FVec F S512x1024 .f32 :=
  k0_pay52 (conv hn w6 w7 C z ⟨j.val, by omega⟩) (conv hn w6 w7 C z ⟨11 + j.val, by omega⟩) (downW w8 j)

/-- The sum of the down-projections of the first `k` groups of three chunks. -/
def acc : ℕ → FVec F S512x1024 .f32
  | 0 => k0_pay58 (Scalar.ofBits .f32 0x00000000#32)
  | k + 1 => if h : k < 3 then
      addf (acc k) (addf (addf (down hn w6 w7 w8 C z ⟨3 * k, by omega⟩) (down hn w6 w7 w8 C z ⟨3 * k + 1, by omega⟩))
        (down hn w6 w7 w8 C z ⟨3 * k + 2, by omega⟩))
    else acc k

/-- The tile's sum of all its down-projections. -/
def total : FVec F S512x1024 .f32 :=
  addf (acc hn w6 w7 w8 C z 3) (addf (down hn w6 w7 w8 C z 9) (down hn w6 w7 w8 C z 10))

/-! Loads of chunks, and of rows laid under chunks. -/

theorem load_up (m : Memref sig .tc .vmem S22x1024x256 .bf16) (X : BufTy.Contents (Elt F) m.view.ty) (off : Fin 3 → ℕ)
    (inb : ∀ a, off a + S1x1024x256.size a ≤ S22x1024x256.size a) (n : Fin 22) (h : off = ![n.val, 0, 0]) :
    View.readAt (Elt F) m.view (Rect.unit (s := S22x1024x256) off S1x1024x256.size inb).toLoadRect X = upW (m.view.read (Elt F) X) n := by
  subst h; funext y
  rw [View.readAt_eq_ld]
  refine View.ld_unit_apply_of _ _ _ _ _ _ fun a => ?_
  have h0 : (y 0).val < 1 := (y 0).isLt
  fin_cases a
  · show n.val = n.val + (y 0).val; omega
  · show (y 1).val = 0 + (y 1).val; omega
  · show (y 2).val = 0 + (y 2).val; omega

theorem load_eight (m : Memref sig .tc .vmem S22x8x256 .f32) (X : BufTy.Contents (Elt F) m.view.ty) (off : Fin 3 → ℕ)
    (inb : ∀ a, off a + S1x8x256.size a ≤ S22x8x256.size a) (n : Fin 22) (h : off = ![n.val, 0, 0]) :
    View.readAt (Elt F) m.view (Rect.unit (s := S22x8x256) off S1x8x256.size inb).toLoadRect X = eightW (m.view.read (Elt F) X) n := by
  subst h; funext y
  rw [View.readAt_eq_ld]
  refine View.ld_unit_apply_of _ _ _ _ _ _ fun a => ?_
  have h0 : (y 0).val < 1 := (y 0).isLt
  fin_cases a
  · show n.val = n.val + (y 0).val; omega
  · show (y 1).val = 0 + (y 1).val; omega
  · show (y 2).val = 0 + (y 2).val; omega

theorem load_down (m : Memref sig .tc .vmem S11x256x1024 .bf16) (X : BufTy.Contents (Elt F) m.view.ty) (off : Fin 3 → ℕ)
    (inb : ∀ a, off a + S1x256x1024.size a ≤ S11x256x1024.size a) (n : Fin 11) (h : off = ![n.val, 0, 0]) :
    View.readAt (Elt F) m.view (Rect.unit (s := S11x256x1024) off S1x256x1024.size inb).toLoadRect X = downW (m.view.read (Elt F) X) n := by
  subst h; funext y
  rw [View.readAt_eq_ld]
  refine View.ld_unit_apply_of _ _ _ _ _ _ fun a => ?_
  have h0 : (y 0).val < 1 := (y 0).isLt
  fin_cases a
  · show n.val = n.val + (y 0).val; omega
  · show (y 1).val = 0 + (y 1).val; omega
  · show (y 2).val = 0 + (y 2).val; omega

theorem load_shift (m : Memref sig .tc .vmem S3x520x256 .f32) (s : Fin 3) (o : ℕ) (ho : o ≤ 8)
    (inb1 : ∀ a, (![s.val, 0, 0] : Fin 3 → ℕ) a + S1x8x256.size a ≤ S3x520x256.size a)
    (inb2 : ∀ a, (![s.val, 8, 0] : Fin 3 → ℕ) a + S1x512x256.size a ≤ S3x520x256.size a)
    (inb3 : ∀ a, (![s.val, o, 0] : Fin 3 → ℕ) a + S1x512x256.size a ≤ S3x520x256.size a)
    (p : Vec F S1x8x256 .f32) (v : Vec F S1x512x256 .f32) (L : List (View.Piece (Elt F) S3x520x256 .f32)) :
    m.view.readCov (⟨Rect.unit (s := S3x520x256) ![s.val, 0, 0] S1x8x256.size inb1, p⟩
        :: ⟨Rect.unit (s := S3x520x256) ![s.val, 8, 0] S1x512x256.size inb2, v⟩ :: L)
      (Rect.unit (s := S3x520x256) ![s.val, o, 0] S1x512x256.size inb3).toLoadRect = shift o ho p v := by
  funext y
  have h0 : (y 0).val < 1 := (y 0).isLt
  have h1 : (y 1).val < 512 := (y 1).isLt
  unfold View.readCov
  rw [View.readAt_eq_ld]
  refine (View.ld_unit_apply_of _ _ _ _ _ (ix3 s ⟨o + (y 1).val, by omega⟩ (y 2) : S3x520x256.Idx) fun a => ?_).trans ?_
  · fin_cases a
    · show s.val = s.val + (y 0).val; omega
    · rfl
    · show (y 2).val = 0 + (y 2).val; omega
  · unfold shift
    by_cases h : 8 ≤ o + (y 1).val
    · rw [dif_pos h, View.read_writes_cons_unit_of_not_mem m.view _ inb1 p _ _ rfl (1 : Fin 3) (Or.inr ?_)]
      · refine View.read_writes_cons_unit_of_mem m.view _ inb2 v L _ (ix3 0 ⟨o + (y 1).val - 8, by omega⟩ (y 2)) rfl fun a => ?_
        fin_cases a
        · rfl
        · show o + (y 1).val = 8 + (o + (y 1).val - 8); omega
        · show (y 2).val = 0 + (y 2).val; omega
      · exact h
    · rw [dif_neg h]
      refine View.read_writes_cons_unit_of_mem m.view _ inb1 p _ _ (ix3 0 ⟨o + (y 1).val, by omega⟩ (y 2)) rfl fun a => ?_
      fin_cases a
      · rfl
      · show o + (y 1).val = 0 + (o + (y 1).val); omega
      · show (y 2).val = 0 + (y 2).val; omega

theorem load_shift_0_7 (m : Memref sig .tc .vmem S3x520x256 .f32)
    (inb1 : ∀ a, (![0, 0, 0] : Fin 3 → ℕ) a + S1x8x256.size a ≤ S3x520x256.size a)
    (inb2 : ∀ a, (![0, 8, 0] : Fin 3 → ℕ) a + S1x512x256.size a ≤ S3x520x256.size a)
    (inb3 : ∀ a, (![0, 7, 0] : Fin 3 → ℕ) a + S1x512x256.size a ≤ S3x520x256.size a)
    (p : Vec F S1x8x256 .f32) (v : Vec F S1x512x256 .f32) (L : List (View.Piece (Elt F) S3x520x256 .f32)) :
    m.view.readCov (⟨Rect.unit (s := S3x520x256) ![0, 0, 0] S1x8x256.size inb1, p⟩
        :: ⟨Rect.unit (s := S3x520x256) ![0, 8, 0] S1x512x256.size inb2, v⟩ :: L)
      (Rect.unit (s := S3x520x256) ![0, 7, 0] S1x512x256.size inb3).toLoadRect = shift 7 (by decide) p v :=
  load_shift m 0 7 (by decide) inb1 inb2 inb3 p v L

theorem load_shift_0_6 (m : Memref sig .tc .vmem S3x520x256 .f32)
    (inb1 : ∀ a, (![0, 0, 0] : Fin 3 → ℕ) a + S1x8x256.size a ≤ S3x520x256.size a)
    (inb2 : ∀ a, (![0, 8, 0] : Fin 3 → ℕ) a + S1x512x256.size a ≤ S3x520x256.size a)
    (inb3 : ∀ a, (![0, 6, 0] : Fin 3 → ℕ) a + S1x512x256.size a ≤ S3x520x256.size a)
    (p : Vec F S1x8x256 .f32) (v : Vec F S1x512x256 .f32) (L : List (View.Piece (Elt F) S3x520x256 .f32)) :
    m.view.readCov (⟨Rect.unit (s := S3x520x256) ![0, 0, 0] S1x8x256.size inb1, p⟩
        :: ⟨Rect.unit (s := S3x520x256) ![0, 8, 0] S1x512x256.size inb2, v⟩ :: L)
      (Rect.unit (s := S3x520x256) ![0, 6, 0] S1x512x256.size inb3).toLoadRect = shift 6 (by decide) p v :=
  load_shift m 0 6 (by decide) inb1 inb2 inb3 p v L

theorem load_shift_1_7 (m : Memref sig .tc .vmem S3x520x256 .f32)
    (inb1 : ∀ a, (![1, 0, 0] : Fin 3 → ℕ) a + S1x8x256.size a ≤ S3x520x256.size a)
    (inb2 : ∀ a, (![1, 8, 0] : Fin 3 → ℕ) a + S1x512x256.size a ≤ S3x520x256.size a)
    (inb3 : ∀ a, (![1, 7, 0] : Fin 3 → ℕ) a + S1x512x256.size a ≤ S3x520x256.size a)
    (p : Vec F S1x8x256 .f32) (v : Vec F S1x512x256 .f32) (L : List (View.Piece (Elt F) S3x520x256 .f32)) :
    m.view.readCov (⟨Rect.unit (s := S3x520x256) ![1, 0, 0] S1x8x256.size inb1, p⟩
        :: ⟨Rect.unit (s := S3x520x256) ![1, 8, 0] S1x512x256.size inb2, v⟩ :: L)
      (Rect.unit (s := S3x520x256) ![1, 7, 0] S1x512x256.size inb3).toLoadRect = shift 7 (by decide) p v :=
  load_shift m 1 7 (by decide) inb1 inb2 inb3 p v L

theorem load_shift_1_6 (m : Memref sig .tc .vmem S3x520x256 .f32)
    (inb1 : ∀ a, (![1, 0, 0] : Fin 3 → ℕ) a + S1x8x256.size a ≤ S3x520x256.size a)
    (inb2 : ∀ a, (![1, 8, 0] : Fin 3 → ℕ) a + S1x512x256.size a ≤ S3x520x256.size a)
    (inb3 : ∀ a, (![1, 6, 0] : Fin 3 → ℕ) a + S1x512x256.size a ≤ S3x520x256.size a)
    (p : Vec F S1x8x256 .f32) (v : Vec F S1x512x256 .f32) (L : List (View.Piece (Elt F) S3x520x256 .f32)) :
    m.view.readCov (⟨Rect.unit (s := S3x520x256) ![1, 0, 0] S1x8x256.size inb1, p⟩
        :: ⟨Rect.unit (s := S3x520x256) ![1, 8, 0] S1x512x256.size inb2, v⟩ :: L)
      (Rect.unit (s := S3x520x256) ![1, 6, 0] S1x512x256.size inb3).toLoadRect = shift 6 (by decide) p v :=
  load_shift m 1 6 (by decide) inb1 inb2 inb3 p v L

theorem load_shift_2_7 (m : Memref sig .tc .vmem S3x520x256 .f32)
    (inb1 : ∀ a, (![2, 0, 0] : Fin 3 → ℕ) a + S1x8x256.size a ≤ S3x520x256.size a)
    (inb2 : ∀ a, (![2, 8, 0] : Fin 3 → ℕ) a + S1x512x256.size a ≤ S3x520x256.size a)
    (inb3 : ∀ a, (![2, 7, 0] : Fin 3 → ℕ) a + S1x512x256.size a ≤ S3x520x256.size a)
    (p : Vec F S1x8x256 .f32) (v : Vec F S1x512x256 .f32) (L : List (View.Piece (Elt F) S3x520x256 .f32)) :
    m.view.readCov (⟨Rect.unit (s := S3x520x256) ![2, 0, 0] S1x8x256.size inb1, p⟩
        :: ⟨Rect.unit (s := S3x520x256) ![2, 8, 0] S1x512x256.size inb2, v⟩ :: L)
      (Rect.unit (s := S3x520x256) ![2, 7, 0] S1x512x256.size inb3).toLoadRect = shift 7 (by decide) p v :=
  load_shift m 2 7 (by decide) inb1 inb2 inb3 p v L

theorem load_shift_2_6 (m : Memref sig .tc .vmem S3x520x256 .f32)
    (inb1 : ∀ a, (![2, 0, 0] : Fin 3 → ℕ) a + S1x8x256.size a ≤ S3x520x256.size a)
    (inb2 : ∀ a, (![2, 8, 0] : Fin 3 → ℕ) a + S1x512x256.size a ≤ S3x520x256.size a)
    (inb3 : ∀ a, (![2, 6, 0] : Fin 3 → ℕ) a + S1x512x256.size a ≤ S3x520x256.size a)
    (p : Vec F S1x8x256 .f32) (v : Vec F S1x512x256 .f32) (L : List (View.Piece (Elt F) S3x520x256 .f32)) :
    m.view.readCov (⟨Rect.unit (s := S3x520x256) ![2, 0, 0] S1x8x256.size inb1, p⟩
        :: ⟨Rect.unit (s := S3x520x256) ![2, 8, 0] S1x512x256.size inb2, v⟩ :: L)
      (Rect.unit (s := S3x520x256) ![2, 6, 0] S1x512x256.size inb3).toLoadRect = shift 6 (by decide) p v :=
  load_shift m 2 6 (by decide) inb1 inb2 inb3 p v L

/-! Where a group's chunks lie. -/

theorem off1_0_0 : ∀ k : Fin k0_t1_loop.trips, k0_off1 k 0#32 0#32 = ![3 * k.val, 0, 0] := by decide +kernel
theorem off3_0_0 : ∀ k : Fin k0_t1_loop.trips, k0_off3 k 0#32 0#32 = ![3 * k.val, 0, 0] := by decide +kernel
theorem off2_0_0 : ∀ k : Fin k0_t1_loop.trips, k0_off2 k 0#32 0#32 = ![0, 3 * k.val, 0, 0] := by decide +kernel
theorem off1_0_1 : ∀ k : Fin k0_t1_loop.trips, k0_off1 k 0#32 1#32 = ![3 * k.val + 1, 0, 0] := by decide +kernel
theorem off3_0_1 : ∀ k : Fin k0_t1_loop.trips, k0_off3 k 0#32 1#32 = ![3 * k.val + 1, 0, 0] := by decide +kernel
theorem off2_0_1 : ∀ k : Fin k0_t1_loop.trips, k0_off2 k 0#32 1#32 = ![0, 3 * k.val + 1, 0, 0] := by decide +kernel
theorem off1_0_2 : ∀ k : Fin k0_t1_loop.trips, k0_off1 k 0#32 2#32 = ![3 * k.val + 2, 0, 0] := by decide +kernel
theorem off3_0_2 : ∀ k : Fin k0_t1_loop.trips, k0_off3 k 0#32 2#32 = ![3 * k.val + 2, 0, 0] := by decide +kernel
theorem off2_0_2 : ∀ k : Fin k0_t1_loop.trips, k0_off2 k 0#32 2#32 = ![0, 3 * k.val + 2, 0, 0] := by decide +kernel
theorem off1_11_0 : ∀ k : Fin k0_t1_loop.trips, k0_off1 k 11#32 0#32 = ![11 + 3 * k.val, 0, 0] := by decide +kernel
theorem off3_11_0 : ∀ k : Fin k0_t1_loop.trips, k0_off3 k 11#32 0#32 = ![11 + 3 * k.val, 0, 0] := by decide +kernel
theorem off2_11_0 : ∀ k : Fin k0_t1_loop.trips, k0_off2 k 11#32 0#32 = ![0, 11 + 3 * k.val, 0, 0] := by decide +kernel
theorem off1_11_1 : ∀ k : Fin k0_t1_loop.trips, k0_off1 k 11#32 1#32 = ![11 + (3 * k.val + 1), 0, 0] := by decide +kernel
theorem off3_11_1 : ∀ k : Fin k0_t1_loop.trips, k0_off3 k 11#32 1#32 = ![11 + (3 * k.val + 1), 0, 0] := by decide +kernel
theorem off2_11_1 : ∀ k : Fin k0_t1_loop.trips, k0_off2 k 11#32 1#32 = ![0, 11 + (3 * k.val + 1), 0, 0] := by decide +kernel
theorem off1_11_2 : ∀ k : Fin k0_t1_loop.trips, k0_off1 k 11#32 2#32 = ![11 + (3 * k.val + 2), 0, 0] := by decide +kernel
theorem off3_11_2 : ∀ k : Fin k0_t1_loop.trips, k0_off3 k 11#32 2#32 = ![11 + (3 * k.val + 2), 0, 0] := by decide +kernel
theorem off2_11_2 : ∀ k : Fin k0_t1_loop.trips, k0_off2 k 11#32 2#32 = ![0, 11 + (3 * k.val + 2), 0, 0] := by decide +kernel
theorem off4_0 : ∀ k : Fin k0_t1_loop.trips, k0_off4 k 0#32 = ![3 * k.val, 0, 0] := by decide +kernel
theorem off4_1 : ∀ k : Fin k0_t1_loop.trips, k0_off4 k 1#32 = ![3 * k.val + 1, 0, 0] := by decide +kernel
theorem off4_2 : ∀ k : Fin k0_t1_loop.trips, k0_off4 k 2#32 = ![3 * k.val + 2, 0, 0] := by decide +kernel

theorem trips_lt (k : Fin k0_t1_loop.trips) : k.val < 3 := Nat.lt_of_lt_of_le k.isLt k0_t1_abs.2.1

/-! Stores of one chunk's eight rows, read back; the stored rows themselves. -/

theorem read_eight (m : Memref sig .tc .vmem S22x8x256 .f32) (f : BufTy.Contents (Elt F) m.view.ty) (off : Fin 3 → ℕ)
    (inb : ∀ a, off a + S1x8x256.size a ≤ S22x8x256.size a) (w : Vec F S1x8x256 .f32) (L : List (View.Piece (Elt F) S22x8x256 .f32))
    (j : Fin 22) (h : off = ![j.val, 0, 0]) (n : Fin 22) (a : Fin 8) (b : Fin 256) :
    m.view.read (Elt F) (m.view.writes (Elt F) f (⟨Rect.unit (s := S22x8x256) off S1x8x256.size inb, w⟩ :: L)) (ix3 n a b)
      = if n = j then w (ix3 0 a b) else m.view.read (Elt F) (m.view.writes (Elt F) f L) (ix3 n a b) := by
  split_ifs with e
  · subst e
    refine View.read_writes_cons_unit_of_mem m.view _ inb w L _ (ix3 0 a b) h fun x => ?_
    fin_cases x
    · show n.val = n.val + 0; omega
    · show a.val = 0 + a.val; omega
    · show b.val = 0 + b.val; omega
  · have e' : n.val ≠ j.val := fun q => e (Fin.ext q)
    refine View.read_writes_cons_unit_of_not_mem m.view _ inb w L _ h (0 : Fin 3) ?_
    show n.val < j.val ∨ j.val + 1 ≤ n.val
    omega

theorem read_tail (m : Memref sig .tc .vmem S1x22x8x256 .f32) (f : BufTy.Contents (Elt F) m.view.ty) (off : Fin 4 → ℕ)
    (inb : ∀ a, off a + S1x1x8x256.size a ≤ S1x22x8x256.size a) (w : Vec F S1x1x8x256 .f32) (L : List (View.Piece (Elt F) S1x22x8x256 .f32))
    (j : Fin 22) (h : off = ![0, j.val, 0, 0]) (n : Fin 22) (a : Fin 8) (b : Fin 256) :
    m.view.read (Elt F) (m.view.writes (Elt F) f (⟨Rect.unit (s := S1x22x8x256) off S1x1x8x256.size inb, w⟩ :: L)) (ix4 0 n a b)
      = if n = j then w (ix4 0 0 a b) else m.view.read (Elt F) (m.view.writes (Elt F) f L) (ix4 0 n a b) := by
  split_ifs with e
  · subst e
    refine View.read_writes_cons_unit_of_mem m.view _ inb w L _ (ix4 0 0 a b) h fun x => ?_
    fin_cases x
    · rfl
    · show n.val = n.val + 0; omega
    · show a.val = 0 + a.val; omega
    · show b.val = 0 + b.val; omega
  · have e' : n.val ≠ j.val := fun q => e (Fin.ext q)
    refine View.read_writes_cons_unit_of_not_mem m.view _ inb w L _ h (1 : Fin 4) ?_
    show n.val < j.val ∨ j.val + 1 ≤ n.val
    omega

theorem rows_eight (n : Fin 22) (a : Fin 8) (b : Fin 256) :
    k0_pay10 (up hn w6 n) (ix3 0 a b) = last8 hn w6 n (ix2 a b) := by
  unfold k0_pay10 last8 k0_pay7 up
  pointwise

theorem rows_tail (n : Fin 22) (a : Fin 8) (b : Fin 256) :
    k0_pay8 (last8 hn w6 n) (ix4 0 0 a b) = last8 hn w6 n (ix2 a b) := by
  unfold k0_pay8
  pointwise

end Cert.Kernel2Ideal.Ffn
end
-- ==== Proof.FfnTrip.lean ====
/-
  One group of chunks: what it leaves in the sum, in the carried rows and in the convolution rows handed out.
-/
module
public import proofs.«01_k».proof.Proof.FfnSpec
public import proofs.«01_k».proof.Proof.Gen.Kernel2Ideal.Loops

@[expose] public section

set_option maxRecDepth 16384

noncomputable section

namespace Cert.Kernel2Ideal.Ffn

open Idealize.ShloMosaic Idealize.ShloMosaic.TcCoe Idealize.ShloMosaic.Tactic Cert.Kernel2Ideal Cert.Kernel2Ideal.Gen
open Idealize.SL Idealize.SL.RA Idealize.SL.BI

variable {F : FTy → Type} [FloatOps F]

variable (𝒱 : Variants) (c : Dev nD) (bd : Option 𝒱.V) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S22x1024x256 .bf16) (harg6 : arg6.IsWhole) (arg7 : Memref sig .tc .vmem S22x8x256 .f32) (harg7 : arg7.IsWhole) (arg8 : Memref sig .tc .vmem S11x256x1024 .bf16) (harg8 : arg8.IsWhole) (arg9 : Memref sig .tc .vmem S512x1024 .f32) (harg9 : arg9.IsWhole) (arg10 : Memref sig .tc .vmem S1x22x8x256 .f32) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S3x520x256 .f32) (harg14 : arg14.IsWhole) (arg15 : Memref sig .tc .vmem S3x520x256 .f32) (harg15 : arg15.IsWhole) (arg16 : Memref sig .tc .vmem S22x8x256 .f32) (harg16 : arg16.IsWhole)
  (arg0 : BitVec 32) (cst_18 : F .f32) (v49 : BitVec 1) (X_arg6 : BufTy.Contents (Elt F) arg6.view.ty) (X_arg7 : BufTy.Contents (Elt F) arg7.view.ty) (X_arg8 : BufTy.Contents (Elt F) arg8.view.ty) (X_arg11 : BufTy.Contents (Elt F) arg11.view.ty)
  (k : Fin k0_t1_loop.trips) (C : Vec F S22x8x256 .f32)
  (f10 : BufTy.Contents (Elt F) arg10.view.ty) (f13 : BufTy.Contents (Elt F) arg13.view.ty) (f14 : BufTy.Contents (Elt F) arg14.view.ty)
  (f15 : BufTy.Contents (Elt F) arg15.view.ty) (f16 : BufTy.Contents (Elt F) arg16.view.ty)

/-- Chunk `s` of group `k`, of the first half and of the second. -/
def lo (k : Fin k0_t1_loop.trips) (s : Fin 3) : Fin 22 := ⟨3 * k.val + s.val, by have := trips_lt k; omega⟩
def hi (k : Fin k0_t1_loop.trips) (s : Fin 3) : Fin 22 := ⟨11 + (3 * k.val + s.val), by have := trips_lt k; omega⟩
def mid (k : Fin k0_t1_loop.trips) (s : Fin 3) : Fin 11 := ⟨3 * k.val + s.val, by have := trips_lt k; omega⟩

theorem trip_acc (hC : ∀ s, eightW (arg16.view.read (Elt F) f16) (lo k s) = eightW C (lo k s)) (hD : ∀ s, eightW (arg16.view.read (Elt F) f16) (hi k s) = eightW C (hi k s))
    (hA : arg13.view.read (Elt F) f13 = acc (arg11.view.read (Elt F) X_arg11) (arg6.view.read (Elt F) X_arg6) (arg7.view.read (Elt F) X_arg7) (arg8.view.read (Elt F) X_arg8) C v49 k.val) :
    arg13.view.read (Elt F) (arg13.view.writes (Elt F) f13 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 k f10 f13 f14 f15 f16).2.1) = acc (arg11.view.read (Elt F) X_arg11) (arg6.view.read (Elt F) X_arg6) (arg7.view.read (Elt F) X_arg7) (arg8.view.read (Elt F) X_arg8) C v49 (k.val + 1) := by
  unfold tripL_k0_t1 trip_k0_t1
  dsimp only
  rw [View.read_writes_full]
  simp (config := { proj := false, ground := false }) only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.v298, trip_k0_t1.sl.v300, trip_k0_t1.sl.v328, trip_k0_t1.sl.v340, trip_k0_t1.sl.v342, trip_k0_t1.sl.v370, trip_k0_t1.sl.v382, trip_k0_t1.sl.v384, trip_k0_t1.sl.v427, trip_k0_t1.sl.v439, trip_k0_t1.sl.v441, trip_k0_t1.sl.v469, trip_k0_t1.sl.v481, trip_k0_t1.sl.v483, trip_k0_t1.sl.v511, trip_k0_t1.sl.v523, trip_k0_t1.sl.v525, trip_k0_t1.sl.HW_arg14_2, trip_k0_t1.sl.HW_arg14_4, trip_k0_t1.sl.HW_arg14_6, trip_k0_t1.sl.HW_arg15_2, trip_k0_t1.sl.HW_arg15_4, trip_k0_t1.sl.HW_arg15_6]
  simp (config := { proj := false }) only [load_shift_0_7, load_shift_0_6, load_shift_1_7, load_shift_1_6, load_shift_2_7, load_shift_2_6, load_up _ _ _ _ (lo k 0) (off1_0_0 k), load_eight _ _ _ _ (lo k 0) (off3_0_0 k), load_up _ _ _ _ (lo k 1) (off1_0_1 k), load_eight _ _ _ _ (lo k 1) (off3_0_1 k), load_up _ _ _ _ (lo k 2) (off1_0_2 k), load_eight _ _ _ _ (lo k 2) (off3_0_2 k), load_up _ _ _ _ (hi k 0) (off1_11_0 k), load_eight _ _ _ _ (hi k 0) (off3_11_0 k), load_up _ _ _ _ (hi k 1) (off1_11_1 k), load_eight _ _ _ _ (hi k 1) (off3_11_1 k), load_up _ _ _ _ (hi k 2) (off1_11_2 k), load_eight _ _ _ _ (hi k 2) (off3_11_2 k), load_down _ _ _ _ (mid k 0) (off4_0 k), load_down _ _ _ _ (mid k 1) (off4_1 k), load_down _ _ _ _ (mid k 2) (off4_2 k), View.readAt_full, hC, hD, hA]
  rw [acc, dif_pos (trips_lt k), ← hA]
  refine (congrArg (k0_pay59 _ _ _ _) (View.readAt_full arg13.view f13 _)).trans ?_
  refine (shapeCast_self _ _).trans ?_
  refine congrArg₂ _ rfl (congrArg₂ _ (congrArg₂ _ rfl rfl) rfl)

/-- A chunk of group `k`. -/
abbrev mem (k : Fin k0_t1_loop.trips) (n : Fin 22) : Prop :=
  (3 * k.val ≤ n.val ∧ n.val < 3 * k.val + 3) ∨ (11 + 3 * k.val ≤ n.val ∧ n.val < 11 + 3 * k.val + 3)

theorem trip_carry (n : Fin 22) (a : Fin 8) (b : Fin 256) :
    arg16.view.read (Elt F) (arg16.view.writes (Elt F) f16 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 k f10 f13 f14 f15 f16).2.2.2.2) (ix3 n a b)
      = if mem k n then last8 (arg11.view.read (Elt F) X_arg11) (arg6.view.read (Elt F) X_arg6) n (ix2 a b) else arg16.view.read (Elt F) f16 (ix3 n a b) := by
  have hk := trips_lt k
  unfold tripL_k0_t1 trip_k0_t1
  dsimp only
  rw [read_eight _ _ _ _ _ _ (hi k 2) (off3_11_2 k), read_eight _ _ _ _ _ _ (hi k 1) (off3_11_1 k), read_eight _ _ _ _ _ _ (hi k 0) (off3_11_0 k),
    read_eight _ _ _ _ _ _ (lo k 2) (off3_0_2 k), read_eight _ _ _ _ _ _ (lo k 1) (off3_0_1 k), read_eight _ _ _ _ _ _ (lo k 0) (off3_0_0 k)]
  simp (config := { proj := false, ground := false }) only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.v298, trip_k0_t1.sl.v300, trip_k0_t1.sl.v328, trip_k0_t1.sl.v340, trip_k0_t1.sl.v342, trip_k0_t1.sl.v370, trip_k0_t1.sl.v382, trip_k0_t1.sl.v384, trip_k0_t1.sl.v427, trip_k0_t1.sl.v439, trip_k0_t1.sl.v441, trip_k0_t1.sl.v469, trip_k0_t1.sl.v481, trip_k0_t1.sl.v483, trip_k0_t1.sl.v511, trip_k0_t1.sl.v523, trip_k0_t1.sl.v525, trip_k0_t1.sl.HW_arg14_2, trip_k0_t1.sl.HW_arg14_4, trip_k0_t1.sl.HW_arg14_6, trip_k0_t1.sl.HW_arg15_2, trip_k0_t1.sl.HW_arg15_4, trip_k0_t1.sl.HW_arg15_6]
  simp (config := { proj := false }) only [load_up _ _ _ _ (lo k 0) (off1_0_0 k), load_up _ _ _ _ (lo k 1) (off1_0_1 k), load_up _ _ _ _ (lo k 2) (off1_0_2 k), load_up _ _ _ _ (hi k 0) (off1_11_0 k), load_up _ _ _ _ (hi k 1) (off1_11_1 k), load_up _ _ _ _ (hi k 2) (off1_11_2 k), View.readAt_full]
  have e : ∀ (j : Fin 22) (w : Vec F S1x8x256 .f32), w = k0_pay10 (up (arg11.view.read (Elt F) X_arg11) (arg6.view.read (Elt F) X_arg6) j) → n = j → w (ix3 0 a b) = last8 (arg11.view.read (Elt F) X_arg11) (arg6.view.read (Elt F) X_arg6) n (ix2 a b) := by
    intro j w hw hj; subst hj; rw [hw]; exact rows_eight _ _ _ _ _
  by_cases h5 : n = hi k 2
  · rw [if_pos h5, if_pos (by subst h5; right; exact ⟨by show _ ≤ 11 + (3 * k.val + 2); omega, by show 11 + (3 * k.val + 2) < _; omega⟩)]; exact e _ _ rfl h5
  by_cases h4 : n = hi k 1
  · rw [if_neg h5, if_pos h4, if_pos (by subst h4; right; exact ⟨by show _ ≤ 11 + (3 * k.val + 1); omega, by show 11 + (3 * k.val + 1) < _; omega⟩)]; exact e _ _ rfl h4
  by_cases h3 : n = hi k 0
  · rw [if_neg h5, if_neg h4, if_pos h3, if_pos (by subst h3; right; exact ⟨by show _ ≤ 11 + (3 * k.val + 0); omega, by show 11 + (3 * k.val + 0) < _; omega⟩)]; exact e _ _ rfl h3
  by_cases h2 : n = lo k 2
  · rw [if_neg h5, if_neg h4, if_neg h3, if_pos h2, if_pos (by subst h2; left; exact ⟨by show _ ≤ 3 * k.val + 2; omega, by show 3 * k.val + 2 < _; omega⟩)]; exact e _ _ rfl h2
  by_cases h1 : n = lo k 1
  · rw [if_neg h5, if_neg h4, if_neg h3, if_neg h2, if_pos h1, if_pos (by subst h1; left; exact ⟨by show _ ≤ 3 * k.val + 1; omega, by show 3 * k.val + 1 < _; omega⟩)]; exact e _ _ rfl h1
  by_cases h0 : n = lo k 0
  · rw [if_neg h5, if_neg h4, if_neg h3, if_neg h2, if_neg h1, if_pos h0, if_pos (by subst h0; left; exact ⟨by show _ ≤ 3 * k.val + 0; omega, by show 3 * k.val + 0 < _; omega⟩)]; exact e _ _ rfl h0
  rw [if_neg h5, if_neg h4, if_neg h3, if_neg h2, if_neg h1, if_neg h0, if_neg]
  · rfl
  · have g5 : n.val ≠ 11 + (3 * k.val + 2) := fun q => h5 (Fin.ext q)
    have g4 : n.val ≠ 11 + (3 * k.val + 1) := fun q => h4 (Fin.ext q)
    have g3 : n.val ≠ 11 + (3 * k.val + 0) := fun q => h3 (Fin.ext q)
    have g2 : n.val ≠ 3 * k.val + 2 := fun q => h2 (Fin.ext q)
    have g1 : n.val ≠ 3 * k.val + 1 := fun q => h1 (Fin.ext q)
    have g0 : n.val ≠ 3 * k.val + 0 := fun q => h0 (Fin.ext q)
    unfold mem; omega

theorem trip_tail (n : Fin 22) (a : Fin 8) (b : Fin 256) :
    arg10.view.read (Elt F) (arg10.view.writes (Elt F) f10 (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 k f10 f13 f14 f15 f16).1) (ix4 0 n a b)
      = if mem k n then last8 (arg11.view.read (Elt F) X_arg11) (arg6.view.read (Elt F) X_arg6) n (ix2 a b) else arg10.view.read (Elt F) f10 (ix4 0 n a b) := by
  have hk := trips_lt k
  unfold tripL_k0_t1 trip_k0_t1
  dsimp only
  rw [read_tail _ _ _ _ _ _ (hi k 2) (off2_11_2 k), read_tail _ _ _ _ _ _ (hi k 1) (off2_11_1 k), read_tail _ _ _ _ _ _ (hi k 0) (off2_11_0 k),
    read_tail _ _ _ _ _ _ (lo k 2) (off2_0_2 k), read_tail _ _ _ _ _ _ (lo k 1) (off2_0_1 k), read_tail _ _ _ _ _ _ (lo k 0) (off2_0_0 k)]
  simp (config := { proj := false, ground := false }) only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.v298, trip_k0_t1.sl.v300, trip_k0_t1.sl.v328, trip_k0_t1.sl.v340, trip_k0_t1.sl.v342, trip_k0_t1.sl.v370, trip_k0_t1.sl.v382, trip_k0_t1.sl.v384, trip_k0_t1.sl.v427, trip_k0_t1.sl.v439, trip_k0_t1.sl.v441, trip_k0_t1.sl.v469, trip_k0_t1.sl.v481, trip_k0_t1.sl.v483, trip_k0_t1.sl.v511, trip_k0_t1.sl.v523, trip_k0_t1.sl.v525, trip_k0_t1.sl.HW_arg14_2, trip_k0_t1.sl.HW_arg14_4, trip_k0_t1.sl.HW_arg14_6, trip_k0_t1.sl.HW_arg15_2, trip_k0_t1.sl.HW_arg15_4, trip_k0_t1.sl.HW_arg15_6]
  simp (config := { proj := false }) only [load_up _ _ _ _ (lo k 0) (off1_0_0 k), load_up _ _ _ _ (lo k 1) (off1_0_1 k), load_up _ _ _ _ (lo k 2) (off1_0_2 k), load_up _ _ _ _ (hi k 0) (off1_11_0 k), load_up _ _ _ _ (hi k 1) (off1_11_1 k), load_up _ _ _ _ (hi k 2) (off1_11_2 k), View.readAt_full]
  have e : ∀ (j : Fin 22) (w : Vec F S1x1x8x256 .f32), w = k0_pay8 (last8 (arg11.view.read (Elt F) X_arg11) (arg6.view.read (Elt F) X_arg6) j) → n = j → w (ix4 0 0 a b) = last8 (arg11.view.read (Elt F) X_arg11) (arg6.view.read (Elt F) X_arg6) n (ix2 a b) := by
    intro j w hw hj; subst hj; rw [hw]; exact rows_tail _ _ _ _ _
  by_cases h5 : n = hi k 2
  · rw [if_pos h5, if_pos (by subst h5; right; exact ⟨by show _ ≤ 11 + (3 * k.val + 2); omega, by show 11 + (3 * k.val + 2) < _; omega⟩)]; exact e _ _ rfl h5
  by_cases h4 : n = hi k 1
  · rw [if_neg h5, if_pos h4, if_pos (by subst h4; right; exact ⟨by show _ ≤ 11 + (3 * k.val + 1); omega, by show 11 + (3 * k.val + 1) < _; omega⟩)]; exact e _ _ rfl h4
  by_cases h3 : n = hi k 0
  · rw [if_neg h5, if_neg h4, if_pos h3, if_pos (by subst h3; right; exact ⟨by show _ ≤ 11 + (3 * k.val + 0); omega, by show 11 + (3 * k.val + 0) < _; omega⟩)]; exact e _ _ rfl h3
  by_cases h2 : n = lo k 2
  · rw [if_neg h5, if_neg h4, if_neg h3, if_pos h2, if_pos (by subst h2; left; exact ⟨by show _ ≤ 3 * k.val + 2; omega, by show 3 * k.val + 2 < _; omega⟩)]; exact e _ _ rfl h2
  by_cases h1 : n = lo k 1
  · rw [if_neg h5, if_neg h4, if_neg h3, if_neg h2, if_pos h1, if_pos (by subst h1; left; exact ⟨by show _ ≤ 3 * k.val + 1; omega, by show 3 * k.val + 1 < _; omega⟩)]; exact e _ _ rfl h1
  by_cases h0 : n = lo k 0
  · rw [if_neg h5, if_neg h4, if_neg h3, if_neg h2, if_neg h1, if_pos h0, if_pos (by subst h0; left; exact ⟨by show _ ≤ 3 * k.val + 0; omega, by show 3 * k.val + 0 < _; omega⟩)]; exact e _ _ rfl h0
  rw [if_neg h5, if_neg h4, if_neg h3, if_neg h2, if_neg h1, if_neg h0, if_neg]
  · rfl
  · have g5 : n.val ≠ 11 + (3 * k.val + 2) := fun q => h5 (Fin.ext q)
    have g4 : n.val ≠ 11 + (3 * k.val + 1) := fun q => h4 (Fin.ext q)
    have g3 : n.val ≠ 11 + (3 * k.val + 0) := fun q => h3 (Fin.ext q)
    have g2 : n.val ≠ 3 * k.val + 2 := fun q => h2 (Fin.ext q)
    have g1 : n.val ≠ 3 * k.val + 1 := fun q => h1 (Fin.ext q)
    have g0 : n.val ≠ 3 * k.val + 0 := fun q => h0 (Fin.ext q)
    unfold mem; omega

/-- A chunk of the first `k` groups. -/
abbrev done (k : ℕ) (n : Fin 22) : Prop := n.val < 3 * k ∨ (11 ≤ n.val ∧ n.val < 11 + 3 * k)

theorem loop_state
    (hA : arg13.view.read (Elt F) f13 = acc (arg11.view.read (Elt F) X_arg11) (arg6.view.read (Elt F) X_arg6) (arg7.view.read (Elt F) X_arg7) (arg8.view.read (Elt F) X_arg8) C v49 0)
    (hC : arg16.view.read (Elt F) f16 = C) : ∀ k ≤ k0_t1_loop.trips,
    (arg13.view.read (Elt F) (arg13.view.writes (Elt F) f13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 f10 f13 f14 f15 f16 k).2.1) = acc (arg11.view.read (Elt F) X_arg11) (arg6.view.read (Elt F) X_arg6) (arg7.view.read (Elt F) X_arg7) (arg8.view.read (Elt F) X_arg8) C v49 k)
    ∧ (∀ (n : Fin 22) (a : Fin 8) (b : Fin 256), arg16.view.read (Elt F) (arg16.view.writes (Elt F) f16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 f10 f13 f14 f15 f16 k).2.2.2.2) (ix3 n a b)
        = if done k n then last8 (arg11.view.read (Elt F) X_arg11) (arg6.view.read (Elt F) X_arg6) n (ix2 a b) else C (ix3 n a b))
    ∧ (∀ (n : Fin 22) (a : Fin 8) (b : Fin 256), done k n → arg10.view.read (Elt F) (arg10.view.writes (Elt F) f10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 f10 f13 f14 f15 f16 k).1) (ix4 0 n a b)
        = last8 (arg11.view.read (Elt F) X_arg11) (arg6.view.read (Elt F) X_arg6) n (ix2 a b)) := by
  intro k
  induction k with
  | zero =>
    intro _
    refine ⟨hA, fun n a b => ?_, fun n a b h => ?_⟩
    · rw [if_neg (by unfold done; omega), ← hC]; rfl
    · exfalso; unfold done at h; omega
  | succ k ih =>
    intro hk1
    obtain ⟨ih1, ih2, ih3⟩ := ih (by omega)
    have hk : k < 3 := trips_lt ⟨k, hk1⟩
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 f10 f13 f14 f15 f16 ⟨k, hk1⟩
    simp only at e
    have gC : ∀ n : Fin 22, ¬ done k n → eightW (arg16.view.read (Elt F) (arg16.view.writes (Elt F) f16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 f10 f13 f14 f15 f16 k).2.2.2.2)) n = eightW C n := by
      intro n hn
      funext y
      exact (ih2 n (y 1) (y 2)).trans (if_neg hn)
    have hlo : ∀ s, ¬ done k (lo ⟨k, hk1⟩ s) := fun s h => by
      have := s.isLt
      rcases h with h | h <;> simp only [lo] at h <;> omega
    have hhi : ∀ s, ¬ done k (hi ⟨k, hk1⟩ s) := fun s h => by
      have := s.isLt
      rcases h with h | h <;> simp only [hi] at h <;> omega
    rw [e]
    refine ⟨?_, fun n a b => ?_, fun n a b h => ?_⟩
    · dsimp only
      rw [View.writes_append]
      exact trip_acc 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 ⟨k, hk1⟩ C _ _ _ _ _ (fun s => gC _ (hlo s)) (fun s => gC _ (hhi s)) ih1
    · dsimp only
      rw [View.writes_append]
      refine (trip_carry 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 ⟨k, hk1⟩ _ _ _ _ _ n a b).trans ?_
      rw [ih2]
      unfold mem done
      dsimp only
      split_ifs <;> first | rfl | omega
    · dsimp only
      rw [View.writes_append]
      refine (trip_tail 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 ⟨k, hk1⟩ _ _ _ _ _ n a b).trans ?_
      split_ifs with g
      · rfl
      · refine ih3 n a b ?_
        unfold mem at g; unfold done at h ⊢
        dsimp only at g
        omega

end Cert.Kernel2Ideal.Ffn
end
-- ==== Proof.FfnRun.lean ====
/-
  One run of the body of the feed-forward call: from its inputs at their blocks and every other buffer at any
  contents, the stores it makes into each buffer that is handed on.
-/
module
public import proofs.«01_k».proof.Proof.Gen.Kernel2Ideal.Frame
public import proofs.«01_k».proof.Proof.Gen.Kernel2Ideal.Skeleton
public import proofs.«01_k».proof.Proof.Gen.Kernel2Ideal.Loops

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- What the loop over the groups of chunks leaves in the buffers it writes: its trips' stores over the contents it
    found; the normed rows it reads are as they were. -/
@[irreducible] def AfterLoop (𝒱 : Variants) (c : Dev nD) (bd : Option 𝒱.V) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S22x1024x256 .bf16) (harg6 : arg6.IsWhole) (arg7 : Memref sig .tc .vmem S22x8x256 .f32) (harg7 : arg7.IsWhole) (arg8 : Memref sig .tc .vmem S11x256x1024 .bf16) (harg8 : arg8.IsWhole) (arg9 : Memref sig .tc .vmem S512x1024 .f32) (harg9 : arg9.IsWhole) (arg10 : Memref sig .tc .vmem S1x22x8x256 .f32) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S3x520x256 .f32) (harg14 : arg14.IsWhole) (arg15 : Memref sig .tc .vmem S3x520x256 .f32) (harg15 : arg15.IsWhole) (arg16 : Memref sig .tc .vmem S22x8x256 .f32) (harg16 : arg16.IsWhole) (arg0 : BitVec 32) (cst_18 : F .f32) (v49 : BitVec 1) (X_arg6 : BufTy.Contents (Elt F) arg6.view.ty) (X_arg7 : BufTy.Contents (Elt F) arg7.view.ty) (X_arg8 : BufTy.Contents (Elt F) arg8.view.ty) (X_arg11 : BufTy.Contents (Elt F) arg11.view.ty) (G_arg10 : BufTy.Contents (Elt F) arg10.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (g10 : BufTy.Contents (Elt F) arg10.view.ty) (g11 : BufTy.Contents (Elt F) arg11.view.ty) (g13 : BufTy.Contents (Elt F) arg13.view.ty) (g14 : BufTy.Contents (Elt F) arg14.view.ty) (g15 : BufTy.Contents (Elt F) arg15.view.ty) (g16 : BufTy.Contents (Elt F) arg16.view.ty) : Prop :=
  g11 = X_arg11 ∧ g10 = arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 G_arg10 G_arg13 G_arg14 G_arg15 G_arg16 k0_t1_loop.trips).1 ∧ g13 = arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 G_arg10 G_arg13 G_arg14 G_arg15 G_arg16 k0_t1_loop.trips).2.1 ∧ g14 = arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 G_arg10 G_arg13 G_arg14 G_arg15 G_arg16 k0_t1_loop.trips).2.2.1 ∧ g15 = arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 G_arg10 G_arg13 G_arg14 G_arg15 G_arg16 k0_t1_loop.trips).2.2.2.1 ∧ g16 = arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 G_arg10 G_arg13 G_arg14 G_arg15 G_arg16 k0_t1_loop.trips).2.2.2.2

/-- The loop hands its buffers on under fresh names, tied to what it found by `AfterLoop`. -/
instance exitLoop (𝒱 : Variants) (c : Dev nD) (bd : Option 𝒱.V) (E : Set ℕ) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S22x1024x256 .bf16) (harg6 : arg6.IsWhole) (arg7 : Memref sig .tc .vmem S22x8x256 .f32) (harg7 : arg7.IsWhole) (arg8 : Memref sig .tc .vmem S11x256x1024 .bf16) (harg8 : arg8.IsWhole) (arg9 : Memref sig .tc .vmem S512x1024 .f32) (harg9 : arg9.IsWhole) (arg10 : Memref sig .tc .vmem S1x22x8x256 .f32) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S3x520x256 .f32) (harg14 : arg14.IsWhole) (arg15 : Memref sig .tc .vmem S3x520x256 .f32) (harg15 : arg15.IsWhole) (arg16 : Memref sig .tc .vmem S22x8x256 .f32) (harg16 : arg16.IsWhole) (arg0 : BitVec 32) (cst_18 : F .f32) (v49 : BitVec 1) (X_arg6 : BufTy.Contents (Elt F) arg6.view.ty) (X_arg7 : BufTy.Contents (Elt F) arg7.view.ty) (X_arg8 : BufTy.Contents (Elt F) arg8.view.ty) (X_arg11 : BufTy.Contents (Elt F) arg11.view.ty) (G_arg10 : BufTy.Contents (Elt F) arg10.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) :
    LoopExit (loopInv_k0_t1 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 G_arg10 G_arg13 G_arg14 G_arg15 G_arg16) where
  post _ := iprop((arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ g10 g11 g13 g14 g15 g16, (arg10.view.loc (c : Thread nD τ) ↦[arg10.view.set]{fullShare} g10) ∗ (arg11.view.loc (c : Thread nD τ) ↦[arg11.view.set]{fullShare} g11) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ ⌜AfterLoop (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 G_arg10 G_arg13 G_arg14 G_arg15 G_arg16 g10 g11 g13 g14 g15 g16⌝))
  exit acc := by
    show inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 cst_18 v49 X_arg6 X_arg7 X_arg8 X_arg11 G_arg10 G_arg13 G_arg14 G_arg15 G_arg16 _ acc ⊢ _
    unfold inv_k0_t1
    iintro ⟨H6, H7, H8, H11, ⟨%f10, H10, %h10⟩, ⟨%f13, H13, %h13⟩, ⟨%f14, H14, %h14⟩, ⟨%f15, H15, %h15⟩, ⟨%f16, H16, %h16⟩⟩
    isplitl [H6]; · iexact H6
    isplitl [H7]; · iexact H7
    isplitl [H8]; · iexact H8
    iexists f10, X_arg11, f13, f14, f15, f16
    isplitl [H10]; · iexact H10
    isplitl [H11]; · iexact H11
    isplitl [H13]; · iexact H13
    isplitl [H14]; · iexact H14
    isplitl [H15]; · iexact H15
    isplitl [H16]; · iexact H16
    ipureintro
    unfold AfterLoop
    exact ⟨rfl, h10, h13, h14, h15, h16⟩

set_option maxHeartbeats 16000000 in
/-- The stores of one run of the body into the buffers it hands on, as functions of what the loop left, with the proof
    that the body makes them. -/
@[irreducible] def run (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S22x1024x256 .bf16) (harg6 : arg6.IsWhole) (arg7 : Memref sig .tc .vmem S22x8x256 .f32) (harg7 : arg7.IsWhole) (arg8 : Memref sig .tc .vmem S11x256x1024 .bf16) (harg8 : arg8.IsWhole) (arg9 : Memref sig .tc .vmem S512x1024 .f32) (harg9 : arg9.IsWhole) (arg10 : Memref sig .tc .vmem S1x22x8x256 .f32) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S3x520x256 .f32) (harg14 : arg14.IsWhole) (arg15 : Memref sig .tc .vmem S3x520x256 .f32) (harg15 : arg15.IsWhole) (arg16 : Memref sig .tc .vmem S22x8x256 .f32) (harg16 : arg16.IsWhole)
    (x1 : Vec F S512x1024 .f32) (x2 : Vec F S512x512 .bf16) (x3 : Vec F S512x512 .bf16) (x4 : Vec F S1024x1024 .bf16) (x5 : Vec F S1x1024 .f32) (x6 : Vec F S22x1024x256 .bf16) (x7 : Vec F S22x8x256 .f32) (x8 : Vec F S11x256x1024 .bf16)
    (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    Σ' (w0 : BitVec 32) (cst : F .f32) (v49 : BitVec 1) (X11 : BufTy.Contents (Elt F) arg11.view.ty) (G10 : BufTy.Contents (Elt F) arg10.view.ty) (G13 : BufTy.Contents (Elt F) arg13.view.ty) (G14 : BufTy.Contents (Elt F) arg14.view.ty) (G15 : BufTy.Contents (Elt F) arg15.view.ty) (G16 : BufTy.Contents (Elt F) arg16.view.ty) (L9 : (BufTy.Contents (Elt F) arg10.view.ty → BufTy.Contents (Elt F) arg11.view.ty → BufTy.Contents (Elt F) arg13.view.ty → BufTy.Contents (Elt F) arg14.view.ty → BufTy.Contents (Elt F) arg15.view.ty → BufTy.Contents (Elt F) arg16.view.ty → List (View.Piece (Elt F) S512x1024 .f32))) (L10 : (BufTy.Contents (Elt F) arg10.view.ty → BufTy.Contents (Elt F) arg11.view.ty → BufTy.Contents (Elt F) arg13.view.ty → BufTy.Contents (Elt F) arg14.view.ty → BufTy.Contents (Elt F) arg15.view.ty → BufTy.Contents (Elt F) arg16.view.ty → List (View.Piece (Elt F) S1x22x8x256 .f32))), { L16 : (BufTy.Contents (Elt F) arg10.view.ty → BufTy.Contents (Elt F) arg11.view.ty → BufTy.Contents (Elt F) arg13.view.ty → BufTy.Contents (Elt F) arg14.view.ty → BufTy.Contents (Elt F) arg15.view.ty → BufTy.Contents (Elt F) arg16.view.ty → List (View.Piece (Elt F) S22x8x256 .f32)) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)
            ∗ ((∃ g10 g11 g13 g14 g15 g16, ⌜AfterLoop (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 w0 cst v49 (harg6.unread x6) (harg7.unread x7) (harg8.unread x8) X11 G10 G13 G14 G15 G16 g10 g11 g13 g14 g15 g16⌝ ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) f9 (L9 g10 g11 g13 g14 g15 g16)) ∗ (arg10.view.loc (c : Thread nD τ) ↦[arg10.view.set]{fullShare} arg10.view.writes (Elt F) g10 (L10 g10 g11 g13 g14 g15 g16)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (arg16.view.loc (c : Thread nD τ) ↦[arg16.view.set]{fullShare} arg16.view.writes (Elt F) g16 (L16 g10 g11 g13 g14 g15 g16))) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, ?_, ?_, ?_, fun E K => ?run⟩
  case run =>
    simp only [cc0_ffn_eq_skeleton]; unfold cc0_ffn_skel
    simp only [k0_part10_eq_skeleton, k0_part11_eq_skeleton, k0_part12_eq_skeleton, k0_part13_eq_skeleton, k0_part14_eq_skeleton, k0_part15_eq_skeleton, k0_part16_eq_skeleton]
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, H9, H10, H11, H12, H13, H14, H15, H16, Hk⟩
    obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8
    sl_exec
    sl_step
    iapply Hk
    iexists g10L0, g11L1, g13L2, g14L3, g15L4, g16L5
    isplitr; · ipureintro; exact hL9
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [HL0]
    · iexists _; isplitr; · ipureintro; exact harg6.read_unread _
      iexact HL0
    isplitl [HL1]
    · iexists _; isplitr; · ipureintro; exact harg7.read_unread _
      iexact HL1
    isplitl [HL2]
    · iexists _; isplitr; · ipureintro; exact harg8.read_unread _
      iexact HL2
    isplitl [H9]
    · iexact H9
    isplitl [HL3]
    · iexact HL3
    isplitl [HL4]
    · iexists _; iexact HL4
    isplitl [H12]
    · iexists _; iexact H12
    isplitl [HL5]
    · iexists _; iexact HL5
    isplitl [HL6]
    · iexists _; iexact HL6
    isplitl [HL7]
    · iexists _; iexact HL7
    iexact HL8

end Cert.Kernel2Ideal.Ffn

end
-- ==== Proof.FfnVals.lean ====
/-
  What one run of the feed-forward body leaves in its two outputs and in the carried rows, from the operands' blocks and
  the rows carried over.
-/
module
public import proofs.«01_k».proof.Proof.FfnTrip
public import proofs.«01_k».proof.Proof.FfnRun

@[expose] public section

set_option maxRecDepth 16384

noncomputable section

namespace Cert.Kernel2Ideal.Ffn

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two halves of the output projection's weights. -/
def topW (w : Vec F S1024x1024 .bf16) : Vec F S512x1024 .bf16 := fun y => w (ix2 ⟨(y 0).val, by have : (y 0).val < 512 := (y 0).isLt; omega⟩ (y 1))
def botW (w : Vec F S1024x1024 .bf16) : Vec F S512x1024 .bf16 := fun y => w (ix2 ⟨512 + (y 0).val, by have : (y 0).val < 512 := (y 0).isLt; omega⟩ (y 1))

theorem load_top (m : Memref sig .tc .vmem S1024x1024 .bf16) (X : BufTy.Contents (Elt F) m.view.ty)
    (inb : ∀ a, (![0, 0] : Fin 2 → ℕ) a + S512x1024.size a ≤ S1024x1024.size a) :
    View.readAt (Elt F) m.view (Rect.unit (s := S1024x1024) ![0, 0] S512x1024.size inb).toLoadRect X = topW (m.view.read (Elt F) X) := by
  funext y
  rw [View.readAt_eq_ld]
  refine View.ld_unit_apply_of _ _ _ _ _ _ fun a => ?_
  fin_cases a
  · show (y 0).val = 0 + (y 0).val; omega
  · show (y 1).val = 0 + (y 1).val; omega

theorem load_bot (m : Memref sig .tc .vmem S1024x1024 .bf16) (X : BufTy.Contents (Elt F) m.view.ty)
    (inb : ∀ a, (![512, 0] : Fin 2 → ℕ) a + S512x1024.size a ≤ S1024x1024.size a) :
    View.readAt (Elt F) m.view (Rect.unit (s := S1024x1024) ![512, 0] S512x1024.size inb).toLoadRect X = botW (m.view.read (Elt F) X) := by
  funext y
  rw [View.readAt_eq_ld]
  refine View.ld_unit_apply_of _ _ _ _ _ _ fun a => ?_
  fin_cases a
  · rfl
  · show (y 1).val = 0 + (y 1).val; omega

/-- The tile's rows after the output projection, and normed. -/
def base (x1 : Vec F S512x1024 .f32) (x2 x3 : Vec F S512x512 .bf16) (x4 : Vec F S1024x1024 .bf16) : FVec F S512x1024 .f32 :=
  k0_pay56 x1 x2 (topW x4) x3 (botW x4)
def normed (x1 : Vec F S512x1024 .f32) (x2 x3 : Vec F S512x512 .bf16) (x4 : Vec F S1024x1024 .bf16) (x5 : Vec F S1x1024 .f32) : FVec F S512x1024 .bf16 :=
  k0_pay57 x1 x2 (topW x4) x3 (botW x4) x5

/-- Whether the tile is the first of its sequence. -/
abbrev first (i : grid0.Coords) : BitVec 1 := run.sl.v49 i

/-- The tile's output rows. -/
def outY (i : grid0.Coords) (x1 : Vec F S512x1024 .f32) (x2 x3 : Vec F S512x512 .bf16) (x4 : Vec F S1024x1024 .bf16) (x5 : Vec F S1x1024 .f32)
    (x6 : Vec F S22x1024x256 .bf16) (x7 : Vec F S22x8x256 .f32) (x8 : Vec F S11x256x1024 .bf16) (C : Vec F S22x8x256 .f32) : FVec F S512x1024 .f32 :=
  k0_pay2 (base x1 x2 x3 x4) (total (normed x1 x2 x3 x4 x5) x6 x7 x8 C (first i))

/-- The rows carried to the next tile. -/
def outC (x1 : Vec F S512x1024 .f32) (x2 x3 : Vec F S512x512 .bf16) (x4 : Vec F S1024x1024 .bf16) (x5 : Vec F S1x1024 .f32)
    (x6 : Vec F S22x1024x256 .bf16) : Vec F S22x8x256 .f32 := fun y => last8 (normed x1 x2 x3 x4 x5) x6 (y 0) (ix2 (y 1) (y 2))

/-- The rows handed out. -/
def outT (x1 : Vec F S512x1024 .f32) (x2 x3 : Vec F S512x512 .bf16) (x4 : Vec F S1024x1024 .bf16) (x5 : Vec F S1x1024 .f32)
    (x6 : Vec F S22x1024x256 .bf16) : Vec F S1x22x8x256 .f32 := fun y => last8 (normed x1 x2 x3 x4 x5) x6 (y 1) (ix2 (y 2) (y 3))

theorem trips_eq : k0_t1_loop.trips = 3 := by decide +kernel

theorem run_vals (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S22x1024x256 .bf16) (harg6 : arg6.IsWhole) (arg7 : Memref sig .tc .vmem S22x8x256 .f32) (harg7 : arg7.IsWhole) (arg8 : Memref sig .tc .vmem S11x256x1024 .bf16) (harg8 : arg8.IsWhole) (arg9 : Memref sig .tc .vmem S512x1024 .f32) (harg9 : arg9.IsWhole) (arg10 : Memref sig .tc .vmem S1x22x8x256 .f32) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S3x520x256 .f32) (harg14 : arg14.IsWhole) (arg15 : Memref sig .tc .vmem S3x520x256 .f32) (harg15 : arg15.IsWhole) (arg16 : Memref sig .tc .vmem S22x8x256 .f32) (harg16 : arg16.IsWhole)
    (x1 : Vec F S512x1024 .f32) (x2 : Vec F S512x512 .bf16) (x3 : Vec F S512x512 .bf16) (x4 : Vec F S1024x1024 .bf16) (x5 : Vec F S1x1024 .f32) (x6 : Vec F S22x1024x256 .bf16) (x7 : Vec F S22x8x256 .f32) (x8 : Vec F S11x256x1024 .bf16)
    (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
   (g10 : BufTy.Contents (Elt F) arg10.view.ty) (g11 : BufTy.Contents (Elt F) arg11.view.ty) (g13 : BufTy.Contents (Elt F) arg13.view.ty) (g14 : BufTy.Contents (Elt F) arg14.view.ty) (g15 : BufTy.Contents (Elt F) arg15.view.ty) (g16 : BufTy.Contents (Elt F) arg16.view.ty) (C : Vec F S22x8x256 .f32)
    (hC : arg16.view.read (Elt F) f16 = C) (h : AfterLoop (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16).1 (run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16).2.1 (run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16).2.2.1 (harg6.unread x6) (harg7.unread x7) (harg8.unread x8) (run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16).2.2.2.1 (run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16).2.2.2.2.1 (run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16).2.2.2.2.2.1 (run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16).2.2.2.2.2.2.1 (run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16).2.2.2.2.2.2.2.1 (run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16).2.2.2.2.2.2.2.2.1 g10 g11 g13 g14 g15 g16) :
    arg9.view.read (Elt F) (arg9.view.writes (Elt F) f9 ((run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16).2.2.2.2.2.2.2.2.2.1 g10 g11 g13 g14 g15 g16)) = outY i x1 x2 x3 x4 x5 x6 x7 x8 C
    ∧ arg10.view.read (Elt F) (arg10.view.writes (Elt F) g10 ((run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16).2.2.2.2.2.2.2.2.2.2.1 g10 g11 g13 g14 g15 g16)) = outT x1 x2 x3 x4 x5 x6
    ∧ arg16.view.read (Elt F) (arg16.view.writes (Elt F) g16 ((run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16).2.2.2.2.2.2.2.2.2.2.2.1 g10 g11 g13 g14 g15 g16)) = outC x1 x2 x3 x4 x5 x6 := by
  unfold run at h ⊢
  dsimp only at h ⊢
  unfold AfterLoop at h
  obtain ⟨h11, h10, h13, h14, h15, h16⟩ := h
  have e11 : arg11.view.read (Elt F) (arg11.view.writes (Elt F) arg11.view.junk (run.sl.H11_1 c arg1 harg1 arg2 harg2 arg3 harg3 arg4 harg4 arg5 harg5 x1 x2 x3 x4 x5)) = normed x1 x2 x3 x4 x5 := by
    unfold run.sl.H11_1
    rw [View.read_writes_full]
    simp (config := { proj := false }) only [View.readAt_full, load_top, load_bot, Memref.IsWhole.read_unread]
    rfl
  have e12 : run.sl.v249 c arg1 harg1 arg2 harg2 arg3 harg3 arg4 harg4 arg12 x1 x2 x3 x4 = base x1 x2 x3 x4 := by
    unfold run.sl.v249 run.sl.H12_1
    refine (View.readCov_full arg12.view _ _ _ _).trans ?_
    simp (config := { proj := false }) only [View.readAt_full, load_top, load_bot, Memref.IsWhole.read_unread]
    rfl
  have st := loop_state (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) run.sl.cst_18 (run.sl.v49 i) (harg6.unread x6) (harg7.unread x7) (harg8.unread x8)
    (arg11.view.writes (Elt F) arg11.view.junk (run.sl.H11_1 c arg1 harg1 arg2 harg2 arg3 harg3 arg4 harg4 arg5 harg5 x1 x2 x3 x4 x5)) C f10
    (arg13.view.writes (Elt F) arg13.view.junk run.sl.H13_1) f14 f15 f16 (by unfold run.sl.H13_1; rw [View.read_writes_full]; rfl) hC _ le_rfl
  rw [← h13, ← h16, ← h10, e11] at st
  rw [← h11] at e11
  simp (config := { proj := false }) only [Memref.IsWhole.read_unread] at st
  obtain ⟨s13, s16, s10⟩ := st
  rw [trips_eq] at s13 s16 s10
  have q16 : ∀ n : Fin 22, ¬ done 3 n → eightW (arg16.view.read (Elt F) g16) n = eightW C n := fun n hn => funext fun y => (s16 n (y 1) (y 2)).trans (if_neg hn)
  have q9 := q16 9 (by unfold done; decide)
  have q10 := q16 10 (by unfold done; decide)
  have q20 := q16 20 (by unfold done; decide)
  have q21 := q16 21 (by unfold done; decide)
  clear h10 h13 h14 h15 h16 h11
  refine ⟨?_, ?_, ?_⟩
  · rw [View.read_writes_full]
    refine congrArg₂ k0_pay2 e12 ?_
    unfold run.sl.v250
    refine (View.readCov_full arg13.view _ _ _ _).trans ?_
    simp (config := { proj := false, ground := false }) only [run.sl.r, run.sl.r_1, run.sl.r_2, run.sl.r_3, run.sl.r_4, run.sl.r_5, run.sl.r_6, run.sl.r_7, run.sl.r_8, run.sl.r_9, run.sl.r_10, run.sl.r_11, run.sl.r_12, run.sl.r_13, run.sl.r_14, run.sl.r_15, run.sl.v77, run.sl.v79, run.sl.v104, run.sl.v115, run.sl.v117, run.sl.v148, run.sl.v159, run.sl.v161, run.sl.v186, run.sl.v197, run.sl.v199, run.sl.v249, run.sl.v250, run.sl.H11_1, run.sl.H12_1, run.sl.H13_1, run.sl.HL5_1, run.sl.HL6_2, run.sl.HL6_4, run.sl.HL7_2, run.sl.HL7_4]
    simp (config := { proj := false }) only [load_shift_0_7, load_shift_0_6, load_shift_1_7, load_shift_1_6, load_up _ _ ![9, 0, 0] _ 9 rfl, load_eight _ _ ![9, 0, 0] _ 9 rfl, load_up _ _ ![10, 0, 0] _ 10 rfl, load_eight _ _ ![10, 0, 0] _ 10 rfl, load_up _ _ ![20, 0, 0] _ 20 rfl, load_eight _ _ ![20, 0, 0] _ 20 rfl, load_up _ _ ![21, 0, 0] _ 21 rfl, load_eight _ _ ![21, 0, 0] _ 21 rfl, load_down _ _ ![9, 0, 0] _ 9 rfl, load_down _ _ ![10, 0, 0] _ 10 rfl, View.readAt_full, Memref.IsWhole.read_unread, e11, q9, q10, q20, q21]
    unfold total
    rw [← s13]
    refine (congrArg (k0_pay1 _ _ _ _ _) (View.readAt_full arg13.view g13 _)).trans ?_
    refine (shapeCast_self _ _).trans ?_
    refine congrArg₂ _ rfl (congrArg₂ _ rfl rfl)
  · refine funext fun y => ?_
    obtain ⟨u, n, a, b, rfl⟩ : ∃ (u : Fin 1) (n : Fin 22) (a : Fin 8) (b : Fin 256), y = ix4 u n a b := ⟨y 0, y 1, y 2, y 3, eq_ix4 y⟩
    obtain rfl : u = 0 := Subsingleton.elim _ _
    rw [read_tail _ _ ![0, 21, 0, 0] _ _ _ 21 rfl, read_tail _ _ ![0, 20, 0, 0] _ _ _ 20 rfl, read_tail _ _ ![0, 10, 0, 0] _ _ _ 10 rfl, read_tail _ _ ![0, 9, 0, 0] _ _ _ 9 rfl]
    simp (config := { proj := false, ground := false }) only [run.sl.r, run.sl.r_1, run.sl.r_2, run.sl.r_3, run.sl.r_4, run.sl.r_5, run.sl.r_6, run.sl.r_7, run.sl.r_8, run.sl.r_9, run.sl.r_10, run.sl.r_11, run.sl.r_12, run.sl.r_13, run.sl.r_14, run.sl.r_15, run.sl.v77, run.sl.v79, run.sl.v104, run.sl.v115, run.sl.v117, run.sl.v148, run.sl.v159, run.sl.v161, run.sl.v186, run.sl.v197, run.sl.v199, run.sl.v249, run.sl.v250, run.sl.H11_1, run.sl.H12_1, run.sl.H13_1, run.sl.HL5_1, run.sl.HL6_2, run.sl.HL6_4, run.sl.HL7_2, run.sl.HL7_4]
    simp (config := { proj := false }) only [load_up _ _ ![9, 0, 0] _ 9 rfl, load_eight _ _ ![9, 0, 0] _ 9 rfl, load_up _ _ ![10, 0, 0] _ 10 rfl, load_eight _ _ ![10, 0, 0] _ 10 rfl, load_up _ _ ![20, 0, 0] _ 20 rfl, load_eight _ _ ![20, 0, 0] _ 20 rfl, load_up _ _ ![21, 0, 0] _ 21 rfl, load_eight _ _ ![21, 0, 0] _ 21 rfl, load_down _ _ ![9, 0, 0] _ 9 rfl, load_down _ _ ![10, 0, 0] _ 10 rfl, View.readAt_full, Memref.IsWhole.read_unread, e11]
    have e : ∀ (j : Fin 22) (w : Vec F S1x1x8x256 .f32), w = k0_pay8 (last8 (normed x1 x2 x3 x4 x5) x6 j) → n = j → w (ix4 0 0 a b) = last8 (normed x1 x2 x3 x4 x5) x6 n (ix2 a b) := by
      intro j w hw hj; subst hj; rw [hw]; exact rows_tail _ _ _ _ _
    by_cases h21 : n = 21
    · rw [if_pos h21]; exact e _ _ rfl h21
    by_cases h20 : n = 20
    · rw [if_neg h21, if_pos h20]; exact e _ _ rfl h20
    by_cases h10 : n = 10
    · rw [if_neg h21, if_neg h20, if_pos h10]; exact e _ _ rfl h10
    by_cases h9 : n = 9
    · rw [if_neg h21, if_neg h20, if_neg h10, if_pos h9]; exact e _ _ rfl h9
    rw [if_neg h21, if_neg h20, if_neg h10, if_neg h9]
    have hd : done 3 n := by
      have g21 : n.val ≠ 21 := fun q => h21 (Fin.ext q)
      have g20 : n.val ≠ 20 := fun q => h20 (Fin.ext q)
      have g10 : n.val ≠ 10 := fun q => h10 (Fin.ext q)
      have g9 : n.val ≠ 9 := fun q => h9 (Fin.ext q)
      have := n.isLt; unfold done; omega
    exact s10 n a b hd
  · refine funext fun y => ?_
    obtain ⟨n, a, b, rfl⟩ : ∃ (n : Fin 22) (a : Fin 8) (b : Fin 256), y = ix3 n a b := ⟨y 0, y 1, y 2, eq_ix3 y⟩
    rw [read_eight _ _ ![21, 0, 0] _ _ _ 21 rfl, read_eight _ _ ![20, 0, 0] _ _ _ 20 rfl, read_eight _ _ ![10, 0, 0] _ _ _ 10 rfl, read_eight _ _ ![9, 0, 0] _ _ _ 9 rfl]
    simp (config := { proj := false, ground := false }) only [run.sl.r, run.sl.r_1, run.sl.r_2, run.sl.r_3, run.sl.r_4, run.sl.r_5, run.sl.r_6, run.sl.r_7, run.sl.r_8, run.sl.r_9, run.sl.r_10, run.sl.r_11, run.sl.r_12, run.sl.r_13, run.sl.r_14, run.sl.r_15, run.sl.v77, run.sl.v79, run.sl.v104, run.sl.v115, run.sl.v117, run.sl.v148, run.sl.v159, run.sl.v161, run.sl.v186, run.sl.v197, run.sl.v199, run.sl.v249, run.sl.v250, run.sl.H11_1, run.sl.H12_1, run.sl.H13_1, run.sl.HL5_1, run.sl.HL6_2, run.sl.HL6_4, run.sl.HL7_2, run.sl.HL7_4]
    simp (config := { proj := false }) only [load_up _ _ ![9, 0, 0] _ 9 rfl, load_eight _ _ ![9, 0, 0] _ 9 rfl, load_up _ _ ![10, 0, 0] _ 10 rfl, load_eight _ _ ![10, 0, 0] _ 10 rfl, load_up _ _ ![20, 0, 0] _ 20 rfl, load_eight _ _ ![20, 0, 0] _ 20 rfl, load_up _ _ ![21, 0, 0] _ 21 rfl, load_eight _ _ ![21, 0, 0] _ 21 rfl, load_down _ _ ![9, 0, 0] _ 9 rfl, load_down _ _ ![10, 0, 0] _ 10 rfl, View.readAt_full, Memref.IsWhole.read_unread, e11]
    have e : ∀ (j : Fin 22) (w : Vec F S1x8x256 .f32), w = k0_pay10 (up (normed x1 x2 x3 x4 x5) x6 j) → n = j → w (ix3 0 a b) = last8 (normed x1 x2 x3 x4 x5) x6 n (ix2 a b) := by
      intro j w hw hj; subst hj; rw [hw]; exact rows_eight _ _ _ _ _
    by_cases h21 : n = 21
    · rw [if_pos h21]; exact e _ _ rfl h21
    by_cases h20 : n = 20
    · rw [if_neg h21, if_pos h20]; exact e _ _ rfl h20
    by_cases h10 : n = 10
    · rw [if_neg h21, if_neg h20, if_pos h10]; exact e _ _ rfl h10
    by_cases h9 : n = 9
    · rw [if_neg h21, if_neg h20, if_neg h10, if_pos h9]; exact e _ _ rfl h9
    rw [if_neg h21, if_neg h20, if_neg h10, if_neg h9]
    have hd : done 3 n := by
      have g21 : n.val ≠ 21 := fun q => h21 (Fin.ext q)
      have g20 : n.val ≠ 20 := fun q => h20 (Fin.ext q)
      have g10 : n.val ≠ 10 := fun q => h10 (Fin.ext q)
      have g9 : n.val ≠ 9 := fun q => h9 (Fin.ext q)
      have := n.isLt; unfold done; omega
    exact (s16 n a b).trans (if_pos hd)

theorem owns_open (c : Dev nD) {sh : Shape} {e : EltTy} (a : Memref sig .tc .vmem sh e) (X : Vec F sh e) :
    (owns (c : Thread nD τ) a fullShare X : sProp 𝕄) = iprop(∃ f, ⌜a.view.read (Elt F) f = X⌝ ∗ (a.view.loc (c : Thread nD τ) ↦[a.view.set]{fullShare} f)) := rfl

/-- One run of the body, with its buffers at contents. -/
theorem body_spec (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S22x1024x256 .bf16) (harg6 : arg6.IsWhole) (arg7 : Memref sig .tc .vmem S22x8x256 .f32) (harg7 : arg7.IsWhole) (arg8 : Memref sig .tc .vmem S11x256x1024 .bf16) (harg8 : arg8.IsWhole) (arg9 : Memref sig .tc .vmem S512x1024 .f32) (harg9 : arg9.IsWhole) (arg10 : Memref sig .tc .vmem S1x22x8x256 .f32) (harg10 : arg10.IsWhole) (arg11 : Memref sig .tc .vmem S512x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S3x520x256 .f32) (harg14 : arg14.IsWhole) (arg15 : Memref sig .tc .vmem S3x520x256 .f32) (harg15 : arg15.IsWhole) (arg16 : Memref sig .tc .vmem S22x8x256 .f32) (harg16 : arg16.IsWhole)
    (x1 : Vec F S512x1024 .f32) (x2 : Vec F S512x512 .bf16) (x3 : Vec F S512x512 .bf16) (x4 : Vec F S1024x1024 .bf16) (x5 : Vec F S1x1024 .f32) (x6 : Vec F S22x1024x256 .bf16) (x7 : Vec F S22x8x256 .f32) (x8 : Vec F S11x256x1024 .bf16) (C : Vec F S22x8x256 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare C
      ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outY i x1 x2 x3 x4 x5 x6 x7 x8 C) ∗ owns (c : Thread nD τ) arg10 fullShare (outT x1 x2 x3 x4 x5 x6) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (outC x1 x2 x3 x4 x5 x6)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [owns_open c arg9, owns_open c arg10, owns_open c arg11, owns_open c arg12, owns_open c arg13, owns_open c arg14, owns_open c arg15, owns_open c arg16]
  iintro ⟨H1, H2, H3, H4, H5, H6, H7, H8, ⟨%d9, H9⟩, ⟨%d10, H10⟩, ⟨%d11, H11⟩, ⟨%d12, H12⟩, ⟨%d13, H13⟩, ⟨%d14, H14⟩, ⟨%d15, H15⟩, H16, Hk⟩
  icases H9 with ⟨%f9, %h9, H9⟩
  icases H10 with ⟨%f10, %h10, H10⟩
  icases H11 with ⟨%f11, %h11, H11⟩
  icases H12 with ⟨%f12, %h12, H12⟩
  icases H13 with ⟨%f13, %h13, H13⟩
  icases H14 with ⟨%f14, %h14, H14⟩
  icases H15 with ⟨%f15, %h15, H15⟩
  icases H16 with ⟨%f16, %h16, H16⟩
  iapply ((run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16).2.2.2.2.2.2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨%g10, %g11, %g13, %g14, %g15, %g16, %hA, H1, H2, H3, H4, H5, H6, H7, H8, H9, H10, ⟨%e11, H11⟩, ⟨%e12, H12⟩, ⟨%e13, H13⟩, ⟨%e14, H14⟩, ⟨%e15, H15⟩, H16⟩
  have hv := run_vals (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 x8 f9 f10 f11 f12 f13 f14 f15 f16 g10 g11 g13 g14 g15 g16 C h16 hA
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; · ipureintro; exact hv.1
    iexact H9
  isplitl [H10]
  · iexists _; isplitr; · ipureintro; exact hv.2.1
    iexact H10
  isplitl [H11]
  · iexists _; iexists e11; isplitr; · ipureintro; rfl
    iexact H11
  isplitl [H12]
  · iexists _; iexists e12; isplitr; · ipureintro; rfl
    iexact H12
  isplitl [H13]
  · iexists _; iexists e13; isplitr; · ipureintro; rfl
    iexact H13
  isplitl [H14]
  · iexists _; iexists e14; isplitr; · ipureintro; rfl
    iexact H14
  isplitl [H15]
  · iexists _; iexists e15; isplitr; · ipureintro; rfl
    iexact H15
  iexists _; isplitr; · ipureintro; exact hv.2.2
  iexact H16

variable (hn : Vec F S512x1024 .bf16) (w6 : Vec F S22x1024x256 .bf16) (w7 : Vec F S22x8x256 .f32) (w8 : Vec F S11x256x1024 .bf16)

/-- At a sequence's first tile the carried rows are not read. -/
theorem before_first (C C' : Vec F S22x8x256 .f32) : before C 1#1 = before C' 1#1 := by
  funext n
  unfold before k0_pay9
  rfl

theorem total_congr (C C' : Vec F S22x8x256 .f32) (z : BitVec 1) (h : before C z = before C' z) :
    total hn w6 w7 w8 C z = total hn w6 w7 w8 C' z := by
  have hc : conv hn w6 w7 C z = conv hn w6 w7 C' z := by funext n; unfold conv; rw [h]
  have hd : down hn w6 w7 w8 C z = down hn w6 w7 w8 C' z := by funext n; unfold down; rw [hc]
  have ha : ∀ k, acc hn w6 w7 w8 C z k = acc hn w6 w7 w8 C' z k := by
    intro k
    induction k with
    | zero => rfl
    | succ k ih => unfold acc; rw [ih, hd]
  unfold total; rw [ha, hd]

theorem outY_first (i : grid0.Coords) (hi : first i = 1#1) (x1 : Vec F S512x1024 .f32) (x2 x3 : Vec F S512x512 .bf16) (x4 : Vec F S1024x1024 .bf16) (x5 : Vec F S1x1024 .f32)
    (x6 : Vec F S22x1024x256 .bf16) (x7 : Vec F S22x8x256 .f32) (x8 : Vec F S11x256x1024 .bf16) (C C' : Vec F S22x8x256 .f32) :
    outY i x1 x2 x3 x4 x5 x6 x7 x8 C = outY i x1 x2 x3 x4 x5 x6 x7 x8 C' := by
  unfold outY
  rw [total_congr _ _ _ _ C C' (first i) (by rw [hi]; exact before_first C C')]

end Cert.Kernel2Ideal.Ffn
end
-- ==== Proof.FfnFrame.lean ====
/-
  The run of the feed-forward program: its proof data, the body's obligation at every tile with the carried rows at what
  the tile before left, the launch, and the frame.
-/
module
public import proofs.«01_k».proof.Proof.FfnVals
public import proofs.«01_k».proof.Proof.Gen.Kernel2Ideal.Frame
public import Idealize.ShloMosaic.Lib.Claim

@[expose] public section

set_option maxRecDepth 16384

noncomputable section

namespace Cert.Kernel2Ideal.Ffn

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffers of a tile, and the scratch buffers. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S22x1024x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S22x8x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S11x256x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x22x8x256 .f32 := win0_9.stage (cfg0.slots t 9)
abbrev hs0_9 (t : Fin cfg0.N) : (ms0_9 t).IsWhole := hstage0_9 ((cfg0.slots t 9).cast nbuf0_9)
abbrev scM0_0 : Memref sig .tc .vmem S512x1024 .bf16 := Memref.whole cc0_scratch0
abbrev scM0_1 : Memref sig .tc .vmem S512x1024 .f32 := Memref.whole cc0_scratch1
abbrev scM0_2 : Memref sig .tc .vmem S512x1024 .f32 := Memref.whole cc0_scratch2
abbrev scM0_3 : Memref sig .tc .vmem S3x520x256 .f32 := Memref.whole cc0_scratch3
abbrev scM0_4 : Memref sig .tc .vmem S3x520x256 .f32 := Memref.whole cc0_scratch4
abbrev scM0_5 : Memref sig .tc .vmem S22x8x256 .f32 := Memref.whole cc0_scratch5

/-- What a tile hands to the next. -/
def carryAt (c : Dev nD) (t : Fin cfg0.N) : Vec F S22x8x256 .f32 := outC (iblk m c 0 t) (iblk m c 1 t) (iblk m c 2 t) (iblk m c 3 t) (iblk m c 4 t) (iblk m c 5 t)

/-- What a tile is handed. -/
def carried (c : Dev nD) (k : Fin (cfg0.N + 1)) : Vec F S22x8x256 .f32 :=
  if h : 0 < k.val then carryAt m c ⟨k.val - 1, by have := k.isLt; omega⟩ else fun _ => Scalar.ofBits .f32 0x00000000#32

/-- The invariant between tiles: the carried rows at what the tile before left, the other scratch buffers at anything. -/
def inv (c : Dev nD) (k : Fin (cfg0.N + 1)) : sProp 𝕄 :=
  iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ C, ⌜0 < k.val → C = carried m c k⌝ ∗ owns (c : Thread nD τ) scM0_5 fullShare C)) ∗ (∃ r, prngReg c r))

theorem PhiA0_eq (c : Dev nD) :
    (Pipeline.ΦA spec0 c : sProp 𝕄) = iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outY (grid0.coords t) (iblk m c 0 t) (iblk m c 1 t) (iblk m c 2 t) (iblk m c 3 t) (iblk m c 4 t) (iblk m c 5 t) (iblk m c 6 t) (iblk m c 7 t) (carried m c t.castSucc)
    | ⟨9, _⟩ => outT (iblk m c 0 t) (iblk m c 1 t) (iblk m c 2 t) (iblk m c 3 t) (iblk m c 4 t) (iblk m c 5 t)
  Φ k := inv m c k
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outY (grid0.coords t) (iblk m c 0 t) (iblk m c 1 t) (iblk m c 2 t) (iblk m c 3 t) (iblk m c 4 t) (iblk m c 5 t) (iblk m c 6 t) (iblk m c 7 t) (carried m c t.castSucc) := by dsimp only [dats]
theorem after0_9 (c : Dev nD) (t : Fin cfg0.N) : (dats m 0 c).after 9 t = outT (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at a tile, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

theorem first_zero (t : Fin cfg0.N) (h : t.val = 0) : first (grid0.coords t) = 1#1 := by
  obtain rfl : t = ⟨0, by decide⟩ := Fin.ext h
  decide +kernel

theorem outY_carried (c : Dev nD) (t : Fin cfg0.N) (C : Vec F S22x8x256 .f32) (h : 0 < t.val → C = carried m c t.castSucc) :
    outY (grid0.coords t) (iblk m c 0 t) (iblk m c 1 t) (iblk m c 2 t) (iblk m c 3 t) (iblk m c 4 t) (iblk m c 5 t) (iblk m c 6 t) (iblk m c 7 t) C = outY (grid0.coords t) (iblk m c 0 t) (iblk m c 1 t) (iblk m c 2 t) (iblk m c 3 t) (iblk m c 4 t) (iblk m c 5 t) (iblk m c 6 t) (iblk m c 7 t) (carried m c t.castSucc) := by
  by_cases h0 : 0 < t.val
  · rw [h h0]
  · exact outY_first _ (first_zero t (by omega)) _ _ _ _ _ _ _ _ _ _

theorem carried_succ (c : Dev nD) (t : Fin cfg0.N) : carried m c t.succ = outC (iblk m c 0 t) (iblk m c 1 t) (iblk m c 2 t) (iblk m c 3 t) (iblk m c 4 t) (iblk m c 5 t) := by
  unfold carried
  rw [dif_pos (by simp)]
  rfl

/-- The body at any tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9]
  rw [show (dats m 0 c).Φ t.castSucc = inv m c t.castSucc from rfl, show (dats m 0 c).Φ t.succ = inv m c t.succ from rfl]
  unfold inv
  iintro ⟨⟨⟨HS0, HS1, HS2, HS3, HS4, ⟨%C, %hC, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_spec c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) C Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexists _; isplitr
      swap; · iexact HS5
      ipureintro; exact fun _ => (carried_succ m c t).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [← outY_carried m c t C hC]; iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : (Pipeline.ΦA spec0 c : sProp 𝕄) ⊢ inv m c 0 := by
  rw [PhiA0_eq]; unfold inv
  iintro ⟨⟨HS0, HS1, HS2, HS3, HS4, ⟨%C, HS5⟩⟩, Hg⟩
  isplitl [HS0 HS1 HS2 HS3 HS4 HS5]
  · isplitl [HS0]; · iexact HS0
    isplitl [HS1]; · iexact HS1
    isplitl [HS2]; · iexact HS2
    isplitl [HS3]; · iexact HS3
    isplitl [HS4]; · iexact HS4
    iexists _; isplitr
    swap; · iexact HS5
    ipureintro; exact fun h => absurd h (by decide)
  iexact Hg

theorem inv_out (c : Dev nD) (k : Fin (cfg0.N + 1)) : (inv m c k : sProp 𝕄) ⊢ Pipeline.ΦA spec0 c := by
  rw [PhiA0_eq]; unfold inv
  iintro ⟨⟨HS0, HS1, HS2, HS3, HS4, ⟨%C, %hC, HS5⟩⟩, Hg⟩
  isplitl [HS0 HS1 HS2 HS3 HS4 HS5]
  · isplitl [HS0]; · iexact HS0
    isplitl [HS1]; · iexact HS1
    isplitl [HS2]; · iexact HS2
    isplitl [HS3]; · iexact HS3
    isplitl [HS4]; · iexact HS4
    iexists _; iexact HS5
  iexact Hg

set_option backward.isDefEq.respectTransparency.types false in
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => inv_in m c) (hout := fun c => inv_out m c _)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The program ends, with its arguments as launched and nothing owed. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Kernel2Ideal.Ffn
end
-- ==== Proof.FfnPack.lean ====
/-
  The packed operands of the feed-forward call: what its arrays hold at an entry, in terms of the arguments.
-/
module
public import proofs.«01_k».proof.Proof.FfnFrame
public import Idealize.ShloMosaic.Lib.Pointwise
@[expose] public section
set_option maxRecDepth 16384
noncomputable section
namespace Cert.Kernel2Ideal.Ffn
open Idealize.ShloMosaic Idealize.ShloMosaic.Tactic Cert.Kernel2Ideal Cert.Kernel2Ideal.Gen

/-- The up-projection's weights by chunks of columns. -/
def packUp (W : FVec Ideal S1024x5632 .f32) : FVec Ideal S22x1024x256 .bf16 :=
  truncf .bf16 (transpose S22x1024x256 [1, 0, 2] (shapeCast _ W shapeCasts_S1024x5632_S1024x22x256) transposes_S1024x22x256_S22x1024x256_1_0_2) bitsLt_bf16_f32

/-- The taps and the bias, one above the other. -/
def eight (W : FVec Ideal S3x5632 .f32) (B : FVec Ideal S5632 .f32) : FVec Ideal S8x5632 .f32 :=
  concatenate S8x5632 0 [⟨S3x5632, W⟩, ⟨S1x5632, broadcastInDim S1x5632 ![1] bcast_S5632_S1x5632_1 B⟩, ⟨S4x5632, broadcastInDim S4x5632 ![] bcast_S_S4x5632 (constant S_ .f32 0x00000000#32)⟩] concatenates_S3x5632_S1x5632_S4x5632_S8x5632_d0

/-- The taps and the bias by chunks of columns. -/
def packTap (E : FVec Ideal S8x5632 .f32) : FVec Ideal S22x8x256 .f32 :=
  transpose S22x8x256 [1, 0, 2] (shapeCast _ E shapeCasts_S8x5632_S8x22x256) transposes_S8x22x256_S22x8x256_1_0_2

/-- The down-projection's weights by chunks of rows. -/
def packDown (W : FVec Ideal S2816x1024 .f32) : FVec Ideal S11x256x1024 .bf16 :=
  truncf .bf16 (shapeCast _ W shapeCasts_S2816x1024_S11x256x1024) bitsLt_bf16_f32

/-- The output projection's weights. -/
def packOut (W : FVec Ideal S1024x1024 .f32) : FVec Ideal S1024x1024 .bf16 := truncf .bf16 W bitsLt_bf16_f32

/-- The norm's gains. -/
def packGain (G : FVec Ideal S1024 .f32) : FVec Ideal S1x1024 .f32 := broadcastInDim S1x1024 ![1] bcast_S1024_S1x1024_1 G

/-- The stream by rows. -/
def packX (X : FVec Ideal S4x4096x1024 .f32) : FVec Ideal S16384x1024 .f32 := shapeCast _ X shapeCasts_S4x4096x1024_S16384x1024

/-- Attention outputs by rows. -/
def packMix (A : FVec Ideal S4x4096x8x64 .f32) : FVec Ideal S16384x512 .bf16 :=
  shapeCast _ (truncf .bf16 A bitsLt_bf16_f32) shapeCasts_S4x4096x8x64_S16384x512

variable (m : (ℓ : Loc nD τ sig) → Buf (Elt Ideal) ℓ) (c : Dev nD)

set_option maxHeartbeats 4000000 in
theorem V_up : V m c main_v2 = packUp (m ((c.tc : Thread nD τ).loc main_arg5)) := rfl
set_option maxHeartbeats 4000000 in
theorem V_tap : V m c main_v7 = packTap (eight (m ((c.tc : Thread nD τ).loc main_arg6)) (m ((c.tc : Thread nD τ).loc main_arg7))) := rfl
set_option maxHeartbeats 4000000 in
theorem V_down : V m c main_v9 = packDown (m ((c.tc : Thread nD τ).loc main_arg8)) := rfl
set_option maxHeartbeats 4000000 in
theorem V_out : V m c main_v10 = packOut (m ((c.tc : Thread nD τ).loc main_arg3)) := rfl
set_option maxHeartbeats 4000000 in
theorem V_gain : V m c main_v11 = packGain (m ((c.tc : Thread nD τ).loc main_arg4)) := rfl
set_option maxHeartbeats 4000000 in
theorem V_x : V m c main_v12 = packX (m ((c.tc : Thread nD τ).loc main_arg0)) := rfl
set_option maxHeartbeats 4000000 in
theorem V_mixa : V m c main_v14 = packMix (m ((c.tc : Thread nD τ).loc main_arg1)) := rfl
set_option maxHeartbeats 4000000 in
theorem V_mixb : V m c main_v16 = packMix (m ((c.tc : Thread nD τ).loc main_arg2)) := rfl

theorem packUp_apply (W : FVec Ideal S1024x5632 .f32) (n : Fin 22) (d : Fin 1024) (e : Fin 256) : packUp W (ix3 n d e) = W (ix2 d ⟨n * 256 + e, by omega⟩) := by
  pointwise [packUp]
theorem packTap_apply (E : FVec Ideal S8x5632 .f32) (n : Fin 22) (s : Fin 8) (e : Fin 256) : packTap E (ix3 n s e) = E (ix2 s ⟨n * 256 + e, by omega⟩) := by
  pointwise [packTap]
theorem eight_tap (W : FVec Ideal S3x5632 .f32) (B : FVec Ideal S5632 .f32) (s : Fin 3) (f : Fin 5632) : eight W B (ix2 ⟨s, by omega⟩ f) = W (ix2 s f) := by
  pointwise [eight]
theorem eight_bias (W : FVec Ideal S3x5632 .f32) (B : FVec Ideal S5632 .f32) (f : Fin 5632) : eight W B (ix2 3 f) = B (ix1 f) := by
  pointwise [eight]
theorem packDown_apply (W : FVec Ideal S2816x1024 .f32) (j : Fin 11) (e : Fin 256) (d : Fin 1024) : packDown W (ix3 j e d) = W (ix2 ⟨j * 256 + e, by omega⟩ d) := by
  pointwise [packDown]
theorem packOut_apply (W : FVec Ideal S1024x1024 .f32) (j d : Fin 1024) : packOut W (ix2 j d) = W (ix2 j d) := by
  pointwise [packOut]
theorem packGain_apply (G : FVec Ideal S1024 .f32) (d : Fin 1024) : packGain G (ix2 0 d) = G (ix1 d) := by
  pointwise [packGain]
theorem packX_apply (X : FVec Ideal S4x4096x1024 .f32) (x : Fin 16384) (d : Fin 1024) : packX X (ix2 x d) = X (ix3 ⟨x / 4096, by omega⟩ ⟨x % 4096, by omega⟩ d) := by
  pointwise [packX]
theorem packMix_apply (A : FVec Ideal S4x4096x8x64 .f32) (x : Fin 16384) (j : Fin 512) : packMix A (ix2 x j) = A (ix4 ⟨x / 4096, by omega⟩ ⟨x % 4096, by omega⟩ ⟨j / 64, by omega⟩ ⟨j % 64, by omega⟩) := by
  pointwise [packMix]

/-! The blocks of a tile. -/

theorem idx_row : ∀ t : Fin grid0.N, win0_0.index t 0 = t.val ∧ win0_0.index t 1 = 0 ∧ win0_1.index t 0 = t.val ∧ win0_1.index t 1 = 0
    ∧ win0_2.index t 0 = t.val ∧ win0_2.index t 1 = 0 ∧ win0_8.index t 0 = t.val ∧ win0_8.index t 1 = 0 := by decide +kernel
theorem idx_two : ∀ t : Fin grid0.N, win0_3.index t 0 = 0 ∧ win0_3.index t 1 = 0 ∧ win0_4.index t 0 = 0 ∧ win0_4.index t 1 = 0 := by decide +kernel
theorem idx_three : ∀ t : Fin grid0.N, win0_5.index t 0 = 0 ∧ win0_5.index t 1 = 0 ∧ win0_5.index t 2 = 0 ∧ win0_6.index t 0 = 0 ∧ win0_6.index t 1 = 0 ∧ win0_6.index t 2 = 0
    ∧ win0_7.index t 0 = 0 ∧ win0_7.index t 1 = 0 ∧ win0_7.index t 2 = 0 := by decide +kernel
theorem idx_tail : ∀ t : Fin grid0.N, win0_9.index t 0 = t.val ∧ win0_9.index t 1 = 0 ∧ win0_9.index t 2 = 0 ∧ win0_9.index t 3 = 0 := by decide +kernel
theorem first_iff : ∀ t : Fin grid0.N, first (grid0.coords t) = if t.val % 8 = 0 then 1#1 else 0#1 := by decide +kernel

theorem blk_x (t : Fin cfg0.N) (r : Fin 512) (y : Fin 1024) (x : Fin 16384) (hx : x.val = 512 * t.val + r) : iblk m c 0 t (ix2 r y) = V m c main_v12 (ix2 x y) := by
  blk_ext [iblk, idx_row t]
theorem blk_mixa (t : Fin cfg0.N) (r : Fin 512) (y : Fin 512) (x : Fin 16384) (hx : x.val = 512 * t.val + r) : iblk m c 1 t (ix2 r y) = V m c main_v14 (ix2 x y) := by
  blk_ext [iblk, idx_row t]
theorem blk_mixb (t : Fin cfg0.N) (r : Fin 512) (y : Fin 512) (x : Fin 16384) (hx : x.val = 512 * t.val + r) : iblk m c 2 t (ix2 r y) = V m c main_v16 (ix2 x y) := by
  blk_ext [iblk, idx_row t]
theorem blk_out (t : Fin cfg0.N) (r y : Fin 1024) : iblk m c 3 t (ix2 r y) = V m c main_v10 (ix2 r y) := by
  blk_ext [iblk, idx_two t]
theorem blk_gain (t : Fin cfg0.N) (y : Fin 1024) : iblk m c 4 t (ix2 (0 : Fin 1) y) = V m c main_v11 (ix2 (0 : Fin 1) y) := by
  blk_ext [iblk, idx_two t]
theorem blk_up (t : Fin cfg0.N) (n : Fin 22) (d : Fin 1024) (e : Fin 256) : iblk m c 5 t (ix3 n d e) = V m c main_v2 (ix3 n d e) := by
  blk_ext [iblk, idx_three t]
theorem blk_tap (t : Fin cfg0.N) (n : Fin 22) (s : Fin 8) (e : Fin 256) : iblk m c 6 t (ix3 n s e) = V m c main_v7 (ix3 n s e) := by
  blk_ext [iblk, idx_three t]
theorem blk_down (t : Fin cfg0.N) (j : Fin 11) (e : Fin 256) (d : Fin 1024) : iblk m c 7 t (ix3 j e d) = V m c main_v9 (ix3 j e d) := by
  blk_ext [iblk, idx_three t]

/-- Where a tile's entries stand in the results. -/
theorem place_y (t : Fin cfg0.N) (r : Fin 512) (y : Fin 1024) (x : Fin 16384) (hx : x.val = 512 * t.val + r) : (win0_8.blk t).view.emb (ix2 r y) = ix2 x y := by
  blk_ext [idx_row t]
theorem place_tail (t : Fin cfg0.N) (n : Fin 22) (s : Fin 8) (e : Fin 256) (x : Fin 32) (hx : x.val = t.val) : (win0_9.blk t).view.emb (ix4 (0 : Fin 1) n s e) = ix4 x n s e := by
  blk_ext [idx_tail t]

end Cert.Kernel2Ideal.Ffn
-- ==== Proof.FfnPay.lean ====
/-
  What one tile of the feed-forward call computes at an entry, over the extended reals.
-/
module
public import proofs.«01_k».proof.Proof.FfnVals
public import Idealize.ShloMosaic.Lib.Pointwise
@[expose] public section
set_option maxRecDepth 16384
noncomputable section
namespace Cert.Kernel2Ideal.Ffn
open Idealize.ShloMosaic Idealize.ShloMosaic.Tactic Cert.Kernel2Ideal Cert.Kernel2Ideal.Gen

/-- The gated product of two convolved entries. -/
def gateE (u g : EReal) : EReal := g * Ideal.div 1 (1 + Ideal.exp (-g)) * u

variable (x1 : Vec Ideal S512x1024 .f32) (x2 x3 : Vec Ideal S512x512 .bf16) (x4 : Vec Ideal S1024x1024 .bf16) (x5 : Vec Ideal S1x1024 .f32)
  (x6 : Vec Ideal S22x1024x256 .bf16) (x7 : Vec Ideal S22x8x256 .f32) (x8 : Vec Ideal S11x256x1024 .bf16) (hn : Vec Ideal S512x1024 .bf16)
  (C : Vec Ideal S22x8x256 .f32) (z : BitVec 1)

theorem base_apply (r : Fin 512) (d : Fin 1024) : base x1 x2 x3 x4 (ix2 r d) =
    x1 (ix2 r d) + (∑ j : Fin 512, x2 (ix2 r j) * x4 (ix2 ⟨j.val, by omega⟩ d) + ∑ j : Fin 512, x3 (ix2 r j) * x4 (ix2 ⟨512 + j.val, by omega⟩ d)) := by
  pointwise [base, k0_pay56, k0_pay55, topW, botW]
  exact add_assoc _ _ _

theorem normed_apply (r : Fin 512) (d : Fin 1024) : normed x1 x2 x3 x4 x5 (ix2 r d) =
    base x1 x2 x3 x4 (ix2 r d) * Ideal.rsqrt (Ideal.div (∑ x : Fin 1024, base x1 x2 x3 x4 (ix2 r x) * base x1 x2 x3 x4 (ix2 r x)) (Ideal.ofBits .f32 0x44800000#32) + Ideal.ofBits .f32 0x358637BD#32) * x5 (ix2 0 d) := by
  have hb : k0_pay55 x1 x2 (topW x4) x3 (botW x4) = base x1 x2 x3 x4 := by
    rw [base, k0_pay56]; exact (shapeCast_self _ _).symm
  unfold normed k0_pay57
  rw [hb]
  generalize base x1 x2 x3 x4 = b
  pointwise

theorem up_apply (n : Fin 22) (r : Fin 512) (e : Fin 256) : up hn x6 n (ix2 r e) = ∑ d : Fin 1024, hn (ix2 r d) * x6 (ix3 n d e) := by
  pointwise [up, k0_pay3, upW]

theorem stored_apply (n : Fin 22) (r : Fin 512) (e : Fin 256) : k0_pay6 hn (upW x6 n) (ix3 0 r e) = up hn x6 n (ix2 r e) := by
  unfold up k0_pay6
  generalize k0_pay3 hn (upW x6 n) = b
  pointwise

theorem last8_apply (n : Fin 22) (s : Fin 8) (e : Fin 256) : last8 hn x6 n (ix2 s e) = up hn x6 n (ix2 ⟨504 + s.val, by omega⟩ e) := by
  unfold last8 up k0_pay7
  generalize k0_pay3 hn (upW x6 n) = b
  pointwise

theorem before_zero (n : Fin 22) (s : Fin 8) (e : Fin 256) : before C 1#1 n (ix3 0 s e) = (0 : EReal) := by
  pointwise [before, k0_pay9]

theorem before_carry (n : Fin 22) (s : Fin 8) (e : Fin 256) : before C 0#1 n (ix3 0 s e) = C (ix3 n s e) := by
  pointwise [before, k0_pay9, eightW]

/-- The entry `k` rows above row `r`. -/
def prev (k : ℕ) (n : Fin 22) (r : Fin 512) (e : Fin 256) : EReal :=
  if h : k ≤ r.val then up hn x6 n (ix2 ⟨r.val - k, by omega⟩ e) else before C z n (ix3 0 ⟨(8 - k + r.val) % 8, by omega⟩ e)

theorem shift_apply (o k : ℕ) (ho : o ≤ 8) (hk : o + k = 8) (n : Fin 22) (r : Fin 512) (e : Fin 256) :
    shift o ho (before C z n) (k0_pay6 hn (upW x6 n)) (ix3 0 r e) = prev x6 hn C z k n r e := by
  unfold prev
  by_cases h : k ≤ r.val
  · rw [dif_pos h]
    refine (dif_pos (show 8 ≤ o + r.val by omega)).trans ((stored_apply x6 hn n _ e).trans ?_)
    congr 2; apply Fin.ext; show o + r.val - 8 = r.val - k; omega
  · rw [dif_neg h]
    refine (dif_neg (show ¬ 8 ≤ o + r.val by omega)).trans ?_
    show before C z n (ix3 0 ⟨o + r.val, _⟩ e) = _
    congr 2; apply Fin.ext; show o + r.val = (8 - k + r.val) % 8; rw [Nat.mod_eq_of_lt (by omega)]; omega

theorem conv_apply (n : Fin 22) (r : Fin 512) (e : Fin 256) : conv hn x6 x7 C z n (ix2 r e) =
    x7 (ix3 n 3 e) + ((prev x6 hn C z 2 n r e * x7 (ix3 n 0 e) + prev x6 hn C z 1 n r e * x7 (ix3 n 1 e)) + up hn x6 n (ix2 r e) * x7 (ix3 n 2 e)) := by
  rw [← shift_apply x6 hn C z 7 1 (by decide) rfl, ← shift_apply x6 hn C z 6 2 (by decide) rfl]
  unfold conv
  generalize shift 7 _ _ _ = s7
  generalize shift 6 _ _ _ = s6
  generalize up hn x6 n = u
  pointwise [k0_pay11, eightW]

theorem down_apply (j : Fin 11) (r : Fin 512) (d : Fin 1024) : down hn x6 x7 x8 C z j (ix2 r d) =
    ∑ e : Fin 256, gateE (conv hn x6 x7 C z ⟨j.val, by omega⟩ (ix2 r e)) (conv hn x6 x7 C z ⟨11 + j.val, by omega⟩ (ix2 r e)) * x8 (ix3 j e d) := by
  unfold down
  generalize conv hn x6 x7 C z ⟨j.val, _⟩ = u
  generalize conv hn x6 x7 C z ⟨11 + j.val, _⟩ = g
  pointwise [k0_pay52, downW, gateE]
  simp only [zero_sub]

theorem total_apply (r : Fin 512) (d : Fin 1024) : total hn x6 x7 x8 C z (ix2 r d) = ∑ j : Fin 11, down hn x6 x7 x8 C z j (ix2 r d) := by
  have h0 : acc hn x6 x7 x8 C z 0 (ix2 r d) = (0 : EReal) := by pointwise [acc, k0_pay58]
  have hs : ∀ k (h : k < 3), acc hn x6 x7 x8 C z (k + 1) (ix2 r d) = acc hn x6 x7 x8 C z k (ix2 r d) + (down hn x6 x7 x8 C z ⟨3 * k, by omega⟩ (ix2 r d) + down hn x6 x7 x8 C z ⟨3 * k + 1, by omega⟩ (ix2 r d) + down hn x6 x7 x8 C z ⟨3 * k + 2, by omega⟩ (ix2 r d)) := by
    intro k h
    rw [acc, dif_pos h]; rfl
  have ht : total hn x6 x7 x8 C z (ix2 r d) = acc hn x6 x7 x8 C z 3 (ix2 r d) + (down hn x6 x7 x8 C z 9 (ix2 r d) + down hn x6 x7 x8 C z 10 (ix2 r d)) := rfl
  rw [ht, hs 2 (by decide), hs 1 (by decide), hs 0 (by decide), h0]
  generalize hD : (fun j : Fin 11 => (down hn x6 x7 x8 C z j (ix2 r d) : EReal)) = D
  have hD' : ∀ j, down hn x6 x7 x8 C z j (ix2 r d) = D j := fun j => by rw [← hD]
  simp only [hD', Fin.sum_univ_succ, Fin.sum_univ_zero]
  show (0 + (D 0 + D 1 + D 2) + (D 3 + D 4 + D 5) + (D 6 + D 7 + D 8) + (D 9 + D 10) : EReal) = D 0 + (D 1 + (D 2 + (D 3 + (D 4 + (D 5 + (D 6 + (D 7 + (D 8 + (D 9 + (D 10 + 0))))))))))
  simp only [zero_add, add_zero, add_assoc]

theorem outY_apply (i : grid0.Coords) (r : Fin 512) (d : Fin 1024) : outY i x1 x2 x3 x4 x5 x6 x7 x8 C (ix2 r d) =
    base x1 x2 x3 x4 (ix2 r d) + ∑ j : Fin 11, down (normed x1 x2 x3 x4 x5) x6 x7 x8 C (first i) j (ix2 r d) := by
  rw [← total_apply]; rfl

end Cert.Kernel2Ideal.Ffn
-- ==== Proof.FfnRef.lean ====
/-
  What the reference of the feed-forward call computes at an entry.
-/
module
public import proofs.«01_k».proof.Proof.Gen.Reference2Ideal.Run
public import Idealize.ShloMosaic.Lib.Pointwise
import Idealize.ShloMosaic.Lib.Quiescent
@[expose] public section
set_option maxRecDepth 16384
noncomputable section
namespace Cert.Proof.Ffn.Ref
open Idealize.ShloMosaic Idealize.ShloMosaic.Tactic Cert.Reference2Ideal Cert.Reference2Ideal.Gen

/-- The attention outputs of both families of heads, side by side. -/
def mixed (A1 : FVec Ideal S4x4096x8x64 .f32) (A2 : FVec Ideal S4x4096x8x64 .f32) : FVec Ideal S4x4096x1024 .f32 :=
  concatenate S4x4096x1024 2 [⟨S4x4096x512, (shapeCast _ A1 shapeCasts_S4x4096x8x64_S4x4096x512)⟩, ⟨S4x4096x512, (shapeCast _ A2 shapeCasts_S4x4096x8x64_S4x4096x512)⟩] concatenates_S4x4096x512_S4x4096x512_S4x4096x1024_d2

/-- The residual stream after the output projection. -/
def resid (A0 : FVec Ideal S4x4096x1024 .f32) (MIX : FVec Ideal S4x4096x1024 .f32) (A3 : FVec Ideal S1024x1024 .f32) : FVec Ideal S4x4096x1024 .f32 :=
  addf A0 (Host.dotGeneral dot_S4x4096x1024_S1024x1024_S4x4096x1024_2_0_01_1_n_n none MIX A3)

/-- The reciprocal root of each position's mean square. -/
def rscale (XP : FVec Ideal S4x4096x1024 .f32) : FVec Ideal S4x4096x1 .f32 :=
  Host.rsqrt (addf (Host.divf (broadcastInDim S4x4096x1 ![0, 1] bcast_S4x4096_S4x4096x1_0_1 (Host.reduceAdd (mulf XP XP) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))

/-- The normed stream. -/
def normd (XP : FVec Ideal S4x4096x1024 .f32) (RS : FVec Ideal S4x4096x1 .f32) (A4 : FVec Ideal S1024 .f32) : FVec Ideal S4x4096x1024 .f32 :=
  mulf (mulf XP (broadcastInDim S4x4096x1024 ![0, 1, 2] bcast_S4x4096x1_S4x4096x1024_0_1_2 RS)) (broadcastInDim S4x4096x1024 ![0, 1, 2] bcast_S1x1x1024_S4x4096x1024_0_1_2 (broadcastInDim S1x1x1024 ![2] bcast_S1024_S1x1x1024_2 A4))

/-- The up-projection. -/
def upp (RN : FVec Ideal S4x4096x1024 .f32) (A5 : FVec Ideal S1024x5632 .f32) : FVec Ideal S4x4096x5632 .f32 :=
  Host.dotGeneral dot_S4x4096x1024_S1024x5632_S4x4096x5632_2_0_01_1_n_n none RN A5

/-- The up-projection after two positions of zeros. -/
def padded (H : FVec Ideal S4x4096x5632 .f32) : FVec Ideal S4x4098x5632 .f32 :=
  concatenate S4x4098x5632 1 [⟨S4x2x5632, (broadcastInDim S4x2x5632 ![] bcast_S_S4x2x5632 (constant S_ .f32 0x00000000#32))⟩, ⟨S4x4096x5632, H⟩] concatenates_S4x2x5632_S4x4096x5632_S4x4098x5632_d1

/-- The three-tap convolution. -/
def convd (HP : FVec Ideal S4x4098x5632 .f32) (A6 : FVec Ideal S3x5632 .f32) (A7 : FVec Ideal S5632 .f32) : FVec Ideal S4x4096x5632 .f32 :=
  addf (broadcastInDim S4x4096x5632 ![0, 1, 2] bcast_S1x1x5632_S4x4096x5632_0_1_2 (broadcastInDim S1x1x5632 ![2] bcast_S5632_S1x1x5632_2 A7)) (addf (addf (addf (broadcastInDim S4x4096x5632 ![] bcast_S_S4x4096x5632 (constant S_ .f32 0x00000000#32)) (mulf (extractStridedSlice S4x4096x5632 ![0, 0, 0] HP slices_S4x4098x5632_S4x4096x5632_0_0_0) (broadcastInDim S4x4096x5632 ![0, 1, 2] bcast_S1x1x5632_S4x4096x5632_0_1_2 (broadcastInDim S1x1x5632 ![2] bcast_S5632_S1x1x5632_2 (shapeCast _ (extractStridedSlice S1x5632 ![0, 0] A6 slices_S3x5632_S1x5632_0_0) shapeCasts_S1x5632_S5632))))) (mulf (extractStridedSlice S4x4096x5632 ![0, 1, 0] HP slices_S4x4098x5632_S4x4096x5632_0_1_0) (broadcastInDim S4x4096x5632 ![0, 1, 2] bcast_S1x1x5632_S4x4096x5632_0_1_2 (broadcastInDim S1x1x5632 ![2] bcast_S5632_S1x1x5632_2 (shapeCast _ (extractStridedSlice S1x5632 ![1, 0] A6 slices_S3x5632_S1x5632_1_0) shapeCasts_S1x5632_S5632))))) (mulf (extractStridedSlice S4x4096x5632 ![0, 2, 0] HP slices_S4x4098x5632_S4x4096x5632_0_2_0) (broadcastInDim S4x4096x5632 ![0, 1, 2] bcast_S1x1x5632_S4x4096x5632_0_1_2 (broadcastInDim S1x1x5632 ![2] bcast_S5632_S1x1x5632_2 (shapeCast _ (extractStridedSlice S1x5632 ![2, 0] A6 slices_S3x5632_S1x5632_2_0) shapeCasts_S1x5632_S5632)))))

/-- The gated half. -/
def gated (HC : FVec Ideal S4x4096x5632 .f32) : FVec Ideal S4x4096x2816 .f32 :=
  mulf (mulf (extractStridedSlice S4x4096x2816 ![0, 0, 2816] HC slices_S4x4096x5632_S4x4096x2816_0_0_2816) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 2816] HC slices_S4x4096x5632_S4x4096x2816_0_0_2816)))))) (extractStridedSlice S4x4096x2816 ![0, 0, 0] HC slices_S4x4096x5632_S4x4096x2816_0_0_0)

/-- The stream after the block. -/
def outy (XP : FVec Ideal S4x4096x1024 .f32) (ACT : FVec Ideal S4x4096x2816 .f32) (A8 : FVec Ideal S2816x1024 .f32) : FVec Ideal S4x4096x1024 .f32 :=
  addf XP (Host.dotGeneral dot_S4x4096x2816_S2816x1024_S4x4096x1024_2_0_01_1_n_n none ACT A8)

variable (m : (ℓ : Loc nD τ sig) → Buf (Elt Ideal) ℓ) (c : Dev nD)

/-- The stream after the output projection, of the arguments. -/
def streamOf : FVec Ideal S4x4096x1024 .f32 :=
  resid (m ((c.tc : Thread nD τ).loc main_arg0)) (mixed (m ((c.tc : Thread nD τ).loc main_arg1)) (m ((c.tc : Thread nD τ).loc main_arg2))) (m ((c.tc : Thread nD τ).loc main_arg3))

/-- The padded up-projection, of the arguments. -/
def paddedOf : FVec Ideal S4x4098x5632 .f32 :=
  padded (upp (normd (streamOf m c) (rscale (streamOf m c)) (m ((c.tc : Thread nD τ).loc main_arg4))) (m ((c.tc : Thread nD τ).loc main_arg5)))

theorem res_eq : Cert.Reference2Ideal.Value.res_out0 m c = outy (streamOf m c) (gated (convd (paddedOf m c) (m ((c.tc : Thread nD τ).loc main_arg6)) (m ((c.tc : Thread nD τ).loc main_arg7)))) (m ((c.tc : Thread nD τ).loc main_arg8)) := rfl

/-- Both results of the reference, by these names. -/
theorem run (ρ : Dev nD → PrngReg) :
    θ_run defs (onTc (τ := τ) (main (F := Ideal))) ⟨m, fun _ => 0, ρ⟩ fun r => ∀ c : Dev nD,
      r.2.mem ((c.tc : Thread nD τ).loc main_v52) = outy (streamOf m c) (gated (convd (paddedOf m c) (m ((c.tc : Thread nD τ).loc main_arg6)) (m ((c.tc : Thread nD τ).loc main_arg7)))) (m ((c.tc : Thread nD τ).loc main_arg8))
      ∧ r.2.mem ((c.tc : Thread nD τ).loc main_v51) = extractStridedSlice S4x2x5632 ![0, 4096, 0] (paddedOf m c) slices_S4x4098x5632_S4x2x5632_0_4096_0
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) :=
  Cert.Reference2Ideal.Value.run m ρ

theorem ofBits_zero : Ideal.ofBits .f32 0x00000000#32 = 0 := by simp [Ideal.ofBits, Ideal.ieee]

theorem mixed_apply (A1 A2 : FVec Ideal S4x4096x8x64 .f32) (b : Fin 4) (t : Fin 4096) (j : Fin 1024) : mixed A1 A2 (ix3 b t j) =
    if h : j.val < 512 then A1 (ix4 b t ⟨j.val / 64, by omega⟩ ⟨j.val % 64, by omega⟩) else A2 (ix4 b t ⟨(j.val - 512) / 64, by omega⟩ ⟨(j.val - 512) % 64, by omega⟩) := by
  pointwise [mixed]

theorem resid_apply (A0 MIX : FVec Ideal S4x4096x1024 .f32) (A3 : FVec Ideal S1024x1024 .f32) (b : Fin 4) (t : Fin 4096) (d : Fin 1024) : resid A0 MIX A3 (ix3 b t d) = A0 (ix3 b t d) + ∑ j : Fin 1024, MIX (ix3 b t j) * A3 (ix2 j d) := by
  pointwise [resid]

theorem rscale_apply (X : FVec Ideal S4x4096x1024 .f32) (b : Fin 4) (t : Fin 4096) : rscale X (ix3 b t 0) =
    Ideal.rsqrt (Ideal.div (∑ x : Fin 1024, X (ix3 b t x) * X (ix3 b t x)) (Ideal.ofBits .f32 0x44800000#32) + Ideal.ofBits .f32 0x358637BD#32) := by
  pointwise [rscale]

theorem normd_apply (X : FVec Ideal S4x4096x1024 .f32) (R : FVec Ideal S4x4096x1 .f32) (G : FVec Ideal S1024 .f32) (b : Fin 4) (t : Fin 4096) (d : Fin 1024) : normd X R G (ix3 b t d) = X (ix3 b t d) * R (ix3 b t 0) * G (ix1 d) := by
  pointwise [normd]

theorem upp_apply (X : FVec Ideal S4x4096x1024 .f32) (W : FVec Ideal S1024x5632 .f32) (b : Fin 4) (t : Fin 4096) (f : Fin 5632) : upp X W (ix3 b t f) = ∑ d : Fin 1024, X (ix3 b t d) * W (ix2 d f) := by
  pointwise [upp]

theorem padded_apply (H : FVec Ideal S4x4096x5632 .f32) (b : Fin 4) (s : Fin 4098) (f : Fin 5632) :
    padded H (ix3 b s f) = if h : s.val < 2 then 0 else H (ix3 b ⟨s.val - 2, by omega⟩ f) := by
  pointwise [padded, ofBits_zero]

theorem convd_apply (P : FVec Ideal S4x4098x5632 .f32) (W : FVec Ideal S3x5632 .f32) (B : FVec Ideal S5632 .f32) (b : Fin 4) (t : Fin 4096) (f : Fin 5632) :
    convd P W B (ix3 b t f) = B (ix1 f) + ((P (ix3 b ⟨t.val, by omega⟩ f) * W (ix2 0 f) + P (ix3 b ⟨1 + t.val, by omega⟩ f) * W (ix2 1 f)) + P (ix3 b ⟨2 + t.val, by omega⟩ f) * W (ix2 2 f)) := by
  pointwise [convd, ofBits_zero]

theorem gated_apply (H : FVec Ideal S4x4096x5632 .f32) (b : Fin 4) (t : Fin 4096) (j : Fin 2816) :
    gated H (ix3 b t j) = H (ix3 b t ⟨2816 + j.val, by omega⟩) * Ideal.div 1 (1 + Ideal.exp (-H (ix3 b t ⟨2816 + j.val, by omega⟩))) * H (ix3 b t ⟨j.val, by omega⟩) := by
  pointwise [gated]

theorem outy_apply (X : FVec Ideal S4x4096x1024 .f32) (A : FVec Ideal S4x4096x2816 .f32) (W : FVec Ideal S2816x1024 .f32) (b : Fin 4) (t : Fin 4096) (d : Fin 1024) :
    outy X A W (ix3 b t d) = X (ix3 b t d) + ∑ j : Fin 2816, A (ix3 b t j) * W (ix2 j d) := by
  pointwise [outy]

end Cert.Proof.Ffn.Ref
-- ==== Proof.FfnTile.lean ====
/-
  A tile of the feed-forward call computes the reference's rows.
-/
module
public import proofs.«01_k».proof.Proof.FfnPack
public import proofs.«01_k».proof.Proof.FfnPay
public import proofs.«01_k».proof.Proof.FfnRef
@[expose] public section
set_option maxRecDepth 16384
noncomputable section
namespace Cert.Kernel2Ideal.Ffn
open Idealize.ShloMosaic Idealize.ShloMosaic.Tactic Cert.Kernel2Ideal Cert.Kernel2Ideal.Gen
open Cert.Proof.Ffn

/-- A sum over the gated lanes, chunk by chunk. -/
theorem sum_chunks (f : Fin 2816 → EReal) : ∑ j : Fin 11, ∑ e : Fin 256, f ⟨j * 256 + e, by omega⟩ = ∑ i : Fin 2816, f i := by
  rw [← Fintype.sum_prod_type']
  refine Fintype.sum_equiv (finProdFinEquiv (m := 11) (n := 256)) _ _ fun p => ?_
  refine congrArg f (Fin.ext ?_)
  show p.1.val * 256 + p.2.val = p.2.val + 256 * p.1.val
  omega

variable (m : (ℓ : Loc nD τ sig) → Buf (Elt Ideal) ℓ) (c : Dev nD)

/-- The stream after the output projection, of the arguments. -/
def kX : FVec Ideal S4x4096x1024 .f32 :=
  Ref.resid (m ((c.tc : Thread nD τ).loc main_arg0)) (Ref.mixed (m ((c.tc : Thread nD τ).loc main_arg1)) (m ((c.tc : Thread nD τ).loc main_arg2))) (m ((c.tc : Thread nD τ).loc main_arg3))

/-- The normed stream. -/
def kN : FVec Ideal S4x4096x1024 .f32 := Ref.normd (kX m c) (Ref.rscale (kX m c)) (m ((c.tc : Thread nD τ).loc main_arg4))

/-- The up-projection. -/
def kH : FVec Ideal Cert.Reference2Ideal.S4x4096x5632 .f32 := Ref.upp (kN m c) (m ((c.tc : Thread nD τ).loc main_arg5))

/-- The convolution. -/
def kC : FVec Ideal Cert.Reference2Ideal.S4x4096x5632 .f32 := Ref.convd (Ref.padded (kH m c)) (m ((c.tc : Thread nD τ).loc main_arg6)) (m ((c.tc : Thread nD τ).loc main_arg7))

/-- The stream after the block. -/
def kY : FVec Ideal S4x4096x1024 .f32 := Ref.outy (kX m c) (Ref.gated (kC m c)) (m ((c.tc : Thread nD τ).loc main_arg8))

variable (t : Fin cfg0.N)

/-- A tile's stream, and its normed stream. -/
abbrev tb : FVec Ideal S512x1024 .f32 := base (iblk m c 0 t) (iblk m c 1 t) (iblk m c 2 t) (iblk m c 3 t)
abbrev tn : FVec Ideal S512x1024 .bf16 := normed (iblk m c 0 t) (iblk m c 1 t) (iblk m c 2 t) (iblk m c 3 t) (iblk m c 4 t)

variable (r : Fin 512) (x : Fin 16384) (hx : x.val = 512 * t.val + r)
include hx

theorem base_eq (d : Fin 1024) : tb m c t (ix2 r d) = kX m c (ix3 ⟨x / 4096, by omega⟩ ⟨x % 4096, by omega⟩ d) := by
  refine (base_apply _ _ _ _ r d).trans ?_
  unfold kX
  rw [Ref.resid_apply]
  refine congrArg₂ _ ?_ ?_
  · exact (blk_x m c t r d x hx).trans ((congrFun (V_x m c) _).trans (packX_apply _ x d))
  · rw [show (∑ j : Fin 1024, Ref.mixed (m ((c.tc : Thread nD τ).loc main_arg1)) (m ((c.tc : Thread nD τ).loc main_arg2)) (ix3 ⟨x / 4096, by omega⟩ ⟨x % 4096, by omega⟩ j) * m ((c.tc : Thread nD τ).loc main_arg3) (ix2 j d)) = _ from
      Fin.sum_univ_add (a := 512) (b := 512) (fun j : Fin 1024 => Ref.mixed (m ((c.tc : Thread nD τ).loc main_arg1)) (m ((c.tc : Thread nD τ).loc main_arg2)) (ix3 ⟨x / 4096, by omega⟩ ⟨x % 4096, by omega⟩ j) * m ((c.tc : Thread nD τ).loc main_arg3) (ix2 j d))]
    refine congrArg₂ _ (Finset.sum_congr rfl fun j _ => congrArg₂ _ ?_ ?_) (Finset.sum_congr rfl fun j _ => congrArg₂ _ ?_ ?_)
    · refine (blk_mixa m c t r j x hx).trans ((congrFun (V_mixa m c) _).trans ((packMix_apply _ x j).trans ?_))
      refine Eq.symm ((Ref.mixed_apply _ _ _ _ _).trans (dif_pos ?_))
      exact j.isLt
    · exact (blk_out m c t _ d).trans ((congrFun (V_out m c) _).trans (packOut_apply _ _ d))
    · refine (blk_mixb m c t r j x hx).trans ((congrFun (V_mixb m c) _).trans ((packMix_apply _ x j).trans ?_))
      refine Eq.symm ((Ref.mixed_apply _ _ _ _ _).trans ((dif_neg ?_).trans ?_))
      · show ¬ 512 + j.val < 512; omega
      · have e : (Fin.natAdd 512 j).val - 512 = j.val := by show 512 + j.val - 512 = j.val; omega
        simp only [e]
    · exact (blk_out m c t _ d).trans ((congrFun (V_out m c) _).trans (packOut_apply _ _ d))

theorem normed_eq (d : Fin 1024) : tn m c t (ix2 r d) = kN m c (ix3 ⟨x / 4096, by omega⟩ ⟨x % 4096, by omega⟩ d) := by
  refine (normed_apply _ _ _ _ _ r d).trans ?_
  unfold kN
  rw [Ref.normd_apply, Ref.rscale_apply]
  have hb := base_eq m c t r x hx
  refine congrArg₂ _ (congrArg₂ _ (hb d) ?_) ?_
  · refine congrArg (fun s : EReal => Ideal.rsqrt (Ideal.div s (Ideal.ofBits .f32 0x44800000#32) + Ideal.ofBits .f32 0x358637BD#32)) ?_
    exact Finset.sum_congr rfl fun y _ => congrArg₂ _ (hb y) (hb y)
  · exact (blk_gain m c t d).trans ((congrFun (V_gain m c) _).trans (packGain_apply _ d))

theorem up_eq (n : Fin 22) (e : Fin 256) : up (tn m c t) (iblk m c 5 t) n (ix2 r e) = kH m c (ix3 ⟨x / 4096, by omega⟩ ⟨x % 4096, by omega⟩ ⟨n * 256 + e, by omega⟩) := by
  refine (up_apply _ _ n r e).trans ?_
  unfold kH
  rw [Ref.upp_apply]
  refine Finset.sum_congr rfl fun d _ => congrArg₂ _ (normed_eq m c t r x hx d) ?_
  exact (blk_up m c t n d e).trans ((congrFun (V_up m c) _).trans (packUp_apply _ n d e))

omit hx in
/-- The rows a tile that does not start a sequence is handed. -/
theorem carried_eq (h8 : t.val % 8 ≠ 0) (n : Fin 22) (s : Fin 8) (e : Fin 256) (x : Fin 16384) (hx : x.val + 8 = 512 * t.val + s) :
    carried m c t.castSucc (ix3 n s e) = kH m c (ix3 ⟨x / 4096, by omega⟩ ⟨x % 4096, by omega⟩ ⟨n * 256 + e, by omega⟩) := by
  have ht : t.val < 32 := t.isLt
  unfold carried
  rw [dif_pos (show 0 < t.castSucc.val by show 0 < t.val; omega)]
  refine (last8_apply _ _ n s e).trans ?_
  refine up_eq m c ⟨t.val - 1, _⟩ _ x ?_ n e
  show x.val = 512 * (t.val - 1) + (504 + s.val)
  omega

theorem prev_eq (k : ℕ) (hk : 1 ≤ k) (hk2 : k ≤ 2) (n : Fin 22) (e : Fin 256) :
    prev (iblk m c 5 t) (tn m c t) (carried m c t.castSucc) (first (grid0.coords t)) k n r e
      = Ref.padded (kH m c) (ix3 ⟨x / 4096, by omega⟩ ⟨2 - k + x % 4096, by omega⟩ ⟨n * 256 + e, by omega⟩) := by
  have ht : t.val < 32 := t.isLt
  rw [Ref.padded_apply]
  unfold prev
  by_cases hr : k ≤ r.val
  · rw [dif_pos hr, dif_neg (show ¬ (2 - k + x.val % 4096 < 2) by omega)]
    refine (up_eq m c t ⟨r.val - k, by omega⟩ ⟨x.val - k, by omega⟩ (by show x.val - k = 512 * t.val + (r.val - k); omega) n e).trans ?_
    refine congrArg₂ (fun a b => kH m c (ix3 a b _)) (Fin.ext ?_) (Fin.ext ?_)
    · show (x.val - k) / 4096 = x.val / 4096; omega
    · show (x.val - k) % 4096 = 2 - k + x.val % 4096 - 2; omega
  · rw [dif_neg hr]
    by_cases h8 : t.val % 8 = 0
    · rw [dif_pos (show 2 - k + x.val % 4096 < 2 by omega), show first (grid0.coords t) = 1#1 from (first_iff t).trans (if_pos h8)]
      exact before_zero _ n _ e
    · rw [dif_neg (show ¬ (2 - k + x.val % 4096 < 2) by omega), show first (grid0.coords t) = 0#1 from (first_iff t).trans (if_neg h8)]
      refine (before_carry _ n _ e).trans ((carried_eq m c t r x h8 n _ e ⟨x.val - k, by omega⟩ ?_).trans ?_)
      · show x.val - k + 8 = 512 * t.val + (8 - k + r.val) % 8; omega
      · refine congrArg₂ (fun a b => kH m c (ix3 a b _)) (Fin.ext ?_) (Fin.ext ?_)
        · show (x.val - k) / 4096 = x.val / 4096; omega
        · show (x.val - k) % 4096 = 2 - k + x.val % 4096 - 2; omega

theorem conv_eq (n : Fin 22) (e : Fin 256) :
    conv (tn m c t) (iblk m c 5 t) (iblk m c 6 t) (carried m c t.castSucc) (first (grid0.coords t)) n (ix2 r e)
      = kC m c (ix3 ⟨x / 4096, by omega⟩ ⟨x % 4096, by omega⟩ ⟨n * 256 + e, by omega⟩) := by
  refine (conv_apply _ _ _ _ _ n r e).trans ?_
  unfold kC
  rw [Ref.convd_apply]
  have tap : ∀ s : Fin 8, iblk m c 6 t (ix3 n s e) = eight (m ((c.tc : Thread nD τ).loc main_arg6)) (m ((c.tc : Thread nD τ).loc main_arg7)) (ix2 s ⟨n * 256 + e, by omega⟩) :=
    fun s => (blk_tap m c t n s e).trans ((congrFun (V_tap m c) _).trans (packTap_apply _ n s e))
  refine congrArg₂ _ ((tap 3).trans (eight_bias _ _ _)) (congrArg₂ _ (congrArg₂ _ (congrArg₂ _ ?_ ((tap 0).trans (eight_tap _ _ 0 _))) (congrArg₂ _ ?_ ((tap 1).trans (eight_tap _ _ 1 _)))) (congrArg₂ _ ?_ ((tap 2).trans (eight_tap _ _ 2 _))))
  · refine (prev_eq m c t r x hx 2 (by decide) (by decide) n e).trans ?_
    exact congrArg (fun a => Ref.padded (kH m c) (ix3 _ a _)) (Fin.ext (by show 2 - 2 + x.val % 4096 = x.val % 4096; omega))
  · exact prev_eq m c t r x hx 1 (by decide) (by decide) n e
  · refine (up_eq m c t r x hx n e).trans ?_
    refine Eq.symm ((Ref.padded_apply _ _ _ _).trans ((dif_neg ?_).trans ?_))
    · show ¬ (2 + x.val % 4096 < 2); omega
    · exact congrArg (fun a => kH m c (ix3 _ a _)) (Fin.ext (by show 2 + x.val % 4096 - 2 = x.val % 4096; omega))

theorem row_eq (d : Fin 1024) :
    outY (grid0.coords t) (iblk m c 0 t) (iblk m c 1 t) (iblk m c 2 t) (iblk m c 3 t) (iblk m c 4 t) (iblk m c 5 t) (iblk m c 6 t) (iblk m c 7 t) (carried m c t.castSucc) (ix2 r d)
      = kY m c (ix3 ⟨x / 4096, by omega⟩ ⟨x % 4096, by omega⟩ d) := by
  refine (outY_apply _ _ _ _ _ _ _ _ _ _ r d).trans ?_
  unfold kY
  rw [Ref.outy_apply]
  refine congrArg₂ _ (base_eq m c t r x hx d) ?_
  rw [← sum_chunks]
  refine Finset.sum_congr rfl fun j _ => (down_apply _ _ _ _ _ _ j r d).trans (Finset.sum_congr rfl fun e _ => congrArg₂ _ ?_ ?_)
  · rw [Ref.gated_apply]
    have hg : ∀ (a b a' b' : EReal), a = a' → b = b' → gateE a b = b' * Ideal.div 1 (1 + Ideal.exp (-b')) * a' := by
      rintro a b _ _ rfl rfl; rfl
    refine hg _ _ _ _ (conv_eq m c t r x hx _ e) ((conv_eq m c t r x hx _ e).trans ?_)
    exact congrArg (fun a => kC m c (ix3 _ _ a)) (Fin.ext (by show (11 + j.val) * 256 + e.val = 2816 + (j.val * 256 + e.val); omega))
  · exact (blk_down m c t j e d).trans ((congrFun (V_down m c) _).trans (packDown_apply _ j e d))

end Cert.Kernel2Ideal.Ffn
-- ==== Proof.FfnArray.lean ====
/-
  The arrays the feed-forward call leaves, and its two results.
-/
module
public import proofs.«01_k».proof.Proof.FfnTile
@[expose] public section
set_option maxRecDepth 16384
noncomputable section
namespace Cert.Kernel2Ideal.Ffn
open Idealize.ShloMosaic Idealize.ShloMosaic.Tactic Cert.Kernel2Ideal Cert.Kernel2Ideal.Gen
open Cert.Proof.Ffn

variable (m : (ℓ : Loc nD τ sig) → Buf (Elt Ideal) ℓ) (ρ : Dev nD → PrngReg) (c : Dev nD)

/-- The up-projection's last rows of every tile. -/
def kT : FVec Ideal S32x22x8x256 .f32 := fun i => kH m c (ix3 ⟨(i 0).val / 8, by have : (i 0).val < 32 := (i 0).isLt; omega⟩
  ⟨512 * ((i 0).val % 8) + (504 + (i 2).val), by have : (i 2).val < 8 := (i 2).isLt; omega⟩
  ⟨(i 1).val * 256 + (i 3).val, by have : (i 1).val < 22 := (i 1).isLt; have : (i 3).val < 256 := (i 3).isLt; omega⟩)

theorem arr_y : (dats m 0 c).arrAt 8 cfg0.N = packX (kY m c) := by
  refine (dats m 0 c).arrAt_eq_of_covers 8 _ (by decide +kernel) fun t hf y => ?_
  blk_simp
  rw [after0_8]
  obtain ⟨r, y, rfl⟩ : ∃ (r : Fin 512) (z : Fin 1024), y = ix2 r z := ⟨y 0, y 1, eq_ix2 y⟩
  have ht : t.val < 32 := t.isLt
  refine (row_eq m c t r ⟨512 * t.val + r, by omega⟩ rfl y).trans ?_
  refine Eq.trans (packX_apply _ _ _).symm ?_
  exact congrArg _ (place_y t r y _ rfl).symm

theorem arr_tail : (dats m 0 c).arrAt 9 cfg0.N = kT m c := by
  refine (dats m 0 c).arrAt_eq_of_covers 9 _ (by decide +kernel) fun t hf y => ?_
  blk_simp
  rw [after0_9]
  obtain ⟨z, n, s, e, rfl⟩ : ∃ (z : Fin 1) (n : Fin 22) (s : Fin 8) (e : Fin 256), y = ix4 z n s e := ⟨y 0, y 1, y 2, y 3, eq_ix4 y⟩
  have hz : z = 0 := Subsingleton.elim _ _
  subst hz
  have ht : t.val < 32 := t.isLt
  refine Eq.trans ?_ (congrArg (kT m c) (place_tail t n s e ⟨t.val, ht⟩ rfl).symm)
  refine (last8_apply _ _ n s e).trans ?_
  refine (up_eq m c t _ ⟨512 * t.val + (504 + s), by omega⟩ rfl n e).trans ?_
  unfold kT
  refine congrArg₂ (fun a b => kH m c (ix3 a b _)) (Fin.ext ?_) (Fin.ext ?_)
  · show (512 * t.val + (504 + s.val)) / 4096 = t.val / 8; omega
  · show (512 * t.val + (504 + s.val)) % 4096 = 512 * (t.val % 8) + (504 + s.val); omega

/-- The convolution state read off the tiles' last rows. -/
def stateOf (T : FVec Ideal S32x22x8x256 .f32) : FVec Ideal S4x2x5632 .f32 :=
  shapeCast _ (transpose S4x2x22x256 [0, 2, 1, 3] (shapeCast S4x22x2x256 (extractStridedSlice S4x1x22x2x256 ![0, 7, 0, 6, 0] (shapeCast S4x8x22x8x256 T shapeCasts_S32x22x8x256_S4x8x22x8x256) slices_S4x8x22x8x256_S4x1x22x2x256_0_7_0_6_0) shapeCasts_S4x1x22x2x256_S4x22x2x256) transposes_S4x22x2x256_S4x2x22x256_0_2_1_3) shapeCasts_S4x2x22x256_S4x2x5632

/-- The stream by sequences. -/
def bySeq (Y : FVec Ideal S16384x1024 .f32) : FVec Ideal S4x4096x1024 .f32 := shapeCast _ Y shapeCasts_S16384x1024_S4x4096x1024

theorem stateOf_apply (T : FVec Ideal S32x22x8x256 .f32) (b : Fin 4) (s : Fin 2) (f : Fin 5632) :
    stateOf T (ix3 b s f) = T (ix4 ⟨b * 8 + 7, by omega⟩ ⟨f / 256, by omega⟩ ⟨6 + s, by omega⟩ ⟨f % 256, by omega⟩) := by
  pointwise [stateOf]

theorem bySeq_apply (Y : FVec Ideal S16384x1024 .f32) (b : Fin 4) (t : Fin 4096) (d : Fin 1024) :
    bySeq Y (ix3 b t d) = Y (ix2 ⟨b * 4096 + t, by omega⟩ d) := by
  pointwise [bySeq]

theorem bySeq_pack : bySeq (packX (kY m c)) = kY m c := by
  funext i
  obtain ⟨b, t, d, rfl⟩ : ∃ (b : Fin 4) (t : Fin 4096) (d : Fin 1024), i = ix3 b t d := ⟨i 0, i 1, i 2, eq_ix3 i⟩
  refine (bySeq_apply _ _ _ _).trans ((packX_apply _ _ _).trans ?_)
  refine congrArg₂ (fun a b => kY m c (ix3 a b _)) (Fin.ext ?_) (Fin.ext ?_)
  · show (b.val * 4096 + t.val) / 4096 = b.val; omega
  · show (b.val * 4096 + t.val) % 4096 = t.val; omega

/-- The convolution state: the last two rows of the padded up-projection. -/
def kS : FVec Ideal S4x2x5632 .f32 := extractStridedSlice Cert.Reference2Ideal.S4x2x5632 ![0, 4096, 0] (Ref.padded (kH m c)) Cert.Reference2Ideal.Gen.slices_S4x4098x5632_S4x2x5632_0_4096_0

theorem kS_apply (b : Fin 4) (s : Fin 2) (f : Fin 5632) : kS m c (ix3 b s f) = Ref.padded (kH m c) (ix3 b ⟨4096 + s, by omega⟩ f) := by
  unfold kS
  generalize Ref.padded (kH m c) = P
  pointwise

theorem state_eq : stateOf (kT m c) = kS m c := by
  funext i
  obtain ⟨b, s, f, rfl⟩ : ∃ (b : Fin 4) (s : Fin 2) (f : Fin 5632), i = ix3 b s f := ⟨i 0, i 1, i 2, eq_ix3 i⟩
  refine (stateOf_apply _ _ _ _).trans (Eq.symm ((kS_apply m c b s f).trans ((Ref.padded_apply _ _ _ _).trans ((dif_neg ?_).trans ?_))))
  · show ¬ (4096 + s.val < 2); omega
  · unfold kT
    have h : ∀ (a a' : Fin 4) (b b' : Fin 4096) (d d' : Fin 5632), a = a' → b = b' → d = d' → kH m c (ix3 a b d) = kH m c (ix3 a' b' d') := by
      rintro _ _ _ _ _ _ rfl rfl rfl; rfl
    refine h _ _ _ _ _ _ (Fin.ext ?_) (Fin.ext ?_) (Fin.ext ?_)
    · show b.val = (b.val * 8 + 7) / 8; omega
    · show 4096 + s.val - 2 = 512 * ((b.val * 8 + 7) % 8) + (504 + (6 + s.val)); omega
    · show f.val = f.val / 256 * 256 + f.val % 256; omega

/-! The host's operations after the call. -/

theorem tail_y (W : Valuation τ sig (Elt Ideal)) :
    StableHlo.after hostOps1 W (Proc.devRef .tc main_v23) = bySeq (W (Proc.devRef .tc main_v17_0)) := rfl

theorem tail_state (W : Valuation τ sig (Elt Ideal)) :
    StableHlo.after hostOps1 W (Proc.devRef .tc main_v22) = stateOf (W (Proc.devRef .tc main_v17_1)) := rfl

theorem arrRef_inj : Function.Injective (Pipeline.arrRef spec0) := by decide +kernel

theorem after_y : Pipeline.afterTail₀ cfgs (dats m) 0 (V0 m) [hostOps1] c main_v23 = kY m c := by
  unfold Pipeline.afterTail₀
  refine (tail_y _).trans ?_
  refine (congrArg bySeq ((Pipeline.withArrays_arr spec0 arrRef_inj c _ _ 8).trans (arr_y m c))).trans (bySeq_pack m c)

theorem after_state : Pipeline.afterTail₀ cfgs (dats m) 0 (V0 m) [hostOps1] c main_v22 = kS m c := by
  unfold Pipeline.afterTail₀
  refine (tail_state _).trans ?_
  refine (congrArg stateOf ((Pipeline.withArrays_arr spec0 arrRef_inj c _ _ 9).trans (arr_tail m c))).trans (state_eq m c)

/-- What the call's program leaves as its two results. -/
theorem run_results : θ_run defs (onTc (τ := τ) (main (F := Ideal))) ⟨m, fun _ => 0, ρ⟩ (fun r => ∀ c : Dev nD,
    r.2.mem ((c.tc : Thread nD τ).loc main_v23) = kY m c ∧ r.2.mem ((c.tc : Thread nD τ).loc main_v22) = kS m c) :=
  (θ_run defs _ _).mono (fun _ h c => ⟨((h c).2 main_v23 (Pipeline.mem_restRefs_of main_v23 (by decide) (by decide))).trans (after_y m c),
    ((h c).2 main_v22 (Pipeline.mem_restRefs_of main_v22 (by decide) (by decide))).trans (after_state m c)⟩) (run_main m ρ)

end Cert.Kernel2Ideal.Ffn
-- ==== Proof.FfnSame.lean ====
/-
  The feed-forward call's program as printed and its reading over the extended reals are one text: the frame of the first is
  the run of the second, at machine floats.
-/
module
public import proofs.«01_k».proof.Defs
public import proofs.«01_k».proof.Proof.FfnFrame
public import proofs.«01_k».proof.Proof.Gen.Kernel2
@[expose] public section
set_option maxRecDepth 16384
noncomputable section
namespace Cert.Kernel2Ideal.Ffn
open Idealize.ShloMosaic Idealize.SL.Sem

/-- The bodies are the same. -/
theorem body_same : @Cert.Kernel2.cc0_ffn Bits _ Cert.Kernel2.Gen.facts = @Cert.Kernel2Ideal.cc0_ffn Bits _ Cert.Kernel2Ideal.Gen.facts := by
  unfold Cert.Kernel2.cc0_ffn Cert.Kernel2Ideal.cc0_ffn
  rfl

set_option maxHeartbeats 8000000 in
/-- So are the tables that run them. -/
theorem table_same : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc ?_
  funext l a
  match l, a with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _) _) _) _) _) _) _) _) _) _) _
  | ⟨_ + 1, h⟩, _ => exact absurd h (Nat.not_lt.2 (Nat.le_add_left _ _))

theorem defs_same : @Cert.Kernel2.defs Bits _ Cert.Kernel2.Gen.facts = @Cert.Kernel2Ideal.defs Bits _ Cert.Kernel2Ideal.Gen.facts := by
  unfold Cert.Kernel2.defs Cert.Kernel2Ideal.defs
  exact congrArg (Pipeline.defs Cert.Kernel2Ideal.pcfgs) table_same

/-- A run under one table is a run under an equal one. -/
theorem run_same {Λ : Labels} {d d' : Defs nD τ sig (Elt Bits) Λ} (h : d = d') (p) (s) (P) (hr : θ_run d' p s P) : θ_run d p s P := h ▸ hr

/-- The printed program ends, with its arguments as launched and nothing owed. -/
theorem frame_kernel : Cert.quiescent_Kernel2 (hKernel2 := Cert.Kernel2.Gen.facts) := fun m ρ _ =>
  run_same defs_same _ _ _ (frame (F := Bits) m ρ)

end Cert.Kernel2Ideal.Ffn
end
-- ==== Proof.FfnClaims.lean ====
/-
  The claims about the feed-forward call: its frames, and the equality of its two results.
-/
module
public import proofs.«01_k».proof.Defs
public import proofs.«01_k».proof.Proof.FfnArray
public import proofs.«01_k».proof.Proof.FfnSame
import Idealize.ShloMosaic.Lib.Quiescent
@[expose] public section
namespace Cert.Proof.Ffn
open Idealize.ShloMosaic Idealize.SL.Sem

theorem frame_ideal : Cert.quiescent_Kernel2Ideal (hKernel2Ideal := Cert.Kernel2Ideal.Gen.facts) := fun m g _ => Cert.Kernel2Ideal.Ffn.frame (F := Ideal) m g

/-- The reference runs, leaves its arguments, and ends with every counter at zero. -/
theorem frame_ref : Cert.quiescent_Reference2Ideal (hReference2Ideal := Cert.Reference2Ideal.Gen.facts) := fun m g _ =>
  (θ_run Cert.Reference2Ideal.defs _ _).mono (fun r h => ⟨fun c => (h c).2.2, sem_eq_zero_of_no_sems (by decide) r.2⟩)
    (Cert.Reference2Ideal.Value.run (F := Ideal) m g)

/-- The kernel and the reference end with equal results. -/
theorem algebraic : Cert.algebraic_Kernel2Ideal_Reference2Ideal (hKernel2Ideal := Cert.Kernel2Ideal.Gen.facts) (hReference2Ideal := Cert.Reference2Ideal.Gen.facts) := by
  intro m g m' g' _ hag
  refine ⟨fun c => Cert.Kernel2Ideal.Ffn.kY m c, fun c => Cert.Kernel2Ideal.Ffn.kS m c, ?_, ?_⟩
  · exact (θ_run _ _ _).mono (fun r h c => ⟨(h.1 c).1, (h.1 c).2, h.2.1 c⟩)
      (θ_run_and (Cert.Kernel2Ideal.Ffn.run_results m g) (Cert.Kernel2Ideal.Ffn.frame (F := Ideal) m g))
  · refine (θ_run _ _ _).mono (fun r h c => ⟨(h c).1.trans ?_, (h c).2.1.trans ?_, (h c).2.2⟩) (Ref.run m' g')
    all_goals
      obtain ⟨a0, a1, a2, a3, a4, a5, a6, a7, a8⟩ := hag c
      unfold Ref.paddedOf Ref.streamOf
      first | rw [a0, a1, a2, a3, a4, a5, a6, a7, a8] | rw [a0, a1, a2, a3, a4, a5]
      rfl
end Cert.Proof.Ffn
end
-- ==== Proof.ProjRef.lean ====
/-
  What the reference of the projection call computes at an entry.
-/
module
public import proofs.«01_k».proof.Proof.Gen.Reference3Ideal.Run
public import Idealize.ShloMosaic.Lib.Pointwise
import Idealize.ShloMosaic.Lib.Quiescent
@[expose] public section
set_option maxRecDepth 16384
noncomputable section
namespace Cert.Proof.Proj.Ref
open Idealize.ShloMosaic Idealize.ShloMosaic.Tactic Cert.Reference3Ideal Cert.Reference3Ideal.Gen

/-- The normed stream. -/
def xn (A0 : FVec Ideal S4x4096x1024 .f32) (A1 : FVec Ideal S1024 .f32) : FVec Ideal S4x4096x1024 .f32 :=
  mulf (mulf A0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf A0 A0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 A1))

/-- Every projected column. -/
def cols (XN : FVec Ideal S4x4096x1024 .f32) (A2 : FVec Ideal S1024x1592 .f32) : FVec Ideal S4x4096x1592 .f32 :=
  Host.dotGeneral dot_S4x4096x1024_S1024x1592_S4x4096x1592_2_0_01_1_n_n none XN A2

/-- The sparse heads' queries before their norm. -/
def qcols (C : FVec Ideal S4x4096x1592 .f32) : FVec Ideal S4x4096x1x8x64 .f32 :=
  shapeCast _ (extractStridedSlice S4x4096x512 ![0, 0, 0] C slices_S4x4096x1592_S4x4096x512_0_0_0) shapeCasts_S4x4096x512_S4x4096x1x8x64

/-- The sparse heads' six key and value columns. -/
def kvs (C : FVec Ideal S4x4096x1592 .f32) : FVec Ideal S4x4096x6x1x64 .f32 :=
  shapeCast _ (extractStridedSlice S4x4096x384 ![0, 0, 512] C slices_S4x4096x1592_S4x4096x384_0_0_512) shapeCasts_S4x4096x384_S4x4096x6x1x64

/-- One of the six, the third. -/
def kvsel (K : FVec Ideal S4x4096x6x1x64 .f32) : FVec Ideal S4x4096x1x64 .f32 :=
  shapeCast _ (extractStridedSlice S4x4096x1x1x64 ![0, 0, 2, 0, 0] K slices_S4x4096x6x1x64_S4x4096x1x1x64_0_0_2_0_0) shapeCasts_S4x4096x1x1x64_S4x4096x1x64

/-- One of the six, the fifth. -/
def kvwin (K : FVec Ideal S4x4096x6x1x64 .f32) : FVec Ideal S4x4096x1x64 .f32 :=
  shapeCast _ (extractStridedSlice S4x4096x1x1x64 ![0, 0, 4, 0, 0] K slices_S4x4096x6x1x64_S4x4096x1x1x64_0_0_4_0_0) shapeCasts_S4x4096x1x1x64_S4x4096x1x64

/-- The rows of the compressed and selected branches. -/
def nsa (K : FVec Ideal S4x4096x6x1x64 .f32) (SL : FVec Ideal S4x4096x1x64 .f32) (A3 : FVec Ideal S4x64 .f32) : FVec Ideal S4x4096x4x1x64 .f32 :=
  (concatenate S4x4096x4x1x64 2 [⟨S4x4096x1x1x64, ((broadcastInDim S4x4096x1x1x64 ![0, 1, 3, 4] bcast_S4x4096x1x64_S4x4096x1x1x64_0_1_3_4 (shapeCast _ (extractStridedSlice S4x4096x1x1x64 ![0, 0, 0, 0, 0] K slices_S4x4096x6x1x64_S4x4096x1x1x64_0_0_0_0_0) shapeCasts_S4x4096x1x1x64_S4x4096x1x64)) : (⟨S4x4096x1x1x64, .f32⟩ : BufTy).Contents (Elt Ideal))⟩, ⟨S4x4096x1x1x64, ((broadcastInDim S4x4096x1x1x64 ![0, 1, 3, 4] bcast_S4x4096x1x64_S4x4096x1x1x64_0_1_3_4 (shapeCast _ (extractStridedSlice S4x4096x1x1x64 ![0, 0, 1, 0, 0] K slices_S4x4096x6x1x64_S4x4096x1x1x64_0_0_1_0_0) shapeCasts_S4x4096x1x1x64_S4x4096x1x64)) : (⟨S4x4096x1x1x64, .f32⟩ : BufTy).Contents (Elt Ideal))⟩, ⟨S4x4096x1x1x64, ((broadcastInDim S4x4096x1x1x64 ![0, 1, 3, 4] bcast_S4x4096x1x64_S4x4096x1x1x64_0_1_3_4 (mulf (mulf SL (broadcastInDim S4x4096x1x64 ![0, 1, 2, 3] bcast_S4x4096x1x1_S4x4096x1x64_0_1_2_3 (Host.rsqrt (addf (Host.divf (broadcastInDim S4x4096x1x1 ![0, 1, 2] bcast_S4x4096x1_S4x4096x1x1_0_1_2 (Host.reduceAdd (mulf SL SL) (constant S_ .f32 0x00000000#32) reducesTo_S4x4096x1x64_S4x4096x1_d3 h_S_)) (broadcastInDim S4x4096x1x1 ![] bcast_S_S4x4096x1x1 (constant S_ .f32 0x42800000#32))) (broadcastInDim S4x4096x1x1 ![] bcast_S_S4x4096x1x1 (constant S_ .f32 0x358637BD#32)))))) (broadcastInDim S4x4096x1x64 ![0, 1, 2, 3] bcast_S1x1x1x64_S4x4096x1x64_0_1_2_3 (broadcastInDim S1x1x1x64 ![3] bcast_S64_S1x1x1x64_3 (shapeCast _ (extractStridedSlice S1x64 ![2, 0] A3 slices_S4x64_S1x64_2_0) shapeCasts_S1x64_S64))))) : (⟨S4x4096x1x1x64, .f32⟩ : BufTy).Contents (Elt Ideal))⟩, ⟨S4x4096x1x1x64, ((broadcastInDim S4x4096x1x1x64 ![0, 1, 3, 4] bcast_S4x4096x1x64_S4x4096x1x1x64_0_1_3_4 (shapeCast _ (extractStridedSlice S4x4096x1x1x64 ![0, 0, 3, 0, 0] K slices_S4x4096x6x1x64_S4x4096x1x1x64_0_0_3_0_0) shapeCasts_S4x4096x1x1x64_S4x4096x1x64)) : (⟨S4x4096x1x1x64, .f32⟩ : BufTy).Contents (Elt Ideal))⟩] concatenates_S4x4096x1x1x64_S4x4096x1x1x64_S4x4096x1x1x64_S4x4096x1x1x64_S4x4096x4x1x64_d2 : (⟨S4x4096x4x1x64, .f32⟩ : BufTy).Contents (Elt Ideal))

/-- The window branch's last rows. -/
def win (K : FVec Ideal S4x4096x6x1x64 .f32) (WN : FVec Ideal S4x4096x1x64 .f32) (A3 : FVec Ideal S4x64 .f32) : FVec Ideal S4x512x2x1x64 .f32 :=
  extractStridedSlice S4x512x2x1x64 ![0, 3584, 0, 0, 0] (concatenate S4x4096x2x1x64 2 [⟨S4x4096x1x1x64, (broadcastInDim S4x4096x1x1x64 ![0, 1, 3, 4] bcast_S4x4096x1x64_S4x4096x1x1x64_0_1_3_4 (mulf (mulf WN (broadcastInDim S4x4096x1x64 ![0, 1, 2, 3] bcast_S4x4096x1x1_S4x4096x1x64_0_1_2_3 (Host.rsqrt (addf (Host.divf (broadcastInDim S4x4096x1x1 ![0, 1, 2] bcast_S4x4096x1_S4x4096x1x1_0_1_2 (Host.reduceAdd (mulf WN WN) (constant S_ .f32 0x00000000#32) reducesTo_S4x4096x1x64_S4x4096x1_d3 h_S_)) (broadcastInDim S4x4096x1x1 ![] bcast_S_S4x4096x1x1 (constant S_ .f32 0x42800000#32))) (broadcastInDim S4x4096x1x1 ![] bcast_S_S4x4096x1x1 (constant S_ .f32 0x358637BD#32)))))) (broadcastInDim S4x4096x1x64 ![0, 1, 2, 3] bcast_S1x1x1x64_S4x4096x1x64_0_1_2_3 (broadcastInDim S1x1x1x64 ![3] bcast_S64_S1x1x1x64_3 (shapeCast _ (extractStridedSlice S1x64 ![3, 0] A3 slices_S4x64_S1x64_3_0) shapeCasts_S1x64_S64)))))⟩, ⟨S4x4096x1x1x64, (broadcastInDim S4x4096x1x1x64 ![0, 1, 3, 4] bcast_S4x4096x1x64_S4x4096x1x1x64_0_1_3_4 (shapeCast _ (extractStridedSlice S4x4096x1x1x64 ![0, 0, 5, 0, 0] K slices_S4x4096x6x1x64_S4x4096x1x1x64_0_0_5_0_0) shapeCasts_S4x4096x1x1x64_S4x4096x1x64))⟩] concatenates_S4x4096x1x1x64_S4x4096x1x1x64_S4x4096x2x1x64_d2) slices_S4x4096x2x1x64_S4x512x2x1x64_0_3584_0_0_0

/-- The sparse heads' queries. -/
def qn (QC : FVec Ideal S4x4096x1x8x64 .f32) (A3 : FVec Ideal S4x64 .f32) : FVec Ideal S4x4096x8x64 .bf16 :=
  truncf .bf16 (shapeCast _ (mulf (mulf (mulf QC (broadcastInDim S4x4096x1x8x64 ![0, 1, 2, 3, 4] bcast_S4x4096x1x8x1_S4x4096x1x8x64_0_1_2_3_4 (Host.rsqrt (addf (Host.divf (broadcastInDim S4x4096x1x8x1 ![0, 1, 2, 3] bcast_S4x4096x1x8_S4x4096x1x8x1_0_1_2_3 (Host.reduceAdd (mulf QC QC) (constant S_ .f32 0x00000000#32) reducesTo_S4x4096x1x8x64_S4x4096x1x8_d4 h_S_)) (broadcastInDim S4x4096x1x8x1 ![] bcast_S_S4x4096x1x8x1 (constant S_ .f32 0x42800000#32))) (broadcastInDim S4x4096x1x8x1 ![] bcast_S_S4x4096x1x8x1 (constant S_ .f32 0x358637BD#32)))))) (broadcastInDim S4x4096x1x8x64 ![0, 1, 2, 3, 4] bcast_S1x1x1x1x64_S4x4096x1x8x64_0_1_2_3_4 (broadcastInDim S1x1x1x1x64 ![4] bcast_S64_S1x1x1x1x64_4 (shapeCast _ (extractStridedSlice S1x64 ![0, 0] A3 slices_S4x64_S1x64_0_0) shapeCasts_S1x64_S64)))) (broadcastInDim S4x4096x1x8x64 ![] bcast_S_S4x4096x1x8x64 (constant S_ .f32 0x3E000000#32))) shapeCasts_S4x4096x1x8x64_S4x4096x8x64) bitsLt_bf16_f32

/-- The gates. -/
def gates (C : FVec Ideal S4x4096x1592 .f32) : FVec Ideal S4x4096x3x1x8 .f32 :=
  shapeCast _ (Host.divf (broadcastInDim S4x4096x24 ![] bcast_S_S4x4096x24 (constant S_ .f32 0x3F800000#32)) (addf (broadcastInDim S4x4096x24 ![] bcast_S_S4x4096x24 (constant S_ .f32 0x3F800000#32)) (Host.exp (Host.negf (extractStridedSlice S4x4096x24 ![0, 0, 896] C slices_S4x4096x1592_S4x4096x24_0_0_896))))) shapeCasts_S4x4096x24_S4x4096x3x1x8

/-- The query latents before their norm. -/
def ql (C : FVec Ideal S4x4096x1592 .f32) : FVec Ideal S4x4096x384 .f32 :=
  extractStridedSlice S4x4096x384 ![0, 0, 920] C slices_S4x4096x1592_S4x4096x384_0_0_920

/-- The query latents. -/
def qln (QL : FVec Ideal S4x4096x384 .f32) (A4 : FVec Ideal S384 .f32) : FVec Ideal S4x4096x384 .f32 :=
  mulf (mulf QL (broadcastInDim S4x4096x384 ![0, 1, 2] bcast_S4x4096x1_S4x4096x384_0_1_2 (Host.rsqrt (addf (Host.divf (broadcastInDim S4x4096x1 ![0, 1] bcast_S4x4096_S4x4096x1_0_1 (Host.reduceAdd (mulf QL QL) (constant S_ .f32 0x00000000#32) reducesTo_S4x4096x384_S4x4096_d2 h_S_)) (broadcastInDim S4x4096x1 ![] bcast_S_S4x4096x1 (constant S_ .f32 0x43C00000#32))) (broadcastInDim S4x4096x1 ![] bcast_S_S4x4096x1 (constant S_ .f32 0x358637BD#32)))))) (broadcastInDim S4x4096x384 ![0, 1, 2] bcast_S1x1x384_S4x4096x384_0_1_2 (broadcastInDim S1x1x384 ![2] bcast_S384_S1x1x384_2 A4))

/-- The latent heads' queries before their norms. -/
def qup (QN : FVec Ideal S4x4096x384 .f32) (A6 : FVec Ideal S384x768 .f32) : FVec Ideal S4x4096x8x96 .f32 :=
  shapeCast _ (Host.dotGeneral dot_S4x4096x384_S384x768_S4x4096x768_2_0_01_1_n_n none QN A6) shapeCasts_S4x4096x768_S4x4096x8x96

/-- Their first lanes. -/
def qup64 (Q : FVec Ideal S4x4096x8x96 .f32) : FVec Ideal S4x4096x8x64 .f32 :=
  extractStridedSlice S4x4096x8x64 ![0, 0, 0, 0] Q slices_S4x4096x8x96_S4x4096x8x64_0_0_0_0

/-- Their last lanes. -/
def qup32 (Q : FVec Ideal S4x4096x8x96 .f32) : FVec Ideal S4x4096x8x32 .f32 :=
  extractStridedSlice S4x4096x8x32 ![0, 0, 0, 64] Q slices_S4x4096x8x96_S4x4096x8x32_0_0_0_64

/-- The last lanes normed. -/
def qrn (Q : FVec Ideal S4x4096x8x32 .f32) (A10 : FVec Ideal S2x32 .f32) : FVec Ideal S4x4096x8x32 .f32 :=
  mulf (mulf Q (broadcastInDim S4x4096x8x32 ![0, 1, 2, 3] bcast_S4x4096x8x1_S4x4096x8x32_0_1_2_3 (Host.rsqrt (addf (Host.divf (broadcastInDim S4x4096x8x1 ![0, 1, 2] bcast_S4x4096x8_S4x4096x8x1_0_1_2 (Host.reduceAdd (mulf Q Q) (constant S_ .f32 0x00000000#32) reducesTo_S4x4096x8x32_S4x4096x8_d3 h_S_)) (broadcastInDim S4x4096x8x1 ![] bcast_S_S4x4096x8x1 (constant S_ .f32 0x42000000#32))) (broadcastInDim S4x4096x8x1 ![] bcast_S_S4x4096x8x1 (constant S_ .f32 0x358637BD#32)))))) (broadcastInDim S4x4096x8x32 ![0, 1, 2, 3] bcast_S1x1x1x32_S4x4096x8x32_0_1_2_3 (broadcastInDim S1x1x1x32 ![3] bcast_S32_S1x1x1x32_3 (shapeCast _ (extractStridedSlice S1x32 ![0, 0] A10 slices_S2x32_S1x32_0_0) shapeCasts_S1x32_S32)))

/-- The angles. -/
def ang  : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- The latent heads' queries. -/
def qmla (Q : FVec Ideal S4x4096x8x64 .f32) (R : FVec Ideal S4x4096x8x32 .f32) (T : FVec Ideal S4096x16 .f32) (A9 : FVec Ideal S2x64 .f32) : FVec Ideal S4x4096x8x96 .bf16 :=
  truncf .bf16 (mulf (concatenate S4x4096x8x96 3 [⟨S4x4096x8x64, (mulf (mulf (mulf Q (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf Q Q) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x358637BD#32)))))) (broadcastInDim S4x4096x8x64 ![0, 1, 2, 3] bcast_S1x1x1x64_S4x4096x8x64_0_1_2_3 (broadcastInDim S1x1x1x64 ![3] bcast_S64_S1x1x1x64_3 (shapeCast _ (extractStridedSlice S1x64 ![0, 0] A9 slices_S2x64_S1x64_0_0) shapeCasts_S1x64_S64)))) (broadcastInDim S4x4096x8x64 ![0, 1, 2, 3] bcast_S1x1x1x64_S4x4096x8x64_0_1_2_3 (broadcastInDim S1x1x1x64 ![3] bcast_S64_S1x1x1x64_3 (shapeCast _ (extractStridedSlice S1x64 ![1, 0] A9 slices_S2x64_S1x64_1_0) shapeCasts_S1x64_S64))))⟩, ⟨S4x4096x8x32, (concatenate S4x4096x8x32 3 [⟨S4x4096x8x16, (subf (mulf (extractStridedSlice S4x4096x8x16 ![0, 0, 0, 0] R slices_S4x4096x8x32_S4x4096x8x16_0_0_0_0) (broadcastInDim S4x4096x8x16 ![0, 1, 2, 3] bcast_S1x4096x1x16_S4x4096x8x16_0_1_2_3 (broadcastInDim S1x4096x1x16 ![1, 2, 3] bcast_S4096x1x16_S1x4096x1x16_1_2_3 (shapeCast _ (Host.cos T) shapeCasts_S4096x16_S4096x1x16)))) (mulf (extractStridedSlice S4x4096x8x16 ![0, 0, 0, 16] R slices_S4x4096x8x32_S4x4096x8x16_0_0_0_16) (broadcastInDim S4x4096x8x16 ![0, 1, 2, 3] bcast_S1x4096x1x16_S4x4096x8x16_0_1_2_3 (broadcastInDim S1x4096x1x16 ![1, 2, 3] bcast_S4096x1x16_S1x4096x1x16_1_2_3 (shapeCast _ (Host.sin T) shapeCasts_S4096x16_S4096x1x16)))))⟩, ⟨S4x4096x8x16, (addf (mulf (extractStridedSlice S4x4096x8x16 ![0, 0, 0, 0] R slices_S4x4096x8x32_S4x4096x8x16_0_0_0_0) (broadcastInDim S4x4096x8x16 ![0, 1, 2, 3] bcast_S1x4096x1x16_S4x4096x8x16_0_1_2_3 (broadcastInDim S1x4096x1x16 ![1, 2, 3] bcast_S4096x1x16_S1x4096x1x16_1_2_3 (shapeCast _ (Host.sin T) shapeCasts_S4096x16_S4096x1x16)))) (mulf (extractStridedSlice S4x4096x8x16 ![0, 0, 0, 16] R slices_S4x4096x8x32_S4x4096x8x16_0_0_0_16) (broadcastInDim S4x4096x8x16 ![0, 1, 2, 3] bcast_S1x4096x1x16_S4x4096x8x16_0_1_2_3 (broadcastInDim S1x4096x1x16 ![1, 2, 3] bcast_S4096x1x16_S1x4096x1x16_1_2_3 (shapeCast _ (Host.cos T) shapeCasts_S4096x16_S4096x1x16)))))⟩] concatenates_S4x4096x8x16_S4x4096x8x16_S4x4096x8x32_d3)⟩] concatenates_S4x4096x8x64_S4x4096x8x32_S4x4096x8x96_d3) (broadcastInDim S4x4096x8x96 ![] bcast_S_S4x4096x8x96 (constant S_ .f32 0x3DD105EC#32))) bitsLt_bf16_f32

/-- The latents before their norm. -/
def ckv (C : FVec Ideal S4x4096x1592 .f32) : FVec Ideal S4x4096x256 .f32 :=
  extractStridedSlice S4x4096x256 ![0, 0, 1304] C slices_S4x4096x1592_S4x4096x256_0_0_1304

/-- The latents. -/
def lat (CK : FVec Ideal S4x4096x256 .f32) (A5 : FVec Ideal S256 .f32) : FVec Ideal S4x4096x256 .f32 :=
  mulf (mulf CK (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf CK CK) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x358637BD#32)))))) (broadcastInDim S4x4096x256 ![0, 1, 2] bcast_S1x1x256_S4x4096x256_0_1_2 (broadcastInDim S1x1x256 ![2] bcast_S256_S1x1x256_2 A5))

/-- The shared rotary key before its norm. -/
def kr (C : FVec Ideal S4x4096x1592 .f32) : FVec Ideal S4x4096x32 .f32 :=
  extractStridedSlice S4x4096x32 ![0, 0, 1560] C slices_S4x4096x1592_S4x4096x32_0_0_1560

/-- The shared rotary key, normed. -/
def krn (K : FVec Ideal S4x4096x32 .f32) (A10 : FVec Ideal S2x32 .f32) : FVec Ideal S4x4096x32 .f32 :=
  mulf (mulf K (broadcastInDim S4x4096x32 ![0, 1, 2] bcast_S4x4096x1_S4x4096x32_0_1_2 (Host.rsqrt (addf (Host.divf (broadcastInDim S4x4096x1 ![0, 1] bcast_S4x4096_S4x4096x1_0_1 (Host.reduceAdd (mulf K K) (constant S_ .f32 0x00000000#32) reducesTo_S4x4096x32_S4x4096_d2 h_S_)) (broadcastInDim S4x4096x1 ![] bcast_S_S4x4096x1 (constant S_ .f32 0x42000000#32))) (broadcastInDim S4x4096x1 ![] bcast_S_S4x4096x1 (constant S_ .f32 0x358637BD#32)))))) (broadcastInDim S4x4096x32 ![0, 1, 2] bcast_S1x1x32_S4x4096x32_0_1_2 (broadcastInDim S1x1x32 ![2] bcast_S32_S1x1x32_2 (shapeCast _ (extractStridedSlice S1x32 ![1, 0] A10 slices_S2x32_S1x32_1_0) shapeCasts_S1x32_S32)))

/-- The shared rotary key, turned. -/
def krope (R : FVec Ideal S4x4096x32 .f32) (T : FVec Ideal S4096x16 .f32) : FVec Ideal S4x4096x32 .f32 :=
  concatenate S4x4096x32 2 [⟨S4x4096x16, (subf (mulf (extractStridedSlice S4x4096x16 ![0, 0, 0] R slices_S4x4096x32_S4x4096x16_0_0_0) (broadcastInDim S4x4096x16 ![0, 1, 2] bcast_S1x4096x16_S4x4096x16_0_1_2 (broadcastInDim S1x4096x16 ![1, 2] bcast_S4096x16_S1x4096x16_1_2 (Host.cos T)))) (mulf (extractStridedSlice S4x4096x16 ![0, 0, 16] R slices_S4x4096x32_S4x4096x16_0_0_16) (broadcastInDim S4x4096x16 ![0, 1, 2] bcast_S1x4096x16_S4x4096x16_0_1_2 (broadcastInDim S1x4096x16 ![1, 2] bcast_S4096x16_S1x4096x16_1_2 (Host.sin T)))))⟩, ⟨S4x4096x16, (addf (mulf (extractStridedSlice S4x4096x16 ![0, 0, 0] R slices_S4x4096x32_S4x4096x16_0_0_0) (broadcastInDim S4x4096x16 ![0, 1, 2] bcast_S1x4096x16_S4x4096x16_0_1_2 (broadcastInDim S1x4096x16 ![1, 2] bcast_S4096x16_S1x4096x16_1_2 (Host.sin T)))) (mulf (extractStridedSlice S4x4096x16 ![0, 0, 16] R slices_S4x4096x32_S4x4096x16_0_0_16) (broadcastInDim S4x4096x16 ![0, 1, 2] bcast_S1x4096x16_S4x4096x16_0_1_2 (broadcastInDim S1x4096x16 ![1, 2] bcast_S4096x16_S1x4096x16_1_2 (Host.cos T)))))⟩] concatenates_S4x4096x16_S4x4096x16_S4x4096x32_d2

/-- The heads' keys. -/
def knope (L : FVec Ideal S4x4096x256 .f32) (A7 : FVec Ideal S256x8x64 .f32) : FVec Ideal S4x4096x8x64 .f32 :=
  Host.dotGeneral dot_S4x4096x256_S256x8x64_S4x4096x8x64_2_0_01_12_n_n none L A7

/-- Each key's scale. -/
def kscale (K : FVec Ideal S4x4096x8x64 .f32) : FVec Ideal S4x4096x8 .f32 :=
  Host.rsqrt (addf (Host.divf (Host.reduceAdd (mulf K K) (constant S_ .f32 0x00000000#32) reducesTo_S4x4096x8x64_S4x4096x8_d3 h_S_) (broadcastInDim S4x4096x8 ![] bcast_S_S4x4096x8 (constant S_ .f32 0x42800000#32))) (broadcastInDim S4x4096x8 ![] bcast_S_S4x4096x8 (constant S_ .f32 0x358637BD#32)))

/-- The rows of the latent cache. -/
def mlarows (L : FVec Ideal S4x4096x256 .f32) (R : FVec Ideal S4x4096x32 .f32) : FVec Ideal S4x4096x288 .f32 :=
  concatenate S4x4096x288 2 [⟨S4x4096x256, L⟩, ⟨S4x4096x32, R⟩] concatenates_S4x4096x256_S4x4096x32_S4x4096x288_d2

/-- The keys as the attention reads them. -/
def kfull (K : FVec Ideal S4x4096x8x64 .f32) (S : FVec Ideal S4x4096x8 .f32) (R : FVec Ideal S4x4096x32 .f32) : FVec Ideal S4x4096x8x96 .bf16 :=
  truncf .bf16 (concatenate S4x4096x8x96 3 [⟨S4x4096x8x64, (mulf K (broadcastInDim S4x4096x8x64 ![0, 1, 2, 3] bcast_S4x4096x8x1_S4x4096x8x64_0_1_2_3 (broadcastInDim S4x4096x8x1 ![0, 1, 2] bcast_S4x4096x8_S4x4096x8x1_0_1_2 S)))⟩, ⟨S4x4096x8x32, (broadcastInDim S4x4096x8x32 ![0, 1, 2, 3] bcast_S4x4096x1x32_S4x4096x8x32_0_1_2_3 (broadcastInDim S4x4096x1x32 ![0, 1, 3] bcast_S4x4096x32_S4x4096x1x32_0_1_3 R))⟩] concatenates_S4x4096x8x64_S4x4096x8x32_S4x4096x8x96_d3) bitsLt_bf16_f32

/-- The values. -/
def vals (L : FVec Ideal S4x4096x256 .f32) (A8 : FVec Ideal S256x8x64 .f32) : FVec Ideal S4x4096x8x64 .bf16 :=
  truncf .bf16 (Host.dotGeneral dot_S4x4096x256_S256x8x64_S4x4096x8x64_2_0_01_12_n_n none L A8) bitsLt_bf16_f32

variable (m : (ℓ : Loc nD τ sig) → Buf (Elt Ideal) ℓ) (c : Dev nD)

/-- The columns, the latents, the turned key and the heads' keys, of the arguments. -/
def colsOf : FVec Ideal S4x4096x1592 .f32 := cols (xn (m ((c.tc : Thread nD τ).loc main_arg0)) (m ((c.tc : Thread nD τ).loc main_arg1))) (m ((c.tc : Thread nD τ).loc main_arg2))
def latOf : FVec Ideal S4x4096x256 .f32 := lat (ckv (colsOf m c)) (m ((c.tc : Thread nD τ).loc main_arg5))
def kropeOf : FVec Ideal S4x4096x32 .f32 := krope (krn (kr (colsOf m c)) (m ((c.tc : Thread nD τ).loc main_arg10))) ang
def knopeOf : FVec Ideal S4x4096x8x64 .f32 := knope (latOf m c) (m ((c.tc : Thread nD τ).loc main_arg7))
def qupOf : FVec Ideal S4x4096x8x96 .f32 := qup (qln (ql (colsOf m c)) (m ((c.tc : Thread nD τ).loc main_arg4))) (m ((c.tc : Thread nD τ).loc main_arg6))

/-- The results of the reference, of the arguments. -/
def r0 : FVec Ideal S4x4096x4x1x64 .f32 := nsa (kvs (colsOf m c)) (kvsel (kvs (colsOf m c))) (m ((c.tc : Thread nD τ).loc main_arg3))
def r1 : FVec Ideal S4x4096x288 .f32 := mlarows (latOf m c) (kropeOf m c)
def r2 : FVec Ideal S4x4096x8 .f32 := kscale (knopeOf m c)
def r3 : FVec Ideal S4x512x2x1x64 .f32 := win (kvs (colsOf m c)) (kvwin (kvs (colsOf m c))) (m ((c.tc : Thread nD τ).loc main_arg3))
def r4 : FVec Ideal S4x4096x8x64 .bf16 := qn (qcols (colsOf m c)) (m ((c.tc : Thread nD τ).loc main_arg3))
def r5 : FVec Ideal S4x4096x3x1x8 .f32 := gates (colsOf m c)
def r6 : FVec Ideal S4x4096x8x96 .bf16 := qmla (qup64 (qupOf m c)) (qrn (qup32 (qupOf m c)) (m ((c.tc : Thread nD τ).loc main_arg10))) ang (m ((c.tc : Thread nD τ).loc main_arg9))
def r7 : FVec Ideal S4x4096x8x96 .bf16 := kfull (knopeOf m c) (kscale (knopeOf m c)) (kropeOf m c)
def r8 : FVec Ideal S4x4096x8x64 .bf16 := vals (latOf m c) (m ((c.tc : Thread nD τ).loc main_arg8))

set_option maxHeartbeats 4000000 in
/-- The results of the reference, by these names. -/
theorem run (ρ : Dev nD → PrngReg) :
    θ_run defs (onTc (τ := τ) (main (F := Ideal))) ⟨m, fun _ => 0, ρ⟩ fun r => ∀ c : Dev nD,
      r.2.mem ((c.tc : Thread nD τ).loc main_v69) = r0 m c ∧ r.2.mem ((c.tc : Thread nD τ).loc main_v247) = r1 m c
      ∧ r.2.mem ((c.tc : Thread nD τ).loc main_v246) = r2 m c ∧ r.2.mem ((c.tc : Thread nD τ).loc main_v254) = r3 m c
      ∧ r.2.mem ((c.tc : Thread nD τ).loc main_v258) = r4 m c ∧ r.2.mem ((c.tc : Thread nD τ).loc main_v41) = r5 m c
      ∧ r.2.mem ((c.tc : Thread nD τ).loc main_v262) = r6 m c ∧ r.2.mem ((c.tc : Thread nD τ).loc main_v264) = r7 m c
      ∧ r.2.mem ((c.tc : Thread nD τ).loc main_v265) = r8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Cert.Reference3Ideal.Value.run m ρ

/-- The reciprocal root of a mean square. -/
def rms (S N : EReal) : EReal := Ideal.rsqrt (Ideal.div S N + Ideal.ofBits .f32 0x358637BD#32)

theorem xn_apply (A0 : FVec Ideal S4x4096x1024 .f32) (A1 : FVec Ideal S1024 .f32) (b : Fin 4) (t : Fin 4096) (d : Fin 1024) : xn A0 A1 (ix3 b t d) =
    A0 (ix3 b t d) * rms (∑ x : Fin 1024, A0 (ix3 b t x) * A0 (ix3 b t x)) (Ideal.ofBits .f32 0x44800000#32) * A1 (ix1 d) := by
  pointwise [xn, rms]
theorem cols_apply (X : FVec Ideal S4x4096x1024 .f32) (A2 : FVec Ideal S1024x1592 .f32) (b : Fin 4) (t : Fin 4096) (j : Fin 1592) :
    cols X A2 (ix3 b t j) = ∑ d : Fin 1024, X (ix3 b t d) * A2 (ix2 d j) := by
  pointwise [cols]
variable (C : FVec Ideal S4x4096x1592 .f32) (b : Fin 4) (t : Fin 4096)
theorem qcols_apply (h : Fin 8) (d : Fin 64) : qcols C (ix5 b t 0 h d) = C (ix3 b t ⟨h * 64 + d, by omega⟩) := by
  pointwise [qcols]
theorem kvs_apply (i : Fin 6) (d : Fin 64) : kvs C (ix5 b t i 0 d) = C (ix3 b t ⟨512 + (i * 64 + d), by omega⟩) := by
  pointwise [kvs]
theorem kvsel_apply (K : FVec Ideal S4x4096x6x1x64 .f32) (d : Fin 64) : kvsel K (ix4 b t 0 d) = K (ix5 b t 2 0 d) := by
  pointwise [kvsel]
theorem kvwin_apply (K : FVec Ideal S4x4096x6x1x64 .f32) (d : Fin 64) : kvwin K (ix4 b t 0 d) = K (ix5 b t 4 0 d) := by
  pointwise [kvwin]
section
variable (K : FVec Ideal S4x4096x6x1x64 .f32) (SL : FVec Ideal S4x4096x1x64 .f32) (A3 : FVec Ideal S4x64 .f32) (d : Fin 64)
theorem nsa_0 : nsa K SL A3 (ix5 b t 0 0 d) = K (ix5 b t 0 0 d) := by
  pointwise [nsa]
theorem nsa_1 : nsa K SL A3 (ix5 b t 1 0 d) = K (ix5 b t 1 0 d) := by
  pointwise [nsa]
theorem nsa_2 : nsa K SL A3 (ix5 b t 2 0 d) = SL (ix4 b t 0 d) * rms (∑ x : Fin 64, SL (ix4 b t 0 x) * SL (ix4 b t 0 x)) (Ideal.ofBits .f32 0x42800000#32) * A3 (ix2 2 d) := by
  pointwise [nsa, rms]
theorem nsa_3 : nsa K SL A3 (ix5 b t 3 0 d) = K (ix5 b t 3 0 d) := by
  pointwise [nsa]
theorem win_0 (s : Fin 512) : win K SL A3 (ix5 b s 0 0 d) = SL (ix4 b ⟨3584 + s, by omega⟩ 0 d) * rms (∑ x : Fin 64, SL (ix4 b ⟨3584 + s, by omega⟩ 0 x) * SL (ix4 b ⟨3584 + s, by omega⟩ 0 x)) (Ideal.ofBits .f32 0x42800000#32) * A3 (ix2 3 d) := by
  pointwise [win, rms]
theorem win_1 (s : Fin 512) : win K SL A3 (ix5 b s 1 0 d) = K (ix5 b ⟨3584 + s, by omega⟩ 5 0 d) := by
  pointwise [win]
theorem qn_apply (QC : FVec Ideal S4x4096x1x8x64 .f32) (h : Fin 8) : qn QC A3 (ix4 b t h d) =
    QC (ix5 b t 0 h d) * rms (∑ x : Fin 64, QC (ix5 b t 0 h x) * QC (ix5 b t 0 h x)) (Ideal.ofBits .f32 0x42800000#32) * A3 (ix2 0 d) * Ideal.ofBits .f32 0x3E000000#32 := by
  pointwise [qn, rms]
end
theorem gates_apply (i : Fin 3) (h : Fin 8) : gates C (ix5 b t i 0 h) = Ideal.div 1 (1 + Ideal.exp (-C (ix3 b t ⟨896 + (i * 8 + h), by omega⟩))) := by
  pointwise [gates]
theorem ql_apply (e : Fin 384) : ql C (ix3 b t e) = C (ix3 b t ⟨920 + e, by omega⟩) := by
  pointwise [ql]
theorem qln_apply (Q : FVec Ideal S4x4096x384 .f32) (A4 : FVec Ideal S384 .f32) (e : Fin 384) : qln Q A4 (ix3 b t e) =
    Q (ix3 b t e) * rms (∑ x : Fin 384, Q (ix3 b t x) * Q (ix3 b t x)) (Ideal.ofBits .f32 0x43C00000#32) * A4 (ix1 e) := by
  pointwise [qln, rms]
theorem qup_apply (Q : FVec Ideal S4x4096x384 .f32) (A6 : FVec Ideal S384x768 .f32) (h : Fin 8) (l : Fin 96) : qup Q A6 (ix4 b t h l) =
    ∑ e : Fin 384, Q (ix3 b t e) * A6 (ix2 e ⟨h * 96 + l, by omega⟩) := by
  pointwise [qup]
theorem qup64_apply (Q : FVec Ideal S4x4096x8x96 .f32) (h : Fin 8) (d : Fin 64) : qup64 Q (ix4 b t h d) = Q (ix4 b t h ⟨d, by omega⟩) := by
  pointwise [qup64]
theorem qup32_apply (Q : FVec Ideal S4x4096x8x96 .f32) (h : Fin 8) (d : Fin 32) : qup32 Q (ix4 b t h d) = Q (ix4 b t h ⟨64 + d, by omega⟩) := by
  pointwise [qup32]
theorem qrn_apply (Q : FVec Ideal S4x4096x8x32 .f32) (A10 : FVec Ideal S2x32 .f32) (h : Fin 8) (d : Fin 32) : qrn Q A10 (ix4 b t h d) =
    Q (ix4 b t h d) * rms (∑ x : Fin 32, Q (ix4 b t h x) * Q (ix4 b t h x)) (Ideal.ofBits .f32 0x42000000#32) * A10 (ix2 0 d) := by
  pointwise [qrn, rms]
section
variable (Q : FVec Ideal S4x4096x8x64 .f32) (R : FVec Ideal S4x4096x8x32 .f32) (T : FVec Ideal S4096x16 .f32) (A9 : FVec Ideal S2x64 .f32) (h : Fin 8)
theorem qmla_0 (d : Fin 64) : qmla Q R T A9 (ix4 b t h ⟨d, by omega⟩) =
    Q (ix4 b t h d) * rms (∑ x : Fin 64, Q (ix4 b t h x) * Q (ix4 b t h x)) (Ideal.ofBits .f32 0x42800000#32) * A9 (ix2 0 d) * A9 (ix2 1 d) * Ideal.ofBits .f32 0x3DD105EC#32 := by
  pointwise [qmla, rms]
theorem qmla_1 (d : Fin 16) : qmla Q R T A9 (ix4 b t h ⟨64 + d, by omega⟩) =
    (R (ix4 b t h ⟨d, by omega⟩) * Ideal.cos (T (ix2 t d)) - R (ix4 b t h ⟨16 + d, by omega⟩) * Ideal.sin (T (ix2 t d))) * Ideal.ofBits .f32 0x3DD105EC#32 := by
  pointwise [qmla]
theorem qmla_2 (d : Fin 16) : qmla Q R T A9 (ix4 b t h ⟨80 + d, by omega⟩) =
    (R (ix4 b t h ⟨d, by omega⟩) * Ideal.sin (T (ix2 t d)) + R (ix4 b t h ⟨16 + d, by omega⟩) * Ideal.cos (T (ix2 t d))) * Ideal.ofBits .f32 0x3DD105EC#32 := by
  pointwise [qmla]
  simp only [show ¬ 80 + d.val < 64 by omega, show ¬ 80 + d.val - 64 < 16 by omega, show 80 + d.val - 64 - 16 = d.val by omega, dite_false]
end
theorem ckv_apply (e : Fin 256) : ckv C (ix3 b t e) = C (ix3 b t ⟨1304 + e, by omega⟩) := by
  pointwise [ckv]
theorem lat_apply (Q : FVec Ideal S4x4096x256 .f32) (A5 : FVec Ideal S256 .f32) (e : Fin 256) : lat Q A5 (ix3 b t e) =
    Q (ix3 b t e) * rms (∑ x : Fin 256, Q (ix3 b t x) * Q (ix3 b t x)) (Ideal.ofBits .f32 0x43800000#32) * A5 (ix1 e) := by
  pointwise [lat, rms]
theorem kr_apply (e : Fin 32) : kr C (ix3 b t e) = C (ix3 b t ⟨1560 + e, by omega⟩) := by
  pointwise [kr]
theorem krn_apply (Q : FVec Ideal S4x4096x32 .f32) (A10 : FVec Ideal S2x32 .f32) (d : Fin 32) : krn Q A10 (ix3 b t d) =
    Q (ix3 b t d) * rms (∑ x : Fin 32, Q (ix3 b t x) * Q (ix3 b t x)) (Ideal.ofBits .f32 0x42000000#32) * A10 (ix2 1 d) := by
  pointwise [krn, rms]
theorem krope_1 (R : FVec Ideal S4x4096x32 .f32) (T : FVec Ideal S4096x16 .f32) (d : Fin 16) : krope R T (ix3 b t ⟨d, by omega⟩) =
    R (ix3 b t ⟨d, by omega⟩) * Ideal.cos (T (ix2 t d)) - R (ix3 b t ⟨16 + d, by omega⟩) * Ideal.sin (T (ix2 t d)) := by
  pointwise [krope]
theorem krope_2 (R : FVec Ideal S4x4096x32 .f32) (T : FVec Ideal S4096x16 .f32) (d : Fin 16) : krope R T (ix3 b t ⟨16 + d, by omega⟩) =
    R (ix3 b t ⟨d, by omega⟩) * Ideal.sin (T (ix2 t d)) + R (ix3 b t ⟨16 + d, by omega⟩) * Ideal.cos (T (ix2 t d)) := by
  pointwise [krope]
theorem knope_apply (L : FVec Ideal S4x4096x256 .f32) (A7 : FVec Ideal S256x8x64 .f32) (h : Fin 8) (d : Fin 64) : knope L A7 (ix4 b t h d) =
    ∑ e : Fin 256, L (ix3 b t e) * A7 (ix3 e h d) := by
  pointwise [knope]
theorem kscale_apply (K : FVec Ideal S4x4096x8x64 .f32) (h : Fin 8) : kscale K (ix3 b t h) = rms (∑ x : Fin 64, K (ix4 b t h x) * K (ix4 b t h x)) (Ideal.ofBits .f32 0x42800000#32) := by
  pointwise [kscale, rms]
theorem mlarows_0 (L : FVec Ideal S4x4096x256 .f32) (R : FVec Ideal S4x4096x32 .f32) (e : Fin 256) : mlarows L R (ix3 b t ⟨e, by omega⟩) = L (ix3 b t e) := by
  pointwise [mlarows]
theorem mlarows_1 (L : FVec Ideal S4x4096x256 .f32) (R : FVec Ideal S4x4096x32 .f32) (e : Fin 32) : mlarows L R (ix3 b t ⟨256 + e, by omega⟩) = R (ix3 b t e) := by
  pointwise [mlarows]
theorem kfull_0 (K : FVec Ideal S4x4096x8x64 .f32) (S : FVec Ideal S4x4096x8 .f32) (R : FVec Ideal S4x4096x32 .f32) (h : Fin 8) (d : Fin 64) :
    kfull K S R (ix4 b t h ⟨d, by omega⟩) = K (ix4 b t h d) * S (ix3 b t h) := by
  pointwise [kfull]
theorem kfull_1 (K : FVec Ideal S4x4096x8x64 .f32) (S : FVec Ideal S4x4096x8 .f32) (R : FVec Ideal S4x4096x32 .f32) (h : Fin 8) (d : Fin 32) :
    kfull K S R (ix4 b t h ⟨64 + d, by omega⟩) = R (ix3 b t d) := by
  pointwise [kfull]
theorem vals_apply (L : FVec Ideal S4x4096x256 .f32) (A8 : FVec Ideal S256x8x64 .f32) (h : Fin 8) (d : Fin 64) : vals L A8 (ix4 b t h d) =
    ∑ e : Fin 256, L (ix3 b t e) * A8 (ix3 e h d) := by
  pointwise [vals]

end Cert.Proof.Proj.Ref
end
-- ==== Proof.ProjPack.lean ====
/-
  The packed operands of the projection call: what its arrays hold at an entry, in terms of the arguments.
-/
module
public import proofs.«01_k».proof.Proof.Gen.Kernel3Ideal.Frame
public import proofs.«01_k».proof.Proof.ProjRef
public import Idealize.ShloMosaic.Lib.Pipeline.ValueKit
public import Idealize.ShloMosaic.Lib.Pointwise
@[expose] public section
set_option maxRecDepth 16384
noncomputable section
namespace Cert.Kernel3Ideal.Proj
open Idealize.ShloMosaic Idealize.ShloMosaic.Tactic Cert.Kernel3Ideal Cert.Kernel3Ideal.Gen
open Cert.Proof.Proj

/-- The sparse queries' columns, each head's padded to the lanes. -/
def packQ (W : FVec Ideal S1024x1592 .f32) : FVec Ideal S1024x1024 .f32 :=
  shapeCast _ (concatenate S1024x8x128 2 [⟨S1024x8x64, shapeCast _ (extractStridedSlice S1024x512 ![0, 0] W slices_S1024x1592_S1024x512_0_0) shapeCasts_S1024x512_S1024x8x64⟩,
    ⟨S1024x8x64, broadcastInDim S1024x8x64 ![] bcast_S_S1024x8x64 (constant S_ .f32 0x00000000#32)⟩] concatenates_S1024x8x64_S1024x8x64_S1024x8x128_d2) shapeCasts_S1024x8x128_S1024x1024

/-- The shared rotary key's columns. -/
def packR (W : FVec Ideal S1024x1592 .f32) : FVec Ideal S1024x32 .f32 := extractStridedSlice S1024x32 ![0, 1560] W slices_S1024x1592_S1024x32_0_1560

/-- The gates' columns, and the shared rotary key's, as they are and with their halves changed over. -/
def packE (W : FVec Ideal S1024x1592 .f32) (R : FVec Ideal S1024x32 .f32) : FVec Ideal S1024x128 .f32 :=
  concatenate S1024x128 1 [⟨S1024x24, extractStridedSlice S1024x24 ![0, 896] W slices_S1024x1592_S1024x24_0_896⟩,
    ⟨S1024x40, broadcastInDim S1024x40 ![] bcast_S_S1024x40 (constant S_ .f32 0x00000000#32)⟩, ⟨S1024x32, R⟩,
    ⟨S1024x32, concatenate S1024x32 1 [⟨S1024x16, extractStridedSlice S1024x16 ![0, 16] R slices_S1024x32_S1024x16_0_16⟩,
      ⟨S1024x16, extractStridedSlice S1024x16 ![0, 0] R slices_S1024x32_S1024x16_0_0⟩] concatenates_S1024x16_S1024x16_S1024x32_d1⟩]
    concatenates_S1024x24_S1024x40_S1024x32_S1024x32_S1024x128_d1

/-- Every column, regrouped. -/
def packW (W : FVec Ideal S1024x1592 .f32) (Q : FVec Ideal S1024x1024 .f32) (E : FVec Ideal S1024x128 .f32) : FVec Ideal S1024x2176 .bf16 :=
  truncf .bf16 (concatenate S1024x2176 1 [⟨S1024x1024, Q⟩, ⟨S1024x384, extractStridedSlice S1024x384 ![0, 512] W slices_S1024x1592_S1024x384_0_512⟩,
    ⟨S1024x384, extractStridedSlice S1024x384 ![0, 920] W slices_S1024x1592_S1024x384_0_920⟩,
    ⟨S1024x256, extractStridedSlice S1024x256 ![0, 1304] W slices_S1024x1592_S1024x256_0_1304⟩, ⟨S1024x128, E⟩]
    concatenates_S1024x1024_S1024x384_S1024x384_S1024x256_S1024x128_S1024x2176_d1) bitsLt_bf16_f32

/-- The sparse queries' gains. -/
def packGq (A : FVec Ideal S4x64 .f32) : FVec Ideal S1x128 .f32 :=
  broadcastInDim S1x128 ![1] bcast_S128_S1x128_1 (concatenate S128 0 [⟨S64, mulf (shapeCast _ (extractStridedSlice S1x64 ![0, 0] A slices_S4x64_S1x64_0_0) shapeCasts_S1x64_S64)
    (broadcastInDim S64 ![] bcast_S_S64 (constant S_ .f32 0x3E000000#32))⟩, ⟨S64, broadcastInDim S64 ![] bcast_S_S64 (constant S_ .f32 0x00000000#32)⟩] concatenates_S64_S64_S128_d0)

/-- The two normed branches' gains. -/
def packGk (A : FVec Ideal S4x64 .f32) : FVec Ideal S8x128 .f32 :=
  concatenate S8x128 0 [⟨S2x128, concatenate S2x128 0 [
    ⟨S1x128, broadcastInDim S1x128 ![1] bcast_S128_S1x128_1 (concatenate S128 0 [⟨S64, shapeCast _ (extractStridedSlice S1x64 ![2, 0] A slices_S4x64_S1x64_2_0) shapeCasts_S1x64_S64⟩,
      ⟨S64, broadcastInDim S64 ![] bcast_S_S64 (constant S_ .f32 0x3F800000#32)⟩] concatenates_S64_S64_S128_d0)⟩,
    ⟨S1x128, broadcastInDim S1x128 ![1] bcast_S128_S1x128_1 (concatenate S128 0 [⟨S64, shapeCast _ (extractStridedSlice S1x64 ![3, 0] A slices_S4x64_S1x64_3_0) shapeCasts_S1x64_S64⟩,
      ⟨S64, broadcastInDim S64 ![] bcast_S_S64 (constant S_ .f32 0x3F800000#32)⟩] concatenates_S64_S64_S128_d0)⟩] concatenates_S1x128_S1x128_S2x128_d0⟩,
    ⟨S6x128, broadcastInDim S6x128 ![] bcast_S_S6x128 (constant S_ .f32 0x00000000#32)⟩] concatenates_S2x128_S6x128_S8x128_d0

/-- The rotary lanes of the latent queries' weights, by heads. -/
def upR (W : FVec Ideal S384x768 .f32) : FVec Ideal S384x8x32 .f32 :=
  extractStridedSlice S384x8x32 ![0, 0, 64] (shapeCast _ W shapeCasts_S384x768_S384x8x96) slices_S384x8x96_S384x8x32_0_0_64

/-- The latent queries' weights, each head's rotary lanes once more with their halves changed over. -/
def packUp (W : FVec Ideal S384x768 .f32) (R : FVec Ideal S384x8x32 .f32) : FVec Ideal S384x1024 .bf16 :=
  truncf .bf16 (shapeCast _ (concatenate S384x8x128 2 [⟨S384x8x96, shapeCast _ W shapeCasts_S384x768_S384x8x96⟩,
    ⟨S384x8x32, concatenate S384x8x32 2 [⟨S384x8x16, extractStridedSlice S384x8x16 ![0, 0, 16] R slices_S384x8x32_S384x8x16_0_0_16⟩,
      ⟨S384x8x16, extractStridedSlice S384x8x16 ![0, 0, 0] R slices_S384x8x32_S384x8x16_0_0_0⟩] concatenates_S384x8x16_S384x8x16_S384x8x32_d2⟩]
    concatenates_S384x8x96_S384x8x32_S384x8x128_d2) shapeCasts_S384x8x128_S384x1024) bitsLt_bf16_f32

/-- Rotary gains with their halves changed over. -/
def swapG (R : FVec Ideal S32 .f32) : FVec Ideal S32 .f32 :=
  concatenate S32 0 [⟨S16, extractStridedSlice S16 ![16] R slices_S32_S16_16⟩, ⟨S16, extractStridedSlice S16 ![0] R slices_S32_S16_0⟩] concatenates_S16_S16_S32_d0

/-- The latent queries' gains. -/
def packGm (A : FVec Ideal S2x64 .f32) (B : FVec Ideal S2x32 .f32) : FVec Ideal S1x128 .f32 :=
  broadcastInDim S1x128 ![1] bcast_S128_S1x128_1 (concatenate S128 0 [⟨S64, mulf (shapeCast _ (extractStridedSlice S1x64 ![0, 0] A slices_S2x64_S1x64_0_0) shapeCasts_S1x64_S64)
      (shapeCast _ (extractStridedSlice S1x64 ![1, 0] A slices_S2x64_S1x64_1_0) shapeCasts_S1x64_S64)⟩,
    ⟨S32, shapeCast _ (extractStridedSlice S1x32 ![0, 0] B slices_S2x32_S1x32_0_0) shapeCasts_S1x32_S32⟩,
    ⟨S32, swapG (shapeCast _ (extractStridedSlice S1x32 ![0, 0] B slices_S2x32_S1x32_0_0) shapeCasts_S1x32_S32)⟩] concatenates_S64_S32_S32_S128_d0)

/-- The shared rotary key's gains. -/
def packGe (B : FVec Ideal S2x32 .f32) : FVec Ideal S1x128 .f32 :=
  broadcastInDim S1x128 ![1] bcast_S128_S1x128_1 (concatenate S128 0 [⟨S64, broadcastInDim S64 ![] bcast_S_S64 (constant S_ .f32 0x00000000#32)⟩,
    ⟨S32, shapeCast _ (extractStridedSlice S1x32 ![1, 0] B slices_S2x32_S1x32_1_0) shapeCasts_S1x32_S32⟩,
    ⟨S32, swapG (shapeCast _ (extractStridedSlice S1x32 ![1, 0] B slices_S2x32_S1x32_1_0) shapeCasts_S1x32_S32)⟩] concatenates_S64_S32_S32_S128_d0)

/-- The keys' weights, each head's padded to the lanes. -/
def packK (W : FVec Ideal S256x8x64 .f32) : FVec Ideal S256x1024 .bf16 :=
  truncf .bf16 (shapeCast _ (concatenate S256x8x128 2 [⟨S256x8x64, W⟩, ⟨S256x8x64, broadcastInDim S256x8x64 ![] bcast_S_S256x8x64 (constant S_ .f32 0x00000000#32)⟩]
    concatenates_S256x8x64_S256x8x64_S256x8x128_d2) shapeCasts_S256x8x128_S256x1024) bitsLt_bf16_f32

/-- The values' weights. -/
def packV (W : FVec Ideal S256x8x64 .f32) : FVec Ideal S256x512 .bf16 :=
  truncf .bf16 (shapeCast _ W shapeCasts_S256x8x64_S256x512) bitsLt_bf16_f32

/-- The remaining gains. -/
def packG1 (G : FVec Ideal S1024 .f32) : FVec Ideal S1x1024 .f32 := broadcastInDim S1x1024 ![1] bcast_S1024_S1x1024_1 G
def packG3 (G : FVec Ideal S384 .f32) : FVec Ideal S1x384 .f32 := broadcastInDim S1x384 ![1] bcast_S384_S1x384_1 G
def packG2 (G : FVec Ideal S256 .f32) : FVec Ideal S1x256 .f32 := broadcastInDim S1x256 ![1] bcast_S256_S1x256_1 G

/-- The stream by rows. -/
def packX (X : FVec Ideal S4x4096x1024 .f32) : FVec Ideal S16384x1024 .f32 := shapeCast _ X shapeCasts_S4x4096x1024_S16384x1024

/-- The cosines of the two halves, and the sines with the first half's sign changed. -/
def cosT (T : FVec Ideal S4096x16 .f32) : FVec Ideal S4096x32 .f32 :=
  concatenate S4096x32 1 [⟨S4096x16, Host.cos T⟩, ⟨S4096x16, Host.cos T⟩] concatenates_S4096x16_S4096x16_S4096x32_d1
def sinT (T : FVec Ideal S4096x16 .f32) : FVec Ideal S4096x32 .f32 :=
  concatenate S4096x32 1 [⟨S4096x16, Host.negf (Host.sin T)⟩, ⟨S4096x16, Host.sin T⟩] concatenates_S4096x16_S4096x16_S4096x32_d1

/-- The rotary tables. -/
def packT (C S : FVec Ideal S4096x32 .f32) : FVec Ideal S4096x512 .f32 :=
  concatenate S4096x512 1 [
    ⟨S4096x128, concatenate S4096x128 1 [⟨S4096x64, broadcastInDim S4096x64 ![] bcast_S_S4096x64 (constant S_ .f32 0x3DD105EC#32)⟩,
      ⟨S4096x32, mulf C (broadcastInDim S4096x32 ![] bcast_S_S4096x32 (constant S_ .f32 0x3DD105EC#32))⟩,
      ⟨S4096x32, broadcastInDim S4096x32 ![] bcast_S_S4096x32 (constant S_ .f32 0x00000000#32)⟩] concatenates_S4096x64_S4096x32_S4096x32_S4096x128_d1⟩,
    ⟨S4096x128, concatenate S4096x128 1 [⟨S4096x96, broadcastInDim S4096x96 ![] bcast_S_S4096x96 (constant S_ .f32 0x00000000#32)⟩,
      ⟨S4096x32, mulf S (broadcastInDim S4096x32 ![] bcast_S_S4096x32 (constant S_ .f32 0x3DD105EC#32))⟩] concatenates_S4096x96_S4096x32_S4096x128_d1⟩,
    ⟨S4096x128, concatenate S4096x128 1 [⟨S4096x64, broadcastInDim S4096x64 ![] bcast_S_S4096x64 (constant S_ .f32 0x00000000#32)⟩, ⟨S4096x32, C⟩,
      ⟨S4096x32, broadcastInDim S4096x32 ![] bcast_S_S4096x32 (constant S_ .f32 0x00000000#32)⟩] concatenates_S4096x64_S4096x32_S4096x32_S4096x128_d1⟩,
    ⟨S4096x128, concatenate S4096x128 1 [⟨S4096x96, broadcastInDim S4096x96 ![] bcast_S_S4096x96 (constant S_ .f32 0x00000000#32)⟩, ⟨S4096x32, S⟩]
      concatenates_S4096x96_S4096x32_S4096x128_d1⟩] concatenates_S4096x128_S4096x128_S4096x128_S4096x128_S4096x512_d1

variable (m : (ℓ : Loc nD τ sig) → Buf (Elt Ideal) ℓ) (c : Dev nD)

set_option maxHeartbeats 4000000 in
theorem V_w : V m c main_v16 = packW (m ((c.tc : Thread nD τ).loc main_arg2)) (packQ (m ((c.tc : Thread nD τ).loc main_arg2))) (packE (m ((c.tc : Thread nD τ).loc main_arg2)) (packR (m ((c.tc : Thread nD τ).loc main_arg2)))) := rfl
set_option maxHeartbeats 4000000 in
theorem V_gq : V m c main_v24 = packGq (m ((c.tc : Thread nD τ).loc main_arg3)) := rfl
set_option maxHeartbeats 4000000 in
theorem V_gk : V m c main_v35 = packGk (m ((c.tc : Thread nD τ).loc main_arg3)) := rfl
set_option maxHeartbeats 4000000 in
theorem V_up : V m c main_v43 = packUp (m ((c.tc : Thread nD τ).loc main_arg6)) (upR (m ((c.tc : Thread nD τ).loc main_arg6))) := rfl
set_option maxHeartbeats 4000000 in
theorem V_gm : V m c main_v57 = packGm (m ((c.tc : Thread nD τ).loc main_arg9)) (m ((c.tc : Thread nD τ).loc main_arg10)) := rfl
set_option maxHeartbeats 4000000 in
theorem V_ge : V m c main_v67 = packGe (m ((c.tc : Thread nD τ).loc main_arg10)) := rfl
set_option maxHeartbeats 4000000 in
theorem V_k : V m c main_v71 = packK (m ((c.tc : Thread nD τ).loc main_arg7)) := rfl
set_option maxHeartbeats 4000000 in
theorem V_v : V m c main_v73 = packV (m ((c.tc : Thread nD τ).loc main_arg8)) := rfl
set_option maxHeartbeats 4000000 in
theorem V_g1 : V m c main_v74 = packG1 (m ((c.tc : Thread nD τ).loc main_arg1)) := rfl
set_option maxHeartbeats 4000000 in
theorem V_g3 : V m c main_v75 = packG3 (m ((c.tc : Thread nD τ).loc main_arg4)) := rfl
set_option maxHeartbeats 4000000 in
theorem V_g2 : V m c main_v76 = packG2 (m ((c.tc : Thread nD τ).loc main_arg5)) := rfl
set_option maxHeartbeats 4000000 in
theorem V_t : V m c main_v109 = packT (cosT Ref.ang) (sinT Ref.ang) := rfl
set_option maxHeartbeats 4000000 in
theorem V_x : V m c main_v110 = packX (m ((c.tc : Thread nD τ).loc main_arg0)) := rfl

end Cert.Kernel3Ideal.Proj
end
-- ==== Proof.ProjAt.lean ====
/-
  The packed operands of the projection call at an entry, and the blocks of a tile.
-/
module
public import proofs.«01_k».proof.Proof.ProjPack
@[expose] public section
set_option maxRecDepth 16384
noncomputable section
namespace Cert.Kernel3Ideal.Proj
open Idealize.ShloMosaic Idealize.ShloMosaic.Tactic Cert.Kernel3Ideal Cert.Kernel3Ideal.Gen
open Cert.Proof.Proj

section
variable (W : FVec Ideal S1024x1592 .f32) (Q : FVec Ideal S1024x1024 .f32) (E : FVec Ideal S1024x128 .f32) (R : FVec Ideal S1024x32 .f32) (d : Fin 1024)
theorem packQ_0 (h : Fin 8) (l : Fin 64) : packQ W (ix2 d ⟨h * 128 + l, by omega⟩) = W (ix2 d ⟨h * 64 + l, by omega⟩) := by
  pointwise [packQ]
  try simp (discharger := omega) only [dif_pos, dif_neg, Nat.sub_sub, Nat.add_sub_cancel_left, Nat.reduceAdd, Nat.mul_add_mod_self_right, Nat.mod_eq_of_lt, Fin.eta]
theorem packQ_1 (h : Fin 8) (l : Fin 64) : packQ W (ix2 d ⟨h * 128 + (64 + l), by omega⟩) = 0 := by
  pointwise [packQ]
  try simp (discharger := omega) only [dif_pos, dif_neg, Nat.sub_sub, Nat.add_sub_cancel_left, Nat.reduceAdd, Nat.mul_add_mod_self_right, Nat.mod_eq_of_lt, Fin.eta]
theorem packR_apply (i : Fin 32) : packR W (ix2 d i) = W (ix2 d ⟨1560 + i, by omega⟩) := by
  pointwise [packR]
theorem packE_0 (i : Fin 24) : packE W R (ix2 d ⟨i, by omega⟩) = W (ix2 d ⟨896 + i, by omega⟩) := by
  pointwise [packE]
  try simp (discharger := omega) only [dif_pos, dif_neg, Nat.sub_sub, Nat.add_sub_cancel_left, Nat.reduceAdd, Nat.mul_add_mod_self_right, Nat.mod_eq_of_lt, Fin.eta]
theorem packE_1 (i : Fin 32) : packE W R (ix2 d ⟨64 + i, by omega⟩) = R (ix2 d i) := by
  pointwise [packE]
  try simp (discharger := omega) only [dif_pos, dif_neg, Nat.sub_sub, Nat.add_sub_cancel_left, Nat.reduceAdd, Nat.mul_add_mod_self_right, Nat.mod_eq_of_lt, Fin.eta]
theorem packE_2 (i : Fin 16) : packE W R (ix2 d ⟨96 + i, by omega⟩) = R (ix2 d ⟨16 + i, by omega⟩) := by
  pointwise [packE]
  try simp (discharger := omega) only [dif_pos, dif_neg, Nat.sub_sub, Nat.add_sub_cancel_left, Nat.reduceAdd, Nat.mul_add_mod_self_right, Nat.mod_eq_of_lt, Fin.eta]
theorem packE_3 (i : Fin 16) : packE W R (ix2 d ⟨112 + i, by omega⟩) = R (ix2 d ⟨i, by omega⟩) := by
  pointwise [packE]
  try simp (discharger := omega) only [dif_pos, dif_neg, Nat.sub_sub, Nat.add_sub_cancel_left, Nat.reduceAdd, Nat.mul_add_mod_self_right, Nat.mod_eq_of_lt, Fin.eta]
theorem packW_q (j : Fin 1024) : packW W Q E (ix2 d ⟨j, by omega⟩) = Q (ix2 d j) := by
  pointwise [packW]
  try simp (discharger := omega) only [dif_pos, dif_neg, Nat.sub_sub, Nat.add_sub_cancel_left, Nat.reduceAdd, Nat.mul_add_mod_self_right, Nat.mod_eq_of_lt, Fin.eta]
theorem packW_kv (j : Fin 384) : packW W Q E (ix2 d ⟨1024 + j, by omega⟩) = W (ix2 d ⟨512 + j, by omega⟩) := by
  pointwise [packW]
  try simp (discharger := omega) only [dif_pos, dif_neg, Nat.sub_sub, Nat.add_sub_cancel_left, Nat.reduceAdd, Nat.mul_add_mod_self_right, Nat.mod_eq_of_lt, Fin.eta]
theorem packW_ql (j : Fin 384) : packW W Q E (ix2 d ⟨1408 + j, by omega⟩) = W (ix2 d ⟨920 + j, by omega⟩) := by
  pointwise [packW]
  try simp (discharger := omega) only [dif_pos, dif_neg, Nat.sub_sub, Nat.add_sub_cancel_left, Nat.reduceAdd, Nat.mul_add_mod_self_right, Nat.mod_eq_of_lt, Fin.eta]
theorem packW_c (j : Fin 256) : packW W Q E (ix2 d ⟨1792 + j, by omega⟩) = W (ix2 d ⟨1304 + j, by omega⟩) := by
  pointwise [packW]
  try simp (discharger := omega) only [dif_pos, dif_neg, Nat.sub_sub, Nat.add_sub_cancel_left, Nat.reduceAdd, Nat.mul_add_mod_self_right, Nat.mod_eq_of_lt, Fin.eta]
theorem packW_e (j : Fin 128) : packW W Q E (ix2 d ⟨2048 + j, by omega⟩) = E (ix2 d j) := by
  pointwise [packW]
  try simp (discharger := omega) only [dif_pos, dif_neg, Nat.sub_sub, Nat.add_sub_cancel_left, Nat.reduceAdd, Nat.mul_add_mod_self_right, Nat.mod_eq_of_lt, Fin.eta]
end
theorem packGq_0 (A : FVec Ideal S4x64 .f32) (l : Fin 64) : packGq A (ix2 0 ⟨l, by omega⟩) = A (ix2 0 l) * Ideal.ofBits .f32 0x3E000000#32 := by
  pointwise [packGq]
theorem packGk_sel (A : FVec Ideal S4x64 .f32) (l : Fin 64) : packGk A (ix2 0 ⟨l, by omega⟩) = A (ix2 2 l) := by
  pointwise [packGk]
theorem packGk_sel1 (A : FVec Ideal S4x64 .f32) (l : Fin 64) : packGk A (ix2 0 ⟨64 + l, by omega⟩) = 1 := by
  pointwise [packGk]
theorem packGk_win (A : FVec Ideal S4x64 .f32) (l : Fin 64) : packGk A (ix2 1 ⟨l, by omega⟩) = A (ix2 3 l) := by
  pointwise [packGk]
theorem packGk_win1 (A : FVec Ideal S4x64 .f32) (l : Fin 64) : packGk A (ix2 1 ⟨64 + l, by omega⟩) = 1 := by
  pointwise [packGk]
section
variable (W : FVec Ideal S384x768 .f32) (R : FVec Ideal S384x8x32 .f32) (e : Fin 384) (h : Fin 8)
theorem upR_apply (i : Fin 32) : upR W (ix3 e h i) = W (ix2 e ⟨h * 96 + (64 + i), by omega⟩) := by
  pointwise [upR]
theorem packUp_0 (l : Fin 96) : packUp W R (ix2 e ⟨h * 128 + l, by omega⟩) = W (ix2 e ⟨h * 96 + l, by omega⟩) := by
  pointwise [packUp]
  try simp (discharger := omega) only [dif_pos, dif_neg, Nat.sub_sub, Nat.add_sub_cancel_left, Nat.reduceAdd, Nat.mul_add_mod_self_right, Nat.mod_eq_of_lt, Fin.eta]
theorem packUp_1 (i : Fin 16) : packUp W R (ix2 e ⟨h * 128 + (96 + i), by omega⟩) = R (ix3 e h ⟨16 + i, by omega⟩) := by
  pointwise [packUp]
  try simp (discharger := omega) only [dif_pos, dif_neg, Nat.sub_sub, Nat.add_sub_cancel_left, Nat.reduceAdd, Nat.mul_add_mod_self_right, Nat.mod_eq_of_lt, Fin.eta]
theorem packUp_2 (i : Fin 16) : packUp W R (ix2 e ⟨h * 128 + (112 + i), by omega⟩) = R (ix3 e h ⟨i, by omega⟩) := by
  pointwise [packUp]
  try simp (discharger := omega) only [dif_pos, dif_neg, Nat.sub_sub, Nat.add_sub_cancel_left, Nat.reduceAdd, Nat.mul_add_mod_self_right, Nat.mod_eq_of_lt, Fin.eta]
end
section
variable (A : FVec Ideal S2x64 .f32) (B : FVec Ideal S2x32 .f32)
theorem packGm_0 (l : Fin 64) : packGm A B (ix2 0 ⟨l, by omega⟩) = A (ix2 0 l) * A (ix2 1 l) := by
  pointwise [packGm, swapG]
  try simp (discharger := omega) only [dif_pos, dif_neg, Nat.sub_sub, Nat.add_sub_cancel_left, Nat.reduceAdd, Nat.mul_add_mod_self_right, Nat.mod_eq_of_lt, Fin.eta]
theorem packGm_1 (i : Fin 32) : packGm A B (ix2 0 ⟨64 + i, by omega⟩) = B (ix2 0 i) := by
  pointwise [packGm, swapG]
  try simp (discharger := omega) only [dif_pos, dif_neg, Nat.sub_sub, Nat.add_sub_cancel_left, Nat.reduceAdd, Nat.mul_add_mod_self_right, Nat.mod_eq_of_lt, Fin.eta]
theorem packGm_2 (i : Fin 16) : packGm A B (ix2 0 ⟨96 + i, by omega⟩) = B (ix2 0 ⟨16 + i, by omega⟩) := by
  pointwise [packGm, swapG]
  try simp (discharger := omega) only [dif_pos, dif_neg, Nat.sub_sub, Nat.add_sub_cancel_left, Nat.reduceAdd, Nat.mul_add_mod_self_right, Nat.mod_eq_of_lt, Fin.eta]
theorem packGm_3 (i : Fin 16) : packGm A B (ix2 0 ⟨112 + i, by omega⟩) = B (ix2 0 ⟨i, by omega⟩) := by
  pointwise [packGm, swapG]
  try simp (discharger := omega) only [dif_pos, dif_neg, Nat.sub_sub, Nat.add_sub_cancel_left, Nat.reduceAdd, Nat.mul_add_mod_self_right, Nat.mod_eq_of_lt, Fin.eta]
theorem packGe_0 (l : Fin 64) : packGe B (ix2 0 ⟨l, by omega⟩) = 0 := by
  pointwise [packGe, swapG]
  try simp (discharger := omega) only [dif_pos, dif_neg, Nat.sub_sub, Nat.add_sub_cancel_left, Nat.reduceAdd, Nat.mul_add_mod_self_right, Nat.mod_eq_of_lt, Fin.eta]
theorem packGe_1 (i : Fin 32) : packGe B (ix2 0 ⟨64 + i, by omega⟩) = B (ix2 1 i) := by
  pointwise [packGe, swapG]
  try simp (discharger := omega) only [dif_pos, dif_neg, Nat.sub_sub, Nat.add_sub_cancel_left, Nat.reduceAdd, Nat.mul_add_mod_self_right, Nat.mod_eq_of_lt, Fin.eta]
theorem packGe_2 (i : Fin 16) : packGe B (ix2 0 ⟨96 + i, by omega⟩) = B (ix2 1 ⟨16 + i, by omega⟩) := by
  pointwise [packGe, swapG]
  try simp (discharger := omega) only [dif_pos, dif_neg, Nat.sub_sub, Nat.add_sub_cancel_left, Nat.reduceAdd, Nat.mul_add_mod_self_right, Nat.mod_eq_of_lt, Fin.eta]
theorem packGe_3 (i : Fin 16) : packGe B (ix2 0 ⟨112 + i, by omega⟩) = B (ix2 1 ⟨i, by omega⟩) := by
  pointwise [packGe, swapG]
  try simp (discharger := omega) only [dif_pos, dif_neg, Nat.sub_sub, Nat.add_sub_cancel_left, Nat.reduceAdd, Nat.mul_add_mod_self_right, Nat.mod_eq_of_lt, Fin.eta]
end
theorem packK_0 (W : FVec Ideal S256x8x64 .f32) (e : Fin 256) (h : Fin 8) (l : Fin 64) : packK W (ix2 e ⟨h * 128 + l, by omega⟩) = W (ix3 e h l) := by
  pointwise [packK]
  try simp (discharger := omega) only [dif_pos, dif_neg, Nat.sub_sub, Nat.add_sub_cancel_left, Nat.reduceAdd, Nat.mul_add_mod_self_right, Nat.mod_eq_of_lt, Fin.eta]
theorem packK_1 (W : FVec Ideal S256x8x64 .f32) (e : Fin 256) (h : Fin 8) (l : Fin 64) : packK W (ix2 e ⟨h * 128 + (64 + l), by omega⟩) = 0 := by
  pointwise [packK]
  try simp (discharger := omega) only [dif_pos, dif_neg, Nat.sub_sub, Nat.add_sub_cancel_left, Nat.reduceAdd, Nat.mul_add_mod_self_right, Nat.mod_eq_of_lt, Fin.eta]
theorem packV_apply (W : FVec Ideal S256x8x64 .f32) (e : Fin 256) (h : Fin 8) (l : Fin 64) : packV W (ix2 e ⟨h * 64 + l, by omega⟩) = W (ix3 e h l) := by
  pointwise [packV]
theorem packG1_apply (G : FVec Ideal S1024 .f32) (d : Fin 1024) : packG1 G (ix2 0 d) = G (ix1 d) := by
  pointwise [packG1]
theorem packG3_apply (G : FVec Ideal S384 .f32) (d : Fin 384) : packG3 G (ix2 0 d) = G (ix1 d) := by
  pointwise [packG3]
theorem packG2_apply (G : FVec Ideal S256 .f32) (d : Fin 256) : packG2 G (ix2 0 d) = G (ix1 d) := by
  pointwise [packG2]
theorem packX_apply (X : FVec Ideal S4x4096x1024 .f32) (x : Fin 16384) (d : Fin 1024) : packX X (ix2 x d) = X (ix3 ⟨x / 4096, by omega⟩ ⟨x % 4096, by omega⟩ d) := by
  pointwise [packX]
section
variable (T : FVec Ideal S4096x16 .f32) (C S : FVec Ideal S4096x32 .f32) (t : Fin 4096)
theorem cosT_0 (i : Fin 16) : cosT T (ix2 t ⟨i, by omega⟩) = Ideal.cos (T (ix2 t i)) := by
  pointwise [cosT]
theorem cosT_1 (i : Fin 16) : cosT T (ix2 t ⟨16 + i, by omega⟩) = Ideal.cos (T (ix2 t i)) := by
  pointwise [cosT]
theorem sinT_0 (i : Fin 16) : sinT T (ix2 t ⟨i, by omega⟩) = -Ideal.sin (T (ix2 t i)) := by
  pointwise [sinT]
theorem sinT_1 (i : Fin 16) : sinT T (ix2 t ⟨16 + i, by omega⟩) = Ideal.sin (T (ix2 t i)) := by
  pointwise [sinT]
theorem packT_c0 (l : Fin 64) : packT C S (ix2 t ⟨l, by omega⟩) = Ideal.ofBits .f32 0x3DD105EC#32 := by
  pointwise [packT]
  simp (discharger := omega) only [dif_pos, dif_neg, Nat.sub_sub, Nat.add_sub_cancel_left, Nat.reduceAdd, Fin.eta]
theorem packT_c1 (l : Fin 32) : packT C S (ix2 t ⟨64 + l, by omega⟩) = C (ix2 t l) * Ideal.ofBits .f32 0x3DD105EC#32 := by
  pointwise [packT]
  simp (discharger := omega) only [dif_pos, dif_neg, Nat.sub_sub, Nat.add_sub_cancel_left, Nat.reduceAdd, Fin.eta]
theorem packT_s0 (l : Fin 96) : packT C S (ix2 t ⟨128 + l, by omega⟩) = 0 := by
  pointwise [packT]
  simp (discharger := omega) only [dif_pos, dif_neg, Nat.sub_sub, Nat.add_sub_cancel_left, Nat.reduceAdd, Fin.eta]
theorem packT_s1 (l : Fin 32) : packT C S (ix2 t ⟨224 + l, by omega⟩) = S (ix2 t l) * Ideal.ofBits .f32 0x3DD105EC#32 := by
  pointwise [packT]
  simp (discharger := omega) only [dif_pos, dif_neg, Nat.sub_sub, Nat.add_sub_cancel_left, Nat.reduceAdd, Fin.eta]
theorem packT_k0 (l : Fin 64) : packT C S (ix2 t ⟨256 + l, by omega⟩) = 0 := by
  pointwise [packT]
  simp (discharger := omega) only [dif_pos, dif_neg, Nat.sub_sub, Nat.add_sub_cancel_left, Nat.reduceAdd, Fin.eta]
theorem packT_k1 (l : Fin 32) : packT C S (ix2 t ⟨320 + l, by omega⟩) = C (ix2 t l) := by
  pointwise [packT]
  simp (discharger := omega) only [dif_pos, dif_neg, Nat.sub_sub, Nat.add_sub_cancel_left, Nat.reduceAdd, Fin.eta]
theorem packT_z0 (l : Fin 96) : packT C S (ix2 t ⟨384 + l, by omega⟩) = 0 := by
  pointwise [packT]
  simp (discharger := omega) only [dif_pos, dif_neg, Nat.sub_sub, Nat.add_sub_cancel_left, Nat.reduceAdd, Fin.eta]
theorem packT_z1 (l : Fin 32) : packT C S (ix2 t ⟨480 + l, by omega⟩) = S (ix2 t l) := by
  pointwise [packT]
  simp (discharger := omega) only [dif_pos, dif_neg, Nat.sub_sub, Nat.add_sub_cancel_left, Nat.reduceAdd, Fin.eta]
end

/-! The blocks of a tile. -/

theorem idx_in : ∀ t : Fin grid0.N, win0_0.index t 0 = t.val ∧ win0_0.index t 1 = 0 ∧ win0_12.index t 0 = t.val % 16 ∧ win0_12.index t 1 = 0 := by decide +kernel
theorem idx_1 : ∀ t : Fin grid0.N, win0_1.index t 0 = 0 ∧ win0_1.index t 1 = 0 ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0 ∧ win0_6.index t 0 = 0 ∧ win0_6.index t 1 = 0 := by decide +kernel
theorem idx_2 : ∀ t : Fin grid0.N, win0_7.index t 0 = 0 ∧ win0_7.index t 1 = 0 ∧ win0_8.index t 0 = 0 ∧ win0_8.index t 1 = 0 ∧ win0_9.index t 0 = 0 ∧ win0_9.index t 1 = 0
    ∧ win0_10.index t 0 = 0 ∧ win0_10.index t 1 = 0 ∧ win0_11.index t 0 = 0 ∧ win0_11.index t 1 = 0 := by decide +kernel
theorem idx_out : ∀ t : Fin grid0.N, win0_13.index t 0 = t.val ∧ win0_13.index t 1 = 0 ∧ win0_14.index t 0 = t.val ∧ win0_14.index t 1 = 0 ∧ win0_15.index t 0 = t.val ∧ win0_15.index t 1 = 0
    ∧ win0_19.index t 0 = t.val ∧ win0_19.index t 1 = 0 ∧ win0_20.index t 0 = t.val ∧ win0_20.index t 1 = 0 ∧ win0_21.index t 0 = t.val ∧ win0_21.index t 1 = 0
    ∧ win0_22.index t 0 = t.val ∧ win0_22.index t 1 = 0 ∧ win0_23.index t 0 = t.val ∧ win0_23.index t 1 = 0 ∧ win0_24.index t 0 = t.val ∧ win0_24.index t 1 = 0 := by decide +kernel

section
variable (m : (ℓ : Loc nD τ sig) → Buf (Elt Ideal) ℓ) (c : Dev nD) (t : Fin cfg0.N)
theorem blk_x (r : Fin 256) (y : Fin 1024) (x : Fin 16384) (hx : x.val = 256 * t.val + r) : iblk m c 0 t (ix2 r y) = V m c main_v110 (ix2 x y) := by
  blk_ext [iblk, idx_in t]
theorem blk_t (r : Fin 256) (y : Fin 512) (p : Fin 4096) (hp : p.val = 256 * (t.val % 16) + r) : iblk m c 12 t (ix2 r y) = V m c main_v109 (ix2 p y) := by
  blk_ext [iblk, idx_in t]
theorem blk_g1 (r : Fin 1) (y : Fin 1024) : iblk m c 1 t (ix2 r y) = V m c main_v74 (ix2 r y) := by
  blk_ext [iblk, idx_1 t]
theorem blk_w (r : Fin 1024) (y : Fin 2176) : iblk m c 2 t (ix2 r y) = V m c main_v16 (ix2 r y) := by
  blk_ext [iblk, idx_1 t]
theorem blk_gq (r : Fin 1) (y : Fin 128) : iblk m c 3 t (ix2 r y) = V m c main_v24 (ix2 r y) := by
  blk_ext [iblk, idx_1 t]
theorem blk_gk (r : Fin 8) (y : Fin 128) : iblk m c 4 t (ix2 r y) = V m c main_v35 (ix2 r y) := by
  blk_ext [iblk, idx_1 t]
theorem blk_g3 (r : Fin 1) (y : Fin 384) : iblk m c 5 t (ix2 r y) = V m c main_v75 (ix2 r y) := by
  blk_ext [iblk, idx_1 t]
theorem blk_up (r : Fin 384) (y : Fin 1024) : iblk m c 6 t (ix2 r y) = V m c main_v43 (ix2 r y) := by
  blk_ext [iblk, idx_1 t]
theorem blk_gm (r : Fin 1) (y : Fin 128) : iblk m c 7 t (ix2 r y) = V m c main_v57 (ix2 r y) := by
  blk_ext [iblk, idx_2 t]
theorem blk_g2 (r : Fin 1) (y : Fin 256) : iblk m c 8 t (ix2 r y) = V m c main_v76 (ix2 r y) := by
  blk_ext [iblk, idx_2 t]
theorem blk_k (r : Fin 256) (y : Fin 1024) : iblk m c 9 t (ix2 r y) = V m c main_v71 (ix2 r y) := by
  blk_ext [iblk, idx_2 t]
theorem blk_v (r : Fin 256) (y : Fin 512) : iblk m c 10 t (ix2 r y) = V m c main_v73 (ix2 r y) := by
  blk_ext [iblk, idx_2 t]
theorem blk_ge (r : Fin 1) (y : Fin 128) : iblk m c 11 t (ix2 r y) = V m c main_v67 (ix2 r y) := by
  blk_ext [iblk, idx_2 t]

/-! Where a tile's entries stand in the results. -/

theorem place_13 (r : Fin 256) (y : Fin 1024) (x : Fin 16384) (hx : x.val = 256 * t.val + r) : (win0_13.blk t).view.emb (ix2 r y) = ix2 x y := by
  blk_ext [idx_out t]
theorem place_14 (r : Fin 256) (y : Fin 256) (x : Fin 16384) (hx : x.val = 256 * t.val + r) : (win0_14.blk t).view.emb (ix2 r y) = ix2 x y := by
  blk_ext [idx_out t]
theorem place_15 (r : Fin 256) (y : Fin 128) (x : Fin 16384) (hx : x.val = 256 * t.val + r) : (win0_15.blk t).view.emb (ix2 r y) = ix2 x y := by
  blk_ext [idx_out t]
theorem place_19 (r : Fin 256) (y : Fin 128) (x : Fin 16384) (hx : x.val = 256 * t.val + r) : (win0_19.blk t).view.emb (ix2 r y) = ix2 x y := by
  blk_ext [idx_out t]
theorem place_20 (r : Fin 256) (y : Fin 1024) (x : Fin 16384) (hx : x.val = 256 * t.val + r) : (win0_20.blk t).view.emb (ix2 r y) = ix2 x y := by
  blk_ext [idx_out t]
theorem place_21 (r : Fin 256) (y : Fin 288) (x : Fin 16384) (hx : x.val = 256 * t.val + r) : (win0_21.blk t).view.emb (ix2 r y) = ix2 x y := by
  blk_ext [idx_out t]
theorem place_22 (r : Fin 256) (y : Fin 128) (x : Fin 16384) (hx : x.val = 256 * t.val + r) : (win0_22.blk t).view.emb (ix2 r y) = ix2 x y := by
  blk_ext [idx_out t]
theorem place_23 (r : Fin 256) (y : Fin 1024) (x : Fin 16384) (hx : x.val = 256 * t.val + r) : (win0_23.blk t).view.emb (ix2 r y) = ix2 x y := by
  blk_ext [idx_out t]
theorem place_24 (r : Fin 256) (y : Fin 512) (x : Fin 16384) (hx : x.val = 256 * t.val + r) : (win0_24.blk t).view.emb (ix2 r y) = ix2 x y := by
  blk_ext [idx_out t]
end

end Cert.Kernel3Ideal.Proj
end
-- ==== Proof.ProjPay.lean ====
/-
  The projection call's payloads at an entry.
-/
module
public import proofs.«01_k».proof.Proof.Gen.Kernel3Ideal.Frame
public import Idealize.ShloMosaic.Lib.Pointwise
public import Idealize.ShloMosaic.Lib.WordCmp
@[expose] public section
set_option maxRecDepth 16384
noncomputable section
namespace Cert.Kernel3Ideal.Proj
open Idealize.ShloMosaic Idealize.ShloMosaic.Tactic Cert.Kernel3Ideal Cert.Kernel3Ideal.Gen

/-- The constant beside a mean square. -/
abbrev eps : EReal := Ideal.ofBits .f32 0x358637BD#32
/-- The constants a sum over 64 or 32 lanes is multiplied by. -/
abbrev c64 : EReal := Ideal.ofBits .f32 0x3C800000#32
abbrev c32 : EReal := Ideal.ofBits .f32 0x3D000000#32

theorem by64 (x : EReal) : x * c64 = Ideal.div x (Ideal.ofBits .f32 0x42800000#32) := by
  have h : Ideal.ofBits .f32 0x42800000#32 = ((64 : ℝ) : EReal) := by
    simp [Ideal.ofBits, Ideal.ieee]
    rw [← EReal.coe_mul]; norm_num
  have h' : c64 = ((1 / 64 : ℝ) : EReal) := by
    simp [c64, Ideal.ofBits, Ideal.ieee]
    rw [← EReal.coe_mul]; norm_num
  rw [h, Ideal.div_coe (by norm_num), h']
theorem by32 (x : EReal) : x * c32 = Ideal.div x (Ideal.ofBits .f32 0x42000000#32) := by
  have h : Ideal.ofBits .f32 0x42000000#32 = ((32 : ℝ) : EReal) := by
    simp [Ideal.ofBits, Ideal.ieee]
    rw [← EReal.coe_mul]; norm_num
  have h' : c32 = ((1 / 32 : ℝ) : EReal) := by
    simp [c32, Ideal.ofBits, Ideal.ieee]
    rw [← EReal.coe_mul]; norm_num
  rw [h, Ideal.div_coe (by norm_num), h']

/-- A sum over the lanes, by halves and by quarters. -/
theorem sum_lanes (f : Fin 128 → EReal) : ∑ l, f l = (∑ i : Fin 64, f ⟨i, by omega⟩) + ∑ i : Fin 64, f ⟨64 + i, by omega⟩ :=
  Fin.sum_univ_add (a := 64) (b := 64) f
theorem sum_half (f : Fin 64 → EReal) : ∑ l, f l = (∑ i : Fin 32, f ⟨i, by omega⟩) + ∑ i : Fin 32, f ⟨32 + i, by omega⟩ :=
  Fin.sum_univ_add (a := 32) (b := 32) f

/-- A sum of the first half of the lanes, and of the third quarter. -/
theorem sum_first (f : Fin 128 → EReal) : (∑ l : Fin 128, if l.val < 64 then f l else 0) = ∑ i : Fin 64, f ⟨i, by omega⟩ := by
  rw [sum_lanes]
  simp
theorem sum_third (f : Fin 128 → EReal) : (∑ l : Fin 128, if 64 ≤ l.val ∧ l.val < 96 then f l else 0) = ∑ i : Fin 32, f ⟨64 + i, by omega⟩ := by
  rw [sum_lanes, sum_half (fun i : Fin 64 => if 64 ≤ 64 + i.val ∧ 64 + i.val < 96 then f ⟨64 + i, by omega⟩ else 0)]
  have h0 : (∑ i : Fin 64, if 64 ≤ i.val ∧ i.val < 96 then f ⟨i, by omega⟩ else 0) = 0 :=
    Finset.sum_eq_zero fun i _ => if_neg (by omega)
  have h1 : (∑ i : Fin 32, if 64 ≤ 64 + (32 + i.val) ∧ 64 + (32 + i.val) < 96 then f ⟨64 + (32 + i), by omega⟩ else 0) = 0 :=
    Finset.sum_eq_zero fun i _ => if_neg (by omega)
  refine (congrArg₂ (· + ·) h0 (congrArg₂ (· + ·) rfl h1)).trans ?_
  rw [zero_add, add_zero]
  exact Finset.sum_congr rfl fun i _ => if_pos (by have := i.isLt; dsimp only; omega)

variable (r : Fin 256) (l : Fin 128)

/-- The lanes below 64, and those from 64 below 96. -/
theorem low_apply : k0_pay2 (ix2 r l) = BitVec.ofBool (decide (l.val < 64)) := by
  have hl := l.isLt
  pointwise [k0_pay2]
  exact WordCmp.cmpi_slt_ofNat (a := l.val) (b := 64) (by omega) (by omega)

/-- A choice by the lane. -/
theorem pick (p : Prop) [Decidable p] (a b : EReal) : Scalar.select (BitVec.ofBool (decide p)) a b = if p then a else b := by
  by_cases h : p <;> simp [h, Scalar.select]

theorem xn_k (x : Vec Ideal S256x1024 .f32) (g : Vec Ideal S1x1024 .f32) (d : Fin 1024) : k0_pay3 x g (ix2 r d) =
    x (ix2 r d) * Ideal.rsqrt (Ideal.div (∑ y : Fin 1024, x (ix2 r y) * x (ix2 r y)) (Ideal.ofBits .f32 0x44800000#32) + eps) * g (ix2 0 d) := by
  pointwise [k0_pay3]
theorem q_k (x : Vec Ideal S256x1024 .f32) (g : Vec Ideal S1x1024 .f32) (w : Vec Ideal S1024x1024 .bf16) (j : Fin 1024) :
    k0_pay4 x g w (ix2 r j) = ∑ d : Fin 1024, k0_pay3 x g (ix2 r d) * w (ix2 d j) := by
  unfold k0_pay4
  generalize k0_pay3 x g = X
  pointwise []

section
variable (X : FVec Ideal S256x1024 .bf16)
theorem kv_k (w : FVec Ideal S1024x384 .bf16) (z : FVec Ideal S256x384 .f32) (hz : ∀ j, z (ix2 r j) = 0) (j : Fin 384) :
    k0_pay18 X w z (ix2 r j) = ∑ d : Fin 1024, X (ix2 r d) * w (ix2 d j) := by
  pointwise [k0_pay18]
  rw [hz, zero_add]
theorem e_k (w : Vec Ideal S1024x128 .bf16) (j : Fin 128) : k0_pay28 X w (ix2 r j) = ∑ d : Fin 1024, X (ix2 r d) * w (ix2 d j) := by
  pointwise [k0_pay28]
theorem c_k (w : Vec Ideal S1024x256 .bf16) (j : Fin 256) : k0_pay59 X w (ix2 r j) = ∑ d : Fin 1024, X (ix2 r d) * w (ix2 d j) := by
  pointwise [k0_pay59]

/-- The first branch's rows. -/
theorem cmp_k (w : FVec Ideal S1024x384 .bf16) (z : FVec Ideal S256x384 .f32) : k0_pay19 X w z (ix2 r l) = k0_pay18 X w z (ix2 r ⟨l, by omega⟩) := by
  unfold k0_pay19
  generalize k0_pay18 X w z = K
  pointwise []

/-- A branch's rows, the first half of the lanes normed. -/
def branch (M : IVec S256x128 1) (v : FVec Ideal S256x128 .f32) (g : Vec Ideal S1x128 .f32) : FVec Ideal S256x128 .f32 :=
  k0_pay26 M v (mulf (shapeCast S256x1 (multiReduction .add [1] S256 (select M (mulf v v) (broadcast S256x128 (Scalar.ofBits .f32 0x00000000#32))) 0x00000000#32 reduces_S256x128_S256 (.inl rfl) rfl) shapeCasts_S256_S256x1)
    (broadcast S256x1 (Scalar.ofBits .f32 0x3C800000#32))) k0_pay25 g

theorem branch_apply (v : FVec Ideal S256x128 .f32) (g : Vec Ideal S1x128 .f32) : branch k0_pay2 v g (ix2 r l) =
    v (ix2 r l) * (if l.val < 64 then Ideal.rsqrt (Ideal.div (∑ i : Fin 64, v (ix2 r ⟨i, by omega⟩) * v (ix2 r ⟨i, by omega⟩)) (Ideal.ofBits .f32 0x42800000#32) + eps) else 1) * g (ix2 0 l) := by
  have hM : ∀ r l, k0_pay2 (ix2 r l) = BitVec.ofBool (decide (l.val < 64)) := low_apply
  revert hM
  generalize k0_pay2 = M
  intro hM
  pointwise [branch, k0_pay26, k0_pay25]
  simp only [hM, pick]
  rw [sum_first (fun l => v (ix2 r l) * v (ix2 r l)), by64]

theorem sel_k (w : FVec Ideal S1024x384 .bf16) (z : FVec Ideal S256x384 .f32) (g : Vec Ideal S1x128 .f32) (M : IVec S256x128 1) :
    k0_pay21 M X w z g = branch M (extractStridedSlice S256x128 ![0, 128] (k0_pay18 X w z) slices_S256x384_o0_128_S256x128) g := rfl
theorem win_k (w : FVec Ideal S1024x384 .bf16) (z : FVec Ideal S256x384 .f32) (g : Vec Ideal S1x128 .f32) (M : IVec S256x128 1) :
    k0_pay26 M (k0_pay23 X w z) (k0_pay24 M X w z) k0_pay25 g = branch M (extractStridedSlice S256x128 ![0, 256] (k0_pay18 X w z) slices_S256x384_o0_256_S256x128) g := rfl
theorem at128 (K : FVec Ideal S256x384 .f32) : extractStridedSlice S256x128 ![0, 128] K slices_S256x384_o0_128_S256x128 (ix2 r l) = K (ix2 r ⟨128 + l, by omega⟩) := by
  pointwise []
theorem at256 (K : FVec Ideal S256x384 .f32) : extractStridedSlice S256x128 ![0, 256] K slices_S256x384_o0_256_S256x128 (ix2 r l) = K (ix2 r ⟨256 + l, by omega⟩) := by
  pointwise []

theorem gates_k (w : Vec Ideal S1024x128 .bf16) : k0_pay29 X w (ix2 r l) = Ideal.div 1 (1 + Ideal.exp (-k0_pay28 X w (ix2 r l))) := by
  unfold k0_pay29
  generalize k0_pay28 X w = E
  pointwise []
  simp only [zero_sub]
end

/-- The shared rotary key: its norm's scale, and the key turned, at the lanes it stands in. -/
theorem mid_apply : k0_pay30 (iota .tc S256x128 32 [1] iota_S256x128_d1_w32) (ix2 r l) = BitVec.ofBool (decide (64 ≤ l.val ∧ l.val < 96)) := by
  have hl := l.isLt
  pointwise [k0_pay30]
  have e : IntOp.cmpi CmpIPredicate.slt (BitVec.ofNat 32 l.val) 96#32 = BitVec.ofBool (decide (l.val < 96)) :=
    WordCmp.cmpi_slt_ofNat (a := l.val) (b := 96) (by omega) (by omega)
  have e' : IntOp.cmpi CmpIPredicate.sge (BitVec.ofNat 32 l.val) 64#32 = BitVec.ofBool (decide (64 ≤ l.val)) :=
    WordCmp.cmpi_sle_ofNat (a := 64) (b := l.val) (by omega) (by omega)
  rw [e, e']
  by_cases h : l.val < 96 <;> by_cases h' : 64 ≤ l.val <;> simp [h, h'] <;> rfl
theorem krs_k (X : FVec Ideal S256x1024 .bf16) (w : Vec Ideal S1024x128 .bf16) : k0_pay31 (iota .tc S256x128 32 [1] iota_S256x128_d1_w32) X w (ix2 r 0) =
    Ideal.div (∑ i : Fin 32, k0_pay28 X w (ix2 r ⟨64 + i, by omega⟩) * k0_pay28 X w (ix2 r ⟨64 + i, by omega⟩)) (Ideal.ofBits .f32 0x42000000#32) := by
  have hM := mid_apply
  revert hM
  unfold k0_pay31
  generalize k0_pay30 (iota .tc S256x128 32 [1] iota_S256x128_d1_w32) = M
  generalize k0_pay28 X w = E
  intro hM
  pointwise []
  simp only [hM, pick]
  rw [sum_third (fun l => E (ix2 r l) * E (ix2 r l)), by32]
theorem kr_k (E : FVec Ideal S256x128 .f32) (s : FVec Ideal S256x1 .f32) (g : Vec Ideal S1x128 .f32) (a b : Vec Ideal S256x128 .f32) : k0_pay32 E s g a b (ix2 r l) =
    E (ix2 r l) * Ideal.rsqrt (s (ix2 r 0) + eps) * g (ix2 0 l) * a (ix2 r l) +
    E (ix2 r ⟨(l + 32) % 128, by omega⟩) * Ideal.rsqrt (s (ix2 r 0) + eps) * g (ix2 0 ⟨(l + 32) % 128, by omega⟩) * b (ix2 r ⟨(l + 32) % 128, by omega⟩) := by
  pointwise [k0_pay32]
  simp only [show (l.val + 128 - 96) % 128 = (l.val + 32) % 128 by omega]
theorem kr32_k (E : FVec Ideal S256x128 .f32) (s : FVec Ideal S256x1 .f32) (g : Vec Ideal S1x128 .f32) (a b : Vec Ideal S256x128 .f32) (i : Fin 32) :
    k0_pay33 E s g a b (ix2 r i) = k0_pay32 E s g a b (ix2 r ⟨64 + i, by omega⟩) := by
  unfold k0_pay33
  generalize k0_pay32 E s g a b = K
  pointwise []
  simp only [show (i.val + 128 - 64) % 128 = 64 + i.val by omega]

/-- The latents, the heads' keys, their scales, and the values. -/
theorem lat_k (C S : FVec Ideal S256x256 .f32) (g : Vec Ideal S1x256 .f32) (e : Fin 256) : k0_pay61 C S g (ix2 r e) =
    C (ix2 r e) * Ideal.rsqrt (Ideal.div (∑ x : Fin 256, S (ix2 r x)) (Ideal.ofBits .f32 0x43800000#32) + eps) * g (ix2 0 e) := by
  pointwise [k0_pay61]
theorem sq_k (X : FVec Ideal S256x1024 .bf16) (w : Vec Ideal S1024x256 .bf16) (e : Fin 256) : k0_pay60 X w (ix2 r e) = k0_pay59 X w (ix2 r e) * k0_pay59 X w (ix2 r e) := by
  unfold k0_pay60
  generalize k0_pay59 X w = E
  pointwise []
theorem kn_k (C S : FVec Ideal S256x256 .f32) (g : Vec Ideal S1x256 .f32) (w : Vec Ideal S256x1024 .bf16) (j : Fin 1024) : k0_pay63 C S g w (ix2 r j) =
    ∑ e : Fin 256, k0_pay61 C S g (ix2 r e) * w (ix2 e j) := by
  unfold k0_pay63 k0_pay62
  generalize k0_pay61 C S g = E
  pointwise []
theorem v_k (C : FVec Ideal S256x256 .bf16) (w : Vec Ideal S256x512 .bf16) (j : Fin 512) : k0_pay1 C w (ix2 r j) = ∑ e : Fin 256, C (ix2 r e) * w (ix2 e j) := by
  pointwise [k0_pay1]

/-- A head's scale, of its keys. -/
def scaleOf (v : FVec Ideal S256x128 .f32) : FVec Ideal S256x1 .f32 :=
  rsqrt (addf (mulf (shapeCast S256x1 (multiReduction .add [1] S256 (mulf v v) 0x00000000#32 reduces_S256x128_S256 (.inl rfl) rfl) shapeCasts_S256_S256x1)
    (broadcast S256x1 (Scalar.ofBits .f32 0x3C800000#32))) (broadcast S256x1 (Scalar.ofBits .f32 0x358637BD#32)))
theorem scaleOf_apply (v : FVec Ideal S256x128 .f32) (hv : ∀ i : Fin 64, v (ix2 r ⟨64 + i, by omega⟩) = 0) : scaleOf v (ix2 r 0) =
    Ideal.rsqrt (Ideal.div (∑ i : Fin 64, v (ix2 r ⟨i, by omega⟩) * v (ix2 r ⟨i, by omega⟩)) (Ideal.ofBits .f32 0x42800000#32) + eps) := by
  pointwise [scaleOf]
  rw [sum_lanes, by64]
  simp only [hv, mul_zero, Finset.sum_const_zero, add_zero]

/-- One lane chosen. -/
def put (n : BitVec 32) (s : FVec Ideal S256x1 .f32) (a : FVec Ideal S256x128 .f32) : FVec Ideal S256x128 .f32 :=
  select (cmpi .eq (iota .tc S256x128 32 [1] iota_S256x128_d1_w32) (broadcast S256x128 n)) (broadcastTo S256x128 (shapeCast S256x1 s shapeCasts_S256x1_S256x1) broadcasts_S256x1_S256x128) a
theorem put_apply (n : ℕ) (hn : n < 128) (s : FVec Ideal S256x1 .f32) (a : FVec Ideal S256x128 .f32) :
    put (BitVec.ofNat 32 n) s a (ix2 r l) = if l.val = n then s (ix2 r 0) else a (ix2 r l) := by
  have hl := l.isLt
  pointwise [put]
  have e : IntOp.cmpi CmpIPredicate.eq (BitVec.ofNat 32 l.val) (BitVec.ofNat 32 n) = BitVec.ofBool (decide (l.val = n)) := by
    simp only [IntOp.cmpi]
    refine congrArg BitVec.ofBool ?_
    by_cases h : l.val = n
    · subst h; simp
    · have : BitVec.ofNat 32 l.val ≠ BitVec.ofNat 32 n := fun h' => h (by have := congrArg BitVec.toNat h'; simp only [BitVec.toNat_ofNat] at this; omega)
      simp [h, this]
  rw [e, pick]

/-- A head's lanes. -/
theorem lanes (o : ℕ) (K : FVec Ideal S256x1024 .f32) (h : S256x1024.Slices ![0, o] S256x128) (ho : o + 128 ≤ 1024) :
    extractStridedSlice S256x128 ![0, o] K h (ix2 r l) = K (ix2 r ⟨o + l, by omega⟩) := by
  pointwise []

/-- A head's query, key, and latent query, of its lanes. -/
def qHead (v : FVec Ideal S256x128 .f32) (g : Vec Ideal S1x128 .f32) : FVec Ideal S256x128 .bf16 :=
  truncf .bf16 (mulf (mulf v (broadcastTo S256x128 (scaleOf v) broadcasts_S256x1_S256x128)) (broadcastTo S256x128 (shapeCast S1x128 g shapeCasts_S1x128_S1x128) broadcasts_S1x128_S256x128)) bitsLt_bf16_f32
theorem qHead_apply (v : FVec Ideal S256x128 .f32) (g : Vec Ideal S1x128 .f32) : qHead v g (ix2 r l) = v (ix2 r l) * scaleOf v (ix2 r 0) * g (ix2 0 l) := by
  unfold qHead
  generalize scaleOf v = s
  pointwise []
def kHead (v : FVec Ideal S256x128 .f32) (k : FVec Ideal S256x128 .f32) : FVec Ideal S256x128 .bf16 :=
  truncf .bf16 (addf (mulf v (broadcastTo S256x128 (scaleOf v) broadcasts_S256x1_S256x128)) k) bitsLt_bf16_f32
theorem kHead_apply (v k : FVec Ideal S256x128 .f32) : kHead v k (ix2 r l) = v (ix2 r l) * scaleOf v (ix2 r 0) + k (ix2 r l) := by
  unfold kHead
  generalize scaleOf v = s
  pointwise []

/-- The scale of the lanes a mask keeps. -/
def maskScale (M : IVec S256x128 1) (n : BitVec 32) (v : FVec Ideal S256x128 .f32) : FVec Ideal S256x1 .f32 :=
  rsqrt (addf (mulf (shapeCast S256x1 (multiReduction .add [1] S256 (select M (mulf v v) (broadcast S256x128 (Scalar.ofBits .f32 0x00000000#32))) 0x00000000#32 reduces_S256x128_S256 (.inl rfl) rfl) shapeCasts_S256_S256x1)
    (broadcast S256x1 (Scalar.ofBits .f32 n))) (broadcast S256x1 (Scalar.ofBits .f32 0x358637BD#32)))
theorem lowScale (v : FVec Ideal S256x128 .f32) : maskScale k0_pay2 0x3C800000#32 v (ix2 r 0) =
    Ideal.rsqrt (Ideal.div (∑ i : Fin 64, v (ix2 r ⟨i, by omega⟩) * v (ix2 r ⟨i, by omega⟩)) (Ideal.ofBits .f32 0x42800000#32) + eps) := by
  have hM : ∀ r l, k0_pay2 (ix2 r l) = BitVec.ofBool (decide (l.val < 64)) := low_apply
  revert hM
  generalize k0_pay2 = M
  intro hM
  pointwise [maskScale]
  simp only [hM, pick]
  rw [sum_first (fun l => v (ix2 r l) * v (ix2 r l)), by64]
theorem midScale (v : FVec Ideal S256x128 .f32) : maskScale (k0_pay30 (iota .tc S256x128 32 [1] iota_S256x128_d1_w32)) 0x3D000000#32 v (ix2 r 0) =
    Ideal.rsqrt (Ideal.div (∑ i : Fin 32, v (ix2 r ⟨64 + i, by omega⟩) * v (ix2 r ⟨64 + i, by omega⟩)) (Ideal.ofBits .f32 0x42000000#32) + eps) := by
  have hM := mid_apply
  revert hM
  generalize k0_pay30 (iota .tc S256x128 32 [1] iota_S256x128_d1_w32) = M
  intro hM
  pointwise [maskScale]
  simp only [hM, pick]
  rw [sum_third (fun l => v (ix2 r l) * v (ix2 r l)), by32]

/-- A latent query's lanes normed. -/
def mNorm (M : IVec S256x128 1) (s s' : FVec Ideal S256x1 .f32) (v : FVec Ideal S256x128 .f32) (g : Vec Ideal S1x128 .f32) : FVec Ideal S256x128 .f32 :=
  mulf (mulf v (select M (broadcastTo S256x128 (shapeCast S256x1 s shapeCasts_S256x1_S256x1) broadcasts_S256x1_S256x128)
    (broadcastTo S256x128 (shapeCast S256x1 s' shapeCasts_S256x1_S256x1) broadcasts_S256x1_S256x128)))
    (broadcastTo S256x128 (shapeCast S1x128 g shapeCasts_S1x128_S1x128) broadcasts_S1x128_S256x128)
theorem mNorm_apply (s s' : FVec Ideal S256x1 .f32) (v : FVec Ideal S256x128 .f32) (g : Vec Ideal S1x128 .f32) : mNorm k0_pay2 s s' v g (ix2 r l) =
    v (ix2 r l) * (if l.val < 64 then s (ix2 r 0) else s' (ix2 r 0)) * g (ix2 0 l) := by
  have hM : ∀ r l, k0_pay2 (ix2 r l) = BitVec.ofBool (decide (l.val < 64)) := low_apply
  revert hM
  generalize k0_pay2 = M
  intro hM
  pointwise [mNorm]
  simp only [hM, pick]

/-- Lanes turned by the tables. -/
def turn (n : FVec Ideal S256x128 .f32) (a b : Vec Ideal S256x128 .f32) : FVec Ideal S256x128 .bf16 :=
  truncf .bf16 (addf (mulf n (k0_pay36 a)) (dynamicRotate 1 96#32 none (mulf n (k0_pay37 b)) rotates_S256x128_d1)) bitsLt_bf16_f32
theorem turn_apply (n : FVec Ideal S256x128 .f32) (a b : Vec Ideal S256x128 .f32) : turn n a b (ix2 r l) =
    n (ix2 r l) * a (ix2 r l) + n (ix2 r ⟨(l + 32) % 128, by omega⟩) * b (ix2 r ⟨(l + 32) % 128, by omega⟩) := by
  pointwise [turn, k0_pay36, k0_pay37]
  simp only [show (l.val + 128 - 96) % 128 = (l.val + 32) % 128 by omega]

/-- A latent query, of its lanes. -/
def mHead (v : FVec Ideal S256x128 .f32) (g : Vec Ideal S1x128 .f32) (a b : Vec Ideal S256x128 .f32) : FVec Ideal S256x128 .bf16 :=
  turn (mNorm k0_pay2 (maskScale k0_pay2 0x3C800000#32 v) (maskScale (k0_pay30 (iota .tc S256x128 32 [1] iota_S256x128_d1_w32)) 0x3D000000#32 v) v g) a b

theorem ql_k (X : FVec Ideal S256x1024 .bf16) (w : Vec Ideal S1024x384 .bf16) (z : FVec Ideal S256x384 .f32) (hz : ∀ j, z (ix2 r j) = 0) (g : Vec Ideal S1x384 .f32) (e : Fin 384) : k0_pay34 X w g (ix2 r e) =
    k0_pay18 X w z (ix2 r e) * Ideal.rsqrt (Ideal.div (∑ x : Fin 384, k0_pay18 X w z (ix2 r x) * k0_pay18 X w z (ix2 r x)) (Ideal.ofBits .f32 0x43C00000#32) + eps) * g (ix2 0 e) := by
  simp only [kv_k r X w z hz]
  pointwise [k0_pay34]
theorem qu_k (Q : FVec Ideal S256x384 .bf16) (w : Vec Ideal S384x1024 .bf16) (j : Fin 1024) : k0_pay35 Q w (ix2 r j) = ∑ e : Fin 384, Q (ix2 r e) * w (ix2 e j) := by
  pointwise [k0_pay35]

end Cert.Kernel3Ideal.Proj
end
-- ==== Proof.ProjRow.lean ====
/-
  The projection call's payloads over a tile's blocks, in terms of the reference.
-/
module
public import proofs.«01_k».proof.Proof.ProjAt
public import proofs.«01_k».proof.Proof.ProjPay
@[expose] public section
set_option maxRecDepth 16384
noncomputable section
namespace Cert.Kernel3Ideal.Proj
open Idealize.ShloMosaic Idealize.ShloMosaic.Tactic Cert.Kernel3Ideal Cert.Kernel3Ideal.Gen
open Cert.Proof.Proj

/-- A rectangle of a block at an entry. -/
theorem ld2 {A B a b : ℕ} {e : EltTy} (X : (⟨2, ![A, B]⟩ : Shape).Idx → Elt Ideal e) (o p : ℕ) (inb : ∀ i, (![o, p] : Fin 2 → ℕ) i + (![a, b] : Fin 2 → ℕ) i ≤ (⟨2, ![A, B]⟩ : Shape).size i)
    (i : Fin a) (j : Fin b) (i' : Fin A) (j' : Fin B) (hi : i'.val = o + i.val) (hj : j'.val = p + j.val) :
    View.ld (Val := Elt Ideal) X (Rect.unit (s := ⟨2, ![A, B]⟩) ![o, p] ![a, b] inb) (ix2 i j) = X (ix2 i' j') := by
  refine View.ld_unit_apply_of _ _ _ _ _ _ fun a => ?_
  fin_cases a
  · exact hi
  · exact hj

/-- A row's batch and position. -/
abbrev bb (x : Fin 16384) : Fin 4 := ⟨x / 4096, by omega⟩
abbrev pp (x : Fin 16384) : Fin 4096 := ⟨x % 4096, by omega⟩

/-- The rotary tables. -/
abbrev TT : FVec Ideal S4096x512 .f32 := packT (cosT Ref.ang) (sinT Ref.ang)

variable (m : (ℓ : Loc nD τ sig) → Buf (Elt Ideal) ℓ) (c : Dev nD)

/-- The arguments. -/
abbrev A0 : FVec Ideal S4x4096x1024 .f32 := m ((c.tc : Thread nD τ).loc main_arg0)
abbrev A1 : FVec Ideal S1024 .f32 := m ((c.tc : Thread nD τ).loc main_arg1)
abbrev A2 : FVec Ideal S1024x1592 .f32 := m ((c.tc : Thread nD τ).loc main_arg2)
abbrev A3 : FVec Ideal S4x64 .f32 := m ((c.tc : Thread nD τ).loc main_arg3)
abbrev A4 : FVec Ideal S384 .f32 := m ((c.tc : Thread nD τ).loc main_arg4)
abbrev A5 : FVec Ideal S256 .f32 := m ((c.tc : Thread nD τ).loc main_arg5)
abbrev A6 : FVec Ideal S384x768 .f32 := m ((c.tc : Thread nD τ).loc main_arg6)
abbrev A7 : FVec Ideal S256x8x64 .f32 := m ((c.tc : Thread nD τ).loc main_arg7)
abbrev A8 : FVec Ideal S256x8x64 .f32 := m ((c.tc : Thread nD τ).loc main_arg8)
abbrev A9 : FVec Ideal S2x64 .f32 := m ((c.tc : Thread nD τ).loc main_arg9)
abbrev A10 : FVec Ideal S2x32 .f32 := m ((c.tc : Thread nD τ).loc main_arg10)

/-- The reference's columns, latents, turned key, heads' keys, and latent queries, of the arguments. -/
def CC : FVec Ideal Cert.Reference3Ideal.S4x4096x1592 .f32 := Ref.cols (Ref.xn (A0 m c) (A1 m c)) (A2 m c)
def LL : FVec Ideal Cert.Reference3Ideal.S4x4096x256 .f32 := Ref.lat (Ref.ckv (CC m c)) (A5 m c)
def RR : FVec Ideal Cert.Reference3Ideal.S4x4096x32 .f32 := Ref.krope (Ref.krn (Ref.kr (CC m c)) (A10 m c)) Ref.ang
def KK : FVec Ideal Cert.Reference3Ideal.S4x4096x8x64 .f32 := Ref.knope (LL m c) (A7 m c)
def QQ : FVec Ideal Cert.Reference3Ideal.S4x4096x8x96 .f32 := Ref.qup (Ref.qln (Ref.ql (CC m c)) (A4 m c)) (A6 m c)

variable (t : Fin cfg0.N)

/-- What the body loads. -/
abbrev lx : Vec Ideal S256x1024 .f32 := View.ld (iblk m c 0 t) (Rect.unit ![0, 0] ![256, 1024] inb_S256x1024_S256x1024_0_0)
abbrev lg1 : Vec Ideal S1x1024 .f32 := View.ld (iblk m c 1 t) (Rect.unit ![0, 0] ![1, 1024] inb_S1x1024_S1x1024_0_0)
abbrev lwq : Vec Ideal S1024x1024 .bf16 := View.ld (iblk m c 2 t) (Rect.unit ![0, 0] ![1024, 1024] inb_S1024x2176_S1024x1024_0_0)
abbrev lwkv : Vec Ideal S1024x384 .bf16 := View.ld (iblk m c 2 t) (Rect.unit ![0, 1024] ![1024, 384] inb_S1024x2176_S1024x384_0_1024)
abbrev lwql : Vec Ideal S1024x384 .bf16 := View.ld (iblk m c 2 t) (Rect.unit ![0, 1408] ![1024, 384] inb_S1024x2176_S1024x384_0_1408)
abbrev lwc : Vec Ideal S1024x256 .bf16 := View.ld (iblk m c 2 t) (Rect.unit ![0, 1792] ![1024, 256] inb_S1024x2176_S1024x256_0_1792)
abbrev lwe : Vec Ideal S1024x128 .bf16 := View.ld (iblk m c 2 t) (Rect.unit ![0, 2048] ![1024, 128] inb_S1024x2176_S1024x128_0_2048)
abbrev lgq : Vec Ideal S1x128 .f32 := View.ld (iblk m c 3 t) (Rect.unit ![0, 0] ![1, 128] inb_S1x128_S1x128_0_0)
abbrev lgk0 : Vec Ideal S1x128 .f32 := View.ld (iblk m c 4 t) (Rect.unit ![0, 0] ![1, 128] inb_S8x128_S1x128_0_0)
abbrev lgk1 : Vec Ideal S1x128 .f32 := View.ld (iblk m c 4 t) (Rect.unit ![1, 0] ![1, 128] inb_S8x128_S1x128_1_0)
abbrev lg3 : Vec Ideal S1x384 .f32 := View.ld (iblk m c 5 t) (Rect.unit ![0, 0] ![1, 384] inb_S1x384_S1x384_0_0)
abbrev lup : Vec Ideal S384x1024 .bf16 := View.ld (iblk m c 6 t) (Rect.unit ![0, 0] ![384, 1024] inb_S384x1024_S384x1024_0_0)
abbrev lgm : Vec Ideal S1x128 .f32 := View.ld (iblk m c 7 t) (Rect.unit ![0, 0] ![1, 128] inb_S1x128_S1x128_0_0)
abbrev lg2 : Vec Ideal S1x256 .f32 := View.ld (iblk m c 8 t) (Rect.unit ![0, 0] ![1, 256] inb_S1x256_S1x256_0_0)
abbrev lk : Vec Ideal S256x1024 .bf16 := View.ld (iblk m c 9 t) (Rect.unit ![0, 0] ![256, 1024] inb_S256x1024_S256x1024_0_0)
abbrev lv : Vec Ideal S256x512 .bf16 := View.ld (iblk m c 10 t) (Rect.unit ![0, 0] ![256, 512] inb_S256x512_S256x512_0_0)
abbrev lge : Vec Ideal S1x128 .f32 := View.ld (iblk m c 11 t) (Rect.unit ![0, 0] ![1, 128] inb_S1x128_S1x128_0_0)
abbrev lta : Vec Ideal S256x128 .f32 := View.ld (iblk m c 12 t) (Rect.unit ![0, 0] ![256, 128] inb_S256x512_S256x128_0_0)
abbrev ltb : Vec Ideal S256x128 .f32 := View.ld (iblk m c 12 t) (Rect.unit ![0, 128] ![256, 128] inb_S256x512_S256x128_0_128)
abbrev ltc : Vec Ideal S256x128 .f32 := View.ld (iblk m c 12 t) (Rect.unit ![0, 256] ![256, 128] inb_S256x512_S256x128_0_256)
abbrev ltd : Vec Ideal S256x128 .f32 := View.ld (iblk m c 12 t) (Rect.unit ![0, 384] ![256, 128] inb_S256x512_S256x128_0_384)

/-- The tile's normed rows, the columns, the latents and the keys. -/
def XN : FVec Ideal S256x1024 .bf16 := k0_pay3 (lx m c t) (lg1 m c t)
def PQ : FVec Ideal S256x1024 .f32 := k0_pay4 (lx m c t) (lg1 m c t) (lwq m c t)
def PKV : FVec Ideal S256x384 .f32 := k0_pay18 (XN m c t) (k0_pay17 (lwkv m c t)) kernelRun0_A.sl.cst_58
def PE : FVec Ideal S256x128 .f32 := k0_pay28 (XN m c t) (lwe m c t)
def PC : FVec Ideal S256x256 .f32 := k0_pay61 (k0_pay59 (XN m c t) (lwc m c t)) (k0_pay60 (XN m c t) (lwc m c t)) (lg2 m c t)
def PK : FVec Ideal S256x1024 .f32 := k0_pay63 (k0_pay59 (XN m c t) (lwc m c t)) (k0_pay60 (XN m c t) (lwc m c t)) (lg2 m c t) (lk m c t)
def PR : FVec Ideal S256x128 .f32 := k0_pay32 (PE m c t) (k0_pay31 kernelRun0_A.sl.v0 (XN m c t) (lwe m c t)) (lge m c t) (ltc m c t) (ltd m c t)
def PU : FVec Ideal S256x1024 .f32 := k0_pay35 (k0_pay34 (XN m c t) (lwql m c t) (lg3 m c t)) (lup m c t)

theorem pay17 (w : Vec Ideal S1024x384 .bf16) (d : Fin 1024) (j : Fin 384) : k0_pay17 w (ix2 d j) = w (ix2 d j) := by
  pointwise [k0_pay17]
theorem zero58 (r : Fin 256) (j : Fin 384) : (kernelRun0_A.sl.cst_58 : FVec Ideal S256x384 .f32) (ix2 r j) = 0 := by
  pointwise [kernelRun0_A.sl.cst_58]

theorem lwq_0 (d : Fin 1024) (h : Fin 8) (l : Fin 64) : lwq m c t (ix2 d ⟨h * 128 + l, by omega⟩) = A2 m c (ix2 d ⟨h * 64 + l, by omega⟩) :=
  (ld2 _ _ _ _ _ _ d ⟨h * 128 + l, by omega⟩ (by omega) (by dsimp only; omega)).trans ((blk_w m c t _ _).trans ((congrFun (V_w m c) _).trans
    ((packW_q _ _ _ d ⟨h * 128 + l, by omega⟩).trans (packQ_0 _ d h l))))
theorem lwq_1 (d : Fin 1024) (h : Fin 8) (l : Fin 64) : lwq m c t (ix2 d ⟨h * 128 + (64 + l), by omega⟩) = 0 :=
  (ld2 _ _ _ _ _ _ d ⟨h * 128 + (64 + l), by omega⟩ (by omega) (by dsimp only; omega)).trans ((blk_w m c t _ _).trans ((congrFun (V_w m c) _).trans
    ((packW_q _ _ _ d ⟨h * 128 + (64 + l), by omega⟩).trans (packQ_1 _ d h l))))
theorem lwkv_apply (d : Fin 1024) (j : Fin 384) : k0_pay17 (lwkv m c t) (ix2 d j) = A2 m c (ix2 d ⟨512 + j, by omega⟩) :=
  (pay17 _ d j).trans ((ld2 _ _ _ _ _ _ d ⟨1024 + j, by omega⟩ (by omega) (by dsimp only)).trans ((blk_w m c t _ _).trans ((congrFun (V_w m c) _).trans (packW_kv _ _ _ d j))))
theorem lwql_apply (d : Fin 1024) (j : Fin 384) : lwql m c t (ix2 d j) = A2 m c (ix2 d ⟨920 + j, by omega⟩) :=
  (ld2 _ _ _ _ _ _ d ⟨1408 + j, by omega⟩ (by omega) (by dsimp only)).trans ((blk_w m c t _ _).trans ((congrFun (V_w m c) _).trans (packW_ql _ _ _ d j)))
theorem lwc_apply (d : Fin 1024) (j : Fin 256) : lwc m c t (ix2 d j) = A2 m c (ix2 d ⟨1304 + j, by omega⟩) :=
  (ld2 _ _ _ _ _ _ d ⟨1792 + j, by omega⟩ (by omega) (by dsimp only)).trans ((blk_w m c t _ _).trans ((congrFun (V_w m c) _).trans (packW_c _ _ _ d j)))
theorem lwe_apply (d : Fin 1024) (j : Fin 128) : lwe m c t (ix2 d j) = packE (A2 m c) (packR (A2 m c)) (ix2 d j) :=
  (ld2 _ _ _ _ _ _ d ⟨2048 + j, by omega⟩ (by omega) (by dsimp only)).trans ((blk_w m c t _ _).trans ((congrFun (V_w m c) _).trans (packW_e _ _ _ d j)))
theorem lgq_apply (l : Fin 128) : lgq m c t (ix2 0 l) = packGq (A3 m c) (ix2 0 l) :=
  (ld2 _ _ _ _ _ _ 0 l (by rfl) (by omega)).trans ((blk_gq m c t _ _).trans (congrFun (V_gq m c) _))
theorem lgk0_apply (l : Fin 128) : lgk0 m c t (ix2 0 l) = packGk (A3 m c) (ix2 0 l) :=
  (ld2 _ _ _ _ _ _ 0 l (by rfl) (by omega)).trans ((blk_gk m c t _ _).trans (congrFun (V_gk m c) _))
theorem lgk1_apply (l : Fin 128) : lgk1 m c t (ix2 0 l) = packGk (A3 m c) (ix2 1 l) :=
  (ld2 _ _ _ _ _ _ 1 l (by rfl) (by omega)).trans ((blk_gk m c t _ _).trans (congrFun (V_gk m c) _))
theorem lg1_apply (l : Fin 1024) : lg1 m c t (ix2 0 l) = A1 m c (ix1 l) :=
  (ld2 _ _ _ _ _ _ 0 l (by rfl) (by omega)).trans ((blk_g1 m c t _ _).trans ((congrFun (V_g1 m c) _).trans (packG1_apply _ l)))
theorem lg3_apply (l : Fin 384) : lg3 m c t (ix2 0 l) = A4 m c (ix1 l) :=
  (ld2 _ _ _ _ _ _ 0 l (by rfl) (by omega)).trans ((blk_g3 m c t _ _).trans ((congrFun (V_g3 m c) _).trans (packG3_apply _ l)))
theorem lg2_apply (l : Fin 256) : lg2 m c t (ix2 0 l) = A5 m c (ix1 l) :=
  (ld2 _ _ _ _ _ _ 0 l (by rfl) (by omega)).trans ((blk_g2 m c t _ _).trans ((congrFun (V_g2 m c) _).trans (packG2_apply _ l)))
theorem lgm_apply (l : Fin 128) : lgm m c t (ix2 0 l) = packGm (A9 m c) (A10 m c) (ix2 0 l) :=
  (ld2 _ _ _ _ _ _ 0 l (by rfl) (by omega)).trans ((blk_gm m c t _ _).trans (congrFun (V_gm m c) _))
theorem lge_apply (l : Fin 128) : lge m c t (ix2 0 l) = packGe (A10 m c) (ix2 0 l) :=
  (ld2 _ _ _ _ _ _ 0 l (by rfl) (by omega)).trans ((blk_ge m c t _ _).trans (congrFun (V_ge m c) _))
theorem lup_apply (e : Fin 384) (j : Fin 1024) : lup m c t (ix2 e j) = packUp (A6 m c) (upR (A6 m c)) (ix2 e j) :=
  (ld2 _ _ _ _ _ _ e j (by omega) (by omega)).trans ((blk_up m c t _ _).trans (congrFun (V_up m c) _))
theorem lk_apply (e : Fin 256) (j : Fin 1024) : lk m c t (ix2 e j) = packK (A7 m c) (ix2 e j) :=
  (ld2 _ _ _ _ _ _ e j (by omega) (by omega)).trans ((blk_k m c t _ _).trans (congrFun (V_k m c) _))
theorem lv_apply (e : Fin 256) (j : Fin 512) : lv m c t (ix2 e j) = packV (A8 m c) (ix2 e j) :=
  (ld2 _ _ _ _ _ _ e j (by omega) (by omega)).trans ((blk_v m c t _ _).trans (congrFun (V_v m c) _))

variable (r : Fin 256) (x : Fin 16384) (hx : x.val = 256 * t.val + r.val)

include hx

theorem lx_apply (y : Fin 1024) : lx m c t (ix2 r y) = A0 m c (ix3 (bb x) (pp x) y) :=
  (ld2 _ _ _ _ _ _ r y (by omega) (by omega)).trans ((blk_x m c t r y x hx).trans ((congrFun (V_x m c) _).trans (packX_apply _ x y)))

theorem lta_apply (l : Fin 128) : lta m c t (ix2 r l) = TT (ix2 (pp x) ⟨l, by omega⟩) :=
  (ld2 _ _ _ _ _ _ r ⟨l, by omega⟩ (by omega) (by dsimp only; omega)).trans ((blk_t m c t r _ (pp x) (by dsimp only; omega)).trans (congrFun (V_t m c) _))
theorem ltb_apply (l : Fin 128) : ltb m c t (ix2 r l) = TT (ix2 (pp x) ⟨128 + l, by omega⟩) :=
  (ld2 _ _ _ _ _ _ r ⟨128 + l, by omega⟩ (by omega) (by dsimp only)).trans ((blk_t m c t r _ (pp x) (by dsimp only; omega)).trans (congrFun (V_t m c) _))
theorem ltc_apply (l : Fin 128) : ltc m c t (ix2 r l) = TT (ix2 (pp x) ⟨256 + l, by omega⟩) :=
  (ld2 _ _ _ _ _ _ r ⟨256 + l, by omega⟩ (by omega) (by dsimp only)).trans ((blk_t m c t r _ (pp x) (by dsimp only; omega)).trans (congrFun (V_t m c) _))
theorem ltd_apply (l : Fin 128) : ltd m c t (ix2 r l) = TT (ix2 (pp x) ⟨384 + l, by omega⟩) :=
  (ld2 _ _ _ _ _ _ r ⟨384 + l, by omega⟩ (by omega) (by dsimp only)).trans ((blk_t m c t r _ (pp x) (by dsimp only; omega)).trans (congrFun (V_t m c) _))

theorem XN_apply (d : Fin 1024) : XN m c t (ix2 r d) = Ref.xn (A0 m c) (A1 m c) (ix3 (bb x) (pp x) d) := by
  refine (xn_k r _ _ d).trans (Eq.symm ((Ref.xn_apply _ _ _ _ _).trans ?_))
  unfold Ref.rms
  simp only [lx_apply m c t r x hx, lg1_apply]

/-- A column of the tile. -/
theorem col (w : Fin 1024 → EReal) (j : Fin 1592) (hw : ∀ d, w d = A2 m c (ix2 d j)) : (∑ d : Fin 1024, XN m c t (ix2 r d) * w d) = CC m c (ix3 (bb x) (pp x) j) := by
  refine Eq.trans ?_ (Ref.cols_apply _ _ _ _ _).symm
  exact Finset.sum_congr rfl fun d _ => congrArg₂ (· * ·) (XN_apply m c t r x hx d) (hw d)

theorem PQ_0 (h : Fin 8) (l : Fin 64) : PQ m c t (ix2 r ⟨h * 128 + l, by omega⟩) = CC m c (ix3 (bb x) (pp x) ⟨h * 64 + l, by omega⟩) :=
  (q_k r _ _ _ _).trans (col m c t r x hx _ _ fun d => lwq_0 m c t d h l)
omit hx in
theorem PQ_1 (h : Fin 8) (l : Fin 64) : PQ m c t (ix2 r ⟨h * 128 + (64 + l), by omega⟩) = 0 :=
  (q_k r _ _ _ _).trans (Finset.sum_eq_zero fun d _ => (congrArg _ (lwq_1 m c t d h l)).trans (mul_zero _))
theorem PKV_apply (j : Fin 384) : PKV m c t (ix2 r j) = CC m c (ix3 (bb x) (pp x) ⟨512 + j, by omega⟩) :=
  (kv_k r _ _ _ (zero58 r) _).trans (col m c t r x hx _ _ fun d => lwkv_apply m c t d j)
theorem PE_0 (j : Fin 24) : PE m c t (ix2 r ⟨j, by omega⟩) = CC m c (ix3 (bb x) (pp x) ⟨896 + j, by omega⟩) :=
  (e_k r _ _ _).trans (col m c t r x hx _ _ fun d => (lwe_apply m c t d _).trans (packE_0 _ _ d j))
theorem PE_1 (j : Fin 32) : PE m c t (ix2 r ⟨64 + j, by omega⟩) = CC m c (ix3 (bb x) (pp x) ⟨1560 + j, by omega⟩) :=
  (e_k r _ _ _).trans (col m c t r x hx _ _ fun d => (lwe_apply m c t d _).trans ((packE_1 _ _ d j).trans (packR_apply _ d j)))
theorem PE_2 (j : Fin 16) : PE m c t (ix2 r ⟨96 + j, by omega⟩) = CC m c (ix3 (bb x) (pp x) ⟨1560 + (16 + j), by omega⟩) :=
  (e_k r _ _ _).trans (col m c t r x hx _ _ fun d => (lwe_apply m c t d _).trans ((packE_2 _ _ d j).trans (packR_apply _ d _)))
theorem PE_3 (j : Fin 16) : PE m c t (ix2 r ⟨112 + j, by omega⟩) = CC m c (ix3 (bb x) (pp x) ⟨1560 + j, by omega⟩) :=
  (e_k r _ _ _).trans (col m c t r x hx _ _ fun d => (lwe_apply m c t d _).trans ((packE_3 _ _ d j).trans (packR_apply _ d _)))

/-- The latents. -/
theorem PC_apply (e : Fin 256) : PC m c t (ix2 r e) = LL m c (ix3 (bb x) (pp x) e) := by
  have h : ∀ e : Fin 256, k0_pay59 (XN m c t) (lwc m c t) (ix2 r e) = Ref.ckv (CC m c) (ix3 (bb x) (pp x) e) := fun e =>
    (c_k r _ _ _).trans ((col m c t r x hx _ _ fun d => lwc_apply m c t d e).trans (Ref.ckv_apply _ _ _ e).symm)
  refine (lat_k r _ _ _ e).trans (Eq.symm ((Ref.lat_apply _ _ _ _ _).trans ?_))
  unfold Ref.rms
  simp only [sq_k, h, lg2_apply]

/-- The heads' keys. -/
theorem PK_0 (h : Fin 8) (l : Fin 64) : PK m c t (ix2 r ⟨h * 128 + l, by omega⟩) = KK m c (ix4 (bb x) (pp x) h l) := by
  refine (kn_k r _ _ _ _ _).trans (Eq.symm ((Ref.knope_apply _ _ _ _ _ _).trans ?_))
  exact Finset.sum_congr rfl fun e _ => congrArg₂ (· * ·) (PC_apply m c t r x hx e).symm ((lk_apply m c t e _).trans (packK_0 _ e h l)).symm
omit hx in
theorem PK_1 (h : Fin 8) (l : Fin 64) : PK m c t (ix2 r ⟨h * 128 + (64 + l), by omega⟩) = 0 :=
  (kn_k r _ _ _ _ _).trans (Finset.sum_eq_zero fun e _ => (congrArg _ ((lk_apply m c t e _).trans (packK_1 _ e h l))).trans (mul_zero _))

/-- The values. -/
theorem PV_apply (h : Fin 8) (l : Fin 64) (C : FVec Ideal S256x256 .bf16) (hC : ∀ e, C (ix2 r e) = PC m c t (ix2 r e)) :
    k0_pay1 C (lv m c t) (ix2 r ⟨h * 64 + l, by omega⟩) = Ref.vals (LL m c) (A8 m c) (ix4 (bb x) (pp x) h l) := by
  refine (v_k r _ _ _).trans (Eq.symm ((Ref.vals_apply _ _ _ _ _ _).trans ?_))
  exact Finset.sum_congr rfl fun e _ => congrArg₂ (· * ·) ((hC e).trans (PC_apply m c t r x hx e)).symm ((lv_apply m c t e _).trans (packV_apply _ e h l)).symm

/-- The shared rotary key. -/
theorem PR_lane (l l' : Fin 128) (hl : l'.val = (l.val + 32) % 128) : PR m c t (ix2 r l) =
    PE m c t (ix2 r l) * Ref.rms (∑ i : Fin 32, Ref.kr (CC m c) (ix3 (bb x) (pp x) i) * Ref.kr (CC m c) (ix3 (bb x) (pp x) i)) (Ideal.ofBits .f32 0x42000000#32) * packGe (A10 m c) (ix2 0 l) * TT (ix2 (pp x) ⟨256 + l, by omega⟩) +
    PE m c t (ix2 r l') * Ref.rms (∑ i : Fin 32, Ref.kr (CC m c) (ix3 (bb x) (pp x) i) * Ref.kr (CC m c) (ix3 (bb x) (pp x) i)) (Ideal.ofBits .f32 0x42000000#32) * packGe (A10 m c) (ix2 0 l') * TT (ix2 (pp x) ⟨384 + l', by omega⟩) := by
  have e : l' = ⟨(l.val + 32) % 128, by omega⟩ := Fin.ext hl
  have hs : k0_pay31 kernelRun0_A.sl.v0 (XN m c t) (lwe m c t) (ix2 r 0) = Ideal.div (∑ i : Fin 32, Ref.kr (CC m c) (ix3 (bb x) (pp x) i) * Ref.kr (CC m c) (ix3 (bb x) (pp x) i)) (Ideal.ofBits .f32 0x42000000#32) := by
    refine (krs_k r _ _).trans (congrArg (fun s => Ideal.div s _) (Finset.sum_congr rfl fun i _ => ?_))
    rw [Ref.kr_apply]
    exact congrArg₂ (· * ·) (PE_1 m c t r x hx i) (PE_1 m c t r x hx i)
  refine (kr_k r l _ _ _ _ _).trans ?_
  rw [hs, lge_apply, lge_apply, ltc_apply m c t r x hx, ltd_apply m c t r x hx, ← e]
  rfl
theorem PR_low (l : Fin 64) : PR m c t (ix2 r ⟨l, by omega⟩) = 0 := by
  have h0 : TT (ix2 (pp x) ⟨256 + l, by omega⟩) = 0 := packT_k0 _ _ _ l
  have h1 : TT (ix2 (pp x) ⟨384 + (l + 32), by omega⟩) = 0 := packT_z0 _ _ _ ⟨l + 32, by omega⟩
  refine (PR_lane m c t r x hx ⟨l, by omega⟩ ⟨l + 32, by omega⟩ (by dsimp only; omega)).trans ?_
  refine (congrArg₂ (· + ·) (congrArg _ h0) (congrArg _ h1)).trans ?_
  simp only [mul_zero, add_zero]
theorem PR_mid0 (j : Fin 16) : PR m c t (ix2 r ⟨64 + j, by omega⟩) = RR m c (ix3 (bb x) (pp x) ⟨j, by omega⟩) := by
  have h0 : TT (ix2 (pp x) ⟨256 + (64 + j), by omega⟩) = _ := (congrArg (fun k => TT (ix2 (pp x) k)) (Fin.ext (by dsimp only; omega))).trans ((packT_k1 _ _ (pp x) ⟨j, by omega⟩).trans (cosT_0 _ _ j))
  have h1 : TT (ix2 (pp x) ⟨384 + (96 + j), by omega⟩) = _ := (congrArg (fun k => TT (ix2 (pp x) k)) (Fin.ext (by dsimp only; omega))).trans ((packT_z1 _ _ (pp x) ⟨j, by omega⟩).trans (sinT_0 _ _ j))
  refine (PR_lane m c t r x hx ⟨64 + j, by omega⟩ ⟨96 + j, by omega⟩ (by dsimp only; omega)).trans (Eq.symm ((Ref.krope_1 _ _ _ _ j).trans ?_))
  rw [Ref.krn_apply, Ref.krn_apply, PE_2 m c t r x hx, h0, h1, packGe_2]
  have p1 := PE_1 m c t r x hx ⟨j, by omega⟩
  have g1 := packGe_1 (A10 m c) ⟨j, by omega⟩
  dsimp only at p1 g1
  rw [p1, g1, Ref.kr_apply, Ref.kr_apply, sub_eq_add_neg, mul_neg]
theorem PR_mid1 (j : Fin 16) : PR m c t (ix2 r ⟨64 + (16 + j), by omega⟩) = RR m c (ix3 (bb x) (pp x) ⟨16 + j, by omega⟩) := by
  have h0 : TT (ix2 (pp x) ⟨256 + (64 + (16 + j)), by omega⟩) = _ := (congrArg (fun k => TT (ix2 (pp x) k)) (Fin.ext (by dsimp only; omega))).trans ((packT_k1 _ _ (pp x) ⟨16 + j, by omega⟩).trans (cosT_1 _ _ j))
  have h1 : TT (ix2 (pp x) ⟨384 + (112 + j), by omega⟩) = _ := (congrArg (fun k => TT (ix2 (pp x) k)) (Fin.ext (by dsimp only; omega))).trans ((packT_z1 _ _ (pp x) ⟨16 + j, by omega⟩).trans (sinT_1 _ _ j))
  refine (PR_lane m c t r x hx ⟨64 + (16 + j), by omega⟩ ⟨112 + j, by omega⟩ (by dsimp only; omega)).trans (Eq.symm ((Ref.krope_2 _ _ _ _ j).trans ?_))
  rw [Ref.krn_apply, Ref.krn_apply, PE_3 m c t r x hx, h0, h1, packGe_3]
  have p1 := PE_1 m c t r x hx ⟨16 + j, by omega⟩
  have g1 := packGe_1 (A10 m c) ⟨16 + j, by omega⟩
  dsimp only at p1 g1
  rw [p1, g1, Ref.kr_apply, Ref.kr_apply, add_comm]
theorem PR_mid (i : Fin 32) : PR m c t (ix2 r ⟨64 + i, by omega⟩) = RR m c (ix3 (bb x) (pp x) i) := by
  by_cases h : i.val < 16
  · exact PR_mid0 m c t r x hx ⟨i, h⟩
  · have e : i = ⟨16 + (i.val - 16), by omega⟩ := Fin.ext (by dsimp only; omega)
    have := PR_mid1 m c t r x hx ⟨i - 16, by omega⟩
    dsimp only at this
    rw [← e] at this
    refine Eq.trans (congrArg (fun k => PR m c t (ix2 r k)) (Fin.ext ?_)) this
    dsimp only
    omega

/-- The latent queries before their norms. -/
theorem lat_q (e : Fin 384) : k0_pay34 (XN m c t) (lwql m c t) (lg3 m c t) (ix2 r e) = Ref.qln (Ref.ql (CC m c)) (A4 m c) (ix3 (bb x) (pp x) e) := by
  have h : ∀ e : Fin 384, k0_pay18 (XN m c t) (lwql m c t) kernelRun0_A.sl.cst_58 (ix2 r e) = Ref.ql (CC m c) (ix3 (bb x) (pp x) e) := fun e =>
    (kv_k r _ _ _ (zero58 r) _).trans ((col m c t r x hx _ _ fun d => lwql_apply m c t d e).trans (Ref.ql_apply _ _ _ e).symm)
  refine (ql_k r _ _ _ (zero58 r) _ e).trans (Eq.symm ((Ref.qln_apply _ _ _ _ _).trans ?_))
  unfold Ref.rms
  simp only [h, lg3_apply]
theorem PU_of (j : Fin 1024) (h : Fin 8) (l : Fin 96) (hw : ∀ e, packUp (A6 m c) (upR (A6 m c)) (ix2 e j) = A6 m c (ix2 e ⟨h * 96 + l, by omega⟩)) :
    PU m c t (ix2 r j) = QQ m c (ix4 (bb x) (pp x) h l) := by
  refine (qu_k r _ _ _).trans (Eq.symm ((Ref.qup_apply _ _ _ _ _ _).trans ?_))
  exact Finset.sum_congr rfl fun e _ => congrArg₂ (· * ·) (lat_q m c t r x hx e).symm ((lup_apply m c t e _).trans (hw e)).symm
theorem PU_0 (h : Fin 8) (l : Fin 96) : PU m c t (ix2 r ⟨h * 128 + l, by omega⟩) = QQ m c (ix4 (bb x) (pp x) h l) :=
  PU_of m c t r x hx _ h l fun e => packUp_0 _ _ e h l
theorem PU_1 (h : Fin 8) (i : Fin 16) : PU m c t (ix2 r ⟨h * 128 + (96 + i), by omega⟩) = QQ m c (ix4 (bb x) (pp x) h ⟨64 + (16 + i), by omega⟩) :=
  PU_of m c t r x hx _ h _ fun e => (packUp_1 _ _ e h i).trans (upR_apply _ e h _)
theorem PU_2 (h : Fin 8) (i : Fin 16) : PU m c t (ix2 r ⟨h * 128 + (112 + i), by omega⟩) = QQ m c (ix4 (bb x) (pp x) h ⟨64 + i, by omega⟩) :=
  PU_of m c t r x hx _ h _ fun e => (packUp_2 _ _ e h i).trans (upR_apply _ e h _)

end Cert.Kernel3Ideal.Proj
end
-- ==== Proof.ProjHead.lean ====
/-
  The projection call's stores, head by head.
-/
module
public import proofs.«01_k».proof.Proof.ProjPay
@[expose] public section
set_option maxRecDepth 16384
noncomputable section
namespace Cert.Kernel3Ideal.Proj
open Idealize.ShloMosaic Idealize.ShloMosaic.Tactic Cert.Kernel3Ideal Cert.Kernel3Ideal.Gen

/-- A head's lanes. -/
def hd (K : FVec Ideal S256x1024 .f32) (h : Fin 8) : FVec Ideal S256x128 .f32 :=
  fun i => K (ix2 (⟨(i 0).val, (i 0).isLt⟩ : Fin 256) ⟨h * 128 + (i 1).val, by have : (i 1).val < 128 := (i 1).isLt; omega⟩)
theorem hd_apply (K : FVec Ideal S256x1024 .f32) (h : Fin 8) (r : Fin 256) (l : Fin 128) : hd K h (ix2 r l) = K (ix2 r ⟨h * 128 + l, by omega⟩) := rfl
theorem hd_eq (K : FVec Ideal S256x1024 .f32) (h : Fin 8) (s : S256x1024.Slices ![0, h.val * 128] S256x128) : extractStridedSlice S256x128 ![0, h.val * 128] K s = hd K h := by
  funext i
  obtain ⟨r, l, rfl⟩ : ∃ (r : Fin 256) (l : Fin 128), i = ix2 r l := ⟨i 0, i 1, eq_ix2 i⟩
  exact (lanes r l _ K s (by omega)).trans (hd_apply K h r l).symm

section
variable (x : Vec Ideal S256x1024 .f32) (n : Vec Ideal S1x1024 .f32) (w : Vec Ideal S1024x1024 .bf16) (Q : FVec Ideal S256x1024 .f32) (g : Vec Ideal S1x128 .f32)
theorem q_0 : k0_pay5 x n w g = qHead (hd (k0_pay4 x n w) 0) g := congrArg (qHead · g) (hd_eq (k0_pay4 x n w) 0 slices_S256x1024_o0_0_S256x128)
theorem q_1 : k0_pay6 Q g = qHead (hd Q 1) g := congrArg (qHead · g) (hd_eq Q 1 slices_S256x1024_o0_128_S256x128)
theorem q_2 : k0_pay7 Q g = qHead (hd Q 2) g := congrArg (qHead · g) (hd_eq Q 2 slices_S256x1024_o0_256_S256x128)
theorem q_3 : k0_pay11 (k0_pay8 Q) (k0_pay9 Q) k0_pay10 g = qHead (hd Q 3) g := congrArg (qHead · g) (hd_eq Q 3 slices_S256x1024_o0_384_S256x128)
theorem q_4 : k0_pay12 Q g = qHead (hd Q 4) g := congrArg (qHead · g) (hd_eq Q 4 slices_S256x1024_o0_512_S256x128)
theorem q_5 : k0_pay14 (k0_pay13 Q g) = qHead (hd Q 5) g := congrArg (qHead · g) (hd_eq Q 5 slices_S256x1024_o0_640_S256x128)
theorem q_6 : k0_pay15 Q g = qHead (hd Q 6) g := congrArg (qHead · g) (hd_eq Q 6 slices_S256x1024_o0_768_S256x128)
theorem q_7 : k0_pay16 Q g = qHead (hd Q 7) g := congrArg (qHead · g) (hd_eq Q 7 slices_S256x1024_o0_896_S256x128)
end

section
variable (C S : FVec Ideal S256x256 .f32) (n : Vec Ideal S1x256 .f32) (w : Vec Ideal S256x1024 .bf16) (K : FVec Ideal S256x1024 .f32) (k : FVec Ideal S256x128 .f32)
theorem k_0 : k0_pay67 k C S n w = kHead (hd (k0_pay63 C S n w) 0) k := congrArg (kHead · k) (hd_eq (k0_pay63 C S n w) 0 slices_S256x1024_o0_0_S256x128)
theorem k_1 : k0_pay71 k (k0_pay68 C S n w) (k0_pay69 C S n w) = kHead (hd (k0_pay63 C S n w) 1) k := congrArg (kHead · k) (hd_eq (k0_pay63 C S n w) 1 slices_S256x1024_o0_128_S256x128)
theorem k_2 : k0_pay75 k K = kHead (hd K 2) k := congrArg (kHead · k) (hd_eq K 2 slices_S256x1024_o0_256_S256x128)
theorem k_3 : k0_pay78 k (k0_pay76 K) (k0_pay77 K) = kHead (hd K 3) k := congrArg (kHead · k) (hd_eq K 3 slices_S256x1024_o0_384_S256x128)
theorem k_4 : k0_pay81 k K = kHead (hd K 4) k := congrArg (kHead · k) (hd_eq K 4 slices_S256x1024_o0_512_S256x128)
theorem k_5 : k0_pay86 k (k0_pay85 K) = kHead (hd K 5) k := congrArg (kHead · k) (hd_eq K 5 slices_S256x1024_o0_640_S256x128)
theorem k_6 : k0_pay89 k K = kHead (hd K 6) k := congrArg (kHead · k) (hd_eq K 6 slices_S256x1024_o0_768_S256x128)
theorem k_7 : k0_pay93 k K = kHead (hd K 7) k := congrArg (kHead · k) (hd_eq K 7 slices_S256x1024_o0_896_S256x128)

/-- The scales' lanes. -/
def scales (K : FVec Ideal S256x1024 .f32) : FVec Ideal S256x128 .f32 :=
  put 7#32 (scaleOf (hd K 7)) (put 6#32 (scaleOf (hd K 6)) (put 5#32 (scaleOf (hd K 5)) (put 4#32 (scaleOf (hd K 4)) (put 3#32 (scaleOf (hd K 3)) (put 2#32 (scaleOf (hd K 2))
    (put 1#32 (scaleOf (hd K 1)) (put 0#32 (scaleOf (hd K 0)) (broadcast S256x128 (Scalar.ofBits .f32 0x00000000#32)))))))))
theorem scales_eq : k0_pay92 (iota .tc S256x128 32 [1] iota_S256x128_d1_w32) (k0_pay63 C S n w) (k0_pay84 (iota .tc S256x128 32 [1] iota_S256x128_d1_w32) (k0_pay63 C S n w)
    (k0_pay74 (iota .tc S256x128 32 [1] iota_S256x128_d1_w32) (k0_pay63 C S n w) (k0_pay66 (iota .tc S256x128 32 [1] iota_S256x128_d1_w32) C S n w) (k0_pay69 C S n w)) (k0_pay77 (k0_pay63 C S n w))) = scales (k0_pay63 C S n w) := by
  unfold scales
  rw [← hd_eq _ 7 slices_S256x1024_o0_896_S256x128, ← hd_eq _ 6 slices_S256x1024_o0_768_S256x128, ← hd_eq _ 5 slices_S256x1024_o0_640_S256x128, ← hd_eq _ 4 slices_S256x1024_o0_512_S256x128,
    ← hd_eq _ 3 slices_S256x1024_o0_384_S256x128, ← hd_eq _ 2 slices_S256x1024_o0_256_S256x128, ← hd_eq _ 1 slices_S256x1024_o0_128_S256x128, ← hd_eq _ 0 slices_S256x1024_o0_0_S256x128]
  rfl
theorem scales_apply (r : Fin 256) (h : Fin 8) : scales K (ix2 r ⟨h, by omega⟩) = scaleOf (hd K h) (ix2 r 0) := by
  unfold scales
  rw [put_apply _ _ 7 (by decide), put_apply _ _ 6 (by decide), put_apply _ _ 5 (by decide), put_apply _ _ 4 (by decide), put_apply _ _ 3 (by decide), put_apply _ _ 2 (by decide),
    put_apply _ _ 1 (by decide), put_apply _ _ 0 (by decide)]
  fin_cases h <;> rfl
end

section
variable (W : FVec Ideal S256x384 .bf16) (w : Vec Ideal S384x1024 .bf16) (X : FVec Ideal S256x1024 .f32) (a b : Vec Ideal S256x128 .f32) (g : Vec Ideal S1x128 .f32)
/-- The third quarter's lanes. -/
abbrev midM : IVec S256x128 1 := k0_pay30 (iota .tc S256x128 32 [1] iota_S256x128_d1_w32)
theorem m_0 : k0_pay38 k0_pay2 midM W w a b g = mHead (hd (k0_pay35 W w) 0) g a b := congrArg (mHead · g a b) (hd_eq (k0_pay35 W w) 0 slices_S256x1024_o0_0_S256x128)
theorem m_1 : k0_pay39 k0_pay2 midM X (k0_pay36 a) (k0_pay37 b) g = mHead (hd X 1) g a b := congrArg (mHead · g a b) (hd_eq X 1 slices_S256x1024_o0_128_S256x128)
theorem m_2 : k0_pay43 k0_pay2 midM (k0_pay36 a) (k0_pay37 b) (k0_pay40 X) (k0_pay41 X) (k0_pay42 k0_pay2 X) g = mHead (hd X 2) g a b := congrArg (mHead · g a b) (hd_eq X 2 slices_S256x1024_o0_256_S256x128)
theorem m_3 : k0_pay48 k0_pay2 (k0_pay36 a) (k0_pay37 b) (k0_pay44 X) (k0_pay46 midM X) (k0_pay47 k0_pay2 X) (Scalar.ofBits .f32 0x358637BD#32) g = mHead (hd X 3) g a b := congrArg (mHead · g a b) (hd_eq X 3 slices_S256x1024_o0_384_S256x128)
theorem m_4 : k0_pay53 k0_pay2 (k0_pay36 a) (k0_pay37 b) (k0_pay49 X) (k0_pay51 k0_pay2 X) (k0_pay52 midM X) g = mHead (hd X 4) g a b := congrArg (mHead · g a b) (hd_eq X 4 slices_S256x1024_o0_512_S256x128)
theorem m_5 : k0_pay56 (k0_pay36 a) (k0_pay37 b) (k0_pay54 k0_pay2 midM X) (k0_pay55 g) = mHead (hd X 5) g a b := congrArg (mHead · g a b) (hd_eq X 5 slices_S256x1024_o0_640_S256x128)
theorem m_6 : k0_pay57 k0_pay2 midM X (k0_pay36 a) (k0_pay37 b) g = mHead (hd X 6) g a b := congrArg (mHead · g a b) (hd_eq X 6 slices_S256x1024_o0_768_S256x128)
theorem m_7 : k0_pay58 k0_pay2 midM X (k0_pay36 a) (k0_pay37 b) g = mHead (hd X 7) g a b := congrArg (mHead · g a b) (hd_eq X 7 slices_S256x1024_o0_896_S256x128)
end

end Cert.Kernel3Ideal.Proj
-- ==== Proof.ProjTile.lean ====
/-
  What the projection call's body stores in each of its blocks.
-/
module
public import proofs.«01_k».proof.Proof.ProjRow
public import proofs.«01_k».proof.Proof.ProjHead
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Kernel3Ideal.Proj
open Idealize.ShloMosaic Idealize.ShloMosaic.Tactic Cert.Kernel3Ideal Cert.Kernel3Ideal.Gen
open Cert.Proof.Proj

variable (m : (ℓ : Loc nD τ sig) → Buf (Elt Ideal) ℓ) (c : Dev nD) (t : Fin cfg0.N) (r : Fin 256)

set_option maxHeartbeats 4000000 in
theorem after13 (h : Fin 8) (l : Fin 128) : (dats m 0 c).after 13 t (ix2 r ⟨h * 128 + l, by omega⟩) = qHead (hd (PQ m c t) h) (lgq m c t) (ix2 r l) := by
  rw [after0_13]; unfold outsAt0; dsimp only; unfold out0_A_13; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40]
  canon_tiles w e
  all_goals idx_vars w
  all_goals obtain rfl : w0 = r := Fin.ext (by omega)
  · obtain rfl : h = 7 := Fin.ext (by omega)
    obtain rfl : w1 = l := Fin.ext (by omega)
    exact congrFun (q_7 (PQ m c t) (lgq m c t)) _
  · obtain rfl : h = 6 := Fin.ext (by omega)
    obtain rfl : w1 = l := Fin.ext (by omega)
    exact congrFun (q_6 (PQ m c t) (lgq m c t)) _
  · obtain rfl : h = 5 := Fin.ext (by omega)
    obtain rfl : w1 = l := Fin.ext (by omega)
    exact congrFun (q_5 (PQ m c t) (lgq m c t)) _
  · obtain rfl : h = 4 := Fin.ext (by omega)
    obtain rfl : w1 = l := Fin.ext (by omega)
    exact congrFun (q_4 (PQ m c t) (lgq m c t)) _
  · obtain rfl : h = 3 := Fin.ext (by omega)
    obtain rfl : w1 = l := Fin.ext (by omega)
    exact congrFun (q_3 (PQ m c t) (lgq m c t)) _
  · obtain rfl : h = 2 := Fin.ext (by omega)
    obtain rfl : w1 = l := Fin.ext (by omega)
    exact congrFun (q_2 (PQ m c t) (lgq m c t)) _
  · obtain rfl : h = 1 := Fin.ext (by omega)
    obtain rfl : w1 = l := Fin.ext (by omega)
    exact congrFun (q_1 (PQ m c t) (lgq m c t)) _
  · obtain rfl : h = 0 := Fin.ext (by omega)
    obtain rfl : w1 = l := Fin.ext (by omega)
    exact congrFun (q_0 (lx m c t) (lg1 m c t) (lwq m c t) (lgq m c t)) _

set_option maxHeartbeats 4000000 in
theorem after20 (h : Fin 8) (l : Fin 128) : (dats m 0 c).after 20 t (ix2 r ⟨h * 128 + l, by omega⟩) = mHead (hd (PU m c t) h) (lgm m c t) (lta m c t) (ltb m c t) (ix2 r l) := by
  rw [after0_20]; unfold outsAt0; dsimp only; unfold out0_A_20; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40]
  canon_tiles w e
  all_goals idx_vars w
  all_goals obtain rfl : w0 = r := Fin.ext (by omega)
  · obtain rfl : h = 7 := Fin.ext (by omega)
    obtain rfl : w1 = l := Fin.ext (by omega)
    exact congrFun (m_7 (PU m c t) (lta m c t) (ltb m c t) (lgm m c t)) _
  · obtain rfl : h = 6 := Fin.ext (by omega)
    obtain rfl : w1 = l := Fin.ext (by omega)
    exact congrFun (m_6 (PU m c t) (lta m c t) (ltb m c t) (lgm m c t)) _
  · obtain rfl : h = 5 := Fin.ext (by omega)
    obtain rfl : w1 = l := Fin.ext (by omega)
    exact congrFun (m_5 (PU m c t) (lta m c t) (ltb m c t) (lgm m c t)) _
  · obtain rfl : h = 4 := Fin.ext (by omega)
    obtain rfl : w1 = l := Fin.ext (by omega)
    exact congrFun (m_4 (PU m c t) (lta m c t) (ltb m c t) (lgm m c t)) _
  · obtain rfl : h = 3 := Fin.ext (by omega)
    obtain rfl : w1 = l := Fin.ext (by omega)
    exact congrFun (m_3 (PU m c t) (lta m c t) (ltb m c t) (lgm m c t)) _
  · obtain rfl : h = 2 := Fin.ext (by omega)
    obtain rfl : w1 = l := Fin.ext (by omega)
    exact congrFun (m_2 (PU m c t) (lta m c t) (ltb m c t) (lgm m c t)) _
  · obtain rfl : h = 1 := Fin.ext (by omega)
    obtain rfl : w1 = l := Fin.ext (by omega)
    exact congrFun (m_1 (PU m c t) (lta m c t) (ltb m c t) (lgm m c t)) _
  · obtain rfl : h = 0 := Fin.ext (by omega)
    obtain rfl : w1 = l := Fin.ext (by omega)
    exact congrFun (m_0 (k0_pay34 (XN m c t) (lwql m c t) (lg3 m c t)) (lup m c t) (lta m c t) (ltb m c t) (lgm m c t)) _

set_option maxHeartbeats 4000000 in
theorem after23 (h : Fin 8) (l : Fin 128) : (dats m 0 c).after 23 t (ix2 r ⟨h * 128 + l, by omega⟩) = kHead (hd (PK m c t) h) (PR m c t) (ix2 r l) := by
  rw [after0_23]; unfold outsAt0; dsimp only; unfold out0_A_23; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40]
  canon_tiles w e
  all_goals idx_vars w
  all_goals obtain rfl : w0 = r := Fin.ext (by omega)
  · obtain rfl : h = 7 := Fin.ext (by omega)
    obtain rfl : w1 = l := Fin.ext (by omega)
    exact congrFun (k_7 (PK m c t) (PR m c t)) _
  · obtain rfl : h = 6 := Fin.ext (by omega)
    obtain rfl : w1 = l := Fin.ext (by omega)
    exact congrFun (k_6 (PK m c t) (PR m c t)) _
  · obtain rfl : h = 5 := Fin.ext (by omega)
    obtain rfl : w1 = l := Fin.ext (by omega)
    exact congrFun (k_5 (PK m c t) (PR m c t)) _
  · obtain rfl : h = 4 := Fin.ext (by omega)
    obtain rfl : w1 = l := Fin.ext (by omega)
    exact congrFun (k_4 (PK m c t) (PR m c t)) _
  · obtain rfl : h = 3 := Fin.ext (by omega)
    obtain rfl : w1 = l := Fin.ext (by omega)
    exact congrFun (k_3 (PK m c t) (PR m c t)) _
  · obtain rfl : h = 2 := Fin.ext (by omega)
    obtain rfl : w1 = l := Fin.ext (by omega)
    exact congrFun (k_2 (PK m c t) (PR m c t)) _
  · obtain rfl : h = 1 := Fin.ext (by omega)
    obtain rfl : w1 = l := Fin.ext (by omega)
    exact congrFun (k_1 (k0_pay59 (XN m c t) (lwc m c t)) (k0_pay60 (XN m c t) (lwc m c t)) (lg2 m c t) (lk m c t) (PR m c t)) _
  · obtain rfl : h = 0 := Fin.ext (by omega)
    obtain rfl : w1 = l := Fin.ext (by omega)
    exact congrFun (k_0 (k0_pay59 (XN m c t) (lwc m c t)) (k0_pay60 (XN m c t) (lwc m c t)) (lg2 m c t) (lk m c t) (PR m c t)) _

set_option maxHeartbeats 4000000 in
theorem after14_0 (l : Fin 128) : (dats m 0 c).after 14 t (ix2 r ⟨l, by omega⟩) = k0_pay19 (XN m c t) (k0_pay17 (lwkv m c t)) kernelRun0_A.sl.cst_58 (ix2 r l) := by
  rw [after0_14]; unfold outsAt0; dsimp only; unfold out0_A_14; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40]
  canon_tiles w e
  all_goals idx_vars w
  all_goals obtain rfl : w0 = r := Fin.ext (by omega)
  · exact absurd w1.isLt (by omega)
  · obtain rfl : w1 = l := Fin.ext (by omega)
    rfl

set_option maxHeartbeats 4000000 in
theorem after14_1 (l : Fin 128) : (dats m 0 c).after 14 t (ix2 r ⟨128 + l, by omega⟩) = k0_pay21 k0_pay2 (XN m c t) (k0_pay17 (lwkv m c t)) kernelRun0_A.sl.cst_58 (lgk0 m c t) (ix2 r l) := by
  rw [after0_14]; unfold outsAt0; dsimp only; unfold out0_A_14; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40]
  canon_tiles w e
  all_goals idx_vars w
  all_goals obtain rfl : w0 = r := Fin.ext (by omega)
  · obtain rfl : w1 = l := Fin.ext (by omega)
    rfl
  · exact absurd w1.isLt (by omega)

set_option maxHeartbeats 4000000 in
theorem after21_0 (l : Fin 256) : (dats m 0 c).after 21 t (ix2 r ⟨l, by omega⟩) = PC m c t (ix2 r l) := by
  rw [after0_21]; unfold outsAt0; dsimp only; unfold out0_A_21; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40]
  canon_tiles w e using View.cover_of_tiledBy _ ![256, 32] (by sl_kernel_rfl) _
  all_goals idx_vars w
  all_goals obtain rfl : w0 = r := Fin.ext (by omega)
  · obtain rfl : w1 = l := Fin.ext (by omega)
    rfl
  · exact absurd w1.isLt (by omega)

set_option maxHeartbeats 4000000 in
theorem after21_1 (l : Fin 32) : (dats m 0 c).after 21 t (ix2 r ⟨256 + l, by omega⟩) = k0_pay33 (PE m c t) (k0_pay31 kernelRun0_A.sl.v0 (XN m c t) (lwe m c t)) (lge m c t) (ltc m c t) (ltd m c t) (ix2 r l) := by
  rw [after0_21]; unfold outsAt0; dsimp only; unfold out0_A_21; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40]
  canon_tiles w e using View.cover_of_tiledBy _ ![256, 32] (by sl_kernel_rfl) _
  all_goals idx_vars w
  all_goals obtain rfl : w0 = r := Fin.ext (by omega)
  · exact absurd w1.isLt (by omega)
  · obtain rfl : w1 = l := Fin.ext (by omega)
    rfl

set_option maxHeartbeats 4000000 in
theorem after15 (l : Fin 128) : (dats m 0 c).after 15 t (ix2 r l) = k0_pay26 k0_pay2 (k0_pay23 (XN m c t) (k0_pay17 (lwkv m c t)) kernelRun0_A.sl.cst_58) (k0_pay24 k0_pay2 (XN m c t) (k0_pay17 (lwkv m c t)) kernelRun0_A.sl.cst_58) k0_pay25 (lgk1 m c t) (ix2 r l) := by
  rw [after0_15]; unfold outsAt0; dsimp only; unfold out0_A_15; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40]
  canon_tiles w e
  all_goals idx_vars w
  all_goals obtain rfl : w0 = r := Fin.ext (by omega)
  obtain rfl : w1 = l := Fin.ext (by omega)
  exact rfl

set_option maxHeartbeats 4000000 in
theorem after19 (l : Fin 128) : (dats m 0 c).after 19 t (ix2 r l) = k0_pay29 (XN m c t) (lwe m c t) (ix2 r l) := by
  rw [after0_19]; unfold outsAt0; dsimp only; unfold out0_A_19; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40]
  canon_tiles w e
  all_goals idx_vars w
  all_goals obtain rfl : w0 = r := Fin.ext (by omega)
  obtain rfl : w1 = l := Fin.ext (by omega)
  exact rfl

set_option maxHeartbeats 4000000 in
theorem after22 (l : Fin 128) : (dats m 0 c).after 22 t (ix2 r l) = scales (PK m c t) (ix2 r l) := by
  rw [after0_22]; unfold outsAt0; dsimp only; unfold out0_A_22; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40]
  canon_tiles w e
  all_goals idx_vars w
  all_goals obtain rfl : w0 = r := Fin.ext (by omega)
  obtain rfl : w1 = l := Fin.ext (by omega)
  exact congrFun (scales_eq (k0_pay59 (XN m c t) (lwc m c t)) (k0_pay60 (XN m c t) (lwc m c t)) (lg2 m c t) (lk m c t)) _

set_option maxHeartbeats 4000000 in
theorem after24 (l : Fin 512) : (dats m 0 c).after 24 t (ix2 r l) = k0_pay1 (k0_pay62 (k0_pay59 (XN m c t) (lwc m c t)) (k0_pay60 (XN m c t) (lwc m c t)) (lg2 m c t)) (lv m c t) (ix2 r l) := by
  rw [after0_24]; unfold outsAt0; dsimp only; unfold out0_A_24; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40]
  canon_tiles w e
  all_goals idx_vars w
  all_goals obtain rfl : w0 = r := Fin.ext (by omega)
  obtain rfl : w1 = l := Fin.ext (by omega)
  exact rfl

end Cert.Kernel3Ideal.Proj
end
-- ==== Proof.ProjOut.lean ====
/-
  The blocks the projection call stores are the reference's results at their rows.
-/
module
public import proofs.«01_k».proof.Proof.ProjTile
@[expose] public section
set_option maxRecDepth 16384
noncomputable section
namespace Cert.Kernel3Ideal.Proj
open Idealize.ShloMosaic Idealize.ShloMosaic.Tactic Cert.Kernel3Ideal Cert.Kernel3Ideal.Gen
open Cert.Proof.Proj

/-- Equal positions hold equal values. -/
theorem mv {n : ℕ} {α : Sort _} (f : Fin n → α) {i j : Fin n} (h : i.val = j.val) : f i = f j := congrArg f (Fin.ext h)

/-- The latent heads' score scale. -/
abbrev sc : EReal := Ideal.ofBits .f32 0x3DD105EC#32
theorem sc_real : ∃ k : ℝ, 0 ≤ k ∧ sc = (k : EReal) := by
  have h : sc = (((13698540 : ℝ) * 2 ^ (-27 : ℤ) : ℝ) : EReal) := by
    simp [Ideal.ofBits, Ideal.ieee]
  exact ⟨_, by positivity, h⟩
theorem sc_distrib (a b : EReal) : (a + b) * sc = a * sc + b * sc := by
  obtain ⟨k, hk, e⟩ := sc_real
  rw [e]
  exact EReal.right_distrib_of_nonneg_of_ne_top (EReal.coe_nonneg.mpr hk) (EReal.coe_ne_top k) a b
theorem turn_sub (y z p q : EReal) : y * (p * sc) + z * (-q * sc) = (y * p - z * q) * sc := by
  rw [sub_eq_add_neg, sc_distrib, mul_assoc, ← mul_neg, mul_assoc]
theorem turn_add (y z p q : EReal) : z * (p * sc) + y * (q * sc) = (y * q + z * p) * sc := by
  rw [sc_distrib, mul_assoc, mul_assoc, add_comm]

theorem pay62 (C S : FVec Ideal S256x256 .f32) (g : Vec Ideal S1x256 .f32) (r e : Fin 256) : k0_pay62 C S g (ix2 r e) = k0_pay61 C S g (ix2 r e) := by
  unfold k0_pay62
  generalize k0_pay61 C S g = K
  pointwise []

variable (m : (ℓ : Loc nD τ sig) → Buf (Elt Ideal) ℓ) (c : Dev nD) (t : Fin cfg0.N) (r : Fin 256) (x : Fin 16384) (hx : x.val = 256 * t.val + r.val)

/-- The results, of the arguments. -/
def k0 : FVec Ideal Cert.Reference3Ideal.S4x4096x4x1x64 .f32 := Ref.nsa (Ref.kvs (CC m c)) (Ref.kvsel (Ref.kvs (CC m c))) (A3 m c)
def k1 : FVec Ideal Cert.Reference3Ideal.S4x4096x288 .f32 := Ref.mlarows (LL m c) (RR m c)
def k2 : FVec Ideal Cert.Reference3Ideal.S4x4096x8 .f32 := Ref.kscale (KK m c)
def k3 : FVec Ideal Cert.Reference3Ideal.S4x512x2x1x64 .f32 := Ref.win (Ref.kvs (CC m c)) (Ref.kvwin (Ref.kvs (CC m c))) (A3 m c)
def k4 : FVec Ideal Cert.Reference3Ideal.S4x4096x8x64 .bf16 := Ref.qn (Ref.qcols (CC m c)) (A3 m c)
def k5 : FVec Ideal Cert.Reference3Ideal.S4x4096x3x1x8 .f32 := Ref.gates (CC m c)
def k6 : FVec Ideal Cert.Reference3Ideal.S4x4096x8x96 .bf16 := Ref.qmla (Ref.qup64 (QQ m c)) (Ref.qrn (Ref.qup32 (QQ m c)) (A10 m c)) Ref.ang (A9 m c)
def k7 : FVec Ideal Cert.Reference3Ideal.S4x4096x8x96 .bf16 := Ref.kfull (KK m c) (Ref.kscale (KK m c)) (RR m c)
def k8 : FVec Ideal Cert.Reference3Ideal.S4x4096x8x64 .bf16 := Ref.vals (LL m c) (A8 m c)

include hx

/-! The branches' keys and values. -/

theorem row14_0 (l : Fin 128) : (dats m 0 c).after 14 t (ix2 r ⟨l, by omega⟩) = CC m c (ix3 (bb x) (pp x) ⟨512 + l, by omega⟩) :=
  (after14_0 m c t r l).trans ((cmp_k r l _ _ _).trans (PKV_apply m c t r x hx ⟨l, by omega⟩))
/-- A branch's block of columns, one half normed. -/
theorem branch_row (o : ℕ) (ho : o + 128 ≤ 384) (v : FVec Ideal S256x128 .f32) (hv : ∀ l : Fin 128, v (ix2 r l) = PKV m c t (ix2 r ⟨o + l, by omega⟩)) (g : Vec Ideal S1x128 .f32) (l : Fin 128) :
    branch k0_pay2 v g (ix2 r l) = CC m c (ix3 (bb x) (pp x) ⟨512 + (o + l), by omega⟩) *
      (if l.val < 64 then Ref.rms (∑ i : Fin 64, CC m c (ix3 (bb x) (pp x) ⟨512 + (o + i), by omega⟩) * CC m c (ix3 (bb x) (pp x) ⟨512 + (o + i), by omega⟩)) (Ideal.ofBits .f32 0x42800000#32) else 1) * g (ix2 0 l) := by
  refine (branch_apply r l v g).trans ?_
  unfold Ref.rms
  simp only [hv, PKV_apply m c t r x hx]
theorem row14_1 (l : Fin 128) : (dats m 0 c).after 14 t (ix2 r ⟨128 + l, by omega⟩) = CC m c (ix3 (bb x) (pp x) ⟨512 + (128 + l), by omega⟩) *
      (if l.val < 64 then Ref.rms (∑ i : Fin 64, CC m c (ix3 (bb x) (pp x) ⟨512 + (128 + i), by omega⟩) * CC m c (ix3 (bb x) (pp x) ⟨512 + (128 + i), by omega⟩)) (Ideal.ofBits .f32 0x42800000#32) else 1) * packGk (A3 m c) (ix2 0 l) := by
  refine (after14_1 m c t r l).trans ((congrFun (sel_k _ _ _ _ _) _).trans ?_)
  exact (branch_row m c t r x hx 128 (by omega) _ (fun l => at128 r l _) _ l).trans (congrArg _ (lgk0_apply m c t l))
theorem row15 (l : Fin 128) : (dats m 0 c).after 15 t (ix2 r l) = CC m c (ix3 (bb x) (pp x) ⟨512 + (256 + l), by omega⟩) *
      (if l.val < 64 then Ref.rms (∑ i : Fin 64, CC m c (ix3 (bb x) (pp x) ⟨512 + (256 + i), by omega⟩) * CC m c (ix3 (bb x) (pp x) ⟨512 + (256 + i), by omega⟩)) (Ideal.ofBits .f32 0x42800000#32) else 1) * packGk (A3 m c) (ix2 1 l) := by
  refine (after15 m c t r l).trans ((congrFun (win_k _ _ _ _ _) _).trans ?_)
  exact (branch_row m c t r x hx 256 (by omega) _ (fun l => at256 r l _) _ l).trans (congrArg _ (lgk1_apply m c t l))

omit hx in
theorem kv_col (b : Fin 4) (p : Fin 4096) (i : Fin 6) (d : Fin 64) (o : Fin 1592) (ho : o.val = 512 + (i.val * 64 + d.val)) : Ref.kvs (CC m c) (ix5 b p i 0 d) = CC m c (ix3 b p o) :=
  (Ref.kvs_apply _ _ _ _ _).trans (mv (fun k => CC m c (ix3 b p k)) ho.symm)

theorem o_nsa (i : Fin 4) (d : Fin 64) : (dats m 0 c).after 14 t (ix2 r ⟨i * 64 + d, by omega⟩) = k0 m c (ix5 (bb x) (pp x) i 0 d) := by
  unfold k0
  have hi : i = 0 ∨ i = 1 ∨ i = 2 ∨ i = 3 := by fin_cases i <;> simp
  rcases hi with rfl | rfl | rfl | rfl
  · refine (mv (fun k => (dats m 0 c).after 14 t (ix2 r k)) (by show 0 * 64 + d.val = d.val; omega)).trans ((row14_0 m c t r x hx ⟨d, by omega⟩).trans (Eq.symm ?_))
    exact (Ref.nsa_0 _ _ _ _ _ _).trans (kv_col m c _ _ _ _ _ (by show 512 + d.val = 512 + (0 * 64 + d.val); omega))
  · refine (mv (fun k => (dats m 0 c).after 14 t (ix2 r k)) (by show 1 * 64 + d.val = 64 + d.val; omega)).trans ((row14_0 m c t r x hx ⟨64 + d, by omega⟩).trans (Eq.symm ?_))
    exact (Ref.nsa_1 _ _ _ _ _ _).trans (kv_col m c _ _ _ _ _ (by show 512 + (64 + d.val) = 512 + (1 * 64 + d.val); omega))
  · refine (mv (fun k => (dats m 0 c).after 14 t (ix2 r k)) (by show 2 * 64 + d.val = 128 + d.val; omega)).trans ((row14_1 m c t r x hx ⟨d, by omega⟩).trans (Eq.symm ?_))
    have e : ∀ d : Fin 64, Ref.kvsel (Ref.kvs (CC m c)) (ix4 (bb x) (pp x) 0 d) = CC m c (ix3 (bb x) (pp x) ⟨512 + (128 + d), by omega⟩) := fun d =>
      (Ref.kvsel_apply _ _ _ _).trans (kv_col m c _ _ _ _ _ (by show 512 + (128 + d.val) = 512 + (2 * 64 + d.val); omega))
    refine (Ref.nsa_2 _ _ _ _ _ _).trans ?_
    simp only [e, packGk_sel, d.isLt, if_true]
  · refine (mv (fun k => (dats m 0 c).after 14 t (ix2 r k)) (by show 3 * 64 + d.val = 128 + (64 + d.val); omega)).trans ((row14_1 m c t r x hx ⟨64 + d, by omega⟩).trans (Eq.symm ?_))
    refine (Ref.nsa_3 _ _ _ _ _ _).trans ((kv_col m c _ _ _ _ ⟨512 + (128 + (64 + d)), by omega⟩ (by show 512 + (128 + (64 + d.val)) = 512 + (3 * 64 + d.val); omega)).trans ?_)
    rw [packGk_sel1, if_neg (by dsimp only; omega), mul_one, mul_one]

theorem o_win (s : Fin 512) (hs : x.val % 4096 = 3584 + s.val) (i : Fin 2) (d : Fin 64) : (dats m 0 c).after 15 t (ix2 r ⟨i * 64 + d, by omega⟩) = k3 m c (ix5 (bb x) s i 0 d) := by
  unfold k3
  have hp : pp x = ⟨3584 + s, by omega⟩ := Fin.ext hs
  have hi : i = 0 ∨ i = 1 := by fin_cases i <;> simp
  rcases hi with rfl | rfl
  · refine (mv (fun k => (dats m 0 c).after 15 t (ix2 r k)) (by show 0 * 64 + d.val = d.val; omega)).trans ((row15 m c t r x hx ⟨d, by omega⟩).trans (Eq.symm ?_))
    have e : ∀ d : Fin 64, Ref.kvwin (Ref.kvs (CC m c)) (ix4 (bb x) (pp x) 0 d) = CC m c (ix3 (bb x) (pp x) ⟨512 + (256 + d), by omega⟩) := fun d =>
      (Ref.kvwin_apply _ _ _ _).trans (kv_col m c _ _ _ _ _ (by show 512 + (256 + d.val) = 512 + (4 * 64 + d.val); omega))
    refine (Ref.win_0 _ _ _ _ _ s).trans ?_
    rw [← hp]
    simp only [e, packGk_win, d.isLt, if_true]
  · refine (mv (fun k => (dats m 0 c).after 15 t (ix2 r k)) (by show 1 * 64 + d.val = 64 + d.val; omega)).trans ((row15 m c t r x hx ⟨64 + d, by omega⟩).trans (Eq.symm ?_))
    refine (Ref.win_1 _ _ _ _ _ s).trans ?_
    rw [← hp]
    refine (kv_col m c _ _ _ _ ⟨512 + (256 + (64 + d)), by omega⟩ (by show 512 + (256 + (64 + d.val)) = 512 + (5 * 64 + d.val); omega)).trans ?_
    rw [packGk_win1, if_neg (by dsimp only; omega), mul_one, mul_one]

/-! The gates, the rows of the latent cache, and the values. -/

theorem o_gates (i : Fin 3) (h : Fin 8) : (dats m 0 c).after 19 t (ix2 r ⟨i * 8 + h, by omega⟩) = k5 m c (ix5 (bb x) (pp x) i 0 h) := by
  unfold k5
  refine (after19 m c t r ⟨i * 8 + h, by omega⟩).trans ((gates_k r _ _ _).trans (Eq.symm ((Ref.gates_apply _ _ _ _ _).trans ?_)))
  exact congrArg (fun z => Ideal.div 1 (1 + Ideal.exp (-z))) (PE_0 m c t r x hx ⟨i * 8 + h, by omega⟩).symm

theorem o_rows_0 (e : Fin 256) : (dats m 0 c).after 21 t (ix2 r ⟨e, by omega⟩) = k1 m c (ix3 (bb x) (pp x) ⟨e, by omega⟩) :=
  (after21_0 m c t r e).trans ((PC_apply m c t r x hx e).trans (Ref.mlarows_0 _ _ _ _ e).symm)
theorem o_rows_1 (e : Fin 32) : (dats m 0 c).after 21 t (ix2 r ⟨256 + e, by omega⟩) = k1 m c (ix3 (bb x) (pp x) ⟨256 + e, by omega⟩) :=
  (after21_1 m c t r e).trans ((kr32_k r _ _ _ _ _ e).trans ((PR_mid m c t r x hx e).trans (Ref.mlarows_1 _ _ _ _ e).symm))

theorem o_vals (h : Fin 8) (l : Fin 64) : (dats m 0 c).after 24 t (ix2 r ⟨h * 64 + l, by omega⟩) = k8 m c (ix4 (bb x) (pp x) h l) :=
  (after24 m c t r _).trans (PV_apply m c t r x hx h l _ fun e => pay62 _ _ _ r e)

/-! The keys and their scales. -/

theorem scale_eq (h : Fin 8) : scaleOf (hd (PK m c t) h) (ix2 r 0) = Ref.kscale (KK m c) (ix3 (bb x) (pp x) h) := by
  refine (scaleOf_apply r _ fun i => (hd_apply _ _ _ _).trans (PK_1 m c t r x h i)).trans (Eq.symm ((Ref.kscale_apply _ _ _ _).trans ?_))
  refine congrArg (fun s => Ref.rms s _) (Finset.sum_congr rfl fun i _ => ?_)
  exact congrArg₂ (· * ·) (PK_0 m c t r x hx h i).symm (PK_0 m c t r x hx h i).symm

theorem o_kscale (h : Fin 8) : (dats m 0 c).after 22 t (ix2 r ⟨h, by omega⟩) = k2 m c (ix3 (bb x) (pp x) h) :=
  (after22 m c t r _).trans ((scales_apply _ r h).trans (scale_eq m c t r x hx h))

theorem o_kfull_0 (h : Fin 8) (l : Fin 64) : (dats m 0 c).after 23 t (ix2 r ⟨h * 128 + l, by omega⟩) = k7 m c (ix4 (bb x) (pp x) h ⟨l, by omega⟩) := by
  refine (after23 m c t r h ⟨l, by omega⟩).trans ((kHead_apply _ _ _ _).trans (Eq.symm ((Ref.kfull_0 _ _ _ _ _ _ _).trans ?_)))
  refine Eq.symm ((congrArg₂ (· + ·) (congrArg₂ (· * ·) (PK_0 m c t r x hx h l) (scale_eq m c t r x hx h)) (PR_low m c t r x hx l)).trans (add_zero _))
theorem o_kfull_1 (h : Fin 8) (l : Fin 32) : (dats m 0 c).after 23 t (ix2 r ⟨h * 128 + (64 + l), by omega⟩) = k7 m c (ix4 (bb x) (pp x) h ⟨64 + l, by omega⟩) := by
  refine (after23 m c t r h ⟨64 + l, by omega⟩).trans ((kHead_apply _ _ _ _).trans (Eq.symm ((Ref.kfull_1 _ _ _ _ _ _ _).trans ?_)))
  refine Eq.symm ((congrArg₂ (· + ·) ((congrArg (· * _) (PK_1 m c t r x h ⟨l, by omega⟩)).trans (zero_mul _)) (PR_mid m c t r x hx l)).trans (zero_add _))

/-! The queries. -/

theorem o_qnsa (h : Fin 8) (l : Fin 64) : (dats m 0 c).after 13 t (ix2 r ⟨h * 128 + l, by omega⟩) = k4 m c (ix4 (bb x) (pp x) h l) := by
  have e : ∀ l : Fin 64, Ref.qcols (CC m c) (ix5 (bb x) (pp x) 0 h l) = hd (PQ m c t) h (ix2 r ⟨l, by omega⟩) := fun l =>
    (Ref.qcols_apply _ _ _ _ _).trans (PQ_0 m c t r x hx h l).symm
  have z : ∀ l : Fin 64, hd (PQ m c t) h (ix2 r ⟨64 + l, by omega⟩) = 0 := fun l => PQ_1 m c t r x h l
  refine (after13 m c t r h ⟨l, by omega⟩).trans ((qHead_apply _ _ _ _).trans (Eq.symm ((Ref.qn_apply _ _ _ _ _ _).trans ?_)))
  rw [scaleOf_apply r _ z, lgq_apply, packGq_0]
  unfold Ref.rms
  simp only [e, mul_assoc]

/-- A head's lane of the latent queries. -/
theorem m_lane (h : Fin 8) (l l' : Fin 128) (hl : l'.val = (l.val + 32) % 128) : (dats m 0 c).after 20 t (ix2 r ⟨h * 128 + l, by omega⟩) =
    hd (PU m c t) h (ix2 r l) * (if l.val < 64 then Ref.rms (∑ i : Fin 64, Ref.qup64 (QQ m c) (ix4 (bb x) (pp x) h i) * Ref.qup64 (QQ m c) (ix4 (bb x) (pp x) h i)) (Ideal.ofBits .f32 0x42800000#32)
      else Ref.rms (∑ i : Fin 32, Ref.qup32 (QQ m c) (ix4 (bb x) (pp x) h i) * Ref.qup32 (QQ m c) (ix4 (bb x) (pp x) h i)) (Ideal.ofBits .f32 0x42000000#32)) * packGm (A9 m c) (A10 m c) (ix2 0 l) * TT (ix2 (pp x) ⟨l, by omega⟩) +
    hd (PU m c t) h (ix2 r l') * (if l'.val < 64 then Ref.rms (∑ i : Fin 64, Ref.qup64 (QQ m c) (ix4 (bb x) (pp x) h i) * Ref.qup64 (QQ m c) (ix4 (bb x) (pp x) h i)) (Ideal.ofBits .f32 0x42800000#32)
      else Ref.rms (∑ i : Fin 32, Ref.qup32 (QQ m c) (ix4 (bb x) (pp x) h i) * Ref.qup32 (QQ m c) (ix4 (bb x) (pp x) h i)) (Ideal.ofBits .f32 0x42000000#32)) * packGm (A9 m c) (A10 m c) (ix2 0 l') * TT (ix2 (pp x) ⟨128 + l', by omega⟩) := by
  have e : l' = ⟨(l.val + 32) % 128, by omega⟩ := Fin.ext hl
  have e0 : ∀ i : Fin 64, hd (PU m c t) h (ix2 r ⟨i, by omega⟩) = Ref.qup64 (QQ m c) (ix4 (bb x) (pp x) h i) := fun i =>
    (PU_0 m c t r x hx h ⟨i, by omega⟩).trans (Ref.qup64_apply _ _ _ _ i).symm
  have e1 : ∀ i : Fin 32, hd (PU m c t) h (ix2 r ⟨64 + i, by omega⟩) = Ref.qup32 (QQ m c) (ix4 (bb x) (pp x) h i) := fun i =>
    (PU_0 m c t r x hx h ⟨64 + i, by omega⟩).trans (Ref.qup32_apply _ _ _ _ i).symm
  refine (after20 m c t r h l).trans ((turn_apply r l _ _ _).trans ?_)
  rw [← e, mNorm_apply, mNorm_apply, lowScale, midScale, lgm_apply, lgm_apply, lta_apply m c t r x hx, ltb_apply m c t r x hx]
  unfold Ref.rms
  simp only [e0, e1]

theorem o_qmla_0 (h : Fin 8) (l : Fin 64) : (dats m 0 c).after 20 t (ix2 r ⟨h * 128 + l, by omega⟩) = k6 m c (ix4 (bb x) (pp x) h ⟨l, by omega⟩) := by
  have h0 : TT (ix2 (pp x) ⟨l, by omega⟩) = sc := packT_c0 _ _ _ l
  have h1 : TT (ix2 (pp x) ⟨128 + (l + 32), by omega⟩) = 0 := packT_s0 _ _ _ ⟨l + 32, by omega⟩
  refine (m_lane m c t r x hx h ⟨l, by omega⟩ ⟨l + 32, by omega⟩ (by dsimp only; omega)).trans (Eq.symm ((Ref.qmla_0 _ _ _ _ _ _ _ l).trans ?_))
  refine Eq.symm ((congrArg₂ (· + ·) (congrArg _ h0) ((congrArg _ h1).trans (mul_zero _))).trans ((add_zero _).trans ?_))
  have e0 : hd (PU m c t) h (ix2 r ⟨l, by omega⟩) = Ref.qup64 (QQ m c) (ix4 (bb x) (pp x) h l) :=
    (PU_0 m c t r x hx h ⟨l, by omega⟩).trans (Ref.qup64_apply _ _ _ _ l).symm
  rw [packGm_0, if_pos l.isLt, e0, ← mul_assoc]

theorem o_qmla_1 (h : Fin 8) (l : Fin 16) : (dats m 0 c).after 20 t (ix2 r ⟨h * 128 + (64 + l), by omega⟩) = k6 m c (ix4 (bb x) (pp x) h ⟨64 + l, by omega⟩) := by
  have h0 : TT (ix2 (pp x) ⟨64 + l, by omega⟩) = Ideal.cos (Ref.ang (ix2 (pp x) l)) * sc := (packT_c1 _ _ (pp x) ⟨l, by omega⟩).trans (congrArg (· * sc) (cosT_0 _ _ l))
  have h1 : TT (ix2 (pp x) ⟨128 + (96 + l), by omega⟩) = -Ideal.sin (Ref.ang (ix2 (pp x) l)) * sc :=
    (mv (fun k => TT (ix2 (pp x) k)) (by show 128 + (96 + l.val) = 224 + l.val; omega)).trans ((packT_s1 _ _ (pp x) ⟨l, by omega⟩).trans (congrArg (· * sc) (sinT_0 _ _ l)))
  refine (m_lane m c t r x hx h ⟨64 + l, by omega⟩ ⟨96 + l, by omega⟩ (by dsimp only; omega)).trans (Eq.symm ((Ref.qmla_1 _ _ _ _ _ _ _ l).trans ?_))
  have g0 := packGm_1 (A9 m c) (A10 m c) ⟨l, by omega⟩
  dsimp only at g0
  have e0 : hd (PU m c t) h (ix2 r ⟨64 + l, by omega⟩) = Ref.qup32 (QQ m c) (ix4 (bb x) (pp x) h ⟨l, by omega⟩) :=
    (PU_0 m c t r x hx h ⟨64 + l, by omega⟩).trans (Ref.qup32_apply _ _ _ _ ⟨l, by omega⟩).symm
  have e1 : hd (PU m c t) h (ix2 r ⟨96 + l, by omega⟩) = Ref.qup32 (QQ m c) (ix4 (bb x) (pp x) h ⟨16 + l, by omega⟩) :=
    (PU_1 m c t r x hx h l).trans (Ref.qup32_apply _ _ _ _ ⟨16 + l, by omega⟩).symm
  rw [h0, h1, g0, packGm_2, e0, e1, if_neg (by dsimp only; omega), if_neg (by dsimp only; omega), Ref.qrn_apply, Ref.qrn_apply]
  exact (turn_sub _ _ _ _).symm

theorem o_qmla_2 (h : Fin 8) (l : Fin 16) : (dats m 0 c).after 20 t (ix2 r ⟨h * 128 + (80 + l), by omega⟩) = k6 m c (ix4 (bb x) (pp x) h ⟨80 + l, by omega⟩) := by
  have h0 : TT (ix2 (pp x) ⟨80 + l, by omega⟩) = Ideal.cos (Ref.ang (ix2 (pp x) l)) * sc :=
    (mv (fun k => TT (ix2 (pp x) k)) (by show 80 + l.val = 64 + (16 + l.val); omega)).trans ((packT_c1 _ _ (pp x) ⟨16 + l, by omega⟩).trans (congrArg (· * sc) (cosT_1 _ _ l)))
  have h1 : TT (ix2 (pp x) ⟨128 + (112 + l), by omega⟩) = Ideal.sin (Ref.ang (ix2 (pp x) l)) * sc :=
    (mv (fun k => TT (ix2 (pp x) k)) (by show 128 + (112 + l.val) = 224 + (16 + l.val); omega)).trans ((packT_s1 _ _ (pp x) ⟨16 + l, by omega⟩).trans (congrArg (· * sc) (sinT_1 _ _ l)))
  refine (m_lane m c t r x hx h ⟨80 + l, by omega⟩ ⟨112 + l, by omega⟩ (by dsimp only; omega)).trans (Eq.symm ((Ref.qmla_2 _ _ _ _ _ _ _ l).trans ?_))
  have g0 : packGm (A9 m c) (A10 m c) (ix2 0 ⟨80 + l, by omega⟩) = A10 m c (ix2 0 ⟨16 + l, by omega⟩) :=
    (mv (fun k => packGm (A9 m c) (A10 m c) (ix2 0 k)) (by show 80 + l.val = 64 + (16 + l.val); omega)).trans (packGm_1 (A9 m c) (A10 m c) ⟨16 + l, by omega⟩)
  have e0 : hd (PU m c t) h (ix2 r ⟨80 + l, by omega⟩) = Ref.qup32 (QQ m c) (ix4 (bb x) (pp x) h ⟨16 + l, by omega⟩) :=
    (PU_0 m c t r x hx h ⟨80 + l, by omega⟩).trans ((mv (fun k => QQ m c (ix4 (bb x) (pp x) h k)) (by show 80 + l.val = 64 + (16 + l.val); omega)).trans (Ref.qup32_apply _ _ _ _ ⟨16 + l, by omega⟩).symm)
  have e1 : hd (PU m c t) h (ix2 r ⟨112 + l, by omega⟩) = Ref.qup32 (QQ m c) (ix4 (bb x) (pp x) h ⟨l, by omega⟩) :=
    (PU_2 m c t r x hx h l).trans (Ref.qup32_apply _ _ _ _ ⟨l, by omega⟩).symm
  rw [h0, h1, g0, packGm_3, e0, e1, if_neg (by dsimp only; omega), if_neg (by dsimp only; omega), Ref.qrn_apply, Ref.qrn_apply]
  exact (turn_add _ _ _ _).symm

end Cert.Kernel3Ideal.Proj
end
-- ==== Proof.ProjArray.lean ====
/-
  The arrays the projection call leaves, and its nine results.
-/
module
public import proofs.«01_k».proof.Proof.ProjOut
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Kernel3Ideal.Proj
open Idealize.ShloMosaic Idealize.ShloMosaic.Tactic Cert.Kernel3Ideal Cert.Kernel3Ideal.Gen
open Cert.Proof.Proj

variable (m : (ℓ : Loc nD τ sig) → Buf (Elt Ideal) ℓ) (ρ : Dev nD → PrngReg) (c : Dev nD)

/-- A row's tile and its place in it. -/
abbrev tl (x : Fin 16384) : Fin cfg0.N := ⟨x / 256, by show x.val / 256 < 64; omega⟩
abbrev rw_ (x : Fin 16384) : Fin 256 := ⟨x % 256, by omega⟩
theorem tl_rw (x : Fin 16384) : x.val = 256 * (tl x).val + (rw_ x).val := by show x.val = 256 * (x.val / 256) + x.val % 256; omega
theorem bb_of (b : Fin 4) (p : Fin 4096) : bb ⟨b * 4096 + p, by omega⟩ = b := Fin.ext (by show (b.val * 4096 + p.val) / 4096 = b.val; omega)
theorem pp_of (b : Fin 4) (p : Fin 4096) : pp ⟨b * 4096 + p, by omega⟩ = p := Fin.ext (by show (b.val * 4096 + p.val) % 4096 = p.val; omega)

/-! The arrays, tile by tile. -/

def arr14 : FVec Ideal S16384x256 .f32 := fun i => (dats m 0 c).after 14 (tl ⟨(i 0).val, (i 0).isLt⟩) (ix2 (rw_ ⟨(i 0).val, (i 0).isLt⟩) (⟨(i 1).val, (i 1).isLt⟩ : Fin 256))
theorem arr14_apply (x : Fin 16384) (y : Fin 256) : arr14 m c (ix2 x y) = (dats m 0 c).after 14 (tl x) (ix2 (rw_ x) y) := rfl
theorem arr_14 : (dats m 0 c).arrAt 14 cfg0.N = arr14 m c := by
  refine (dats m 0 c).arrAt_eq_of_covers 14 _ (by decide +kernel) fun t hf y => ?_
  blk_simp
  obtain ⟨r, y, rfl⟩ : ∃ (r : Fin 256) (z : Fin 256), y = ix2 r z := ⟨y 0, y 1, eq_ix2 y⟩
  have ht : t.val < 64 := t.isLt
  refine Eq.trans ?_ (congrArg (arr14 m c) (place_14 t r y ⟨256 * t.val + r, by omega⟩ rfl).symm)
  refine Eq.trans ?_ (arr14_apply m c _ _).symm
  have e0 : tl ⟨256 * t.val + r, by omega⟩ = t := Fin.ext (by show (256 * t.val + r.val) / 256 = t.val; omega)
  have e1 : rw_ ⟨256 * t.val + r, by omega⟩ = r := Fin.ext (by show (256 * t.val + r.val) % 256 = r.val; omega)
  rw [e0, e1]

def arr21 : FVec Ideal S16384x288 .f32 := fun i => (dats m 0 c).after 21 (tl ⟨(i 0).val, (i 0).isLt⟩) (ix2 (rw_ ⟨(i 0).val, (i 0).isLt⟩) (⟨(i 1).val, (i 1).isLt⟩ : Fin 288))
theorem arr21_apply (x : Fin 16384) (y : Fin 288) : arr21 m c (ix2 x y) = (dats m 0 c).after 21 (tl x) (ix2 (rw_ x) y) := rfl
theorem arr_21 : (dats m 0 c).arrAt 21 cfg0.N = arr21 m c := by
  refine (dats m 0 c).arrAt_eq_of_covers 21 _ (by decide +kernel) fun t hf y => ?_
  blk_simp
  obtain ⟨r, y, rfl⟩ : ∃ (r : Fin 256) (z : Fin 288), y = ix2 r z := ⟨y 0, y 1, eq_ix2 y⟩
  have ht : t.val < 64 := t.isLt
  refine Eq.trans ?_ (congrArg (arr21 m c) (place_21 t r y ⟨256 * t.val + r, by omega⟩ rfl).symm)
  refine Eq.trans ?_ (arr21_apply m c _ _).symm
  have e0 : tl ⟨256 * t.val + r, by omega⟩ = t := Fin.ext (by show (256 * t.val + r.val) / 256 = t.val; omega)
  have e1 : rw_ ⟨256 * t.val + r, by omega⟩ = r := Fin.ext (by show (256 * t.val + r.val) % 256 = r.val; omega)
  rw [e0, e1]

def arr22 : FVec Ideal S16384x128 .f32 := fun i => (dats m 0 c).after 22 (tl ⟨(i 0).val, (i 0).isLt⟩) (ix2 (rw_ ⟨(i 0).val, (i 0).isLt⟩) (⟨(i 1).val, (i 1).isLt⟩ : Fin 128))
theorem arr22_apply (x : Fin 16384) (y : Fin 128) : arr22 m c (ix2 x y) = (dats m 0 c).after 22 (tl x) (ix2 (rw_ x) y) := rfl
theorem arr_22 : (dats m 0 c).arrAt 22 cfg0.N = arr22 m c := by
  refine (dats m 0 c).arrAt_eq_of_covers 22 _ (by decide +kernel) fun t hf y => ?_
  blk_simp
  obtain ⟨r, y, rfl⟩ : ∃ (r : Fin 256) (z : Fin 128), y = ix2 r z := ⟨y 0, y 1, eq_ix2 y⟩
  have ht : t.val < 64 := t.isLt
  refine Eq.trans ?_ (congrArg (arr22 m c) (place_22 t r y ⟨256 * t.val + r, by omega⟩ rfl).symm)
  refine Eq.trans ?_ (arr22_apply m c _ _).symm
  have e0 : tl ⟨256 * t.val + r, by omega⟩ = t := Fin.ext (by show (256 * t.val + r.val) / 256 = t.val; omega)
  have e1 : rw_ ⟨256 * t.val + r, by omega⟩ = r := Fin.ext (by show (256 * t.val + r.val) % 256 = r.val; omega)
  rw [e0, e1]

def arr15 : FVec Ideal S16384x128 .f32 := fun i => (dats m 0 c).after 15 (tl ⟨(i 0).val, (i 0).isLt⟩) (ix2 (rw_ ⟨(i 0).val, (i 0).isLt⟩) (⟨(i 1).val, (i 1).isLt⟩ : Fin 128))
theorem arr15_apply (x : Fin 16384) (y : Fin 128) : arr15 m c (ix2 x y) = (dats m 0 c).after 15 (tl x) (ix2 (rw_ x) y) := rfl
theorem arr_15 : (dats m 0 c).arrAt 15 cfg0.N = arr15 m c := by
  refine (dats m 0 c).arrAt_eq_of_covers 15 _ (by decide +kernel) fun t hf y => ?_
  blk_simp
  obtain ⟨r, y, rfl⟩ : ∃ (r : Fin 256) (z : Fin 128), y = ix2 r z := ⟨y 0, y 1, eq_ix2 y⟩
  have ht : t.val < 64 := t.isLt
  refine Eq.trans ?_ (congrArg (arr15 m c) (place_15 t r y ⟨256 * t.val + r, by omega⟩ rfl).symm)
  refine Eq.trans ?_ (arr15_apply m c _ _).symm
  have e0 : tl ⟨256 * t.val + r, by omega⟩ = t := Fin.ext (by show (256 * t.val + r.val) / 256 = t.val; omega)
  have e1 : rw_ ⟨256 * t.val + r, by omega⟩ = r := Fin.ext (by show (256 * t.val + r.val) % 256 = r.val; omega)
  rw [e0, e1]

def arr13 : FVec Ideal S16384x1024 .bf16 := fun i => (dats m 0 c).after 13 (tl ⟨(i 0).val, (i 0).isLt⟩) (ix2 (rw_ ⟨(i 0).val, (i 0).isLt⟩) (⟨(i 1).val, (i 1).isLt⟩ : Fin 1024))
theorem arr13_apply (x : Fin 16384) (y : Fin 1024) : arr13 m c (ix2 x y) = (dats m 0 c).after 13 (tl x) (ix2 (rw_ x) y) := rfl
theorem arr_13 : (dats m 0 c).arrAt 13 cfg0.N = arr13 m c := by
  refine (dats m 0 c).arrAt_eq_of_covers 13 _ (by decide +kernel) fun t hf y => ?_
  blk_simp
  obtain ⟨r, y, rfl⟩ : ∃ (r : Fin 256) (z : Fin 1024), y = ix2 r z := ⟨y 0, y 1, eq_ix2 y⟩
  have ht : t.val < 64 := t.isLt
  refine Eq.trans ?_ (congrArg (arr13 m c) (place_13 t r y ⟨256 * t.val + r, by omega⟩ rfl).symm)
  refine Eq.trans ?_ (arr13_apply m c _ _).symm
  have e0 : tl ⟨256 * t.val + r, by omega⟩ = t := Fin.ext (by show (256 * t.val + r.val) / 256 = t.val; omega)
  have e1 : rw_ ⟨256 * t.val + r, by omega⟩ = r := Fin.ext (by show (256 * t.val + r.val) % 256 = r.val; omega)
  rw [e0, e1]

def arr19 : FVec Ideal S16384x128 .f32 := fun i => (dats m 0 c).after 19 (tl ⟨(i 0).val, (i 0).isLt⟩) (ix2 (rw_ ⟨(i 0).val, (i 0).isLt⟩) (⟨(i 1).val, (i 1).isLt⟩ : Fin 128))
theorem arr19_apply (x : Fin 16384) (y : Fin 128) : arr19 m c (ix2 x y) = (dats m 0 c).after 19 (tl x) (ix2 (rw_ x) y) := rfl
theorem arr_19 : (dats m 0 c).arrAt 19 cfg0.N = arr19 m c := by
  refine (dats m 0 c).arrAt_eq_of_covers 19 _ (by decide +kernel) fun t hf y => ?_
  blk_simp
  obtain ⟨r, y, rfl⟩ : ∃ (r : Fin 256) (z : Fin 128), y = ix2 r z := ⟨y 0, y 1, eq_ix2 y⟩
  have ht : t.val < 64 := t.isLt
  refine Eq.trans ?_ (congrArg (arr19 m c) (place_19 t r y ⟨256 * t.val + r, by omega⟩ rfl).symm)
  refine Eq.trans ?_ (arr19_apply m c _ _).symm
  have e0 : tl ⟨256 * t.val + r, by omega⟩ = t := Fin.ext (by show (256 * t.val + r.val) / 256 = t.val; omega)
  have e1 : rw_ ⟨256 * t.val + r, by omega⟩ = r := Fin.ext (by show (256 * t.val + r.val) % 256 = r.val; omega)
  rw [e0, e1]

def arr20 : FVec Ideal S16384x1024 .bf16 := fun i => (dats m 0 c).after 20 (tl ⟨(i 0).val, (i 0).isLt⟩) (ix2 (rw_ ⟨(i 0).val, (i 0).isLt⟩) (⟨(i 1).val, (i 1).isLt⟩ : Fin 1024))
theorem arr20_apply (x : Fin 16384) (y : Fin 1024) : arr20 m c (ix2 x y) = (dats m 0 c).after 20 (tl x) (ix2 (rw_ x) y) := rfl
theorem arr_20 : (dats m 0 c).arrAt 20 cfg0.N = arr20 m c := by
  refine (dats m 0 c).arrAt_eq_of_covers 20 _ (by decide +kernel) fun t hf y => ?_
  blk_simp
  obtain ⟨r, y, rfl⟩ : ∃ (r : Fin 256) (z : Fin 1024), y = ix2 r z := ⟨y 0, y 1, eq_ix2 y⟩
  have ht : t.val < 64 := t.isLt
  refine Eq.trans ?_ (congrArg (arr20 m c) (place_20 t r y ⟨256 * t.val + r, by omega⟩ rfl).symm)
  refine Eq.trans ?_ (arr20_apply m c _ _).symm
  have e0 : tl ⟨256 * t.val + r, by omega⟩ = t := Fin.ext (by show (256 * t.val + r.val) / 256 = t.val; omega)
  have e1 : rw_ ⟨256 * t.val + r, by omega⟩ = r := Fin.ext (by show (256 * t.val + r.val) % 256 = r.val; omega)
  rw [e0, e1]

def arr23 : FVec Ideal S16384x1024 .bf16 := fun i => (dats m 0 c).after 23 (tl ⟨(i 0).val, (i 0).isLt⟩) (ix2 (rw_ ⟨(i 0).val, (i 0).isLt⟩) (⟨(i 1).val, (i 1).isLt⟩ : Fin 1024))
theorem arr23_apply (x : Fin 16384) (y : Fin 1024) : arr23 m c (ix2 x y) = (dats m 0 c).after 23 (tl x) (ix2 (rw_ x) y) := rfl
theorem arr_23 : (dats m 0 c).arrAt 23 cfg0.N = arr23 m c := by
  refine (dats m 0 c).arrAt_eq_of_covers 23 _ (by decide +kernel) fun t hf y => ?_
  blk_simp
  obtain ⟨r, y, rfl⟩ : ∃ (r : Fin 256) (z : Fin 1024), y = ix2 r z := ⟨y 0, y 1, eq_ix2 y⟩
  have ht : t.val < 64 := t.isLt
  refine Eq.trans ?_ (congrArg (arr23 m c) (place_23 t r y ⟨256 * t.val + r, by omega⟩ rfl).symm)
  refine Eq.trans ?_ (arr23_apply m c _ _).symm
  have e0 : tl ⟨256 * t.val + r, by omega⟩ = t := Fin.ext (by show (256 * t.val + r.val) / 256 = t.val; omega)
  have e1 : rw_ ⟨256 * t.val + r, by omega⟩ = r := Fin.ext (by show (256 * t.val + r.val) % 256 = r.val; omega)
  rw [e0, e1]

def arr24 : FVec Ideal S16384x512 .bf16 := fun i => (dats m 0 c).after 24 (tl ⟨(i 0).val, (i 0).isLt⟩) (ix2 (rw_ ⟨(i 0).val, (i 0).isLt⟩) (⟨(i 1).val, (i 1).isLt⟩ : Fin 512))
theorem arr24_apply (x : Fin 16384) (y : Fin 512) : arr24 m c (ix2 x y) = (dats m 0 c).after 24 (tl x) (ix2 (rw_ x) y) := rfl
theorem arr_24 : (dats m 0 c).arrAt 24 cfg0.N = arr24 m c := by
  refine (dats m 0 c).arrAt_eq_of_covers 24 _ (by decide +kernel) fun t hf y => ?_
  blk_simp
  obtain ⟨r, y, rfl⟩ : ∃ (r : Fin 256) (z : Fin 512), y = ix2 r z := ⟨y 0, y 1, eq_ix2 y⟩
  have ht : t.val < 64 := t.isLt
  refine Eq.trans ?_ (congrArg (arr24 m c) (place_24 t r y ⟨256 * t.val + r, by omega⟩ rfl).symm)
  refine Eq.trans ?_ (arr24_apply m c _ _).symm
  have e0 : tl ⟨256 * t.val + r, by omega⟩ = t := Fin.ext (by show (256 * t.val + r.val) / 256 = t.val; omega)
  have e1 : rw_ ⟨256 * t.val + r, by omega⟩ = r := Fin.ext (by show (256 * t.val + r.val) % 256 = r.val; omega)
  rw [e0, e1]

/-! The host's reading of them. -/

def h0 (A : FVec Ideal S16384x256 .f32) : FVec Ideal S4x4096x4x1x64 .f32 :=
  shapeCast _ A shapeCasts_S16384x256_S4x4096x4x1x64
theorem h0_apply (A : FVec Ideal S16384x256 .f32) (b : Fin 4) (p : Fin 4096) (i : Fin 4) (z : Fin 1) (d : Fin 64) : h0 A (ix5 b p i z d) = A (ix2 ⟨b * 4096 + p, by omega⟩ ⟨i * 64 + d, by omega⟩) := by
  pointwise [h0]
theorem h0_eq : h0 (arr14 m c) = k0 m c := by
  funext j
  obtain ⟨b, p, i, z, d, rfl⟩ : ∃ (b : Fin 4) (p : Fin 4096) (i : Fin 4) (z : Fin 1) (d : Fin 64), j = ix5 b p i z d := ⟨j 0, j 1, j 2, j 3, j 4, eq_ix5 j⟩
  refine (h0_apply _ b p i z d).trans ((arr14_apply m c _ _).trans ?_)
  obtain rfl : z = 0 := Subsingleton.elim _ _
  have hb := bb_of b p
  have hp := pp_of b p
  have := o_nsa m c _ _ _ (tl_rw ⟨b * 4096 + p, by omega⟩) i d
  rw [hb, hp] at this
  exact this

def h1 (A : FVec Ideal S16384x288 .f32) : FVec Ideal S4x4096x288 .f32 :=
  shapeCast _ A shapeCasts_S16384x288_S4x4096x288
theorem h1_apply (A : FVec Ideal S16384x288 .f32) (b : Fin 4) (p : Fin 4096) (e : Fin 288) : h1 A (ix3 b p e) = A (ix2 ⟨b * 4096 + p, by omega⟩ ⟨e, by omega⟩) := by
  pointwise [h1]
theorem h1_eq : h1 (arr21 m c) = k1 m c := by
  funext j
  obtain ⟨b, p, e, rfl⟩ : ∃ (b : Fin 4) (p : Fin 4096) (e : Fin 288), j = ix3 b p e := ⟨j 0, j 1, j 2, eq_ix3 j⟩
  refine (h1_apply _ b p e).trans ((arr21_apply m c _ _).trans ?_)
  have hb := bb_of b p
  have hp := pp_of b p
  by_cases he : e.val < 256
  · have := o_rows_0 m c _ _ _ (tl_rw ⟨b * 4096 + p, by omega⟩) ⟨e, he⟩
    rw [hb, hp] at this
    exact this
  · have := o_rows_1 m c _ _ _ (tl_rw ⟨b * 4096 + p, by omega⟩) ⟨e - 256, by omega⟩
    rw [hb, hp] at this
    have e0 : (⟨256 + (e.val - 256), by omega⟩ : Fin 288) = e := Fin.ext (by show 256 + (e.val - 256) = e.val; omega)
    dsimp only at this
    rw [e0] at this
    exact this

def h2 (A : FVec Ideal S16384x128 .f32) : FVec Ideal S4x4096x8 .f32 :=
  shapeCast _ (extractStridedSlice S16384x8 ![0, 0] A slices_S16384x128_S16384x8_0_0) shapeCasts_S16384x8_S4x4096x8
theorem h2_apply (A : FVec Ideal S16384x128 .f32) (b : Fin 4) (p : Fin 4096) (h : Fin 8) : h2 A (ix3 b p h) = A (ix2 ⟨b * 4096 + p, by omega⟩ ⟨h, by omega⟩) := by
  pointwise [h2]
theorem h2_eq : h2 (arr22 m c) = k2 m c := by
  funext j
  obtain ⟨b, p, h, rfl⟩ : ∃ (b : Fin 4) (p : Fin 4096) (h : Fin 8), j = ix3 b p h := ⟨j 0, j 1, j 2, eq_ix3 j⟩
  refine (h2_apply _ b p h).trans ((arr22_apply m c _ _).trans ?_)
  have hb := bb_of b p
  have hp := pp_of b p
  have := o_kscale m c _ _ _ (tl_rw ⟨b * 4096 + p, by omega⟩) h
  rw [hb, hp] at this
  exact this

def h3 (A : FVec Ideal S16384x128 .f32) : FVec Ideal S4x512x2x1x64 .f32 :=
  extractStridedSlice S4x512x2x1x64 ![0, 3584, 0, 0, 0] (shapeCast S4x4096x2x1x64 A shapeCasts_S16384x128_S4x4096x2x1x64) slices_S4x4096x2x1x64_S4x512x2x1x64_0_3584_0_0_0
theorem h3_apply (A : FVec Ideal S16384x128 .f32) (b : Fin 4) (s : Fin 512) (i : Fin 2) (z : Fin 1) (d : Fin 64) : h3 A (ix5 b s i z d) = A (ix2 ⟨b * 4096 + (3584 + s), by omega⟩ ⟨i * 64 + d, by omega⟩) := by
  pointwise [h3]
theorem h3_eq : h3 (arr15 m c) = k3 m c := by
  funext j
  obtain ⟨b, s, i, z, d, rfl⟩ : ∃ (b : Fin 4) (s : Fin 512) (i : Fin 2) (z : Fin 1) (d : Fin 64), j = ix5 b s i z d := ⟨j 0, j 1, j 2, j 3, j 4, eq_ix5 j⟩
  refine (h3_apply _ b s i z d).trans ((arr15_apply m c _ _).trans ?_)
  obtain rfl : z = 0 := Subsingleton.elim _ _
  have hb := bb_of b ⟨3584 + s, by omega⟩
  have := o_win m c _ _ _ (tl_rw ⟨b * 4096 + (3584 + s), by omega⟩) s (by dsimp only; omega) i d
  rw [hb] at this
  exact this

def h4 (A : FVec Ideal S16384x1024 .bf16) : FVec Ideal S4x4096x8x64 .bf16 :=
  extractStridedSlice S4x4096x8x64 ![0, 0, 0, 0] (shapeCast S4x4096x8x128 A shapeCasts_S16384x1024_S4x4096x8x128) slices_S4x4096x8x128_S4x4096x8x64_0_0_0_0
theorem h4_apply (A : FVec Ideal S16384x1024 .bf16) (b : Fin 4) (p : Fin 4096) (h : Fin 8) (l : Fin 64) : h4 A (ix4 b p h l) = A (ix2 ⟨b * 4096 + p, by omega⟩ ⟨h * 128 + l, by omega⟩) := by
  pointwise [h4]
theorem h4_eq : h4 (arr13 m c) = k4 m c := by
  funext j
  obtain ⟨b, p, h, l, rfl⟩ : ∃ (b : Fin 4) (p : Fin 4096) (h : Fin 8) (l : Fin 64), j = ix4 b p h l := ⟨j 0, j 1, j 2, j 3, eq_ix4 j⟩
  refine (h4_apply _ b p h l).trans ((arr13_apply m c _ _).trans ?_)
  have hb := bb_of b p
  have hp := pp_of b p
  have := o_qnsa m c _ _ _ (tl_rw ⟨b * 4096 + p, by omega⟩) h l
  rw [hb, hp] at this
  exact this

def h5 (A : FVec Ideal S16384x128 .f32) : FVec Ideal S4x4096x3x1x8 .f32 :=
  shapeCast _ (extractStridedSlice S16384x24 ![0, 0] A slices_S16384x128_S16384x24_0_0) shapeCasts_S16384x24_S4x4096x3x1x8
theorem h5_apply (A : FVec Ideal S16384x128 .f32) (b : Fin 4) (p : Fin 4096) (i : Fin 3) (z : Fin 1) (h : Fin 8) : h5 A (ix5 b p i z h) = A (ix2 ⟨b * 4096 + p, by omega⟩ ⟨i * 8 + h, by omega⟩) := by
  pointwise [h5]
theorem h5_eq : h5 (arr19 m c) = k5 m c := by
  funext j
  obtain ⟨b, p, i, z, h, rfl⟩ : ∃ (b : Fin 4) (p : Fin 4096) (i : Fin 3) (z : Fin 1) (h : Fin 8), j = ix5 b p i z h := ⟨j 0, j 1, j 2, j 3, j 4, eq_ix5 j⟩
  refine (h5_apply _ b p i z h).trans ((arr19_apply m c _ _).trans ?_)
  obtain rfl : z = 0 := Subsingleton.elim _ _
  have hb := bb_of b p
  have hp := pp_of b p
  have := o_gates m c _ _ _ (tl_rw ⟨b * 4096 + p, by omega⟩) i h
  rw [hb, hp] at this
  exact this

def h6 (A : FVec Ideal S16384x1024 .bf16) : FVec Ideal S4x4096x8x96 .bf16 :=
  extractStridedSlice S4x4096x8x96 ![0, 0, 0, 0] (shapeCast S4x4096x8x128 A shapeCasts_S16384x1024_S4x4096x8x128) slices_S4x4096x8x128_S4x4096x8x96_0_0_0_0
theorem h6_apply (A : FVec Ideal S16384x1024 .bf16) (b : Fin 4) (p : Fin 4096) (h : Fin 8) (l : Fin 96) : h6 A (ix4 b p h l) = A (ix2 ⟨b * 4096 + p, by omega⟩ ⟨h * 128 + l, by omega⟩) := by
  pointwise [h6]
theorem h6_eq : h6 (arr20 m c) = k6 m c := by
  funext j
  obtain ⟨b, p, h, l, rfl⟩ : ∃ (b : Fin 4) (p : Fin 4096) (h : Fin 8) (l : Fin 96), j = ix4 b p h l := ⟨j 0, j 1, j 2, j 3, eq_ix4 j⟩
  refine (h6_apply _ b p h l).trans ((arr20_apply m c _ _).trans ?_)
  have hb := bb_of b p
  have hp := pp_of b p
  by_cases h64 : l.val < 64
  · have := o_qmla_0 m c _ _ _ (tl_rw ⟨b * 4096 + p, by omega⟩) h ⟨l, h64⟩
    rw [hb, hp] at this
    exact this
  · by_cases h80 : l.val < 80
    · have := o_qmla_1 m c _ _ _ (tl_rw ⟨b * 4096 + p, by omega⟩) h ⟨l - 64, by omega⟩
      rw [hb, hp] at this
      dsimp only at this
      have e0 : (⟨64 + (l.val - 64), by omega⟩ : Fin 96) = l := Fin.ext (by show 64 + (l.val - 64) = l.val; omega)
      have e1 : (⟨h.val * 128 + (64 + (l.val - 64)), by omega⟩ : Fin 1024) = ⟨h * 128 + l, by omega⟩ := Fin.ext (by show h.val * 128 + (64 + (l.val - 64)) = h.val * 128 + l.val; omega)
      rw [e0, e1] at this
      exact this
    · have := o_qmla_2 m c _ _ _ (tl_rw ⟨b * 4096 + p, by omega⟩) h ⟨l - 80, by omega⟩
      rw [hb, hp] at this
      dsimp only at this
      have e0 : (⟨80 + (l.val - 80), by omega⟩ : Fin 96) = l := Fin.ext (by show 80 + (l.val - 80) = l.val; omega)
      have e1 : (⟨h.val * 128 + (80 + (l.val - 80)), by omega⟩ : Fin 1024) = ⟨h * 128 + l, by omega⟩ := Fin.ext (by show h.val * 128 + (80 + (l.val - 80)) = h.val * 128 + l.val; omega)
      rw [e0, e1] at this
      exact this

def h7 (A : FVec Ideal S16384x1024 .bf16) : FVec Ideal S4x4096x8x96 .bf16 :=
  extractStridedSlice S4x4096x8x96 ![0, 0, 0, 0] (shapeCast S4x4096x8x128 A shapeCasts_S16384x1024_S4x4096x8x128) slices_S4x4096x8x128_S4x4096x8x96_0_0_0_0
theorem h7_apply (A : FVec Ideal S16384x1024 .bf16) (b : Fin 4) (p : Fin 4096) (h : Fin 8) (l : Fin 96) : h7 A (ix4 b p h l) = A (ix2 ⟨b * 4096 + p, by omega⟩ ⟨h * 128 + l, by omega⟩) := by
  pointwise [h7]
theorem h7_eq : h7 (arr23 m c) = k7 m c := by
  funext j
  obtain ⟨b, p, h, l, rfl⟩ : ∃ (b : Fin 4) (p : Fin 4096) (h : Fin 8) (l : Fin 96), j = ix4 b p h l := ⟨j 0, j 1, j 2, j 3, eq_ix4 j⟩
  refine (h7_apply _ b p h l).trans ((arr23_apply m c _ _).trans ?_)
  have hb := bb_of b p
  have hp := pp_of b p
  by_cases h64 : l.val < 64
  · have := o_kfull_0 m c _ _ _ (tl_rw ⟨b * 4096 + p, by omega⟩) h ⟨l, h64⟩
    rw [hb, hp] at this
    exact this
  · have := o_kfull_1 m c _ _ _ (tl_rw ⟨b * 4096 + p, by omega⟩) h ⟨l - 64, by omega⟩
    rw [hb, hp] at this
    dsimp only at this
    have e0 : (⟨64 + (l.val - 64), by omega⟩ : Fin 96) = l := Fin.ext (by show 64 + (l.val - 64) = l.val; omega)
    have e1 : (⟨h.val * 128 + (64 + (l.val - 64)), by omega⟩ : Fin 1024) = ⟨h * 128 + l, by omega⟩ := Fin.ext (by show h.val * 128 + (64 + (l.val - 64)) = h.val * 128 + l.val; omega)
    rw [e0, e1] at this
    exact this

def h8 (A : FVec Ideal S16384x512 .bf16) : FVec Ideal S4x4096x8x64 .bf16 :=
  shapeCast _ A shapeCasts_S16384x512_S4x4096x8x64
theorem h8_apply (A : FVec Ideal S16384x512 .bf16) (b : Fin 4) (p : Fin 4096) (h : Fin 8) (l : Fin 64) : h8 A (ix4 b p h l) = A (ix2 ⟨b * 4096 + p, by omega⟩ ⟨h * 64 + l, by omega⟩) := by
  pointwise [h8]
theorem h8_eq : h8 (arr24 m c) = k8 m c := by
  funext j
  obtain ⟨b, p, h, l, rfl⟩ : ∃ (b : Fin 4) (p : Fin 4096) (h : Fin 8) (l : Fin 64), j = ix4 b p h l := ⟨j 0, j 1, j 2, j 3, eq_ix4 j⟩
  refine (h8_apply _ b p h l).trans ((arr24_apply m c _ _).trans ?_)
  have hb := bb_of b p
  have hp := pp_of b p
  have := o_vals m c _ _ _ (tl_rw ⟨b * 4096 + p, by omega⟩) h l
  rw [hb, hp] at this
  exact this

/-! The host's operations after the call. -/

theorem arrRef_inj : Function.Injective (Pipeline.arrRef spec0) := by decide +kernel

theorem tail_0 (W : Valuation τ sig (Elt Ideal)) : StableHlo.after hostOps1 W (Proc.devRef .tc main_v112) = h0 (W (Proc.devRef .tc main_v111_1)) := rfl
theorem after_0 : Pipeline.afterTail₀ cfgs (dats m) 0 (V0 m) [hostOps1] c main_v112 = k0 m c := by
  unfold Pipeline.afterTail₀
  refine (tail_0 _).trans ?_
  exact (congrArg h0 ((Pipeline.withArrays_arr spec0 arrRef_inj c _ _ 14).trans (arr_14 m c))).trans (h0_eq m c)
theorem tail_1 (W : Valuation τ sig (Elt Ideal)) : StableHlo.after hostOps1 W (Proc.devRef .tc main_v113) = h1 (W (Proc.devRef .tc main_v111_8)) := rfl
theorem after_1 : Pipeline.afterTail₀ cfgs (dats m) 0 (V0 m) [hostOps1] c main_v113 = k1 m c := by
  unfold Pipeline.afterTail₀
  refine (tail_1 _).trans ?_
  exact (congrArg h1 ((Pipeline.withArrays_arr spec0 arrRef_inj c _ _ 21).trans (arr_21 m c))).trans (h1_eq m c)
theorem tail_2 (W : Valuation τ sig (Elt Ideal)) : StableHlo.after hostOps1 W (Proc.devRef .tc main_v115) = h2 (W (Proc.devRef .tc main_v111_9)) := rfl
theorem after_2 : Pipeline.afterTail₀ cfgs (dats m) 0 (V0 m) [hostOps1] c main_v115 = k2 m c := by
  unfold Pipeline.afterTail₀
  refine (tail_2 _).trans ?_
  exact (congrArg h2 ((Pipeline.withArrays_arr spec0 arrRef_inj c _ _ 22).trans (arr_22 m c))).trans (h2_eq m c)
theorem tail_3 (W : Valuation τ sig (Elt Ideal)) : StableHlo.after hostOps1 W (Proc.devRef .tc main_v117) = h3 (W (Proc.devRef .tc main_v111_2)) := rfl
theorem after_3 : Pipeline.afterTail₀ cfgs (dats m) 0 (V0 m) [hostOps1] c main_v117 = k3 m c := by
  unfold Pipeline.afterTail₀
  refine (tail_3 _).trans ?_
  exact (congrArg h3 ((Pipeline.withArrays_arr spec0 arrRef_inj c _ _ 15).trans (arr_15 m c))).trans (h3_eq m c)
theorem tail_4 (W : Valuation τ sig (Elt Ideal)) : StableHlo.after hostOps1 W (Proc.devRef .tc main_v119) = h4 (W (Proc.devRef .tc main_v111_0)) := rfl
theorem after_4 : Pipeline.afterTail₀ cfgs (dats m) 0 (V0 m) [hostOps1] c main_v119 = k4 m c := by
  unfold Pipeline.afterTail₀
  refine (tail_4 _).trans ?_
  exact (congrArg h4 ((Pipeline.withArrays_arr spec0 arrRef_inj c _ _ 13).trans (arr_13 m c))).trans (h4_eq m c)
theorem tail_5 (W : Valuation τ sig (Elt Ideal)) : StableHlo.after hostOps1 W (Proc.devRef .tc main_v121) = h5 (W (Proc.devRef .tc main_v111_6)) := rfl
theorem after_5 : Pipeline.afterTail₀ cfgs (dats m) 0 (V0 m) [hostOps1] c main_v121 = k5 m c := by
  unfold Pipeline.afterTail₀
  refine (tail_5 _).trans ?_
  exact (congrArg h5 ((Pipeline.withArrays_arr spec0 arrRef_inj c _ _ 19).trans (arr_19 m c))).trans (h5_eq m c)
theorem tail_6 (W : Valuation τ sig (Elt Ideal)) : StableHlo.after hostOps1 W (Proc.devRef .tc main_v123) = h6 (W (Proc.devRef .tc main_v111_7)) := rfl
theorem after_6 : Pipeline.afterTail₀ cfgs (dats m) 0 (V0 m) [hostOps1] c main_v123 = k6 m c := by
  unfold Pipeline.afterTail₀
  refine (tail_6 _).trans ?_
  exact (congrArg h6 ((Pipeline.withArrays_arr spec0 arrRef_inj c _ _ 20).trans (arr_20 m c))).trans (h6_eq m c)
theorem tail_7 (W : Valuation τ sig (Elt Ideal)) : StableHlo.after hostOps1 W (Proc.devRef .tc main_v125) = h7 (W (Proc.devRef .tc main_v111_10)) := rfl
theorem after_7 : Pipeline.afterTail₀ cfgs (dats m) 0 (V0 m) [hostOps1] c main_v125 = k7 m c := by
  unfold Pipeline.afterTail₀
  refine (tail_7 _).trans ?_
  exact (congrArg h7 ((Pipeline.withArrays_arr spec0 arrRef_inj c _ _ 23).trans (arr_23 m c))).trans (h7_eq m c)
theorem tail_8 (W : Valuation τ sig (Elt Ideal)) : StableHlo.after hostOps1 W (Proc.devRef .tc main_v126) = h8 (W (Proc.devRef .tc main_v111_11)) := rfl
theorem after_8 : Pipeline.afterTail₀ cfgs (dats m) 0 (V0 m) [hostOps1] c main_v126 = k8 m c := by
  unfold Pipeline.afterTail₀
  refine (tail_8 _).trans ?_
  exact (congrArg h8 ((Pipeline.withArrays_arr spec0 arrRef_inj c _ _ 24).trans (arr_24 m c))).trans (h8_eq m c)

/-- What the call's program leaves as its nine results. -/
theorem run_results : θ_run defs (onTc (τ := τ) (main (F := Ideal))) ⟨m, fun _ => 0, ρ⟩ (fun r => ∀ c : Dev nD,
    r.2.mem ((c.tc : Thread nD τ).loc main_v112) = k0 m c ∧ r.2.mem ((c.tc : Thread nD τ).loc main_v113) = k1 m c ∧ r.2.mem ((c.tc : Thread nD τ).loc main_v115) = k2 m c ∧ r.2.mem ((c.tc : Thread nD τ).loc main_v117) = k3 m c ∧ r.2.mem ((c.tc : Thread nD τ).loc main_v119) = k4 m c ∧ r.2.mem ((c.tc : Thread nD τ).loc main_v121) = k5 m c ∧ r.2.mem ((c.tc : Thread nD τ).loc main_v123) = k6 m c ∧ r.2.mem ((c.tc : Thread nD τ).loc main_v125) = k7 m c ∧ r.2.mem ((c.tc : Thread nD τ).loc main_v126) = k8 m c) :=
  (θ_run defs _ _).mono (fun _ h c => ⟨((h c).2 main_v112 (Pipeline.mem_restRefs_of main_v112 (by decide) (by decide))).trans (after_0 m c),
    ((h c).2 main_v113 (Pipeline.mem_restRefs_of main_v113 (by decide) (by decide))).trans (after_1 m c),
    ((h c).2 main_v115 (Pipeline.mem_restRefs_of main_v115 (by decide) (by decide))).trans (after_2 m c),
    ((h c).2 main_v117 (Pipeline.mem_restRefs_of main_v117 (by decide) (by decide))).trans (after_3 m c),
    ((h c).2 main_v119 (Pipeline.mem_restRefs_of main_v119 (by decide) (by decide))).trans (after_4 m c),
    ((h c).2 main_v121 (Pipeline.mem_restRefs_of main_v121 (by decide) (by decide))).trans (after_5 m c),
    ((h c).2 main_v123 (Pipeline.mem_restRefs_of main_v123 (by decide) (by decide))).trans (after_6 m c),
    ((h c).2 main_v125 (Pipeline.mem_restRefs_of main_v125 (by decide) (by decide))).trans (after_7 m c),
    ((h c).2 main_v126 (Pipeline.mem_restRefs_of main_v126 (by decide) (by decide))).trans (after_8 m c)⟩) (run_main m ρ)

end Cert.Kernel3Ideal.Proj
end
-- ==== Proof.ProjSame.lean ====
/-
  The projection call's program as printed and its reading over the extended reals are one text: the frame of the first is
  the run of the second, at machine floats.
-/
module
public import proofs.«01_k».proof.Defs
public import proofs.«01_k».proof.Proof.Gen.Kernel3Ideal.Frame
public import proofs.«01_k».proof.Proof.Gen.Kernel3
@[expose] public section
set_option maxRecDepth 16384
noncomputable section
namespace Cert.Kernel3Ideal.Proj
open Idealize.ShloMosaic Idealize.SL.Sem

set_option maxHeartbeats 8000000 in
/-- The bodies are the same. -/
theorem body_same : @Cert.Kernel3.cc0_proj Bits _ Cert.Kernel3.Gen.facts = @Cert.Kernel3Ideal.cc0_proj Bits _ Cert.Kernel3Ideal.Gen.facts := by
  unfold Cert.Kernel3.cc0_proj Cert.Kernel3Ideal.cc0_proj
  rfl

set_option maxHeartbeats 8000000 in
/-- So are the tables that run them. -/
theorem table_same : @Cert.Kernel3.defs₀ Bits _ Cert.Kernel3.Gen.facts = @Cert.Kernel3Ideal.defs₀ Bits _ Cert.Kernel3Ideal.Gen.facts := by
  unfold Cert.Kernel3.defs₀ Cert.Kernel3Ideal.defs₀
  refine congrArg Defs.onTc ?_
  funext l a
  match l, a with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _) _) _) _) _) _) _) _) _) _) _) _) _) _) _) _) _) _) _) _) _) _) _) _) _) _) _) _) _
  | ⟨_ + 1, h⟩, _ => exact absurd h (Nat.not_lt.2 (Nat.le_add_left _ _))

set_option maxHeartbeats 8000000 in
theorem defs_same : @Cert.Kernel3.defs Bits _ Cert.Kernel3.Gen.facts = @Cert.Kernel3Ideal.defs Bits _ Cert.Kernel3Ideal.Gen.facts := by
  unfold Cert.Kernel3.defs Cert.Kernel3Ideal.defs
  exact congrArg (Pipeline.defs Cert.Kernel3Ideal.pcfgs) table_same

/-- A run under one table is a run under an equal one. -/
theorem run_same {Λ : Labels} {d d' : Defs Cert.Kernel3Ideal.nD Cert.Kernel3Ideal.τ Cert.Kernel3Ideal.sig (Elt Bits) Λ} (h : d = d') (p) (s) (P) (hr : θ_run d' p s P) : θ_run d p s P := h ▸ hr

set_option maxHeartbeats 8000000 in
/-- The printed program ends, with its arguments as launched and nothing owed. -/
theorem frame_kernel : Cert.quiescent_Kernel3 (hKernel3 := Cert.Kernel3.Gen.facts) := fun m ρ _ =>
  run_same defs_same _ _ _ (Cert.Kernel3Ideal.Gen.frame (F := Bits) m ρ)

end Cert.Kernel3Ideal.Proj
end
-- ==== Proof.ProjClaims.lean ====
/-
  The claims about the projection call: its frames, and the equality of its nine results.
-/
module
public import proofs.«01_k».proof.Defs
public import proofs.«01_k».proof.Proof.ProjArray
public import proofs.«01_k».proof.Proof.ProjSame
import Idealize.ShloMosaic.Lib.Quiescent
@[expose] public section
namespace Cert.Proof.Proj
open Idealize.ShloMosaic Idealize.SL.Sem

theorem frame_ideal : Cert.quiescent_Kernel3Ideal (hKernel3Ideal := Cert.Kernel3Ideal.Gen.facts) := fun m g _ => Cert.Kernel3Ideal.Gen.frame (F := Ideal) m g

/-- The reference runs, leaves its arguments, and ends with every counter at zero. -/
theorem frame_ref : Cert.quiescent_Reference3Ideal (hReference3Ideal := Cert.Reference3Ideal.Gen.facts) := fun m g _ =>
  (θ_run Cert.Reference3Ideal.defs _ _).mono (fun r h => ⟨fun c => (h c).2.2.2.2.2.2.2.2.2, sem_eq_zero_of_no_sems (by decide) r.2⟩)
    (Cert.Reference3Ideal.Value.run (F := Ideal) m g)

/-- The kernel and the reference end with equal results. -/
theorem algebraic : Cert.algebraic_Kernel3Ideal_Reference3Ideal (hKernel3Ideal := Cert.Kernel3Ideal.Gen.facts) (hReference3Ideal := Cert.Reference3Ideal.Gen.facts) := by
  intro m g m' g' _ hag
  refine ⟨fun c => Cert.Kernel3Ideal.Proj.k0 m c, fun c => Cert.Kernel3Ideal.Proj.k1 m c, fun c => Cert.Kernel3Ideal.Proj.k2 m c, fun c => Cert.Kernel3Ideal.Proj.k3 m c, fun c => Cert.Kernel3Ideal.Proj.k4 m c, fun c => Cert.Kernel3Ideal.Proj.k5 m c, fun c => Cert.Kernel3Ideal.Proj.k6 m c, fun c => Cert.Kernel3Ideal.Proj.k7 m c, fun c => Cert.Kernel3Ideal.Proj.k8 m c, ?_, ?_⟩
  · exact (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2, h.2.1 c⟩)
      (θ_run_and (Cert.Kernel3Ideal.Proj.run_results m g) (Cert.Kernel3Ideal.Gen.frame (F := Ideal) m g))
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Ref.run m' g')
    all_goals
      obtain ⟨a0, a1, a2, a3, a4, a5, a6, a7, a8, a9, a10⟩ := hag c
      simp only [Ref.r0, Ref.r1, Ref.r2, Ref.r3, Ref.r4, Ref.r5, Ref.r6, Ref.r7, Ref.r8, Ref.latOf, Ref.kropeOf, Ref.knopeOf, Ref.qupOf, Ref.colsOf, a0, a1, a2, a3, a4, a5, a6, a7, a8, a9, a10]
      rfl
end Cert.Proof.Proj
end
-- ==== Proof.SampRef.lean ====
/-
  What the reference of the sample projection computes at an entry.
-/
module
public import proofs.«01_k».proof.Proof.Gen.Reference4Ideal.Run
public import Idealize.ShloMosaic.Lib.Pointwise
import Idealize.ShloMosaic.Lib.Quiescent
@[expose] public section
set_option maxRecDepth 16384
noncomputable section
namespace Cert.Proof.Samp.Ref
open Idealize.ShloMosaic Idealize.ShloMosaic.Tactic Cert.Reference4Ideal Cert.Reference4Ideal.Gen

/-- The normed stream. -/
def xn (A0 : FVec Ideal S128x8x1024 .f32) (A1 : FVec Ideal S1024 .f32) : FVec Ideal S128x8x1024 .f32 :=
  mulf (mulf A0 (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf A0 A0) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 A1))

/-- Every projected column. -/
def cols (XN : FVec Ideal S128x8x1024 .f32) (A2 : FVec Ideal S1024x1592 .f32) : FVec Ideal S128x8x1592 .f32 :=
  Host.dotGeneral dot_S128x8x1024_S1024x1592_S128x8x1592_2_0_01_1_n_n none XN A2

/-- The sparse heads' six key and value columns. -/
def kvs (C : FVec Ideal S128x8x1592 .f32) : FVec Ideal S128x8x6x1x64 .f32 :=
  shapeCast _ (extractStridedSlice S128x8x384 ![0, 0, 512] C slices_S128x8x1592_S128x8x384_0_0_512) shapeCasts_S128x8x384_S128x8x6x1x64

/-- One of the six, the third. -/
def kvsel (K : FVec Ideal S128x8x6x1x64 .f32) : FVec Ideal S128x8x1x64 .f32 :=
  shapeCast _ (extractStridedSlice S128x8x1x1x64 ![0, 0, 2, 0, 0] K slices_S128x8x6x1x64_S128x8x1x1x64_0_0_2_0_0) shapeCasts_S128x8x1x1x64_S128x8x1x64

/-- One of the six, the fifth. -/
def kvwin (K : FVec Ideal S128x8x6x1x64 .f32) : FVec Ideal S128x8x1x64 .f32 :=
  shapeCast _ (extractStridedSlice S128x8x1x1x64 ![0, 0, 4, 0, 0] K slices_S128x8x6x1x64_S128x8x1x1x64_0_0_4_0_0) shapeCasts_S128x8x1x1x64_S128x8x1x64

/-- The rows of the compressed and selected branches. -/
def nsa (K : FVec Ideal S128x8x6x1x64 .f32) (SL : FVec Ideal S128x8x1x64 .f32) (A3 : FVec Ideal S4x64 .f32) : FVec Ideal S128x8x4x1x64 .f32 :=
  (concatenate S128x8x4x1x64 2 [⟨S128x8x1x1x64, ((broadcastInDim S128x8x1x1x64 ![0, 1, 3, 4] bcast_S128x8x1x64_S128x8x1x1x64_0_1_3_4 (shapeCast _ (extractStridedSlice S128x8x1x1x64 ![0, 0, 0, 0, 0] K slices_S128x8x6x1x64_S128x8x1x1x64_0_0_0_0_0) shapeCasts_S128x8x1x1x64_S128x8x1x64)) : (⟨S128x8x1x1x64, .f32⟩ : BufTy).Contents (Elt Ideal))⟩, ⟨S128x8x1x1x64, ((broadcastInDim S128x8x1x1x64 ![0, 1, 3, 4] bcast_S128x8x1x64_S128x8x1x1x64_0_1_3_4 (shapeCast _ (extractStridedSlice S128x8x1x1x64 ![0, 0, 1, 0, 0] K slices_S128x8x6x1x64_S128x8x1x1x64_0_0_1_0_0) shapeCasts_S128x8x1x1x64_S128x8x1x64)) : (⟨S128x8x1x1x64, .f32⟩ : BufTy).Contents (Elt Ideal))⟩, ⟨S128x8x1x1x64, ((broadcastInDim S128x8x1x1x64 ![0, 1, 3, 4] bcast_S128x8x1x64_S128x8x1x1x64_0_1_3_4 (mulf (mulf SL (broadcastInDim S128x8x1x64 ![0, 1, 2, 3] bcast_S128x8x1x1_S128x8x1x64_0_1_2_3 (Host.rsqrt (addf (Host.divf (broadcastInDim S128x8x1x1 ![0, 1, 2] bcast_S128x8x1_S128x8x1x1_0_1_2 (Host.reduceAdd (mulf SL SL) (constant S_ .f32 0x00000000#32) reducesTo_S128x8x1x64_S128x8x1_d3 h_S_)) (broadcastInDim S128x8x1x1 ![] bcast_S_S128x8x1x1 (constant S_ .f32 0x42800000#32))) (broadcastInDim S128x8x1x1 ![] bcast_S_S128x8x1x1 (constant S_ .f32 0x358637BD#32)))))) (broadcastInDim S128x8x1x64 ![0, 1, 2, 3] bcast_S1x1x1x64_S128x8x1x64_0_1_2_3 (broadcastInDim S1x1x1x64 ![3] bcast_S64_S1x1x1x64_3 (shapeCast _ (extractStridedSlice S1x64 ![2, 0] A3 slices_S4x64_S1x64_2_0) shapeCasts_S1x64_S64))))) : (⟨S128x8x1x1x64, .f32⟩ : BufTy).Contents (Elt Ideal))⟩, ⟨S128x8x1x1x64, ((broadcastInDim S128x8x1x1x64 ![0, 1, 3, 4] bcast_S128x8x1x64_S128x8x1x1x64_0_1_3_4 (shapeCast _ (extractStridedSlice S128x8x1x1x64 ![0, 0, 3, 0, 0] K slices_S128x8x6x1x64_S128x8x1x1x64_0_0_3_0_0) shapeCasts_S128x8x1x1x64_S128x8x1x64)) : (⟨S128x8x1x1x64, .f32⟩ : BufTy).Contents (Elt Ideal))⟩] concatenates_S128x8x1x1x64_S128x8x1x1x64_S128x8x1x1x64_S128x8x1x1x64_S128x8x4x1x64_d2 : (⟨S128x8x4x1x64, .f32⟩ : BufTy).Contents (Elt Ideal))

/-- The window branch's rows after the state's. -/
def win (A1 : FVec Ideal S128x512x2x1x64 .f32) (K : FVec Ideal S128x8x6x1x64 .f32) (WN : FVec Ideal S128x8x1x64 .f32) (A3 : FVec Ideal S4x64 .f32) : FVec Ideal S128x512x2x1x64 .f32 :=
  extractStridedSlice S128x512x2x1x64 ![0, 8, 0, 0, 0] (concatenate S128x520x2x1x64 1 [⟨S128x512x2x1x64, A1⟩, ⟨S128x8x2x1x64, (concatenate S128x8x2x1x64 2 [⟨S128x8x1x1x64, (broadcastInDim S128x8x1x1x64 ![0, 1, 3, 4] bcast_S128x8x1x64_S128x8x1x1x64_0_1_3_4 (mulf (mulf WN (broadcastInDim S128x8x1x64 ![0, 1, 2, 3] bcast_S128x8x1x1_S128x8x1x64_0_1_2_3 (Host.rsqrt (addf (Host.divf (broadcastInDim S128x8x1x1 ![0, 1, 2] bcast_S128x8x1_S128x8x1x1_0_1_2 (Host.reduceAdd (mulf WN WN) (constant S_ .f32 0x00000000#32) reducesTo_S128x8x1x64_S128x8x1_d3 h_S_)) (broadcastInDim S128x8x1x1 ![] bcast_S_S128x8x1x1 (constant S_ .f32 0x42800000#32))) (broadcastInDim S128x8x1x1 ![] bcast_S_S128x8x1x1 (constant S_ .f32 0x358637BD#32)))))) (broadcastInDim S128x8x1x64 ![0, 1, 2, 3] bcast_S1x1x1x64_S128x8x1x64_0_1_2_3 (broadcastInDim S1x1x1x64 ![3] bcast_S64_S1x1x1x64_3 (shapeCast _ (extractStridedSlice S1x64 ![3, 0] A3 slices_S4x64_S1x64_3_0) shapeCasts_S1x64_S64)))))⟩, ⟨S128x8x1x1x64, (broadcastInDim S128x8x1x1x64 ![0, 1, 3, 4] bcast_S128x8x1x64_S128x8x1x1x64_0_1_3_4 (shapeCast _ (extractStridedSlice S128x8x1x1x64 ![0, 0, 5, 0, 0] K slices_S128x8x6x1x64_S128x8x1x1x64_0_0_5_0_0) shapeCasts_S128x8x1x1x64_S128x8x1x64))⟩] concatenates_S128x8x1x1x64_S128x8x1x1x64_S128x8x2x1x64_d2)⟩] concatenates_S128x512x2x1x64_S128x8x2x1x64_S128x520x2x1x64_d1) slices_S128x520x2x1x64_S128x512x2x1x64_0_8_0_0_0

/-- The angles. -/
def ang  : FVec Ideal S8x16 .f32 :=
  mulf (broadcastInDim S8x16 ![0, 1] bcast_S8x1_S8x16_0_1 (broadcastInDim S8x1 ![0] bcast_S8_S8x1_0 (sitofp .f32 (addi (broadcastInDim S8 ![] bcast_S_S8 (constantI S_ 32 8192#32)) (iotaInDim S8 32 0))))) (broadcastInDim S8x16 ![0, 1] bcast_S1x16_S8x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- The latents before their norm. -/
def ckv (C : FVec Ideal S128x8x1592 .f32) : FVec Ideal S128x8x256 .f32 :=
  extractStridedSlice S128x8x256 ![0, 0, 1304] C slices_S128x8x1592_S128x8x256_0_0_1304

/-- The latents. -/
def lat (CK : FVec Ideal S128x8x256 .f32) (A5 : FVec Ideal S256 .f32) : FVec Ideal S128x8x256 .f32 :=
  mulf (mulf CK (broadcastInDim S128x8x256 ![0, 1, 2] bcast_S128x8x1_S128x8x256_0_1_2 (Host.rsqrt (addf (Host.divf (broadcastInDim S128x8x1 ![0, 1] bcast_S128x8_S128x8x1_0_1 (Host.reduceAdd (mulf CK CK) (constant S_ .f32 0x00000000#32) reducesTo_S128x8x256_S128x8_d2 h_S_)) (broadcastInDim S128x8x1 ![] bcast_S_S128x8x1 (constant S_ .f32 0x43800000#32))) (broadcastInDim S128x8x1 ![] bcast_S_S128x8x1 (constant S_ .f32 0x358637BD#32)))))) (broadcastInDim S128x8x256 ![0, 1, 2] bcast_S1x1x256_S128x8x256_0_1_2 (broadcastInDim S1x1x256 ![2] bcast_S256_S1x1x256_2 A5))

/-- The shared rotary key before its norm. -/
def kr (C : FVec Ideal S128x8x1592 .f32) : FVec Ideal S128x8x32 .f32 :=
  extractStridedSlice S128x8x32 ![0, 0, 1560] C slices_S128x8x1592_S128x8x32_0_0_1560

/-- The shared rotary key, normed. -/
def krn (K : FVec Ideal S128x8x32 .f32) (A10 : FVec Ideal S2x32 .f32) : FVec Ideal S128x8x32 .f32 :=
  mulf (mulf K (broadcastInDim S128x8x32 ![0, 1, 2] bcast_S128x8x1_S128x8x32_0_1_2 (Host.rsqrt (addf (Host.divf (broadcastInDim S128x8x1 ![0, 1] bcast_S128x8_S128x8x1_0_1 (Host.reduceAdd (mulf K K) (constant S_ .f32 0x00000000#32) reducesTo_S128x8x32_S128x8_d2 h_S_)) (broadcastInDim S128x8x1 ![] bcast_S_S128x8x1 (constant S_ .f32 0x42000000#32))) (broadcastInDim S128x8x1 ![] bcast_S_S128x8x1 (constant S_ .f32 0x358637BD#32)))))) (broadcastInDim S128x8x32 ![0, 1, 2] bcast_S1x1x32_S128x8x32_0_1_2 (broadcastInDim S1x1x32 ![2] bcast_S32_S1x1x32_2 (shapeCast _ (extractStridedSlice S1x32 ![1, 0] A10 slices_S2x32_S1x32_1_0) shapeCasts_S1x32_S32)))

/-- The shared rotary key, turned. -/
def krope (R : FVec Ideal S128x8x32 .f32) (T : FVec Ideal S8x16 .f32) : FVec Ideal S128x8x32 .f32 :=
  concatenate S128x8x32 2 [⟨S128x8x16, (subf (mulf (extractStridedSlice S128x8x16 ![0, 0, 0] R slices_S128x8x32_S128x8x16_0_0_0) (broadcastInDim S128x8x16 ![0, 1, 2] bcast_S1x8x16_S128x8x16_0_1_2 (broadcastInDim S1x8x16 ![1, 2] bcast_S8x16_S1x8x16_1_2 (Host.cos T)))) (mulf (extractStridedSlice S128x8x16 ![0, 0, 16] R slices_S128x8x32_S128x8x16_0_0_16) (broadcastInDim S128x8x16 ![0, 1, 2] bcast_S1x8x16_S128x8x16_0_1_2 (broadcastInDim S1x8x16 ![1, 2] bcast_S8x16_S1x8x16_1_2 (Host.sin T)))))⟩, ⟨S128x8x16, (addf (mulf (extractStridedSlice S128x8x16 ![0, 0, 0] R slices_S128x8x32_S128x8x16_0_0_0) (broadcastInDim S128x8x16 ![0, 1, 2] bcast_S1x8x16_S128x8x16_0_1_2 (broadcastInDim S1x8x16 ![1, 2] bcast_S8x16_S1x8x16_1_2 (Host.sin T)))) (mulf (extractStridedSlice S128x8x16 ![0, 0, 16] R slices_S128x8x32_S128x8x16_0_0_16) (broadcastInDim S128x8x16 ![0, 1, 2] bcast_S1x8x16_S128x8x16_0_1_2 (broadcastInDim S1x8x16 ![1, 2] bcast_S8x16_S1x8x16_1_2 (Host.cos T)))))⟩] concatenates_S128x8x16_S128x8x16_S128x8x32_d2

/-- The heads' keys. -/
def knope (L : FVec Ideal S128x8x256 .f32) (A7 : FVec Ideal S256x8x64 .f32) : FVec Ideal S128x8x8x64 .f32 :=
  Host.dotGeneral dot_S128x8x256_S256x8x64_S128x8x8x64_2_0_01_12_n_n none L A7

/-- Each key's scale. -/
def kscale (K : FVec Ideal S128x8x8x64 .f32) : FVec Ideal S128x8x8 .f32 :=
  Host.rsqrt (addf (Host.divf (Host.reduceAdd (mulf K K) (constant S_ .f32 0x00000000#32) reducesTo_S128x8x8x64_S128x8x8_d3 h_S_) (broadcastInDim S128x8x8 ![] bcast_S_S128x8x8 (constant S_ .f32 0x42800000#32))) (broadcastInDim S128x8x8 ![] bcast_S_S128x8x8 (constant S_ .f32 0x358637BD#32)))

/-- The rows of the latent cache. -/
def mlarows (L : FVec Ideal S128x8x256 .f32) (R : FVec Ideal S128x8x32 .f32) : FVec Ideal S128x8x288 .f32 :=
  concatenate S128x8x288 2 [⟨S128x8x256, L⟩, ⟨S128x8x32, R⟩] concatenates_S128x8x256_S128x8x32_S128x8x288_d2

variable (m : (ℓ : Loc nD τ sig) → Buf (Elt Ideal) ℓ) (c : Dev nD)

/-- The columns, the latents, the turned key and the heads' keys, of the arguments. -/
def colsOf : FVec Ideal S128x8x1592 .f32 := cols (xn (m ((c.tc : Thread nD τ).loc main_arg0)) (m ((c.tc : Thread nD τ).loc main_arg2))) (m ((c.tc : Thread nD τ).loc main_arg3))
def latOf : FVec Ideal S128x8x256 .f32 := lat (ckv (colsOf m c)) (m ((c.tc : Thread nD τ).loc main_arg6))
def kropeOf : FVec Ideal S128x8x32 .f32 := krope (krn (kr (colsOf m c)) (m ((c.tc : Thread nD τ).loc main_arg11))) ang
def knopeOf : FVec Ideal S128x8x8x64 .f32 := knope (latOf m c) (m ((c.tc : Thread nD τ).loc main_arg8))

/-- The results of the reference, of the arguments. -/
def r0 : FVec Ideal S128x8x4x1x64 .f32 := nsa (kvs (colsOf m c)) (kvsel (kvs (colsOf m c))) (m ((c.tc : Thread nD τ).loc main_arg4))
def r1 : FVec Ideal S128x8x288 .f32 := mlarows (latOf m c) (kropeOf m c)
def r2 : FVec Ideal S128x8x8 .f32 := kscale (knopeOf m c)
def r3 : FVec Ideal S128x512x2x1x64 .f32 := win (m ((c.tc : Thread nD τ).loc main_arg1)) (kvs (colsOf m c)) (kvwin (kvs (colsOf m c))) (m ((c.tc : Thread nD τ).loc main_arg4))

set_option maxHeartbeats 4000000 in
/-- The results of the reference, by these names. -/
theorem run (ρ : Dev nD → PrngReg) :
    θ_run defs (onTc (τ := τ) (main (F := Ideal))) ⟨m, fun _ => 0, ρ⟩ fun r => ∀ c : Dev nD,
      r.2.mem ((c.tc : Thread nD τ).loc main_v46) = r0 m c ∧ r.2.mem ((c.tc : Thread nD τ).loc main_v138) = r1 m c
      ∧ r.2.mem ((c.tc : Thread nD τ).loc main_v137) = r2 m c ∧ r.2.mem ((c.tc : Thread nD τ).loc main_v140) = r3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Cert.Reference4Ideal.Value.run m ρ

/-- The reciprocal root of a mean square. -/
def rms (S N : EReal) : EReal := Ideal.rsqrt (Ideal.div S N + Ideal.ofBits .f32 0x358637BD#32)

theorem xn_apply (A0 : FVec Ideal S128x8x1024 .f32) (A1 : FVec Ideal S1024 .f32) (b : Fin 128) (t : Fin 8) (d : Fin 1024) : xn A0 A1 (ix3 b t d) =
    A0 (ix3 b t d) * rms (∑ x : Fin 1024, A0 (ix3 b t x) * A0 (ix3 b t x)) (Ideal.ofBits .f32 0x44800000#32) * A1 (ix1 d) := by
  pointwise [xn, rms]
theorem cols_apply (X : FVec Ideal S128x8x1024 .f32) (A2 : FVec Ideal S1024x1592 .f32) (b : Fin 128) (t : Fin 8) (j : Fin 1592) :
    cols X A2 (ix3 b t j) = ∑ d : Fin 1024, X (ix3 b t d) * A2 (ix2 d j) := by
  pointwise [cols]
variable (C : FVec Ideal S128x8x1592 .f32) (b : Fin 128) (t : Fin 8)
theorem kvs_apply (i : Fin 6) (d : Fin 64) : kvs C (ix5 b t i 0 d) = C (ix3 b t ⟨512 + (i * 64 + d), by omega⟩) := by
  pointwise [kvs]
theorem kvsel_apply (K : FVec Ideal S128x8x6x1x64 .f32) (d : Fin 64) : kvsel K (ix4 b t 0 d) = K (ix5 b t 2 0 d) := by
  pointwise [kvsel]
theorem kvwin_apply (K : FVec Ideal S128x8x6x1x64 .f32) (d : Fin 64) : kvwin K (ix4 b t 0 d) = K (ix5 b t 4 0 d) := by
  pointwise [kvwin]
section
variable (K : FVec Ideal S128x8x6x1x64 .f32) (SL : FVec Ideal S128x8x1x64 .f32) (A3 : FVec Ideal S4x64 .f32) (d : Fin 64)
theorem win_s (A1 : FVec Ideal S128x512x2x1x64 .f32) (s : Fin 504) (i : Fin 2) : win A1 K SL A3 (ix5 b ⟨s, by omega⟩ i 0 d) = A1 (ix5 b ⟨8 + s, by omega⟩ i 0 d) := by
  pointwise [win]
  exact dif_pos (by omega)
theorem win_0 (A1 : FVec Ideal S128x512x2x1x64 .f32) : win A1 K SL A3 (ix5 b ⟨504 + t, by omega⟩ 0 0 d) = SL (ix4 b t 0 d) * rms (∑ x : Fin 64, SL (ix4 b t 0 x) * SL (ix4 b t 0 x)) (Ideal.ofBits .f32 0x42800000#32) * A3 (ix2 3 d) := by
  pointwise [win, rms]
  rw [dif_neg (by omega)]
  simp only [show 8 + (504 + t.val) - 512 = t.val by omega, Fin.eta]
theorem win_1 (A1 : FVec Ideal S128x512x2x1x64 .f32) : win A1 K SL A3 (ix5 b ⟨504 + t, by omega⟩ 1 0 d) = K (ix5 b t 5 0 d) := by
  pointwise [win]
  rw [dif_neg (by omega)]
  simp only [show 8 + (504 + t.val) - 512 = t.val by omega, Fin.eta]
theorem nsa_0 : nsa K SL A3 (ix5 b t 0 0 d) = K (ix5 b t 0 0 d) := by
  pointwise [nsa]
theorem nsa_1 : nsa K SL A3 (ix5 b t 1 0 d) = K (ix5 b t 1 0 d) := by
  pointwise [nsa]
theorem nsa_2 : nsa K SL A3 (ix5 b t 2 0 d) = SL (ix4 b t 0 d) * rms (∑ x : Fin 64, SL (ix4 b t 0 x) * SL (ix4 b t 0 x)) (Ideal.ofBits .f32 0x42800000#32) * A3 (ix2 2 d) := by
  pointwise [nsa, rms]
theorem nsa_3 : nsa K SL A3 (ix5 b t 3 0 d) = K (ix5 b t 3 0 d) := by
  pointwise [nsa]
end
theorem ckv_apply (e : Fin 256) : ckv C (ix3 b t e) = C (ix3 b t ⟨1304 + e, by omega⟩) := by
  pointwise [ckv]
theorem lat_apply (Q : FVec Ideal S128x8x256 .f32) (A5 : FVec Ideal S256 .f32) (e : Fin 256) : lat Q A5 (ix3 b t e) =
    Q (ix3 b t e) * rms (∑ x : Fin 256, Q (ix3 b t x) * Q (ix3 b t x)) (Ideal.ofBits .f32 0x43800000#32) * A5 (ix1 e) := by
  pointwise [lat, rms]
theorem kr_apply (e : Fin 32) : kr C (ix3 b t e) = C (ix3 b t ⟨1560 + e, by omega⟩) := by
  pointwise [kr]
theorem krn_apply (Q : FVec Ideal S128x8x32 .f32) (A10 : FVec Ideal S2x32 .f32) (d : Fin 32) : krn Q A10 (ix3 b t d) =
    Q (ix3 b t d) * rms (∑ x : Fin 32, Q (ix3 b t x) * Q (ix3 b t x)) (Ideal.ofBits .f32 0x42000000#32) * A10 (ix2 1 d) := by
  pointwise [krn, rms]
theorem krope_1 (R : FVec Ideal S128x8x32 .f32) (T : FVec Ideal S8x16 .f32) (d : Fin 16) : krope R T (ix3 b t ⟨d, by omega⟩) =
    R (ix3 b t ⟨d, by omega⟩) * Ideal.cos (T (ix2 t d)) - R (ix3 b t ⟨16 + d, by omega⟩) * Ideal.sin (T (ix2 t d)) := by
  pointwise [krope]
theorem krope_2 (R : FVec Ideal S128x8x32 .f32) (T : FVec Ideal S8x16 .f32) (d : Fin 16) : krope R T (ix3 b t ⟨16 + d, by omega⟩) =
    R (ix3 b t ⟨d, by omega⟩) * Ideal.sin (T (ix2 t d)) + R (ix3 b t ⟨16 + d, by omega⟩) * Ideal.cos (T (ix2 t d)) := by
  pointwise [krope]
theorem knope_apply (L : FVec Ideal S128x8x256 .f32) (A7 : FVec Ideal S256x8x64 .f32) (h : Fin 8) (d : Fin 64) : knope L A7 (ix4 b t h d) =
    ∑ e : Fin 256, L (ix3 b t e) * A7 (ix3 e h d) := by
  pointwise [knope]
theorem kscale_apply (K : FVec Ideal S128x8x8x64 .f32) (h : Fin 8) : kscale K (ix3 b t h) = rms (∑ x : Fin 64, K (ix4 b t h x) * K (ix4 b t h x)) (Ideal.ofBits .f32 0x42800000#32) := by
  pointwise [kscale, rms]
theorem mlarows_0 (L : FVec Ideal S128x8x256 .f32) (R : FVec Ideal S128x8x32 .f32) (e : Fin 256) : mlarows L R (ix3 b t ⟨e, by omega⟩) = L (ix3 b t e) := by
  pointwise [mlarows]
theorem mlarows_1 (L : FVec Ideal S128x8x256 .f32) (R : FVec Ideal S128x8x32 .f32) (e : Fin 32) : mlarows L R (ix3 b t ⟨256 + e, by omega⟩) = R (ix3 b t e) := by
  pointwise [mlarows]
end Cert.Proof.Samp.Ref
end
-- ==== Proof.SampAt.lean ====
/-
  The packed operands of the sample projection at an entry, and its blocks.
-/
module
public import proofs.«01_k».proof.Proof.Gen.Kernel4Ideal.Frame
public import proofs.«01_k».proof.Proof.SampRef
public import proofs.«01_k».proof.Proof.ProjAt
@[expose] public section
set_option maxRecDepth 16384
noncomputable section
namespace Cert.Kernel4Ideal.Proj
open Idealize.ShloMosaic Idealize.ShloMosaic.Tactic Cert.Kernel4Ideal Cert.Kernel4Ideal.Gen
open Cert.Proof.Samp
open Cert.Kernel3Ideal.Proj (packW packQ packE packR packGk packGe packK packG1 packG2)

/-- The stream by rows. -/
def packX (X : FVec Ideal S128x8x1024 .f32) : FVec Ideal S1024x1024 .f32 := shapeCast _ X shapeCasts_S128x8x1024_S1024x1024

/-- The cosines of the two halves, and the sines with the first half's sign changed. -/
def cosT (T : FVec Ideal S8x16 .f32) : FVec Ideal S8x32 .f32 :=
  concatenate S8x32 1 [⟨S8x16, Host.cos T⟩, ⟨S8x16, Host.cos T⟩] concatenates_S8x16_S8x16_S8x32_d1
def sinT (T : FVec Ideal S8x16 .f32) : FVec Ideal S8x32 .f32 :=
  concatenate S8x32 1 [⟨S8x16, Host.negf (Host.sin T)⟩, ⟨S8x16, Host.sin T⟩] concatenates_S8x16_S8x16_S8x32_d1

/-- The rotary tables. -/
def packT (C S : FVec Ideal S8x32 .f32) : FVec Ideal S8x512 .f32 :=
  concatenate S8x512 1 [
    ⟨S8x128, concatenate S8x128 1 [⟨S8x64, broadcastInDim S8x64 ![] bcast_S_S8x64 (constant S_ .f32 0x3DD105EC#32)⟩,
      ⟨S8x32, mulf C (broadcastInDim S8x32 ![] bcast_S_S8x32 (constant S_ .f32 0x3DD105EC#32))⟩,
      ⟨S8x32, broadcastInDim S8x32 ![] bcast_S_S8x32 (constant S_ .f32 0x00000000#32)⟩] concatenates_S8x64_S8x32_S8x32_S8x128_d1⟩,
    ⟨S8x128, concatenate S8x128 1 [⟨S8x96, broadcastInDim S8x96 ![] bcast_S_S8x96 (constant S_ .f32 0x00000000#32)⟩,
      ⟨S8x32, mulf S (broadcastInDim S8x32 ![] bcast_S_S8x32 (constant S_ .f32 0x3DD105EC#32))⟩] concatenates_S8x96_S8x32_S8x128_d1⟩,
    ⟨S8x128, concatenate S8x128 1 [⟨S8x64, broadcastInDim S8x64 ![] bcast_S_S8x64 (constant S_ .f32 0x00000000#32)⟩, ⟨S8x32, C⟩,
      ⟨S8x32, broadcastInDim S8x32 ![] bcast_S_S8x32 (constant S_ .f32 0x00000000#32)⟩] concatenates_S8x64_S8x32_S8x32_S8x128_d1⟩,
    ⟨S8x128, concatenate S8x128 1 [⟨S8x96, broadcastInDim S8x96 ![] bcast_S_S8x96 (constant S_ .f32 0x00000000#32)⟩, ⟨S8x32, S⟩]
      concatenates_S8x96_S8x32_S8x128_d1⟩] concatenates_S8x128_S8x128_S8x128_S8x128_S8x512_d1

/-- The tables once for each sample. -/
def tileT (T : FVec Ideal S8x512 .f32) : FVec Ideal S1024x512 .f32 :=
  shapeCast _ (broadcastInDim S128x8x1x512 ![0, 1, 2, 3] bcast_S1x8x1x512_S128x8x1x512_0_1_2_3 (shapeCast S1x8x1x512 T shapeCasts_S8x512_S1x8x1x512)) shapeCasts_S128x8x1x512_S1024x512

section
variable (m : (ℓ : Loc nD τ sig) → Buf (Elt Ideal) ℓ) (c : Dev nD)
set_option maxHeartbeats 4000000 in
theorem V_w : V m c main_v16 = packW (m ((c.tc : Thread nD τ).loc main_arg3)) (packQ (m ((c.tc : Thread nD τ).loc main_arg3))) (packE (m ((c.tc : Thread nD τ).loc main_arg3)) (packR (m ((c.tc : Thread nD τ).loc main_arg3)))) := rfl
set_option maxHeartbeats 4000000 in
theorem V_gk : V m c main_v35 = packGk (m ((c.tc : Thread nD τ).loc main_arg4)) := rfl
set_option maxHeartbeats 4000000 in
theorem V_ge : V m c main_v67 = packGe (m ((c.tc : Thread nD τ).loc main_arg11)) := rfl
set_option maxHeartbeats 4000000 in
theorem V_k : V m c main_v71 = packK (m ((c.tc : Thread nD τ).loc main_arg8)) := rfl
set_option maxHeartbeats 4000000 in
theorem V_g1 : V m c main_v74 = packG1 (m ((c.tc : Thread nD τ).loc main_arg2)) := rfl
set_option maxHeartbeats 4000000 in
theorem V_g2 : V m c main_v76 = packG2 (m ((c.tc : Thread nD τ).loc main_arg6)) := rfl
/-- The host's operations up to the cosines and sines, and those after. -/
abbrev opsA : List (HloOp τ sig (Elt Ideal)) := hostOps0.take 108
abbrev opsT : List (HloOp τ sig (Elt Ideal)) := hostOps0.drop 108
theorem V_split (b : Ref sig .tc) : V m c b = StableHlo.after opsT (StableHlo.after opsA (fun b => m (c, b))) (Proc.devRef .tc b) := by
  show StableHlo.after (List.flatten [hostOps0]) _ _ = _
  rw [← StableHlo.after_append, List.take_append_drop, List.flatten_cons, List.flatten_nil, List.append_nil]
set_option maxHeartbeats 1000000 in
theorem cos_eq : StableHlo.after opsA (fun b => m (c, b)) (Proc.devRef .tc main_v94) = cosT Ref.ang := rfl
set_option maxHeartbeats 1000000 in
theorem sin_eq : StableHlo.after opsA (fun b => m (c, b)) (Proc.devRef .tc main_v96) = sinT Ref.ang := rfl
set_option maxHeartbeats 1000000 in
theorem tables_eq (W : Valuation τ sig (Elt Ideal)) : StableHlo.after opsT W (Proc.devRef .tc main_v114) = tileT (packT (W (Proc.devRef .tc main_v94)) (W (Proc.devRef .tc main_v96))) := rfl
theorem V_t : V m c main_v114 = tileT (packT (cosT Ref.ang) (sinT Ref.ang)) := by
  rw [V_split, tables_eq, cos_eq, sin_eq]
set_option maxHeartbeats 4000000 in
theorem V_x : V m c main_v115 = packX (m ((c.tc : Thread nD τ).loc main_arg0)) := rfl
end

theorem packX_apply (X : FVec Ideal S128x8x1024 .f32) (x : Fin 1024) (d : Fin 1024) : packX X (ix2 x d) = X (ix3 ⟨x / 8, by omega⟩ ⟨x % 8, by omega⟩ d) := by
  pointwise [packX]
theorem tileT_apply (T : FVec Ideal S8x512 .f32) (x : Fin 1024) (l : Fin 512) : tileT T (ix2 x l) = T (ix2 ⟨x % 8, by omega⟩ l) := by
  pointwise [tileT]
section
variable (T : FVec Ideal S8x16 .f32) (C S : FVec Ideal S8x32 .f32) (t : Fin 8)
theorem cosT_0 (i : Fin 16) : cosT T (ix2 t ⟨i, by omega⟩) = Ideal.cos (T (ix2 t i)) := by
  pointwise [cosT]
theorem cosT_1 (i : Fin 16) : cosT T (ix2 t ⟨16 + i, by omega⟩) = Ideal.cos (T (ix2 t i)) := by
  pointwise [cosT]
theorem sinT_0 (i : Fin 16) : sinT T (ix2 t ⟨i, by omega⟩) = -Ideal.sin (T (ix2 t i)) := by
  pointwise [sinT]
theorem sinT_1 (i : Fin 16) : sinT T (ix2 t ⟨16 + i, by omega⟩) = Ideal.sin (T (ix2 t i)) := by
  pointwise [sinT]
theorem packT_c0 (l : Fin 64) : packT C S (ix2 t ⟨l, by omega⟩) = Ideal.ofBits .f32 0x3DD105EC#32 := by
  pointwise [packT]
  simp (discharger := omega) only [dif_pos, dif_neg, Nat.sub_sub, Nat.add_sub_cancel_left, Nat.reduceAdd, Fin.eta]
theorem packT_c1 (l : Fin 32) : packT C S (ix2 t ⟨64 + l, by omega⟩) = C (ix2 t l) * Ideal.ofBits .f32 0x3DD105EC#32 := by
  pointwise [packT]
  simp (discharger := omega) only [dif_pos, dif_neg, Nat.sub_sub, Nat.add_sub_cancel_left, Nat.reduceAdd, Fin.eta]
theorem packT_s0 (l : Fin 96) : packT C S (ix2 t ⟨128 + l, by omega⟩) = 0 := by
  pointwise [packT]
  simp (discharger := omega) only [dif_pos, dif_neg, Nat.sub_sub, Nat.add_sub_cancel_left, Nat.reduceAdd, Fin.eta]
theorem packT_s1 (l : Fin 32) : packT C S (ix2 t ⟨224 + l, by omega⟩) = S (ix2 t l) * Ideal.ofBits .f32 0x3DD105EC#32 := by
  pointwise [packT]
  simp (discharger := omega) only [dif_pos, dif_neg, Nat.sub_sub, Nat.add_sub_cancel_left, Nat.reduceAdd, Fin.eta]
theorem packT_k0 (l : Fin 64) : packT C S (ix2 t ⟨256 + l, by omega⟩) = 0 := by
  pointwise [packT]
  simp (discharger := omega) only [dif_pos, dif_neg, Nat.sub_sub, Nat.add_sub_cancel_left, Nat.reduceAdd, Fin.eta]
theorem packT_k1 (l : Fin 32) : packT C S (ix2 t ⟨320 + l, by omega⟩) = C (ix2 t l) := by
  pointwise [packT]
  simp (discharger := omega) only [dif_pos, dif_neg, Nat.sub_sub, Nat.add_sub_cancel_left, Nat.reduceAdd, Fin.eta]
theorem packT_z0 (l : Fin 96) : packT C S (ix2 t ⟨384 + l, by omega⟩) = 0 := by
  pointwise [packT]
  simp (discharger := omega) only [dif_pos, dif_neg, Nat.sub_sub, Nat.add_sub_cancel_left, Nat.reduceAdd, Fin.eta]
theorem packT_z1 (l : Fin 32) : packT C S (ix2 t ⟨480 + l, by omega⟩) = S (ix2 t l) := by
  pointwise [packT]
  simp (discharger := omega) only [dif_pos, dif_neg, Nat.sub_sub, Nat.add_sub_cancel_left, Nat.reduceAdd, Fin.eta]
end

/-! The call's blocks. -/

theorem idx_in : ∀ t : Fin grid0.N, win0_0.index t 0 = 0 ∧ win0_0.index t 1 = 0 ∧ win0_12.index t 0 = 0 ∧ win0_12.index t 1 = 0 ∧ win0_1.index t 0 = 0 ∧ win0_1.index t 1 = 0 ∧ win0_2.index t 0 = 0 ∧ win0_2.index t 1 = 0 ∧ win0_4.index t 0 = 0 ∧ win0_4.index t 1 = 0 ∧ win0_8.index t 0 = 0 ∧ win0_8.index t 1 = 0 ∧ win0_9.index t 0 = 0 ∧ win0_9.index t 1 = 0 ∧ win0_11.index t 0 = 0 ∧ win0_11.index t 1 = 0 := by decide +kernel
theorem idx_out : ∀ t : Fin grid0.N, win0_14.index t 0 = 0 ∧ win0_14.index t 1 = 0 ∧ win0_15.index t 0 = 0 ∧ win0_15.index t 1 = 0 ∧ win0_21.index t 0 = 0 ∧ win0_21.index t 1 = 0 ∧ win0_22.index t 0 = 0 ∧ win0_22.index t 1 = 0 := by decide +kernel

section
variable (m : (ℓ : Loc nD τ sig) → Buf (Elt Ideal) ℓ) (c : Dev nD) (t : Fin cfg0.N)
theorem blk_x (r : Fin 1024) (y : Fin 1024) : iblk m c 0 t (ix2 r y) = V m c main_v115 (ix2 r y) := by
  blk_ext [iblk, idx_in t]
theorem blk_t (r : Fin 1024) (y : Fin 512) : iblk m c 12 t (ix2 r y) = V m c main_v114 (ix2 r y) := by
  blk_ext [iblk, idx_in t]
theorem blk_g1 (r : Fin 1) (y : Fin 1024) : iblk m c 1 t (ix2 r y) = V m c main_v74 (ix2 r y) := by
  blk_ext [iblk, idx_in t]
theorem blk_w (r : Fin 1024) (y : Fin 2176) : iblk m c 2 t (ix2 r y) = V m c main_v16 (ix2 r y) := by
  blk_ext [iblk, idx_in t]
theorem blk_gk (r : Fin 8) (y : Fin 128) : iblk m c 4 t (ix2 r y) = V m c main_v35 (ix2 r y) := by
  blk_ext [iblk, idx_in t]
theorem blk_g2 (r : Fin 1) (y : Fin 256) : iblk m c 8 t (ix2 r y) = V m c main_v76 (ix2 r y) := by
  blk_ext [iblk, idx_in t]
theorem blk_k (r : Fin 256) (y : Fin 1024) : iblk m c 9 t (ix2 r y) = V m c main_v71 (ix2 r y) := by
  blk_ext [iblk, idx_in t]
theorem blk_ge (r : Fin 1) (y : Fin 128) : iblk m c 11 t (ix2 r y) = V m c main_v67 (ix2 r y) := by
  blk_ext [iblk, idx_in t]

/-! Where its entries stand in the results. -/

theorem place_14 (r : Fin 1024) (y : Fin 256) : (win0_14.blk t).view.emb (ix2 r y) = ix2 r y := by
  blk_ext [idx_out t]
theorem place_15 (r : Fin 1024) (y : Fin 128) : (win0_15.blk t).view.emb (ix2 r y) = ix2 r y := by
  blk_ext [idx_out t]
theorem place_21 (r : Fin 1024) (y : Fin 288) : (win0_21.blk t).view.emb (ix2 r y) = ix2 r y := by
  blk_ext [idx_out t]
theorem place_22 (r : Fin 1024) (y : Fin 128) : (win0_22.blk t).view.emb (ix2 r y) = ix2 r y := by
  blk_ext [idx_out t]
end

end Cert.Kernel4Ideal.Proj
end
-- ==== Proof.SampPay.lean ====
/-
  The sample projection's payloads at an entry.
-/
module
public import proofs.«01_k».proof.Proof.Gen.Kernel4Ideal.Frame
public import proofs.«01_k».proof.Proof.ProjPay
public import Idealize.ShloMosaic.Lib.Pointwise
public import Idealize.ShloMosaic.Lib.WordCmp
@[expose] public section
set_option maxRecDepth 16384
noncomputable section
namespace Cert.Kernel4Ideal.Proj
open Idealize.ShloMosaic Idealize.ShloMosaic.Tactic Cert.Kernel4Ideal Cert.Kernel4Ideal.Gen
open Cert.Kernel3Ideal.Proj (eps by64 by32 sum_lanes sum_first sum_third pick)

variable (r : Fin 1024) (l : Fin 128)

/-- The lanes below 64, and those from 64 below 96. -/
theorem low_apply : k0_pay2 (ix2 r l) = BitVec.ofBool (decide (l.val < 64)) := by
  have hl := l.isLt
  pointwise [k0_pay2]
  exact WordCmp.cmpi_slt_ofNat (a := l.val) (b := 64) (by omega) (by omega)

theorem xn_k (x : Vec Ideal S1024x1024 .f32) (g : Vec Ideal S1x1024 .f32) (d : Fin 1024) : k0_pay3 x g (ix2 r d) =
    x (ix2 r d) * Ideal.rsqrt (Ideal.div (∑ y : Fin 1024, x (ix2 r y) * x (ix2 r y)) (Ideal.ofBits .f32 0x44800000#32) + eps) * g (ix2 0 d) := by
  pointwise [k0_pay3]
section
variable (X : FVec Ideal S1024x1024 .bf16)
theorem kv_k (w : Vec Ideal S1024x384 .bf16) (j : Fin 384) : k0_pay17 X w (ix2 r j) = ∑ d : Fin 1024, X (ix2 r d) * w (ix2 d j) := by
  pointwise [k0_pay17]
theorem e_k (w : Vec Ideal S1024x128 .bf16) (j : Fin 128) : k0_pay25 X w (ix2 r j) = ∑ d : Fin 1024, X (ix2 r d) * w (ix2 d j) := by
  pointwise [k0_pay25]
/-- The latents. -/
theorem lat_k (w : Vec Ideal S1024x256 .bf16) (g : Vec Ideal S1x256 .f32) (e : Fin 256) : k0_pay62 (k0_pay60 X w) (k0_pay61 g) (ix2 r e) =
    (∑ d : Fin 1024, X (ix2 r d) * w (ix2 d e)) * Ideal.rsqrt (Ideal.div (∑ x : Fin 256, (∑ d : Fin 1024, X (ix2 r d) * w (ix2 d x)) * ∑ d : Fin 1024, X (ix2 r d) * w (ix2 d x)) (Ideal.ofBits .f32 0x43800000#32) + eps) * g (ix2 0 e) := by
  pointwise [k0_pay62, k0_pay60, k0_pay61]

/-- The first branch's rows. -/
theorem cmp_k (w : Vec Ideal S1024x384 .bf16) : k0_pay18 X w (ix2 r l) = k0_pay17 X w (ix2 r ⟨l, by omega⟩) := by
  unfold k0_pay18
  generalize k0_pay17 X w = K
  pointwise []
end

/-- A branch's rows, the first half of the lanes normed. -/
def branch (M : IVec S1024x128 1) (v : FVec Ideal S1024x128 .f32) (g : Vec Ideal S1x128 .f32) : FVec Ideal S1024x128 .f32 :=
  mulf (mulf v (select M (broadcastTo S1024x128 (shapeCast S1024x1 (rsqrt (addf (mulf (shapeCast S1024x1 (multiReduction .add [1] S1024 (select M (mulf v v) (broadcast S1024x128 (Scalar.ofBits .f32 0x00000000#32))) 0x00000000#32 reduces_S1024x128_S1024 (.inl rfl) rfl) shapeCasts_S1024_S1024x1)
    (broadcast S1024x1 (Scalar.ofBits .f32 0x3C800000#32))) (broadcast S1024x1 (Scalar.ofBits .f32 0x358637BD#32)))) shapeCasts_S1024x1_S1024x1) broadcasts_S1024x1_S1024x128)
    (broadcast S1024x128 (Scalar.ofBits .f32 0x3F800000#32)))) (broadcastTo S1024x128 (shapeCast S1x128 g shapeCasts_S1x128_S1x128) broadcasts_S1x128_S1024x128)

theorem branch_apply (v : FVec Ideal S1024x128 .f32) (g : Vec Ideal S1x128 .f32) : branch k0_pay2 v g (ix2 r l) =
    v (ix2 r l) * (if l.val < 64 then Ideal.rsqrt (Ideal.div (∑ i : Fin 64, v (ix2 r ⟨i, by omega⟩) * v (ix2 r ⟨i, by omega⟩)) (Ideal.ofBits .f32 0x42800000#32) + eps) else 1) * g (ix2 0 l) := by
  have hM : ∀ r l, k0_pay2 (ix2 r l) = BitVec.ofBool (decide (l.val < 64)) := low_apply
  revert hM
  generalize k0_pay2 = M
  intro hM
  pointwise [branch]
  simp only [hM, pick]
  rw [sum_first (fun l => v (ix2 r l) * v (ix2 r l)), by64]

theorem sel_k (K : FVec Ideal S1024x384 .f32) (g : Vec Ideal S1x128 .f32) (M : IVec S1024x128 1) :
    k0_pay20 M K g = branch M (extractStridedSlice S1024x128 ![0, 128] K slices_S1024x384_o0_128_S1024x128) g := rfl
theorem win_k (K : FVec Ideal S1024x384 .f32) (g : Vec Ideal S1x128 .f32) (M : IVec S1024x128 1) :
    k0_pay23 (k0_pay22 M K) g = branch M (extractStridedSlice S1024x128 ![0, 256] K slices_S1024x384_o0_256_S1024x128) g := rfl
theorem at128 (K : FVec Ideal S1024x384 .f32) : extractStridedSlice S1024x128 ![0, 128] K slices_S1024x384_o0_128_S1024x128 (ix2 r l) = K (ix2 r ⟨128 + l, by omega⟩) := by
  pointwise []
theorem at256 (K : FVec Ideal S1024x384 .f32) : extractStridedSlice S1024x128 ![0, 256] K slices_S1024x384_o0_256_S1024x128 (ix2 r l) = K (ix2 r ⟨256 + l, by omega⟩) := by
  pointwise []

/-- The shared rotary key: its norm's scale, and the key turned, at the lanes it stands in. -/
theorem mid_apply : k0_pay27 (iota .tc S1024x128 32 [1] iota_S1024x128_d1_w32) (ix2 r l) = BitVec.ofBool (decide (64 ≤ l.val ∧ l.val < 96)) := by
  have hl := l.isLt
  pointwise [k0_pay27]
  have e : IntOp.cmpi CmpIPredicate.slt (BitVec.ofNat 32 l.val) 96#32 = BitVec.ofBool (decide (l.val < 96)) :=
    WordCmp.cmpi_slt_ofNat (a := l.val) (b := 96) (by omega) (by omega)
  have e' : IntOp.cmpi CmpIPredicate.sge (BitVec.ofNat 32 l.val) 64#32 = BitVec.ofBool (decide (64 ≤ l.val)) :=
    WordCmp.cmpi_sle_ofNat (a := 64) (b := l.val) (by omega) (by omega)
  rw [e, e']
  by_cases h : l.val < 96 <;> by_cases h' : 64 ≤ l.val <;> simp [h, h'] <;> rfl
theorem krs_k (X : FVec Ideal S1024x1024 .bf16) (w : Vec Ideal S1024x128 .bf16) : k0_pay28 (iota .tc S1024x128 32 [1] iota_S1024x128_d1_w32) X w (ix2 r l) = k0_pay25 X w (ix2 r l) *
    Ideal.rsqrt (Ideal.div (∑ i : Fin 32, k0_pay25 X w (ix2 r ⟨64 + i, by omega⟩) * k0_pay25 X w (ix2 r ⟨64 + i, by omega⟩)) (Ideal.ofBits .f32 0x42000000#32) + eps) := by
  have hM := mid_apply
  revert hM
  unfold k0_pay28
  generalize k0_pay27 (iota .tc S1024x128 32 [1] iota_S1024x128_d1_w32) = M
  generalize k0_pay25 X w = E
  intro hM
  pointwise []
  simp only [hM, pick]
  rw [sum_third (fun l => E (ix2 r l) * E (ix2 r l)), by32]
theorem kr_k (E : FVec Ideal S1024x128 .f32) (g : Vec Ideal S1x128 .f32) (a b : Vec Ideal S1024x128 .f32) : k0_pay29 E g a b (ix2 r l) =
    E (ix2 r l) * g (ix2 0 l) * a (ix2 r l) + E (ix2 r ⟨(l + 32) % 128, by omega⟩) * g (ix2 0 ⟨(l + 32) % 128, by omega⟩) * b (ix2 r ⟨(l + 32) % 128, by omega⟩) := by
  pointwise [k0_pay29]
  simp only [show (l.val + 128 - 96) % 128 = (l.val + 32) % 128 by omega]
theorem kr32_k (E : FVec Ideal S1024x128 .f32) (g : Vec Ideal S1x128 .f32) (a b : Vec Ideal S1024x128 .f32) (i : Fin 32) :
    k0_pay30 E g a b (ix2 r i) = k0_pay29 E g a b (ix2 r ⟨64 + i, by omega⟩) := by
  unfold k0_pay30
  generalize k0_pay29 E g a b = K
  pointwise []
  simp only [show (i.val + 128 - 64) % 128 = 64 + i.val by omega]

/-- The heads' keys. -/
theorem kn_k (C G : FVec Ideal S1024x256 .f32) (w : Vec Ideal S256x1024 .bf16) (j : Fin 1024) : k0_pay64 C G w (ix2 r j) =
    ∑ e : Fin 256, k0_pay62 C G (ix2 r e) * w (ix2 e j) := by
  unfold k0_pay64 k0_pay63
  generalize k0_pay62 C G = E
  pointwise []

/-- A head's scale, of its keys. -/
def scaleOf (v : FVec Ideal S1024x128 .f32) : FVec Ideal S1024x1 .f32 :=
  rsqrt (addf (mulf (shapeCast S1024x1 (multiReduction .add [1] S1024 (mulf v v) 0x00000000#32 reduces_S1024x128_S1024 (.inl rfl) rfl) shapeCasts_S1024_S1024x1)
    (broadcast S1024x1 (Scalar.ofBits .f32 0x3C800000#32))) (broadcast S1024x1 (Scalar.ofBits .f32 0x358637BD#32)))
theorem scaleOf_apply (v : FVec Ideal S1024x128 .f32) (hv : ∀ i : Fin 64, v (ix2 r ⟨64 + i, by omega⟩) = 0) : scaleOf v (ix2 r 0) =
    Ideal.rsqrt (Ideal.div (∑ i : Fin 64, v (ix2 r ⟨i, by omega⟩) * v (ix2 r ⟨i, by omega⟩)) (Ideal.ofBits .f32 0x42800000#32) + eps) := by
  pointwise [scaleOf]
  rw [sum_lanes, by64]
  simp only [hv, mul_zero, Finset.sum_const_zero, add_zero]

/-- One lane chosen. -/
def put (n : BitVec 32) (s : FVec Ideal S1024x1 .f32) (a : FVec Ideal S1024x128 .f32) : FVec Ideal S1024x128 .f32 :=
  select (cmpi .eq (iota .tc S1024x128 32 [1] iota_S1024x128_d1_w32) (broadcast S1024x128 n)) (broadcastTo S1024x128 (shapeCast S1024x1 s shapeCasts_S1024x1_S1024x1) broadcasts_S1024x1_S1024x128) a
theorem put_apply (n : ℕ) (hn : n < 128) (s : FVec Ideal S1024x1 .f32) (a : FVec Ideal S1024x128 .f32) :
    put (BitVec.ofNat 32 n) s a (ix2 r l) = if l.val = n then s (ix2 r 0) else a (ix2 r l) := by
  have hl := l.isLt
  pointwise [put]
  have e : IntOp.cmpi CmpIPredicate.eq (BitVec.ofNat 32 l.val) (BitVec.ofNat 32 n) = BitVec.ofBool (decide (l.val = n)) := by
    simp only [IntOp.cmpi]
    refine congrArg BitVec.ofBool ?_
    by_cases h : l.val = n
    · subst h; simp
    · have : BitVec.ofNat 32 l.val ≠ BitVec.ofNat 32 n := fun h' => h (by have := congrArg BitVec.toNat h'; simp only [BitVec.toNat_ofNat] at this; omega)
      simp [h, this]
  rw [e, pick]

/-- A head's lanes. -/
theorem lanes (o : ℕ) (K : FVec Ideal S1024x1024 .f32) (h : S1024x1024.Slices ![0, o] S1024x128) (ho : o + 128 ≤ 1024) :
    extractStridedSlice S1024x128 ![0, o] K h (ix2 r l) = K (ix2 r ⟨o + l, by omega⟩) := by
  pointwise []

/-- A head's lanes. -/
def hd (K : FVec Ideal S1024x1024 .f32) (h : Fin 8) : FVec Ideal S1024x128 .f32 :=
  fun i => K (ix2 (⟨(i 0).val, (i 0).isLt⟩ : Fin 1024) ⟨h * 128 + (i 1).val, by have : (i 1).val < 128 := (i 1).isLt; omega⟩)
theorem hd_apply (K : FVec Ideal S1024x1024 .f32) (h : Fin 8) (r : Fin 1024) (l : Fin 128) : hd K h (ix2 r l) = K (ix2 r ⟨h * 128 + l, by omega⟩) := rfl
theorem hd_eq (K : FVec Ideal S1024x1024 .f32) (h : Fin 8) (s : S1024x1024.Slices ![0, h.val * 128] S1024x128) : extractStridedSlice S1024x128 ![0, h.val * 128] K s = hd K h := by
  funext i
  obtain ⟨r, l, rfl⟩ : ∃ (r : Fin 1024) (l : Fin 128), i = ix2 r l := ⟨i 0, i 1, eq_ix2 i⟩
  exact (lanes r l _ K s (by omega)).trans (hd_apply K h r l).symm

/-- The scales' lanes. -/
def scales (K : FVec Ideal S1024x1024 .f32) : FVec Ideal S1024x128 .f32 :=
  put 7#32 (scaleOf (hd K 7)) (put 6#32 (scaleOf (hd K 6)) (put 5#32 (scaleOf (hd K 5)) (put 4#32 (scaleOf (hd K 4)) (put 3#32 (scaleOf (hd K 3)) (put 2#32 (scaleOf (hd K 2))
    (put 1#32 (scaleOf (hd K 1)) (put 0#32 (scaleOf (hd K 0)) (broadcast S1024x128 (Scalar.ofBits .f32 0x00000000#32)))))))))
theorem scales_eq (C G : FVec Ideal S1024x256 .f32) (w : Vec Ideal S256x1024 .bf16) : k0_pay95 (iota .tc S1024x128 32 [1] iota_S1024x128_d1_w32) (k0_pay64 C G w) (k0_pay86 (iota .tc S1024x128 32 [1] iota_S1024x128_d1_w32) (k0_pay64 C G w)
    (k0_pay78 (iota .tc S1024x128 32 [1] iota_S1024x128_d1_w32) (k0_pay64 C G w) (k0_pay70 (iota .tc S1024x128 32 [1] iota_S1024x128_d1_w32) C G w)) (k0_pay81 (k0_pay64 C G w))) (k0_pay89 (k0_pay64 C G w)) k0_pay90 = scales (k0_pay64 C G w) := by
  unfold scales
  rw [← hd_eq _ 7 slices_S1024x1024_o0_896_S1024x128, ← hd_eq _ 6 slices_S1024x1024_o0_768_S1024x128, ← hd_eq _ 5 slices_S1024x1024_o0_640_S1024x128, ← hd_eq _ 4 slices_S1024x1024_o0_512_S1024x128,
    ← hd_eq _ 3 slices_S1024x1024_o0_384_S1024x128, ← hd_eq _ 2 slices_S1024x1024_o0_256_S1024x128, ← hd_eq _ 1 slices_S1024x1024_o0_128_S1024x128, ← hd_eq _ 0 slices_S1024x1024_o0_0_S1024x128]
  rfl
theorem scales_apply (K : FVec Ideal S1024x1024 .f32) (h : Fin 8) : scales K (ix2 r ⟨h, by omega⟩) = scaleOf (hd K h) (ix2 r 0) := by
  unfold scales
  rw [put_apply _ _ 7 (by decide), put_apply _ _ 6 (by decide), put_apply _ _ 5 (by decide), put_apply _ _ 4 (by decide), put_apply _ _ 3 (by decide), put_apply _ _ 2 (by decide),
    put_apply _ _ 1 (by decide), put_apply _ _ 0 (by decide)]
  fin_cases h <;> rfl

end Cert.Kernel4Ideal.Proj
end
-- ==== Proof.SampLoad.lean ====
/-
  What the sample projection's body loads, and its payloads over that.
-/
module
public import proofs.«01_k».proof.Proof.SampRef
public import proofs.«01_k».proof.Proof.SampPay
@[expose] public section
set_option maxRecDepth 16384
noncomputable section
namespace Cert.Kernel4Ideal.Proj
open Idealize.ShloMosaic Idealize.ShloMosaic.Tactic Cert.Kernel4Ideal Cert.Kernel4Ideal.Gen
open Cert.Proof.Samp

/-- A row's sample and position. -/
abbrev bb (x : Fin 1024) : Fin 128 := ⟨x / 8, by omega⟩
abbrev pp (x : Fin 1024) : Fin 8 := ⟨x % 8, by omega⟩

variable (m : (ℓ : Loc nD τ sig) → Buf (Elt Ideal) ℓ) (c : Dev nD)

/-- The arguments. -/
abbrev A0 : FVec Ideal S128x8x1024 .f32 := m ((c.tc : Thread nD τ).loc main_arg0)
abbrev A1 : FVec Ideal S128x512x2x1x64 .f32 := m ((c.tc : Thread nD τ).loc main_arg1)
abbrev A2 : FVec Ideal S1024 .f32 := m ((c.tc : Thread nD τ).loc main_arg2)
abbrev A3 : FVec Ideal S1024x1592 .f32 := m ((c.tc : Thread nD τ).loc main_arg3)
abbrev A4 : FVec Ideal S4x64 .f32 := m ((c.tc : Thread nD τ).loc main_arg4)
abbrev A5 : FVec Ideal S384 .f32 := m ((c.tc : Thread nD τ).loc main_arg5)
abbrev A6 : FVec Ideal S256 .f32 := m ((c.tc : Thread nD τ).loc main_arg6)
abbrev A7 : FVec Ideal S384x768 .f32 := m ((c.tc : Thread nD τ).loc main_arg7)
abbrev A8 : FVec Ideal S256x8x64 .f32 := m ((c.tc : Thread nD τ).loc main_arg8)
abbrev A9 : FVec Ideal S256x8x64 .f32 := m ((c.tc : Thread nD τ).loc main_arg9)
abbrev A10 : FVec Ideal S2x64 .f32 := m ((c.tc : Thread nD τ).loc main_arg10)
abbrev A11 : FVec Ideal S2x32 .f32 := m ((c.tc : Thread nD τ).loc main_arg11)

/-- The reference's columns, latents, turned key, and heads' keys, of the arguments. -/
def CC : FVec Ideal Cert.Reference4Ideal.S128x8x1592 .f32 := Ref.cols (Ref.xn (A0 m c) (A2 m c)) (A3 m c)
def LL : FVec Ideal Cert.Reference4Ideal.S128x8x256 .f32 := Ref.lat (Ref.ckv (CC m c)) (A6 m c)
def RR : FVec Ideal Cert.Reference4Ideal.S128x8x32 .f32 := Ref.krope (Ref.krn (Ref.kr (CC m c)) (A11 m c)) Ref.ang
def KK : FVec Ideal Cert.Reference4Ideal.S128x8x8x64 .f32 := Ref.knope (LL m c) (A8 m c)

variable (t : Fin cfg0.N)

/-- What the body loads. -/
abbrev lx : Vec Ideal S1024x1024 .f32 := View.ld (iblk m c 0 t) (Rect.unit ![0, 0] ![1024, 1024] inb_S1024x1024_S1024x1024_0_0)
abbrev lg1 : Vec Ideal S1x1024 .f32 := View.ld (iblk m c 1 t) (Rect.unit ![0, 0] ![1, 1024] inb_S1x1024_S1x1024_0_0)
abbrev lwkv : Vec Ideal S1024x384 .bf16 := View.ld (iblk m c 2 t) (Rect.unit ![0, 1024] ![1024, 384] inb_S1024x2176_S1024x384_0_1024)
abbrev lwc : Vec Ideal S1024x256 .bf16 := View.ld (iblk m c 2 t) (Rect.unit ![0, 1792] ![1024, 256] inb_S1024x2176_S1024x256_0_1792)
abbrev lwe : Vec Ideal S1024x128 .bf16 := View.ld (iblk m c 2 t) (Rect.unit ![0, 2048] ![1024, 128] inb_S1024x2176_S1024x128_0_2048)
abbrev lgk0 : Vec Ideal S1x128 .f32 := View.ld (iblk m c 4 t) (Rect.unit ![0, 0] ![1, 128] inb_S8x128_S1x128_0_0)
abbrev lgk1 : Vec Ideal S1x128 .f32 := View.ld (iblk m c 4 t) (Rect.unit ![1, 0] ![1, 128] inb_S8x128_S1x128_1_0)
abbrev lg2 : Vec Ideal S1x256 .f32 := View.ld (iblk m c 8 t) (Rect.unit ![0, 0] ![1, 256] inb_S1x256_S1x256_0_0)
abbrev lk : Vec Ideal S256x1024 .bf16 := View.ld (iblk m c 9 t) (Rect.unit ![0, 0] ![256, 1024] inb_S256x1024_S256x1024_0_0)
abbrev lge : Vec Ideal S1x128 .f32 := View.ld (iblk m c 11 t) (Rect.unit ![0, 0] ![1, 128] inb_S1x128_S1x128_0_0)
abbrev ltc : Vec Ideal S1024x128 .f32 := View.ld (iblk m c 12 t) (Rect.unit ![0, 256] ![1024, 128] inb_S1024x512_S1024x128_0_256)
abbrev ltd : Vec Ideal S1024x128 .f32 := View.ld (iblk m c 12 t) (Rect.unit ![0, 384] ![1024, 128] inb_S1024x512_S1024x128_0_384)

/-- The normed rows, the columns, the latents and the keys. -/
def XN : FVec Ideal S1024x1024 .bf16 := k0_pay3 (lx m c t) (lg1 m c t)
def PKV : FVec Ideal S1024x384 .f32 := k0_pay17 (XN m c t) (lwkv m c t)
def PE : FVec Ideal S1024x128 .f32 := k0_pay25 (XN m c t) (lwe m c t)
def PC : FVec Ideal S1024x256 .f32 := k0_pay62 (k0_pay60 (XN m c t) (lwc m c t)) (k0_pay61 (lg2 m c t))
def PK : FVec Ideal S1024x1024 .f32 := k0_pay64 (k0_pay60 (XN m c t) (lwc m c t)) (k0_pay61 (lg2 m c t)) (lk m c t)
def PR : FVec Ideal S1024x128 .f32 := k0_pay29 (k0_pay28 kernelRun0_A.sl.v0 (XN m c t) (lwe m c t)) (lge m c t) (ltc m c t) (ltd m c t)

end Cert.Kernel4Ideal.Proj
end
-- ==== Proof.SampRow.lean ====
/-
  The sample projection's payloads over its blocks, in terms of the reference.
-/
module
public import proofs.«01_k».proof.Proof.SampAt
public import proofs.«01_k».proof.Proof.SampLoad
public import proofs.«01_k».proof.Proof.ProjRow
@[expose] public section
set_option maxRecDepth 16384
noncomputable section
namespace Cert.Kernel4Ideal.Proj
open Idealize.ShloMosaic Idealize.ShloMosaic.Tactic Cert.Kernel4Ideal Cert.Kernel4Ideal.Gen
open Cert.Proof.Samp
open Cert.Kernel3Ideal.Proj (ld2 packW packQ packE packR packGk packGe packK packG1 packG2 packW_kv packW_c packW_e packR_apply packE_0 packE_1 packE_2 packE_3
  packGk_sel packGk_sel1 packGk_win packGk_win1 packGe_0 packGe_1 packGe_2 packGe_3 packK_0 packK_1 packG1_apply packG2_apply eps)

/-- The rotary tables. -/
abbrev TT : FVec Ideal S8x512 .f32 := packT (cosT Ref.ang) (sinT Ref.ang)

variable (m : (ℓ : Loc nD τ sig) → Buf (Elt Ideal) ℓ) (c : Dev nD)
variable (t : Fin cfg0.N)

theorem lwkv_apply (d : Fin 1024) (j : Fin 384) : lwkv m c t (ix2 d j) = A3 m c (ix2 d ⟨512 + j, by omega⟩) :=
  (ld2 _ _ _ _ _ _ d ⟨1024 + j, by omega⟩ (by omega) (by dsimp only)).trans ((blk_w m c t _ _).trans ((congrFun (V_w m c) _).trans (packW_kv _ _ _ d j)))
theorem lwc_apply (d : Fin 1024) (j : Fin 256) : lwc m c t (ix2 d j) = A3 m c (ix2 d ⟨1304 + j, by omega⟩) :=
  (ld2 _ _ _ _ _ _ d ⟨1792 + j, by omega⟩ (by omega) (by dsimp only)).trans ((blk_w m c t _ _).trans ((congrFun (V_w m c) _).trans (packW_c _ _ _ d j)))
theorem lwe_apply (d : Fin 1024) (j : Fin 128) : lwe m c t (ix2 d j) = packE (A3 m c) (packR (A3 m c)) (ix2 d j) :=
  (ld2 _ _ _ _ _ _ d ⟨2048 + j, by omega⟩ (by omega) (by dsimp only)).trans ((blk_w m c t _ _).trans ((congrFun (V_w m c) _).trans (packW_e _ _ _ d j)))
theorem lgk0_apply (l : Fin 128) : lgk0 m c t (ix2 0 l) = packGk (A4 m c) (ix2 0 l) :=
  (ld2 _ _ _ _ _ _ 0 l (by rfl) (by omega)).trans ((blk_gk m c t _ _).trans (congrFun (V_gk m c) _))
theorem lgk1_apply (l : Fin 128) : lgk1 m c t (ix2 0 l) = packGk (A4 m c) (ix2 1 l) :=
  (ld2 _ _ _ _ _ _ 1 l (by rfl) (by omega)).trans ((blk_gk m c t _ _).trans (congrFun (V_gk m c) _))
theorem lg1_apply (l : Fin 1024) : lg1 m c t (ix2 0 l) = A2 m c (ix1 l) :=
  (ld2 _ _ _ _ _ _ 0 l (by rfl) (by omega)).trans ((blk_g1 m c t _ _).trans ((congrFun (V_g1 m c) _).trans (packG1_apply _ l)))
theorem lg2_apply (l : Fin 256) : lg2 m c t (ix2 0 l) = A6 m c (ix1 l) :=
  (ld2 _ _ _ _ _ _ 0 l (by rfl) (by omega)).trans ((blk_g2 m c t _ _).trans ((congrFun (V_g2 m c) _).trans (packG2_apply _ l)))
theorem lge_apply (l : Fin 128) : lge m c t (ix2 0 l) = packGe (A11 m c) (ix2 0 l) :=
  (ld2 _ _ _ _ _ _ 0 l (by rfl) (by omega)).trans ((blk_ge m c t _ _).trans (congrFun (V_ge m c) _))
theorem lk_apply (e : Fin 256) (j : Fin 1024) : lk m c t (ix2 e j) = packK (A8 m c) (ix2 e j) :=
  (ld2 _ _ _ _ _ _ e j (by omega) (by omega)).trans ((blk_k m c t _ _).trans (congrFun (V_k m c) _))

variable (r : Fin 1024) (x : Fin 1024) (hx : x.val = r.val)
include hx

theorem lx_apply (y : Fin 1024) : lx m c t (ix2 r y) = A0 m c (ix3 (bb x) (pp x) y) := by
  obtain rfl : x = r := Fin.ext hx
  exact (ld2 _ _ _ _ _ _ x y (by omega) (by omega)).trans ((blk_x m c t x y).trans ((congrFun (V_x m c) _).trans (packX_apply _ x y)))
theorem ltc_apply (l : Fin 128) : ltc m c t (ix2 r l) = TT (ix2 (pp x) ⟨256 + l, by omega⟩) := by
  obtain rfl : x = r := Fin.ext hx
  exact (ld2 _ _ _ _ _ _ x ⟨256 + l, by omega⟩ (by omega) (by dsimp only)).trans ((blk_t m c t x _).trans ((congrFun (V_t m c) _).trans (tileT_apply _ x _)))
theorem ltd_apply (l : Fin 128) : ltd m c t (ix2 r l) = TT (ix2 (pp x) ⟨384 + l, by omega⟩) := by
  obtain rfl : x = r := Fin.ext hx
  exact (ld2 _ _ _ _ _ _ x ⟨384 + l, by omega⟩ (by omega) (by dsimp only)).trans ((blk_t m c t x _).trans ((congrFun (V_t m c) _).trans (tileT_apply _ x _)))

theorem XN_apply (d : Fin 1024) : XN m c t (ix2 r d) = Ref.xn (A0 m c) (A2 m c) (ix3 (bb x) (pp x) d) := by
  refine (xn_k r _ _ d).trans (Eq.symm ((Ref.xn_apply _ _ _ _ _).trans ?_))
  unfold Ref.rms
  simp only [lx_apply m c t r x hx, lg1_apply]

/-- A column of the tile. -/
theorem col (w : Fin 1024 → EReal) (j : Fin 1592) (hw : ∀ d, w d = A3 m c (ix2 d j)) : (∑ d : Fin 1024, XN m c t (ix2 r d) * w d) = CC m c (ix3 (bb x) (pp x) j) := by
  refine Eq.trans ?_ (Ref.cols_apply _ _ _ _ _).symm
  exact Finset.sum_congr rfl fun d _ => congrArg₂ (· * ·) (XN_apply m c t r x hx d) (hw d)

theorem PKV_apply (j : Fin 384) : PKV m c t (ix2 r j) = CC m c (ix3 (bb x) (pp x) ⟨512 + j, by omega⟩) :=
  (kv_k r _ _ _).trans (col m c t r x hx _ _ fun d => lwkv_apply m c t d j)
theorem PE_0 (j : Fin 24) : PE m c t (ix2 r ⟨j, by omega⟩) = CC m c (ix3 (bb x) (pp x) ⟨896 + j, by omega⟩) :=
  (e_k r _ _ _).trans (col m c t r x hx _ _ fun d => (lwe_apply m c t d _).trans (packE_0 _ _ d j))
theorem PE_1 (j : Fin 32) : PE m c t (ix2 r ⟨64 + j, by omega⟩) = CC m c (ix3 (bb x) (pp x) ⟨1560 + j, by omega⟩) :=
  (e_k r _ _ _).trans (col m c t r x hx _ _ fun d => (lwe_apply m c t d _).trans ((packE_1 _ _ d j).trans (packR_apply _ d j)))
theorem PE_2 (j : Fin 16) : PE m c t (ix2 r ⟨96 + j, by omega⟩) = CC m c (ix3 (bb x) (pp x) ⟨1560 + (16 + j), by omega⟩) :=
  (e_k r _ _ _).trans (col m c t r x hx _ _ fun d => (lwe_apply m c t d _).trans ((packE_2 _ _ d j).trans (packR_apply _ d _)))
theorem PE_3 (j : Fin 16) : PE m c t (ix2 r ⟨112 + j, by omega⟩) = CC m c (ix3 (bb x) (pp x) ⟨1560 + j, by omega⟩) :=
  (e_k r _ _ _).trans (col m c t r x hx _ _ fun d => (lwe_apply m c t d _).trans ((packE_3 _ _ d j).trans (packR_apply _ d _)))

/-- The latents. -/
theorem PC_apply (e : Fin 256) : PC m c t (ix2 r e) = LL m c (ix3 (bb x) (pp x) e) := by
  have h : ∀ e : Fin 256, (∑ d : Fin 1024, XN m c t (ix2 r d) * lwc m c t (ix2 d e)) = Ref.ckv (CC m c) (ix3 (bb x) (pp x) e) := fun e =>
    (col m c t r x hx _ _ fun d => lwc_apply m c t d e).trans (Ref.ckv_apply _ _ _ e).symm
  refine (lat_k r _ _ _ e).trans (Eq.symm ((Ref.lat_apply _ _ _ _ _).trans ?_))
  unfold Ref.rms
  simp only [h, lg2_apply]

/-- The heads' keys. -/
theorem PK_0 (h : Fin 8) (l : Fin 64) : PK m c t (ix2 r ⟨h * 128 + l, by omega⟩) = KK m c (ix4 (bb x) (pp x) h l) := by
  refine (kn_k r _ _ _ _).trans (Eq.symm ((Ref.knope_apply _ _ _ _ _ _).trans ?_))
  exact Finset.sum_congr rfl fun e _ => congrArg₂ (· * ·) (PC_apply m c t r x hx e).symm ((lk_apply m c t e _).trans (packK_0 _ e h l)).symm
omit hx in
theorem PK_1 (h : Fin 8) (l : Fin 64) : PK m c t (ix2 r ⟨h * 128 + (64 + l), by omega⟩) = 0 :=
  (kn_k r _ _ _ _).trans (Finset.sum_eq_zero fun e _ => (congrArg _ ((lk_apply m c t e _).trans (packK_1 _ e h l))).trans (mul_zero _))

/-- The shared rotary key. -/
theorem PR_lane (l l' : Fin 128) (hl : l'.val = (l.val + 32) % 128) : PR m c t (ix2 r l) =
    PE m c t (ix2 r l) * Ref.rms (∑ i : Fin 32, Ref.kr (CC m c) (ix3 (bb x) (pp x) i) * Ref.kr (CC m c) (ix3 (bb x) (pp x) i)) (Ideal.ofBits .f32 0x42000000#32) * packGe (A11 m c) (ix2 0 l) * TT (ix2 (pp x) ⟨256 + l, by omega⟩) +
    PE m c t (ix2 r l') * Ref.rms (∑ i : Fin 32, Ref.kr (CC m c) (ix3 (bb x) (pp x) i) * Ref.kr (CC m c) (ix3 (bb x) (pp x) i)) (Ideal.ofBits .f32 0x42000000#32) * packGe (A11 m c) (ix2 0 l') * TT (ix2 (pp x) ⟨384 + l', by omega⟩) := by
  have e : l' = ⟨(l.val + 32) % 128, by omega⟩ := Fin.ext hl
  have hs : ∀ l : Fin 128, k0_pay28 kernelRun0_A.sl.v0 (XN m c t) (lwe m c t) (ix2 r l) = PE m c t (ix2 r l) * Ref.rms (∑ i : Fin 32, Ref.kr (CC m c) (ix3 (bb x) (pp x) i) * Ref.kr (CC m c) (ix3 (bb x) (pp x) i)) (Ideal.ofBits .f32 0x42000000#32) := by
    intro l
    refine (krs_k r l _ _).trans (congrArg (fun s => PE m c t (ix2 r l) * Ref.rms s _) (Finset.sum_congr rfl fun i _ => ?_))
    rw [Ref.kr_apply]
    exact congrArg₂ (· * ·) (PE_1 m c t r x hx i) (PE_1 m c t r x hx i)
  refine (kr_k r l _ _ _ _).trans ?_
  rw [hs, hs, lge_apply, lge_apply, ltc_apply m c t r x hx, ltd_apply m c t r x hx, ← e]
theorem PR_low (l : Fin 64) : PR m c t (ix2 r ⟨l, by omega⟩) = 0 := by
  have h0 : TT (ix2 (pp x) ⟨256 + l, by omega⟩) = 0 := packT_k0 _ _ _ l
  have h1 : TT (ix2 (pp x) ⟨384 + (l + 32), by omega⟩) = 0 := packT_z0 _ _ _ ⟨l + 32, by omega⟩
  refine (PR_lane m c t r x hx ⟨l, by omega⟩ ⟨l + 32, by omega⟩ (by dsimp only; omega)).trans ?_
  refine (congrArg₂ (· + ·) (congrArg _ h0) (congrArg _ h1)).trans ?_
  simp only [mul_zero, add_zero]
theorem PR_mid0 (j : Fin 16) : PR m c t (ix2 r ⟨64 + j, by omega⟩) = RR m c (ix3 (bb x) (pp x) ⟨j, by omega⟩) := by
  have h0 : TT (ix2 (pp x) ⟨256 + (64 + j), by omega⟩) = _ := (congrArg (fun k => TT (ix2 (pp x) k)) (Fin.ext (by dsimp only; omega))).trans ((packT_k1 _ _ (pp x) ⟨j, by omega⟩).trans (cosT_0 _ _ j))
  have h1 : TT (ix2 (pp x) ⟨384 + (96 + j), by omega⟩) = _ := (congrArg (fun k => TT (ix2 (pp x) k)) (Fin.ext (by dsimp only; omega))).trans ((packT_z1 _ _ (pp x) ⟨j, by omega⟩).trans (sinT_0 _ _ j))
  refine (PR_lane m c t r x hx ⟨64 + j, by omega⟩ ⟨96 + j, by omega⟩ (by dsimp only; omega)).trans (Eq.symm ((Ref.krope_1 _ _ _ _ j).trans ?_))
  rw [Ref.krn_apply, Ref.krn_apply, PE_2 m c t r x hx, h0, h1, packGe_2]
  have p1 := PE_1 m c t r x hx ⟨j, by omega⟩
  have g1 := packGe_1 (A11 m c) ⟨j, by omega⟩
  dsimp only at p1 g1
  rw [p1, g1, Ref.kr_apply, Ref.kr_apply, sub_eq_add_neg, mul_neg]
theorem PR_mid1 (j : Fin 16) : PR m c t (ix2 r ⟨64 + (16 + j), by omega⟩) = RR m c (ix3 (bb x) (pp x) ⟨16 + j, by omega⟩) := by
  have h0 : TT (ix2 (pp x) ⟨256 + (64 + (16 + j)), by omega⟩) = _ := (congrArg (fun k => TT (ix2 (pp x) k)) (Fin.ext (by dsimp only; omega))).trans ((packT_k1 _ _ (pp x) ⟨16 + j, by omega⟩).trans (cosT_1 _ _ j))
  have h1 : TT (ix2 (pp x) ⟨384 + (112 + j), by omega⟩) = _ := (congrArg (fun k => TT (ix2 (pp x) k)) (Fin.ext (by dsimp only; omega))).trans ((packT_z1 _ _ (pp x) ⟨16 + j, by omega⟩).trans (sinT_1 _ _ j))
  refine (PR_lane m c t r x hx ⟨64 + (16 + j), by omega⟩ ⟨112 + j, by omega⟩ (by dsimp only; omega)).trans (Eq.symm ((Ref.krope_2 _ _ _ _ j).trans ?_))
  rw [Ref.krn_apply, Ref.krn_apply, PE_3 m c t r x hx, h0, h1, packGe_3]
  have p1 := PE_1 m c t r x hx ⟨16 + j, by omega⟩
  have g1 := packGe_1 (A11 m c) ⟨16 + j, by omega⟩
  dsimp only at p1 g1
  rw [p1, g1, Ref.kr_apply, Ref.kr_apply, add_comm]
theorem PR_mid (i : Fin 32) : PR m c t (ix2 r ⟨64 + i, by omega⟩) = RR m c (ix3 (bb x) (pp x) i) := by
  by_cases h : i.val < 16
  · exact PR_mid0 m c t r x hx ⟨i, h⟩
  · have e : i = ⟨16 + (i.val - 16), by omega⟩ := Fin.ext (by dsimp only; omega)
    have := PR_mid1 m c t r x hx ⟨i - 16, by omega⟩
    dsimp only at this
    rw [← e] at this
    refine Eq.trans (congrArg (fun k => PR m c t (ix2 r k)) (Fin.ext ?_)) this
    dsimp only
    omega

end Cert.Kernel4Ideal.Proj
end
-- ==== Proof.SampTile.lean ====
/-
  What the sample projection's body stores in its blocks.
-/
module
public import proofs.«01_k».proof.Proof.SampLoad
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Kernel4Ideal.Proj
open Idealize.ShloMosaic Idealize.ShloMosaic.Tactic Cert.Kernel4Ideal Cert.Kernel4Ideal.Gen
open Cert.Proof.Samp

variable (m : (ℓ : Loc nD τ sig) → Buf (Elt Ideal) ℓ) (c : Dev nD) (t : Fin cfg0.N) (r : Fin 1024)

set_option maxHeartbeats 4000000 in
theorem after14_0 (l : Fin 128) : (dats m 0 c).after 14 t (ix2 r ⟨l, by omega⟩) = k0_pay18 (XN m c t) (lwkv m c t) (ix2 r l) := by
  rw [after0_14]; unfold outsAt0; dsimp only; unfold out0_A_14; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41]
  canon_tiles w e
  all_goals idx_vars w
  all_goals obtain rfl : w0 = r := Fin.ext (by omega)
  · exact absurd w1.isLt (by omega)
  · obtain rfl : w1 = l := Fin.ext (by omega)
    rfl

set_option maxHeartbeats 4000000 in
theorem after14_1 (l : Fin 128) : (dats m 0 c).after 14 t (ix2 r ⟨128 + l, by omega⟩) = k0_pay20 k0_pay2 (PKV m c t) (lgk0 m c t) (ix2 r l) := by
  rw [after0_14]; unfold outsAt0; dsimp only; unfold out0_A_14; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41]
  canon_tiles w e
  all_goals idx_vars w
  all_goals obtain rfl : w0 = r := Fin.ext (by omega)
  · obtain rfl : w1 = l := Fin.ext (by omega)
    rfl
  · exact absurd w1.isLt (by omega)

set_option maxHeartbeats 4000000 in
theorem after21_0 (l : Fin 256) : (dats m 0 c).after 21 t (ix2 r ⟨l, by omega⟩) = PC m c t (ix2 r l) := by
  rw [after0_21]; unfold outsAt0; dsimp only; unfold out0_A_21; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41]
  canon_tiles w e using View.cover_of_tiledBy _ ![1024, 32] (by sl_kernel_rfl) _
  all_goals idx_vars w
  all_goals obtain rfl : w0 = r := Fin.ext (by omega)
  · obtain rfl : w1 = l := Fin.ext (by omega)
    rfl
  · exact absurd w1.isLt (by omega)

set_option maxHeartbeats 4000000 in
theorem after21_1 (l : Fin 32) : (dats m 0 c).after 21 t (ix2 r ⟨256 + l, by omega⟩) = k0_pay30 (k0_pay28 kernelRun0_A.sl.v0 (XN m c t) (lwe m c t)) (lge m c t) (ltc m c t) (ltd m c t) (ix2 r l) := by
  rw [after0_21]; unfold outsAt0; dsimp only; unfold out0_A_21; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41]
  canon_tiles w e using View.cover_of_tiledBy _ ![1024, 32] (by sl_kernel_rfl) _
  all_goals idx_vars w
  all_goals obtain rfl : w0 = r := Fin.ext (by omega)
  · exact absurd w1.isLt (by omega)
  · obtain rfl : w1 = l := Fin.ext (by omega)
    rfl

set_option maxHeartbeats 4000000 in
theorem after15 (l : Fin 128) : (dats m 0 c).after 15 t (ix2 r l) = k0_pay23 (k0_pay22 k0_pay2 (PKV m c t)) (lgk1 m c t) (ix2 r l) := by
  rw [after0_15]; unfold outsAt0; dsimp only; unfold out0_A_15; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41]
  canon_tiles w e
  all_goals idx_vars w
  all_goals obtain rfl : w0 = r := Fin.ext (by omega)
  · obtain rfl : w1 = l := Fin.ext (by omega)
    rfl

set_option maxHeartbeats 4000000 in
theorem after22 (l : Fin 128) : (dats m 0 c).after 22 t (ix2 r l) = scales (PK m c t) (ix2 r l) := by
  rw [after0_22]; unfold outsAt0; dsimp only; unfold out0_A_22; rw [View.read_writes_junk_apply_eq_canon]; unfold kernelRun0_A; dsimp only
  simp only [View.readAt_eq_ld, Memref.IsWhole.read_unread, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41]
  canon_tiles w e
  all_goals idx_vars w
  all_goals obtain rfl : w0 = r := Fin.ext (by omega)
  · obtain rfl : w1 = l := Fin.ext (by omega)
    exact congrFun (scales_eq (k0_pay60 (XN m c t) (lwc m c t)) (k0_pay61 (lg2 m c t)) (lk m c t)) _

end Cert.Kernel4Ideal.Proj
end
-- ==== Proof.SampOut.lean ====
/-
  The blocks the sample projection stores are the reference's results at their rows.
-/
module
public import proofs.«01_k».proof.Proof.SampRow
public import proofs.«01_k».proof.Proof.SampTile
@[expose] public section
set_option maxRecDepth 16384
noncomputable section
namespace Cert.Kernel4Ideal.Proj
open Idealize.ShloMosaic Idealize.ShloMosaic.Tactic Cert.Kernel4Ideal Cert.Kernel4Ideal.Gen
open Cert.Proof.Samp
open Cert.Kernel3Ideal.Proj (packGk packGk_sel packGk_sel1 packGk_win packGk_win1)

/-- Equal positions hold equal values. -/
theorem mv {n : ℕ} {α : Sort _} (f : Fin n → α) {i j : Fin n} (h : i.val = j.val) : f i = f j := congrArg f (Fin.ext h)

variable (m : (ℓ : Loc nD τ sig) → Buf (Elt Ideal) ℓ) (c : Dev nD) (t : Fin cfg0.N) (r : Fin 1024) (x : Fin 1024) (hx : x.val = r.val)

/-- The results, of the arguments. -/
def k0 : FVec Ideal Cert.Reference4Ideal.S128x8x4x1x64 .f32 := Ref.nsa (Ref.kvs (CC m c)) (Ref.kvsel (Ref.kvs (CC m c))) (A4 m c)
def k1 : FVec Ideal Cert.Reference4Ideal.S128x8x288 .f32 := Ref.mlarows (LL m c) (RR m c)
def k2 : FVec Ideal Cert.Reference4Ideal.S128x8x8 .f32 := Ref.kscale (KK m c)
def k3 : FVec Ideal Cert.Reference4Ideal.S128x512x2x1x64 .f32 := Ref.win (A1 m c) (Ref.kvs (CC m c)) (Ref.kvwin (Ref.kvs (CC m c))) (A4 m c)

include hx

/-! The branches' keys and values. -/

theorem row14_0 (l : Fin 128) : (dats m 0 c).after 14 t (ix2 r ⟨l, by omega⟩) = CC m c (ix3 (bb x) (pp x) ⟨512 + l, by omega⟩) :=
  (after14_0 m c t r l).trans ((cmp_k r l _ _).trans (PKV_apply m c t r x hx ⟨l, by omega⟩))
/-- A branch's block of columns, one half normed. -/
theorem branch_row (o : ℕ) (ho : o + 128 ≤ 384) (v : FVec Ideal S1024x128 .f32) (hv : ∀ l : Fin 128, v (ix2 r l) = PKV m c t (ix2 r ⟨o + l, by omega⟩)) (g : Vec Ideal S1x128 .f32) (l : Fin 128) :
    branch k0_pay2 v g (ix2 r l) = CC m c (ix3 (bb x) (pp x) ⟨512 + (o + l), by omega⟩) *
      (if l.val < 64 then Ref.rms (∑ i : Fin 64, CC m c (ix3 (bb x) (pp x) ⟨512 + (o + i), by omega⟩) * CC m c (ix3 (bb x) (pp x) ⟨512 + (o + i), by omega⟩)) (Ideal.ofBits .f32 0x42800000#32) else 1) * g (ix2 0 l) := by
  refine (branch_apply r l v g).trans ?_
  unfold Ref.rms
  simp only [hv, PKV_apply m c t r x hx]
theorem row14_1 (l : Fin 128) : (dats m 0 c).after 14 t (ix2 r ⟨128 + l, by omega⟩) = CC m c (ix3 (bb x) (pp x) ⟨512 + (128 + l), by omega⟩) *
      (if l.val < 64 then Ref.rms (∑ i : Fin 64, CC m c (ix3 (bb x) (pp x) ⟨512 + (128 + i), by omega⟩) * CC m c (ix3 (bb x) (pp x) ⟨512 + (128 + i), by omega⟩)) (Ideal.ofBits .f32 0x42800000#32) else 1) * packGk (A4 m c) (ix2 0 l) := by
  refine (after14_1 m c t r l).trans ((congrFun (sel_k _ _ _) _).trans ?_)
  exact (branch_row m c t r x hx 128 (by omega) _ (fun l => at128 r l _) _ l).trans (congrArg _ (lgk0_apply m c t l))
theorem row15 (l : Fin 128) : (dats m 0 c).after 15 t (ix2 r l) = CC m c (ix3 (bb x) (pp x) ⟨512 + (256 + l), by omega⟩) *
      (if l.val < 64 then Ref.rms (∑ i : Fin 64, CC m c (ix3 (bb x) (pp x) ⟨512 + (256 + i), by omega⟩) * CC m c (ix3 (bb x) (pp x) ⟨512 + (256 + i), by omega⟩)) (Ideal.ofBits .f32 0x42800000#32) else 1) * packGk (A4 m c) (ix2 1 l) := by
  refine (after15 m c t r l).trans ((congrFun (win_k _ _ _) _).trans ?_)
  exact (branch_row m c t r x hx 256 (by omega) _ (fun l => at256 r l _) _ l).trans (congrArg _ (lgk1_apply m c t l))

omit hx in
theorem kv_col (b : Fin 128) (p : Fin 8) (i : Fin 6) (d : Fin 64) (o : Fin 1592) (ho : o.val = 512 + (i.val * 64 + d.val)) : Ref.kvs (CC m c) (ix5 b p i 0 d) = CC m c (ix3 b p o) :=
  (Ref.kvs_apply _ _ _ _ _).trans (mv (fun k => CC m c (ix3 b p k)) ho.symm)

theorem o_nsa (i : Fin 4) (d : Fin 64) : (dats m 0 c).after 14 t (ix2 r ⟨i * 64 + d, by omega⟩) = k0 m c (ix5 (bb x) (pp x) i 0 d) := by
  unfold k0
  have hi : i = 0 ∨ i = 1 ∨ i = 2 ∨ i = 3 := by fin_cases i <;> simp
  rcases hi with rfl | rfl | rfl | rfl
  · refine (mv (fun k => (dats m 0 c).after 14 t (ix2 r k)) (by show 0 * 64 + d.val = d.val; omega)).trans ((row14_0 m c t r x hx ⟨d, by omega⟩).trans (Eq.symm ?_))
    exact (Ref.nsa_0 _ _ _ _ _ _).trans (kv_col m c _ _ _ _ _ (by show 512 + d.val = 512 + (0 * 64 + d.val); omega))
  · refine (mv (fun k => (dats m 0 c).after 14 t (ix2 r k)) (by show 1 * 64 + d.val = 64 + d.val; omega)).trans ((row14_0 m c t r x hx ⟨64 + d, by omega⟩).trans (Eq.symm ?_))
    exact (Ref.nsa_1 _ _ _ _ _ _).trans (kv_col m c _ _ _ _ _ (by show 512 + (64 + d.val) = 512 + (1 * 64 + d.val); omega))
  · refine (mv (fun k => (dats m 0 c).after 14 t (ix2 r k)) (by show 2 * 64 + d.val = 128 + d.val; omega)).trans ((row14_1 m c t r x hx ⟨d, by omega⟩).trans (Eq.symm ?_))
    have e : ∀ d : Fin 64, Ref.kvsel (Ref.kvs (CC m c)) (ix4 (bb x) (pp x) 0 d) = CC m c (ix3 (bb x) (pp x) ⟨512 + (128 + d), by omega⟩) := fun d =>
      (Ref.kvsel_apply _ _ _ _).trans (kv_col m c _ _ _ _ _ (by show 512 + (128 + d.val) = 512 + (2 * 64 + d.val); omega))
    refine (Ref.nsa_2 _ _ _ _ _ _).trans ?_
    simp only [e, packGk_sel, d.isLt, if_true]
  · refine (mv (fun k => (dats m 0 c).after 14 t (ix2 r k)) (by show 3 * 64 + d.val = 128 + (64 + d.val); omega)).trans ((row14_1 m c t r x hx ⟨64 + d, by omega⟩).trans (Eq.symm ?_))
    refine (Ref.nsa_3 _ _ _ _ _ _).trans ((kv_col m c _ _ _ _ ⟨512 + (128 + (64 + d)), by omega⟩ (by show 512 + (128 + (64 + d.val)) = 512 + (3 * 64 + d.val); omega)).trans ?_)
    rw [packGk_sel1, if_neg (by dsimp only; omega), mul_one, mul_one]

theorem o_win (i : Fin 2) (d : Fin 64) : (dats m 0 c).after 15 t (ix2 r ⟨i * 64 + d, by omega⟩) = k3 m c (ix5 (bb x) ⟨504 + (pp x).val, by have := (pp x).isLt; omega⟩ i 0 d) := by
  unfold k3
  have hi : i = 0 ∨ i = 1 := by fin_cases i <;> simp
  rcases hi with rfl | rfl
  · refine (mv (fun k => (dats m 0 c).after 15 t (ix2 r k)) (by show 0 * 64 + d.val = d.val; omega)).trans ((row15 m c t r x hx ⟨d, by omega⟩).trans (Eq.symm ?_))
    have e : ∀ d : Fin 64, Ref.kvwin (Ref.kvs (CC m c)) (ix4 (bb x) (pp x) 0 d) = CC m c (ix3 (bb x) (pp x) ⟨512 + (256 + d), by omega⟩) := fun d =>
      (Ref.kvwin_apply _ _ _ _).trans (kv_col m c _ _ _ _ _ (by show 512 + (256 + d.val) = 512 + (4 * 64 + d.val); omega))
    refine (Ref.win_0 _ (pp x) _ _ _ _ _).trans ?_
    simp only [e, packGk_win, d.isLt, if_true]
  · refine (mv (fun k => (dats m 0 c).after 15 t (ix2 r k)) (by show 1 * 64 + d.val = 64 + d.val; omega)).trans ((row15 m c t r x hx ⟨64 + d, by omega⟩).trans (Eq.symm ?_))
    refine (Ref.win_1 _ (pp x) _ _ _ _ _).trans ?_
    refine (kv_col m c _ _ _ _ ⟨512 + (256 + (64 + d)), by omega⟩ (by show 512 + (256 + (64 + d.val)) = 512 + (5 * 64 + d.val); omega)).trans ?_
    rw [packGk_win1, if_neg (by dsimp only; omega), mul_one, mul_one]

theorem o_rows_0 (e : Fin 256) : (dats m 0 c).after 21 t (ix2 r ⟨e, by omega⟩) = k1 m c (ix3 (bb x) (pp x) ⟨e, by omega⟩) :=
  (after21_0 m c t r e).trans ((PC_apply m c t r x hx e).trans (Ref.mlarows_0 _ _ _ _ e).symm)
theorem o_rows_1 (e : Fin 32) : (dats m 0 c).after 21 t (ix2 r ⟨256 + e, by omega⟩) = k1 m c (ix3 (bb x) (pp x) ⟨256 + e, by omega⟩) :=
  (after21_1 m c t r e).trans ((kr32_k r _ _ _ _ e).trans ((PR_mid m c t r x hx e).trans (Ref.mlarows_1 _ _ _ _ e).symm))

/-! The keys' scales. -/

theorem scale_eq (h : Fin 8) : scaleOf (hd (PK m c t) h) (ix2 r 0) = Ref.kscale (KK m c) (ix3 (bb x) (pp x) h) := by
  refine (scaleOf_apply r _ fun i => (hd_apply _ _ _ _).trans (PK_1 m c t r x h i)).trans (Eq.symm ((Ref.kscale_apply _ _ _ _).trans ?_))
  refine congrArg (fun s => Ref.rms s _) (Finset.sum_congr rfl fun i _ => ?_)
  exact congrArg₂ (· * ·) (PK_0 m c t r x hx h i).symm (PK_0 m c t r x hx h i).symm

theorem o_kscale (h : Fin 8) : (dats m 0 c).after 22 t (ix2 r ⟨h, by omega⟩) = k2 m c (ix3 (bb x) (pp x) h) := by
  unfold k2
  rw [← scale_eq m c t r x hx h]
  generalize hK : PK m c t = K
  refine (after22 m c t r ⟨h, by omega⟩).trans ?_
  rw [hK]
  exact scales_apply r K h

end Cert.Kernel4Ideal.Proj
end
-- ==== Proof.SampHost.lean ====
/-
  How the host reads the arrays the sample projection leaves.
-/
module
public import proofs.«01_k».proof.Proof.SampLoad
public import Idealize.ShloMosaic.Lib.Pointwise
@[expose] public section
set_option maxRecDepth 16384
noncomputable section
namespace Cert.Kernel4Ideal.Proj
open Idealize.ShloMosaic Idealize.ShloMosaic.Tactic Cert.Kernel4Ideal Cert.Kernel4Ideal.Gen
open Cert.Proof.Samp

def h0 (A : FVec Ideal S1024x256 .f32) : FVec Ideal S128x8x4x1x64 .f32 := shapeCast _ A shapeCasts_S1024x256_S128x8x4x1x64
theorem h0_apply (A : FVec Ideal S1024x256 .f32) (b : Fin 128) (p : Fin 8) (i : Fin 4) (z : Fin 1) (d : Fin 64) : h0 A (ix5 b p i z d) = A (ix2 ⟨b * 8 + p, by omega⟩ ⟨i * 64 + d, by omega⟩) := by
  pointwise [h0]
def h1 (A : FVec Ideal S1024x288 .f32) : FVec Ideal S128x8x288 .f32 := shapeCast _ A shapeCasts_S1024x288_S128x8x288
theorem h1_apply (A : FVec Ideal S1024x288 .f32) (b : Fin 128) (p : Fin 8) (e : Fin 288) : h1 A (ix3 b p e) = A (ix2 ⟨b * 8 + p, by omega⟩ e) := by
  pointwise [h1]
def h2 (A : FVec Ideal S1024x128 .f32) : FVec Ideal S128x8x8 .f32 :=
  shapeCast _ (extractStridedSlice S1024x8 ![0, 0] A slices_S1024x128_S1024x8_0_0) shapeCasts_S1024x8_S128x8x8
theorem h2_apply (A : FVec Ideal S1024x128 .f32) (b : Fin 128) (p : Fin 8) (h : Fin 8) : h2 A (ix3 b p h) = A (ix2 ⟨b * 8 + p, by omega⟩ ⟨h, by omega⟩) := by
  pointwise [h2]
/-- The state's later rows, then the new ones. -/
def h3 (P : FVec Ideal S128x512x2x1x64 .f32) (A : FVec Ideal S1024x128 .f32) : FVec Ideal S128x512x2x1x64 .f32 :=
  concatenate S128x512x2x1x64 1 [⟨S128x504x2x1x64, extractStridedSlice S128x504x2x1x64 ![0, 8, 0, 0, 0] P slices_S128x512x2x1x64_S128x504x2x1x64_0_8_0_0_0⟩,
    ⟨S128x8x2x1x64, shapeCast S128x8x2x1x64 A shapeCasts_S1024x128_S128x8x2x1x64⟩] concatenates_S128x504x2x1x64_S128x8x2x1x64_S128x512x2x1x64_d1
theorem h3_0 (P : FVec Ideal S128x512x2x1x64 .f32) (A : FVec Ideal S1024x128 .f32) (b : Fin 128) (s : Fin 504) (i : Fin 2) (d : Fin 64) : h3 P A (ix5 b ⟨s, by omega⟩ i 0 d) = P (ix5 b ⟨8 + s, by omega⟩ i 0 d) := by
  pointwise [h3]
theorem h3_1 (P : FVec Ideal S128x512x2x1x64 .f32) (A : FVec Ideal S1024x128 .f32) (b : Fin 128) (p : Fin 8) (i : Fin 2) (d : Fin 64) :
    h3 P A (ix5 b ⟨504 + p, by omega⟩ i 0 d) = A (ix2 ⟨b * 8 + p, by omega⟩ ⟨i * 64 + d, by omega⟩) := by
  pointwise [h3]
theorem tail_0 (W : Valuation τ sig (Elt Ideal)) : StableHlo.after hostOps1 W (Proc.devRef .tc main_v117) = h0 (W (Proc.devRef .tc main_v116_1)) := rfl
theorem tail_1 (W : Valuation τ sig (Elt Ideal)) : StableHlo.after hostOps1 W (Proc.devRef .tc main_v118) = h1 (W (Proc.devRef .tc main_v116_8)) := rfl
theorem tail_2 (W : Valuation τ sig (Elt Ideal)) : StableHlo.after hostOps1 W (Proc.devRef .tc main_v120) = h2 (W (Proc.devRef .tc main_v116_9)) := rfl
theorem tail_3 (W : Valuation τ sig (Elt Ideal)) : StableHlo.after hostOps1 W (Proc.devRef .tc main_v123) = h3 (W (Proc.devRef .tc main_arg1)) (W (Proc.devRef .tc main_v116_2)) := rfl

end Cert.Kernel4Ideal.Proj
end
-- ==== Proof.SampArray.lean ====
/-
  The arrays the sample projection leaves, and its four results.
-/
module
public import proofs.«01_k».proof.Proof.SampOut
public import proofs.«01_k».proof.Proof.SampHost
public import Idealize.ShloMosaic.Lib.Pipeline.ValueKit
public import Idealize.ShloMosaic.Lib.Pipeline.ReadBack
public import Idealize.ShloMosaic.Lib.Pointwise
@[expose] public section
set_option maxRecDepth 16384
noncomputable section
namespace Cert.Kernel4Ideal.Proj
open Idealize.ShloMosaic Idealize.ShloMosaic.Tactic Cert.Kernel4Ideal Cert.Kernel4Ideal.Gen
open Cert.Proof.Samp

variable (m : (ℓ : Loc nD τ sig) → Buf (Elt Ideal) ℓ) (ρ : Dev nD → PrngReg) (c : Dev nD)

/-- The one step. -/
abbrev t0 : Fin cfg0.N := ⟨0, by decide⟩
theorem step_eq (t : Fin cfg0.N) : t0 = t := Fin.ext (by have : t.val < 1 := t.isLt; show 0 = t.val; omega)
theorem bb_of (b : Fin 128) (p : Fin 8) : bb ⟨b * 8 + p, by omega⟩ = b := Fin.ext (by show (b.val * 8 + p.val) / 8 = b.val; omega)
theorem pp_of (b : Fin 128) (p : Fin 8) : pp ⟨b * 8 + p, by omega⟩ = p := Fin.ext (by show (b.val * 8 + p.val) % 8 = p.val; omega)

/-! The arrays. -/

def arr14 : FVec Ideal S1024x256 .f32 := fun i => (dats m 0 c).after 14 t0 (ix2 (⟨(i 0).val, (i 0).isLt⟩ : Fin 1024) (⟨(i 1).val, (i 1).isLt⟩ : Fin 256))
theorem arr14_apply (x : Fin 1024) (y : Fin 256) : arr14 m c (ix2 x y) = (dats m 0 c).after 14 t0 (ix2 x y) := rfl
theorem arr_14 : (dats m 0 c).arrAt 14 cfg0.N = arr14 m c := by
  refine (dats m 0 c).arrAt_eq_of_covers 14 _ (by decide +kernel) fun t hf y => ?_
  blk_simp
  obtain ⟨r, y, rfl⟩ : ∃ (r : Fin 1024) (z : Fin 256), y = ix2 r z := ⟨y 0, y 1, eq_ix2 y⟩
  refine Eq.trans ?_ (congrArg (arr14 m c) (place_14 t r y).symm)
  refine Eq.trans ?_ (arr14_apply m c _ _).symm
  rw [step_eq t]

def arr15 : FVec Ideal S1024x128 .f32 := fun i => (dats m 0 c).after 15 t0 (ix2 (⟨(i 0).val, (i 0).isLt⟩ : Fin 1024) (⟨(i 1).val, (i 1).isLt⟩ : Fin 128))
theorem arr15_apply (x : Fin 1024) (y : Fin 128) : arr15 m c (ix2 x y) = (dats m 0 c).after 15 t0 (ix2 x y) := rfl
theorem arr_15 : (dats m 0 c).arrAt 15 cfg0.N = arr15 m c := by
  refine (dats m 0 c).arrAt_eq_of_covers 15 _ (by decide +kernel) fun t hf y => ?_
  blk_simp
  obtain ⟨r, y, rfl⟩ : ∃ (r : Fin 1024) (z : Fin 128), y = ix2 r z := ⟨y 0, y 1, eq_ix2 y⟩
  refine Eq.trans ?_ (congrArg (arr15 m c) (place_15 t r y).symm)
  refine Eq.trans ?_ (arr15_apply m c _ _).symm
  rw [step_eq t]

def arr21 : FVec Ideal S1024x288 .f32 := fun i => (dats m 0 c).after 21 t0 (ix2 (⟨(i 0).val, (i 0).isLt⟩ : Fin 1024) (⟨(i 1).val, (i 1).isLt⟩ : Fin 288))
theorem arr21_apply (x : Fin 1024) (y : Fin 288) : arr21 m c (ix2 x y) = (dats m 0 c).after 21 t0 (ix2 x y) := rfl
theorem arr_21 : (dats m 0 c).arrAt 21 cfg0.N = arr21 m c := by
  refine (dats m 0 c).arrAt_eq_of_covers 21 _ (by decide +kernel) fun t hf y => ?_
  blk_simp
  obtain ⟨r, y, rfl⟩ : ∃ (r : Fin 1024) (z : Fin 288), y = ix2 r z := ⟨y 0, y 1, eq_ix2 y⟩
  refine Eq.trans ?_ (congrArg (arr21 m c) (place_21 t r y).symm)
  refine Eq.trans ?_ (arr21_apply m c _ _).symm
  rw [step_eq t]

def arr22 : FVec Ideal S1024x128 .f32 := fun i => (dats m 0 c).after 22 t0 (ix2 (⟨(i 0).val, (i 0).isLt⟩ : Fin 1024) (⟨(i 1).val, (i 1).isLt⟩ : Fin 128))
theorem arr22_apply (x : Fin 1024) (y : Fin 128) : arr22 m c (ix2 x y) = (dats m 0 c).after 22 t0 (ix2 x y) := rfl
theorem arr_22 : (dats m 0 c).arrAt 22 cfg0.N = arr22 m c := by
  refine (dats m 0 c).arrAt_eq_of_covers 22 _ (by decide +kernel) fun t hf y => ?_
  blk_simp
  obtain ⟨r, y, rfl⟩ : ∃ (r : Fin 1024) (z : Fin 128), y = ix2 r z := ⟨y 0, y 1, eq_ix2 y⟩
  refine Eq.trans ?_ (congrArg (arr22 m c) (place_22 t r y).symm)
  refine Eq.trans ?_ (arr22_apply m c _ _).symm
  rw [step_eq t]

/-! The host's reading of them. -/

theorem h0_eq : h0 (arr14 m c) = k0 m c := by
  funext j
  obtain ⟨b, p, i, z, d, rfl⟩ : ∃ (b : Fin 128) (p : Fin 8) (i : Fin 4) (z : Fin 1) (d : Fin 64), j = ix5 b p i z d := ⟨j 0, j 1, j 2, j 3, j 4, eq_ix5 j⟩
  refine (h0_apply _ b p i z d).trans ((arr14_apply m c _ _).trans ?_)
  obtain rfl : z = 0 := Subsingleton.elim _ _
  have := o_nsa m c t0 _ ⟨b * 8 + p, by omega⟩ rfl i d
  rw [bb_of, pp_of] at this
  exact this

theorem h1_eq : h1 (arr21 m c) = k1 m c := by
  funext j
  obtain ⟨b, p, e, rfl⟩ : ∃ (b : Fin 128) (p : Fin 8) (e : Fin 288), j = ix3 b p e := ⟨j 0, j 1, j 2, eq_ix3 j⟩
  refine (h1_apply _ b p e).trans ((arr21_apply m c _ _).trans ?_)
  by_cases he : e.val < 256
  · have := o_rows_0 m c t0 _ ⟨b * 8 + p, by omega⟩ rfl ⟨e, he⟩
    rw [bb_of, pp_of] at this
    exact this
  · have := o_rows_1 m c t0 _ ⟨b * 8 + p, by omega⟩ rfl ⟨e - 256, by omega⟩
    rw [bb_of, pp_of] at this
    have e0 : (⟨256 + (e.val - 256), by omega⟩ : Fin 288) = e := Fin.ext (by show 256 + (e.val - 256) = e.val; omega)
    dsimp only at this
    rw [e0] at this
    exact this

theorem h2_eq : h2 (arr22 m c) = k2 m c := by
  funext j
  obtain ⟨b, p, h, rfl⟩ : ∃ (b : Fin 128) (p : Fin 8) (h : Fin 8), j = ix3 b p h := ⟨j 0, j 1, j 2, eq_ix3 j⟩
  refine (h2_apply _ b p h).trans ((arr22_apply m c _ _).trans ?_)
  have := o_kscale m c t0 _ ⟨b * 8 + p, by omega⟩ rfl h
  rw [bb_of, pp_of] at this
  exact this

theorem lt512 (p : Fin 8) : 504 + p.val < 512 := by omega
theorem h3_eq : h3 (A1 m c) (arr15 m c) = k3 m c := by
  funext j
  obtain ⟨b, s, i, z, d, rfl⟩ : ∃ (b : Fin 128) (s : Fin 512) (i : Fin 2) (z : Fin 1) (d : Fin 64), j = ix5 b s i z d := ⟨j 0, j 1, j 2, j 3, j 4, eq_ix5 j⟩
  obtain rfl : z = 0 := Subsingleton.elim _ _
  by_cases hs : s.val < 504
  · exact (h3_0 _ _ b ⟨s, hs⟩ i d).trans (Ref.win_s _ _ _ _ _ _ ⟨s, hs⟩ i).symm
  · obtain ⟨p, hp⟩ : ∃ p : Fin 8, s.val = 504 + p.val := ⟨⟨s - 504, by omega⟩, by show s.val = 504 + (s.val - 504); omega⟩
    obtain rfl : s = ⟨504 + p.val, lt512 p⟩ := Fin.ext hp
    refine (h3_1 _ _ b p i d).trans ((arr15_apply m c _ _).trans ?_)
    refine (o_win m c t0 _ ⟨b * 8 + p, by omega⟩ rfl i d).trans ?_
    have e : (⟨504 + (pp ⟨b * 8 + p, by omega⟩).val, by have := (pp ⟨b * 8 + p, by omega⟩).isLt; omega⟩ : Fin 512) = ⟨504 + p, by omega⟩ := Fin.ext (congrArg (fun q : Fin 8 => 504 + q.val) (pp_of b p))
    rw [bb_of, e]

/-! The host's operations after the call. -/

theorem arrRef_inj : Function.Injective (Pipeline.arrRef spec0) := by decide +kernel

theorem after_0 : Pipeline.afterTail₀ cfgs (dats m) 0 (V0 m) [hostOps1] c main_v117 = k0 m c := by
  unfold Pipeline.afterTail₀
  refine (tail_0 _).trans ?_
  exact (congrArg h0 ((Pipeline.withArrays_arr spec0 arrRef_inj c _ _ 14).trans (arr_14 m c))).trans (h0_eq m c)
theorem after_1 : Pipeline.afterTail₀ cfgs (dats m) 0 (V0 m) [hostOps1] c main_v118 = k1 m c := by
  unfold Pipeline.afterTail₀
  refine (tail_1 _).trans ?_
  exact (congrArg h1 ((Pipeline.withArrays_arr spec0 arrRef_inj c _ _ 21).trans (arr_21 m c))).trans (h1_eq m c)
theorem after_2 : Pipeline.afterTail₀ cfgs (dats m) 0 (V0 m) [hostOps1] c main_v120 = k2 m c := by
  unfold Pipeline.afterTail₀
  refine (tail_2 _).trans ?_
  exact (congrArg h2 ((Pipeline.withArrays_arr spec0 arrRef_inj c _ _ 22).trans (arr_22 m c))).trans (h2_eq m c)
theorem after_3 : Pipeline.afterTail₀ cfgs (dats m) 0 (V0 m) [hostOps1] c main_v123 = k3 m c := by
  unfold Pipeline.afterTail₀
  refine (tail_3 _).trans ?_
  refine (congrArg₂ h3 ?_ ((Pipeline.withArrays_arr spec0 arrRef_inj c _ _ 15).trans (arr_15 m c))).trans (h3_eq m c)
  exact (Pipeline.withArrays_of_ne _ c (V0 m c) _ main_arg1 (by exact (by decide : ∀ w, Pipeline.arrRef spec0 w ≠ main_arg1))).trans (V_main_arg1 m c)

/-- What the call's program leaves as its four results. -/
theorem run_results : θ_run defs (onTc (τ := τ) (main (F := Ideal))) ⟨m, fun _ => 0, ρ⟩ (fun r => ∀ c : Dev nD,
    r.2.mem ((c.tc : Thread nD τ).loc main_v117) = k0 m c ∧ r.2.mem ((c.tc : Thread nD τ).loc main_v118) = k1 m c ∧ r.2.mem ((c.tc : Thread nD τ).loc main_v120) = k2 m c ∧ r.2.mem ((c.tc : Thread nD τ).loc main_v123) = k3 m c) :=
  (θ_run defs _ _).mono (fun _ h c => ⟨((h c).2 main_v117 (Pipeline.mem_restRefs_of main_v117 (by decide) (by decide))).trans (after_0 m c),
    ((h c).2 main_v118 (Pipeline.mem_restRefs_of main_v118 (by decide) (by decide))).trans (after_1 m c),
    ((h c).2 main_v120 (Pipeline.mem_restRefs_of main_v120 (by decide) (by decide))).trans (after_2 m c),
    ((h c).2 main_v123 (Pipeline.mem_restRefs_of main_v123 (by decide) (by decide))).trans (after_3 m c)⟩) (run_main m ρ)

end Cert.Kernel4Ideal.Proj
end
-- ==== Proof.SampSame.lean ====
/-
  The sample projection's program as printed and its reading over the extended reals are one text: the frame of the first is
  the run of the second, at machine floats.
-/
module
public import proofs.«01_k».proof.Defs
public import proofs.«01_k».proof.Proof.Gen.Kernel4Ideal.Frame
public import proofs.«01_k».proof.Proof.Gen.Kernel4
@[expose] public section
set_option maxRecDepth 16384
noncomputable section
namespace Cert.Kernel4Ideal.Proj
open Idealize.ShloMosaic Idealize.SL.Sem

set_option maxHeartbeats 8000000 in
/-- The bodies are the same. -/
theorem body_same : @Cert.Kernel4.cc0_proj Bits _ Cert.Kernel4.Gen.facts = @Cert.Kernel4Ideal.cc0_proj Bits _ Cert.Kernel4Ideal.Gen.facts := by
  unfold Cert.Kernel4.cc0_proj Cert.Kernel4Ideal.cc0_proj
  rfl

set_option maxHeartbeats 8000000 in
/-- So are the tables that run them. -/
theorem table_same : @Cert.Kernel4.defs₀ Bits _ Cert.Kernel4.Gen.facts = @Cert.Kernel4Ideal.defs₀ Bits _ Cert.Kernel4Ideal.Gen.facts := by
  unfold Cert.Kernel4.defs₀ Cert.Kernel4Ideal.defs₀
  refine congrArg Defs.onTc ?_
  funext l a
  match l, a with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _) _) _) _) _) _) _) _) _) _) _) _) _) _) _) _) _) _) _) _) _) _) _) _) _) _) _) _) _
  | ⟨_ + 1, h⟩, _ => exact absurd h (Nat.not_lt.2 (Nat.le_add_left _ _))

set_option maxHeartbeats 8000000 in
theorem defs_same : @Cert.Kernel4.defs Bits _ Cert.Kernel4.Gen.facts = @Cert.Kernel4Ideal.defs Bits _ Cert.Kernel4Ideal.Gen.facts := by
  unfold Cert.Kernel4.defs Cert.Kernel4Ideal.defs
  exact congrArg (Pipeline.defs Cert.Kernel4Ideal.pcfgs) table_same

/-- A run under one table is a run under an equal one. -/
theorem run_same {Λ : Labels} {d d' : Defs Cert.Kernel4Ideal.nD Cert.Kernel4Ideal.τ Cert.Kernel4Ideal.sig (Elt Bits) Λ} (h : d = d') (p) (s) (P) (hr : θ_run d' p s P) : θ_run d p s P := h ▸ hr

set_option maxHeartbeats 8000000 in
/-- The printed program ends, with its arguments as launched and nothing owed. -/
theorem frame_kernel : Cert.quiescent_Kernel4 (hKernel4 := Cert.Kernel4.Gen.facts) := fun m ρ _ =>
  run_same defs_same _ _ _ (Cert.Kernel4Ideal.Gen.frame (F := Bits) m ρ)

end Cert.Kernel4Ideal.Proj
end
-- ==== Proof.SampClaims.lean ====
/-
  The claims about the sample projection: its frames, and the equality of its four results.
-/
module
public import proofs.«01_k».proof.Defs
public import proofs.«01_k».proof.Proof.SampArray
public import proofs.«01_k».proof.Proof.SampSame
import Idealize.ShloMosaic.Lib.Quiescent
@[expose] public section
namespace Cert.Proof.Samp
open Idealize.ShloMosaic Idealize.SL.Sem

theorem frame_ideal : Cert.quiescent_Kernel4Ideal (hKernel4Ideal := Cert.Kernel4Ideal.Gen.facts) := fun m g _ => Cert.Kernel4Ideal.Gen.frame (F := Ideal) m g

/-- The reference runs, leaves its arguments, and ends with every counter at zero. -/
theorem frame_ref : Cert.quiescent_Reference4Ideal (hReference4Ideal := Cert.Reference4Ideal.Gen.facts) := fun m g _ =>
  (θ_run Cert.Reference4Ideal.defs _ _).mono (fun r h => ⟨fun c => (h c).2.2.2.2, sem_eq_zero_of_no_sems (by decide) r.2⟩)
    (Cert.Reference4Ideal.Value.run (F := Ideal) m g)

/-- The kernel and the reference end with equal results. -/
theorem algebraic : Cert.algebraic_Kernel4Ideal_Reference4Ideal (hKernel4Ideal := Cert.Kernel4Ideal.Gen.facts) (hReference4Ideal := Cert.Reference4Ideal.Gen.facts) := by
  intro m g m' g' _ hag
  refine ⟨fun c => Cert.Kernel4Ideal.Proj.k0 m c, fun c => Cert.Kernel4Ideal.Proj.k1 m c, fun c => Cert.Kernel4Ideal.Proj.k2 m c, fun c => Cert.Kernel4Ideal.Proj.k3 m c, ?_, ?_⟩
  · exact (θ_run _ _ _).mono (fun r h c => ⟨(h.1 c).1, (h.1 c).2.1, (h.1 c).2.2.1, (h.1 c).2.2.2, h.2.1 c⟩)
      (θ_run_and (Cert.Kernel4Ideal.Proj.run_results m g) (Cert.Kernel4Ideal.Gen.frame (F := Ideal) m g))
  · refine (θ_run _ _ _).mono (fun r h c => ⟨(h c).1.trans ?_, (h c).2.1.trans ?_, (h c).2.2.1.trans ?_, (h c).2.2.2.1.trans ?_, (h c).2.2.2.2⟩) (Ref.run m' g')
    all_goals
      obtain ⟨a0, a1, a2, a3, a4, a5, a6, a7, a8, a9, a10, a11⟩ := hag c
      simp only [Ref.r0, Ref.r1, Ref.r2, Ref.r3, Ref.latOf, Ref.kropeOf, Ref.knopeOf, Ref.colsOf, a0, a1, a2, a3, a4, a5, a6, a7, a8, a9, a10, a11]
      rfl
end Cert.Proof.Samp
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2Ideal.Frame
public import proofs.«01_k».proof.Proof.Gen.Kernel2Ideal.Skeleton
public import proofs.«01_k».proof.Proof.Gen.Kernel2Ideal.Loops
public import proofs.«01_k».proof.Proof.Gen.Reference2Ideal.Run
public import proofs.«01_k».proof.Proof.Gen.ReferenceIdeal
public import proofs.«01_k».proof.Proof.Gen.ReferenceIdeal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_finite
public import proofs.«01_k».proof.Proof.Claims
public import proofs.«01_k».proof.Proof.FfnClaims
public import proofs.«01_k».proof.Proof.ProjClaims
public import proofs.«01_k».proof.Proof.SampClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  Mla.frame_ref, fun m ρ _ => Mla.frame_ref m ρ trivial,
  Cert.Kernel2Ideal.Ffn.frame_kernel, Ffn.frame_ideal, Ffn.frame_ref,
  Cert.Kernel3Ideal.Proj.frame_kernel, Proj.frame_ideal, Proj.frame_ref,
  Cert.Kernel4Ideal.Proj.frame_kernel, Samp.frame_ideal, Samp.frame_ref,
  IdealRules.named_const.statement Cert.KernelIdeal.κ "mask" .f32 0xF149F2CA#32 ⊥ rfl, Mla.algebraic,
  trivial, Ffn.algebraic, trivial, Proj.algebraic, trivial, Samp.algebraic⟩

end Cert.Proof

end
